-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "da_scale" .f32 0x3E8293EE#32 (((Real.sqrt 32)⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)) (v5 : (c : Dev Cert.Kernel3Ideal.nD) → Buf (Elt Ideal) ((c.tc : Thread Cert.Kernel3Ideal.nD Cert.Kernel3Ideal.τ).loc Cert.Kernel3Ideal.main_v24_5)) (v6 : (c : Dev Cert.Kernel3Ideal.nD) → Buf (Elt Ideal) ((c.tc : Thread Cert.Kernel3Ideal.nD Cert.Kernel3Ideal.τ).loc Cert.Kernel3Ideal.main_v24_6)) (v7 : (c : Dev Cert.Kernel3Ideal.nD) → Buf (Elt Ideal) ((c.tc : Thread Cert.Kernel3Ideal.nD Cert.Kernel3Ideal.τ).loc Cert.Kernel3Ideal.main_v24_7)) (v8 : (c : Dev Cert.Kernel3Ideal.nD) → Buf (Elt Ideal) ((c.tc : Thread Cert.Kernel3Ideal.nD Cert.Kernel3Ideal.τ).loc Cert.Kernel3Ideal.main_v24_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_v24_5) = v5 c
          ∧ r.2.mem ((c.tc : Thread Cert.Kernel3Ideal.nD Cert.Kernel3Ideal.τ).loc Cert.Kernel3Ideal.main_v24_6) = v6 c
          ∧ r.2.mem ((c.tc : Thread Cert.Kernel3Ideal.nD Cert.Kernel3Ideal.τ).loc Cert.Kernel3Ideal.main_v24_7) = v7 c
          ∧ r.2.mem ((c.tc : Thread Cert.Kernel3Ideal.nD Cert.Kernel3Ideal.τ).loc Cert.Kernel3Ideal.main_v24_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v209) = v1 c
          ∧ r.2.mem ((c.tc : Thread Cert.Reference3Ideal.nD Cert.Reference3Ideal.τ).loc Cert.Reference3Ideal.main_v210) = v2 c
          ∧ r.2.mem ((c.tc : Thread Cert.Reference3Ideal.nD Cert.Reference3Ideal.τ).loc Cert.Reference3Ideal.main_v120) = v3 c
          ∧ r.2.mem ((c.tc : Thread Cert.Reference3Ideal.nD Cert.Reference3Ideal.τ).loc Cert.Reference3Ideal.main_v211) = v4 c
          ∧ r.2.mem ((c.tc : Thread Cert.Reference3Ideal.nD Cert.Reference3Ideal.τ).loc Cert.Reference3Ideal.main_v212) = v5 c
          ∧ r.2.mem ((c.tc : Thread Cert.Reference3Ideal.nD Cert.Reference3Ideal.τ).loc Cert.Reference3Ideal.main_v208) = v6 c
          ∧ r.2.mem ((c.tc : Thread Cert.Reference3Ideal.nD Cert.Reference3Ideal.τ).loc Cert.Reference3Ideal.main_v213) = v7 c
          ∧ r.2.mem ((c.tc : Thread Cert.Reference3Ideal.nD Cert.Reference3Ideal.τ).loc Cert.Reference3Ideal.main_v214) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S32 : Shape := ⟨1, ![32]⟩
abbrev S64 : Shape := ⟨1, ![64]⟩
abbrev S16896x256 : Shape := ⟨2, ![16896, 256]⟩
abbrev S256x16896 : Shape := ⟨2, ![256, 16896]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bitsLt_bf16_f32 : FTy.bits .bf16 < FTy.bits .f32
  bcast_S_S16896x256 : S_.BroadcastsInDim S16896x256 (![] : Fin 0 → Fin S16896x256.rank)
  reducesTo_S16896x256_S_d0_1 : S16896x256.ReducesTo [0, 1] S_
  bcast_S_S256x16896 : S_.BroadcastsInDim S256x16896 (![] : Fin 0 → Fin S256x16896.rank)
  reducesTo_S256x16896_S_d0_1 : S256x16896.ReducesTo [0, 1] S_

variable [Facts]

def fn_part2 {F : FTy → Type} [FloatOps F] (main_v30 : IVec S_ 1) (main_v34 : IVec S256x16896 1) : IVec S_ 1 :=
  let main_c_11 : IVec S_ 1 := constantI S_ 1 1#1
  let main_v35 : IVec S_ 1 := (fun x v => Host.reduce IntOp.andi x v reducesTo_S256x16896_S_d0_1 h_S_) main_v34 main_c_11
  let main_v36 : IVec S_ 1 := andi main_v30 main_v35
  main_v36

def fn_part1 {F : FTy → Type} [FloatOps F] (main_arg5 : FVec F S16896x256 .bf16) (main_arg6 : FVec F S16896x256 .bf16) (main_arg7 : FVec F S256x16896 .bf16) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S16896x256 .f32 := (extf .f32 · bitsLt_bf16_f32) main_arg5
  let main_v20 : FVec F S16896x256 .f32 := Host.absf main_v19
  let main_cst_6 : FVec F S_ .f32 := constant S_ .f32 0x7F800000#32
  let main_v21 : FVec F S16896x256 .f32 := broadcastInDim S16896x256 ![] bcast_S_S16896x256 main_cst_6
  let main_v22 : IVec S16896x256 1 := cmpf .olt main_v20 main_v21
  let main_c_7 : IVec S_ 1 := constantI S_ 1 1#1
  let main_v23 : IVec S_ 1 := (fun x v => Host.reduce IntOp.andi x v reducesTo_S16896x256_S_d0_1 h_S_) main_v22 main_c_7
  let main_v24 : IVec S_ 1 := andi main_v18 main_v23
  let main_v25 : FVec F S16896x256 .f32 := (extf .f32 · bitsLt_bf16_f32) main_arg6
  let main_v26 : FVec F S16896x256 .f32 := Host.absf main_v25
  let main_cst_8 : FVec F S_ .f32 := constant S_ .f32 0x7F800000#32
  let main_v27 : FVec F S16896x256 .f32 := broadcastInDim S16896x256 ![] bcast_S_S16896x256 main_cst_8
  let main_v28 : IVec S16896x256 1 := cmpf .olt main_v26 main_v27
  let main_c_9 : IVec S_ 1 := constantI S_ 1 1#1
  let main_v29 : IVec S_ 1 := (fun x v => Host.reduce IntOp.andi x v reducesTo_S16896x256_S_d0_1 h_S_) main_v28 main_c_9
  let main_v30 : IVec S_ 1 := andi main_v24 main_v29
  let main_v31 : FVec F S256x16896 .f32 := (extf .f32 · bitsLt_bf16_f32) main_arg7
  let main_v32 : FVec F S256x16896 .f32 := Host.absf main_v31
  let main_cst_10 : FVec F S_ .f32 := constant S_ .f32 0x7F800000#32
  let main_v33 : FVec F S256x16896 .f32 := broadcastInDim S256x16896 ![] bcast_S_S256x16896 main_cst_10
  let main_v34 : IVec S256x16896 1 := cmpf .olt main_v32 main_v33
  fn_part2 (F := F) main_v30 main_v34

def fn {F : FTy → Type} [FloatOps F] (main_arg0 : FVec F S32 .f32) (main_arg1 : FVec F S32 .f32) (main_arg2 : FVec F S32 .f32) (main_arg3 : FVec F S32 .f32) (main_arg4 : FVec F S64 .f32) (main_arg5 : FVec F S16896x256 .bf16) (main_arg6 : FVec F S16896x256 .bf16) (main_arg7 : FVec F S256x16896 .bf16) : IVec S_ 1 :=
  let main_v0 : FVec F S32 .f32 := Host.absf main_arg0
  let main_cst : FVec F S_ .f32 := constant S_ .f32 0x7F800000#32
  let main_v1 : FVec F S32 .f32 := broadcastInDim S32 ![] bcast_S_S32 main_cst
  let main_v2 : IVec S32 1 := cmpf .olt main_v0 main_v1
  let main_c : IVec S_ 1 := constantI S_ 1 1#1
  let main_v3 : IVec S_ 1 := (fun x v => Host.reduce IntOp.andi x v reducesTo_S32_S_d0 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_v13 main_v16
-- ==== Pre_finite4.lean ====
abbrev S8 : Shape := ⟨1, ![8]⟩
abbrev S16896x512 : Shape := ⟨2, ![16896, 512]⟩
abbrev S16896x128 : Shape := ⟨2, ![16896, 128]⟩
abbrev S128x16896 : Shape := ⟨2, ![128, 16896]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S16896x512 : S_.BroadcastsInDim S16896x512 (![] : Fin 0 → Fin S16896x512.rank)
  reducesTo_S16896x512_S_d0_1 : S16896x512.ReducesTo [0, 1] S_
  bcast_S_S16896x128 : S_.BroadcastsInDim S16896x128 (![] : Fin 0 → Fin S16896x128.rank)
  reducesTo_S16896x128_S_d0_1 : S16896x128.ReducesTo [0, 1] S_

variable [Facts]

def fn {F : FTy → Type} [FloatOps F] (main_arg0 : FVec F S8 .f32) (main_arg1 : FVec F S16896x512 .bf16) (main_arg2 : FVec F S16896x128 .bf16) (main_arg3 : FVec F S128x16896 .bf16) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S16896x512 .f32 := (extf .f32 · bitsLt_bf16_f32) main_arg1
  let main_v5 : FVec F S16896x512 .f32 := Host.absf main_v4
  let main_cst_0 : FVec F S_ .f32 := constant S_ .f32 0x7F800000#32
  let main_v6 : FVec F S16896x512 .f32 := broadcastInDim S16896x512 ![] bcast_S_S16896x512 main_cst_0
  let main_v7 : IVec S16896x512 1 := cmpf .olt main_v5 main_v6
  let main_c_1 : IVec S_ 1 := constantI S_ 1 1#1
  let main_v8 : IVec S_ 1 := (fun x v => Host.reduce IntOp.andi x v reducesTo_S16896x512_S_d0_1 h_S_) main_v7 main_c_1
  let main_v9 : IVec S_ 1 := andi main_v3 main_v8
  let main_v10 : FVec F S16896x128 .f32 := (extf .f32 · bitsLt_bf16_f32) main_arg2
  let main_v11 : FVec F S16896x128 .f32 := Host.absf main_v10
  let main_cst_2 : FVec F S_ .f32 := constant S_ .f32 0x7F800000#32
  let main_v12 : FVec F S16896x128 .f32 := broadcastInDim S16896x128 ![] bcast_S_S16896x128 main_cst_2
  let main_v13 : IVec S16896x128 1 := cmpf .olt main_v11 main_v12
  let main_c_3 : IVec S_ 1 := constantI S_ 1 1#1
  let main_v14 : IVec S_ 1 := (fun x v => Host.reduce IntOp.andi x v reducesTo_S16896x128_S_d0_1 h_S_) main_v13 main_c_3
  let main_v15 : IVec S_ 1 := andi main_v9 main_v14
  main_v15
-- ==== Kernel.lean ====
abbrev S32 : Shape := ⟨1, ![32]⟩
abbrev S64 : Shape := ⟨1, ![64]⟩
abbrev S16896x256 : Shape := ⟨2, ![16896, 256]⟩
abbrev S256x16896 : Shape := ⟨2, ![256, 16896]⟩
abbrev S1x32 : Shape := ⟨2, ![1, 32]⟩
abbrev S4x32 : Shape := ⟨2, ![4, 32]⟩
abbrev S64x1 : Shape := ⟨2, ![64, 1]⟩
abbrev S64x512 : Shape := ⟨2, ![64, 512]⟩
abbrev S16384x256 : Shape := ⟨2, ![16384, 256]⟩
abbrev S512x256 : Shape := ⟨2, ![512, 256]⟩
abbrev S8192x256 : Shape := ⟨2, ![8192, 256]⟩
abbrev S256x8192 : Shape := ⟨2, ![256, 8192]⟩
abbrev S256x256 : Shape := ⟨2, ![256, 256]⟩
abbrev S8x512x128 : Shape := ⟨3, ![8, 512, 128]⟩
abbrev S8x1x512 : Shape := ⟨3, ![8, 1, 512]⟩
abbrev S8x64x512 : Shape := ⟨3, ![8, 64, 512]⟩
abbrev S512x128 : Shape := ⟨2, ![512, 128]⟩
abbrev S1x512x128 : Shape := ⟨3, ![1, 512, 128]⟩
abbrev S256x128 : Shape := ⟨2, ![256, 128]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S1x64x512 : Shape := ⟨3, ![1, 64, 512]⟩
abbrev S64x256 : Shape := ⟨2, ![64, 256]⟩
abbrev S1 : Shape := ⟨1, ![1]⟩
abbrev S1x1 : Shape := ⟨2, ![1, 1]⟩

abbrev nBuf : Space → Nat
  | .hbm => 16
  | .vmem => 18
  | .smem => 0
  | _ => 0

abbrev bufTy : (tb : Table) → Fin (tcTables nBuf tb) → BufTy
  | .hbm, ⟨0, _⟩ => ⟨S32, .f32⟩
  | .hbm, ⟨1, _⟩ => ⟨S32, .f32⟩
  | .hbm, ⟨2, _⟩ => ⟨S32, .f32⟩
  | .hbm, ⟨3, _⟩ => ⟨S32, .f32⟩
  | .hbm, ⟨4, _⟩ => ⟨S64, .f32⟩
  | .hbm, ⟨5, _⟩ => ⟨S16896x256, .bf16⟩
  | .hbm, ⟨6, _⟩ => ⟨S16896x256, .bf16⟩
  | .hbm, ⟨7, _⟩ => ⟨S256x16896, .bf16⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S4x32, .f32⟩
  | .hbm, ⟨13, _⟩ => ⟨S64x1, .f32⟩
  | .hbm, ⟨14, _⟩ => ⟨S64x512, .f32⟩
  | .hbm, ⟨15, _⟩ => ⟨S16384x256, .bf16⟩
  | .local _ .vmem, ⟨0, _⟩ => ⟨S4x32, .f32⟩
  | .local _ .vmem, ⟨1, _⟩ => ⟨S64x512, .f32⟩
  | .local _ .vmem, ⟨2, _⟩ => ⟨S512x256, .bf16⟩
  | .local _ .vmem, ⟨3, _⟩ => ⟨S512x256, .bf16⟩
  | .local _ .vmem, ⟨4, _⟩ => ⟨S8192x256, .bf16⟩
  | .local _ .vmem, ⟨5, _⟩ => ⟨S8192x256, .bf16⟩
  | .local _ .vmem, ⟨6, _⟩ => ⟨S256x8192, .bf16⟩
  | .local _ .vmem, ⟨7, _⟩ => ⟨S256x8192, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S512x256, .bf16⟩
  | .local _ .vmem, ⟨13, _⟩ => ⟨S512x256, .bf16⟩
  | .local _ .vmem, ⟨14, _⟩ => ⟨S8x512x128, .bf16⟩
  | .local _ .vmem, ⟨15, _⟩ => ⟨S8x1x512, .f32⟩
  | .local _ .vmem, ⟨16, _⟩ => ⟨S8x1x512, .f32⟩
  | .local _ .vmem, ⟨17, _⟩ => ⟨S8x64x512, .f32⟩
  | _, _ => ⟨S32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_61 : BitVec 32 := 0#32
  let c4_i32 : BitVec 32 := 4#32
  let v108 : BitVec 32 := Scalar.addi c0_i32_61 c4_i32
  let c1_i32 : BitVec 32 := 1#32
  ⟨c0_i32_61, v108, c1_i32⟩
def k0_mult1 (k0_t1 : Fin k0_t1_loop.trips) : BitVec 32 :=
  let c0_i32_61 : BitVec 32 := 0#32
  let c1_i32 : BitVec 32 := 1#32
  let arg14 : BitVec 32 := Scf.iv c0_i32_61 c1_i32 k0_t1
  let c8_i32 : BitVec 32 := 8#32
  let v550 : BitVec 32 := Scalar.muli arg14 c8_i32
  let c0_i32_352 : BitVec 32 := 0#32
  let v551 : BitVec 32 := Scalar.addi v550 c0_i32_352
  let c256_i32 : BitVec 32 := 256#32
  let v552 : BitVec 32 := Scalar.muli v551 c256_i32
  v552
def k0_off1 (k0_t1 : Fin k0_t1_loop.trips) (c0_i32_352 : BitVec 32) : Fin 2 → Nat :=
  let c0_i32_61 : BitVec 32 := 0#32
  let c1_i32 : BitVec 32 := 1#32
  let arg14 : BitVec 32 := Scf.iv c0_i32_61 c1_i32 k0_t1
  let c8_i32 : BitVec 32 := 8#32
  let v550 : BitVec 32 := Scalar.muli arg14 c8_i32
  let v551 : BitVec 32 := Scalar.addi v550 c0_i32_352
  let c256_i32 : BitVec 32 := 256#32
  let v552 : BitVec 32 := Scalar.muli v551 c256_i32
  let v553 : BitVec 32 := v552
  let v554 : Index := Scalar.indexCast v553
  let c0_353 : Index := 0#32
  ![v554.toNat, 0]
def k0_off2 (k0_t1 : Fin k0_t1_loop.trips) (c0_i32_352 : BitVec 32) : Fin 2 → Nat :=
  let c0_354 : Index := 0#32
  let c0_i32_61 : BitVec 32 := 0#32
  let c1_i32 : BitVec 32 := 1#32
  let arg14 : BitVec 32 := Scf.iv c0_i32_61 c1_i32 k0_t1
  let c8_i32 : BitVec 32 := 8#32
  let v550 : BitVec 32 := Scalar.muli arg14 c8_i32
  let v551 : BitVec 32 := Scalar.addi v550 c0_i32_352
  let c256_i32 : BitVec 32 := 256#32
  let v552 : BitVec 32 := Scalar.muli v551 c256_i32
  let v553 : BitVec 32 := v552
  let v556 : Index := Scalar.indexCast v553
  ![0, v556.toNat]
def k0_mult2 (k0_t1 : Fin k0_t1_loop.trips) : BitVec 32 :=
  let c0_i32_61 : BitVec 32 := 0#32
  let c1_i32 : BitVec 32 := 1#32
  let arg14 : BitVec 32 := Scf.iv c0_i32_61 c1_i32 k0_t1
  let c8_i32_355 : BitVec 32 := 8#32
  let v558 : BitVec 32 := Scalar.muli arg14 c8_i32_355
  let c1_i32_356 : BitVec 32 := 1#32
  let v559 : BitVec 32 := Scalar.addi v558 c1_i32_356
  let c256_i32_357 : BitVec 32 := 256#32
  let v560 : BitVec 32 := Scalar.muli v559 c256_i32_357
  v560
def k0_mult3 (k0_t1 : Fin k0_t1_loop.trips) : BitVec 32 :=
  let c0_i32_61 : BitVec 32 := 0#32
  let c1_i32 : BitVec 32 := 1#32
  let arg14 : BitVec 32 := Scf.iv c0_i32_61 c1_i32 k0_t1
  let c8_i32_360 : BitVec 32 := 8#32
  let v566 : BitVec 32 := Scalar.muli arg14 c8_i32_360
  let c2_i32 : BitVec 32 := 2#32
  let v567 : BitVec 32 := Scalar.addi v566 c2_i32
  let c256_i32_361 : BitVec 32 := 256#32
  let v568 : BitVec 32 := Scalar.muli v567 c256_i32_361
  v568
def k0_mult4 (k0_t1 : Fin k0_t1_loop.trips) : BitVec 32 :=
  let c0_i32_61 : BitVec 32 := 0#32
  let c1_i32 : BitVec 32 := 1#32
  let arg14 : BitVec 32 := Scf.iv c0_i32_61 c1_i32 k0_t1
  let c8_i32_364 : BitVec 32 := 8#32
  let v574 : BitVec 32 := Scalar.muli arg14 c8_i32_364
  let c3_i32 : BitVec 32 := 3#32
  let v575 : BitVec 32 := Scalar.addi v574 c3_i32
  let c256_i32_365 : BitVec 32 := 256#32
  let v576 : BitVec 32 := Scalar.muli v575 c256_i32_365
  v576
def k0_mult5 (k0_t1 : Fin k0_t1_loop.trips) : BitVec 32 :=
  let c0_i32_61 : BitVec 32 := 0#32
  let c1_i32 : BitVec 32 := 1#32
  let arg14 : BitVec 32 := Scf.iv c0_i32_61 c1_i32 k0_t1
  let c8_i32_368 : BitVec 32 := 8#32
  let v582 : BitVec 32 := Scalar.muli arg14 c8_i32_368
  let c4_i32_369 : BitVec 32 := 4#32
  let v583 : BitVec 32 := Scalar.addi v582 c4_i32_369
  let c256_i32_370 : BitVec 32 := 256#32
  let v584 : BitVec 32 := Scalar.muli v583 c256_i32_370
  v584
def k0_mult6 (k0_t1 : Fin k0_t1_loop.trips) : BitVec 32 :=
  let c0_i32_61 : BitVec 32 := 0#32
  let c1_i32 : BitVec 32 := 1#32
  let arg14 : BitVec 32 := Scf.iv c0_i32_61 c1_i32 k0_t1
  let c8_i32_373 : BitVec 32 := 8#32
  let v590 : BitVec 32 := Scalar.muli arg14 c8_i32_373
  let c5_i32 : BitVec 32 := 5#32
  let v591 : BitVec 32 := Scalar.addi v590 c5_i32
  let c256_i32_374 : BitVec 32 := 256#32
  let v592 : BitVec 32 := Scalar.muli v591 c256_i32_374
  v592
def k0_mult7 (k0_t1 : Fin k0_t1_loop.trips) : BitVec 32 :=
  let c0_i32_61 : BitVec 32 := 0#32
  let c1_i32 : BitVec 32 := 1#32
  let arg14 : BitVec 32 := Scf.iv c0_i32_61 c1_i32 k0_t1
  let c8_i32_377 : BitVec 32 := 8#32
  let v598 : BitVec 32 := Scalar.muli arg14 c8_i32_377
  let c6_i32 : BitVec 32 := 6#32
  let v599 : BitVec 32 := Scalar.addi v598 c6_i32
  let c256_i32_378 : BitVec 32 := 256#32
  let v600 : BitVec 32 := Scalar.muli v599 c256_i32_378
  v600
def k0_mult8 (k0_t1 : Fin k0_t1_loop.trips) : BitVec 32 :=
  let c0_i32_61 : BitVec 32 := 0#32
  let c1_i32 : BitVec 32 := 1#32
  let arg14 : BitVec 32 := Scf.iv c0_i32_61 c1_i32 k0_t1
  let c8_i32_381 : BitVec 32 := 8#32
  let v606 : BitVec 32 := Scalar.muli arg14 c8_i32_381
  let c7_i32 : BitVec 32 := 7#32
  let v607 : BitVec 32 := Scalar.addi v606 c7_i32
  let c256_i32_382 : BitVec 32 := 256#32
  let v608 : BitVec 32 := Scalar.muli v607 c256_i32_382
  v608
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32 : Shape := ⟨1, ![32]⟩
abbrev S64 : Shape := ⟨1, ![64]⟩
abbrev S16896x256 : Shape := ⟨2, ![16896, 256]⟩
abbrev S256x16896 : Shape := ⟨2, ![256, 16896]⟩
abbrev S_ : Shape := ⟨0, ![]⟩
abbrev S16384x256 : Shape := ⟨2, ![16384, 256]⟩
abbrev S2x8192x4x2x32 : Shape := ⟨5, ![2, 8192, 4, 2, 32]⟩
abbrev S512x256 : Shape := ⟨2, ![512, 256]⟩
abbrev S2x256x4x2x32 : Shape := ⟨5, ![2, 256, 4, 2, 32]⟩
abbrev S2x8448x4x2x32 : Shape := ⟨5, ![2, 8448, 4, 2, 32]⟩
abbrev S2x8192x4x64 : Shape := ⟨4, ![2, 8192, 4, 64]⟩
abbrev S2x256x4x64 : Shape := ⟨4, ![2, 256, 4, 64]⟩
abbrev S2x8448x4x64 : Shape := ⟨4, ![2, 8448, 4, 64]⟩
abbrev S2x4x2x8192x8448 : Shape := ⟨5, ![2, 4, 2, 8192, 8448]⟩
abbrev S2x4x2x8192 : Shape := ⟨4, ![2, 4, 2, 8192]⟩
abbrev S2x4x2x8192x1 : Shape := ⟨5, ![2, 4, 2, 8192, 1]⟩
abbrev S2x4x1x8192x8448 : Shape := ⟨5, ![2, 4, 1, 8192, 8448]⟩
abbrev S2x4x8192x8448 : Shape := ⟨4, ![2, 4, 8192, 8448]⟩
abbrev S2x4x64x8192 : Shape := ⟨4, ![2, 4, 64, 8192]⟩
abbrev S2x8192x4 : Shape := ⟨3, ![2, 8192, 4]⟩
abbrev S2x8192x4x1 : Shape := ⟨4, ![2, 8192, 4, 1]⟩
abbrev S1x1x1x64 : Shape := ⟨4, ![1, 1, 1, 64]⟩

abbrev nBuf : Space → Nat
  | .hbm => 85
  | .vmem => 0
  | .smem => 0
  | _ => 0

abbrev bufTy : (tb : Table) → Fin (tcTables nBuf tb) → BufTy
  | .hbm, ⟨0, _⟩ => ⟨S32, .f32⟩
  | .hbm, ⟨1, _⟩ => ⟨S32, .f32⟩
  | .hbm, ⟨2, _⟩ => ⟨S32, .f32⟩
  | .hbm, ⟨3, _⟩ => ⟨S32, .f32⟩
  | .hbm, ⟨4, _⟩ => ⟨S64, .f32⟩
  | .hbm, ⟨5, _⟩ => ⟨S16896x256, .bf16⟩
  | .hbm, ⟨6, _⟩ => ⟨S16896x256, .bf16⟩
  | .hbm, ⟨7, _⟩ => ⟨S256x16896, .bf16⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16896x256, .f32⟩
  | .hbm, ⟨20, _⟩ => ⟨S16896x256, .f32⟩
  | .hbm, ⟨21, _⟩ => ⟨S256x16896, .f32⟩
  | .hbm, ⟨22, _⟩ => ⟨S16896x256, .f32⟩
  | .hbm, ⟨23, _⟩ => ⟨S16384x256, .f32⟩
  | .hbm, ⟨24, _⟩ => ⟨S2x8192x4x2x32, .f32⟩
  | .hbm, ⟨25, _⟩ => ⟨S16384x256, .f32⟩
  | .hbm, ⟨26, _⟩ => ⟨S2x8192x4x2x32, .f32⟩
  | .hbm, ⟨27, _⟩ => ⟨S512x256, .f32⟩
  | .hbm, ⟨28, _⟩ => ⟨S2x256x4x2x32, .f32⟩
  | .hbm, ⟨29, _⟩ => ⟨S2x8448x4x2x32, .f32⟩
  | .hbm, ⟨30, _⟩ => ⟨S16384x256, .f32⟩
  | .hbm, ⟨31, _⟩ => ⟨S2x8192x4x64, .f32⟩
  | .hbm, ⟨32, _⟩ => ⟨S512x256, .f32⟩
  | .hbm, ⟨33, _⟩ => ⟨S2x256x4x64, .f32⟩
  | .hbm, ⟨34, _⟩ => ⟨S2x8448x4x64, .f32⟩
  | .hbm, ⟨35, _⟩ => ⟨S2x4x2x8192x8448, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x4x2x8192x8448, .f32⟩
  | .hbm, ⟨40, _⟩ => ⟨S2x4x2x8192x8448, .f32⟩
  | .hbm, ⟨41, _⟩ => ⟨S_, .f32⟩
  | .hbm, ⟨42, _⟩ => ⟨S2x4x2x8192, .f32⟩
  | .hbm, ⟨43, _⟩ => ⟨S_, .f32⟩
  | .hbm, ⟨44, _⟩ => ⟨S2x4x2x8192, .f32⟩
  | .hbm, ⟨45, _⟩ => ⟨S2x4x2x8192, .f32⟩
  | .hbm, ⟨46, _⟩ => ⟨S2x4x2x8192x1, .f32⟩
  | .hbm, ⟨47, _⟩ => ⟨S2x4x2x8192x8448, .f32⟩
  | .hbm, ⟨48, _⟩ => ⟨S2x4x2x8192x8448, .f32⟩
  | .hbm, ⟨49, _⟩ => ⟨S2x4x2x8192x8448, .f32⟩
  | .hbm, ⟨50, _⟩ => ⟨S_, .f32⟩
  | .hbm, ⟨51, _⟩ => ⟨S2x4x2x8192, .f32⟩
  | .hbm, ⟨52, _⟩ => ⟨S2x4x2x8192x1, .f32⟩
  | .hbm, ⟨53, _⟩ => ⟨S2x4x2x8192x8448, .f32⟩
  | .hbm, ⟨54, _⟩ => ⟨S2x4x2x8192x8448, .f32⟩
  | .hbm, ⟨55, _⟩ => ⟨S2x4x1x8192x8448, .f32⟩
  | .hbm, ⟨56, _⟩ => ⟨S2x4x8192x8448, .f32⟩
  | .hbm, ⟨57, _⟩ => ⟨S2x4x1x8192x8448, .f32⟩
  | .hbm, ⟨58, _⟩ => ⟨S2x4x8192x8448, .f32⟩
  | .hbm, ⟨59, _⟩ => ⟨S2x4x8192x8448, .f32⟩
  | .hbm, ⟨60, _⟩ => ⟨S2x4x8192x8448, .f32⟩
  | .hbm, ⟨61, _⟩ => ⟨S2x4x8192x8448, .f32⟩
  | .hbm, ⟨62, _⟩ => ⟨S2x4x64x8192, .f32⟩
  | .hbm, ⟨63, _⟩ => ⟨S2x8192x4x64, .f32⟩
  | .hbm, ⟨64, _⟩ => ⟨S2x8192x4x64, .f32⟩
  | .hbm, ⟨65, _⟩ => ⟨S_, .f32⟩
  | .hbm, ⟨66, _⟩ => ⟨S2x8192x4, .f32⟩
  | .hbm, ⟨67, _⟩ => ⟨S2x8192x4x1, .f32⟩
  | .hbm, ⟨68, _⟩ => ⟨S_, .f32⟩
  | .hbm, ⟨69, _⟩ => ⟨S2x8192x4x1, .f32⟩
  | .hbm, ⟨70, _⟩ => ⟨S2x8192x4x1, .f32⟩
  | .hbm, ⟨71, _⟩ => ⟨S_, .f32⟩
  | .hbm, ⟨72, _⟩ => ⟨S2x8192x4x1, .f32⟩
  | .hbm, ⟨73, _⟩ => ⟨S2x8192x4x1, .f32⟩
  | .hbm, ⟨74, _⟩ => ⟨S2x8192x4x1, .f32⟩
  | .hbm, ⟨75, _⟩ => ⟨S2x8192x4x64, .f32⟩
  | .hbm, ⟨76, _⟩ => ⟨S2x8192x4x64, .f32⟩
  | .hbm, ⟨77, _⟩ => ⟨S1x1x1x64, .f32⟩
  | .hbm, ⟨78, _⟩ => ⟨S2x8192x4x64, .f32⟩
  | .hbm, ⟨79, _⟩ => ⟨S2x8192x4x64, .f32⟩
  | .hbm, ⟨80, _⟩ => ⟨S_, .f32⟩
  | .hbm, ⟨81, _⟩ => ⟨S2x8192x4x64, .f32⟩
  | .hbm, ⟨82, _⟩ => ⟨S2x8192x4x64, .f32⟩
  | .hbm, ⟨83, _⟩ => ⟨S16384x256, .f32⟩
  | .hbm, ⟨84, _⟩ => ⟨S16384x256, .bf16⟩
  | _, _ => ⟨S32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Kernel2.lean ====
abbrev S16896x1024 : Shape := ⟨2, ![16896, 1024]⟩
abbrev S16896x256 : Shape := ⟨2, ![16896, 256]⟩
abbrev S16896x512 : Shape := ⟨2, ![16896, 512]⟩
abbrev S8x6x1024 : Shape := ⟨3, ![8, 6, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S16896x2048 : Shape := ⟨2, ![16896, 2048]⟩
abbrev S512x1024 : Shape := ⟨2, ![512, 1024]⟩
abbrev S512x256 : Shape := ⟨2, ![512, 256]⟩
abbrev S512x512 : Shape := ⟨2, ![512, 512]⟩
abbrev S1x6x1024 : Shape := ⟨3, ![1, 6, 1024]⟩
abbrev S512x2048 : Shape := ⟨2, ![512, 2048]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 14
  | .vmem => 19
  | .smem => 0
  | _ => 0

abbrev bufTy : (tb : Table) → Fin (tcTables nBuf tb) → BufTy
  | .hbm, ⟨0, _⟩ => ⟨S16896x1024, .f32⟩
  | .hbm, ⟨1, _⟩ => ⟨S16896x256, .bf16⟩
  | .hbm, ⟨2, _⟩ => ⟨S16896x512, .bf16⟩
  | .hbm, ⟨3, _⟩ => ⟨S16896x256, .bf16⟩
  | .hbm, ⟨4, _⟩ => ⟨S8x6x1024, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S1024x1024, .bf16⟩
  | .hbm, ⟨9, _⟩ => ⟨S1x1024, .f32⟩
  | .hbm, ⟨10, _⟩ => ⟨S1024x2048, .bf16⟩
  | .hbm, ⟨11, _⟩ => ⟨S16896x1024, .f32⟩
  | .hbm, ⟨12, _⟩ => ⟨S16896x1024, .bf16⟩
  | .hbm, ⟨13, _⟩ => ⟨S16896x2048, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S1x6x1024, .f32⟩
  | .local _ .vmem, ⟨9, _⟩ => ⟨S1x6x1024, .f32⟩
  | .local _ .vmem, ⟨10, _⟩ => ⟨S1024x1024, .bf16⟩
  | .local _ .vmem, ⟨11, _⟩ => ⟨S1x1024, .f32⟩
  | .local _ .vmem, ⟨12, _⟩ => ⟨S1024x2048, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x2048, .f32⟩
  | .local _ .vmem, ⟨18, _⟩ => ⟨S512x2048, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16896x1024 : Shape := ⟨2, ![16896, 1024]⟩
abbrev S16896x256 : Shape := ⟨2, ![16896, 256]⟩
abbrev S16896x512 : Shape := ⟨2, ![16896, 512]⟩
abbrev S8x6x1024 : Shape := ⟨3, ![8, 6, 1024]⟩
abbrev S1024x1024 : Shape := ⟨2, ![1024, 1024]⟩
abbrev S1024 : Shape := ⟨1, ![1024]⟩
abbrev S1024x2048 : Shape := ⟨2, ![1024, 2048]⟩
abbrev S8x1x1024 : Shape := ⟨3, ![8, 1, 1024]⟩
abbrev S8x1024 : Shape := ⟨2, ![8, 1024]⟩
abbrev S2x1024 : Shape := ⟨2, ![2, 1024]⟩
abbrev S2x1x1024 : Shape := ⟨3, ![2, 1, 1024]⟩
abbrev S2x8192x1024 : Shape := ⟨3, ![2, 8192, 1024]⟩
abbrev S16384x1024 : Shape := ⟨2, ![16384, 1024]⟩
abbrev S1x1024 : Shape := ⟨2, ![1, 1024]⟩
abbrev S512x1024 : Shape := ⟨2, ![512, 1024]⟩
abbrev S_ : Shape := ⟨0, ![]⟩
abbrev S16896 : Shape := ⟨1, ![16896]⟩
abbrev S16896x1 : Shape := ⟨2, ![16896, 1]⟩
abbrev S16896x2048 : Shape := ⟨2, ![16896, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x256, .bf16⟩
  | .hbm, ⟨2, _⟩ => ⟨S16896x512, .bf16⟩
  | .hbm, ⟨3, _⟩ => ⟨S16896x256, .bf16⟩
  | .hbm, ⟨4, _⟩ => ⟨S8x6x1024, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S16896x256, .f32⟩
  | .hbm, ⟨9, _⟩ => ⟨S16896x512, .f32⟩
  | .hbm, ⟨10, _⟩ => ⟨S16896x256, .f32⟩
  | .hbm, ⟨11, _⟩ => ⟨S16896x1024, .f32⟩
  | .hbm, ⟨12, _⟩ => ⟨S16896x1024, .f32⟩
  | .hbm, ⟨13, _⟩ => ⟨S8x1x1024, .f32⟩
  | .hbm, ⟨14, _⟩ => ⟨S8x1024, .f32⟩
  | .hbm, ⟨15, _⟩ => ⟨S2x1024, .f32⟩
  | .hbm, ⟨16, _⟩ => ⟨S2x1x1024, .f32⟩
  | .hbm, ⟨17, _⟩ => ⟨S2x8192x1024, .f32⟩
  | .hbm, ⟨18, _⟩ => ⟨S16384x1024, .f32⟩
  | .hbm, ⟨19, _⟩ => ⟨S1x1024, .f32⟩
  | .hbm, ⟨20, _⟩ => ⟨S512x1024, .f32⟩
  | .hbm, ⟨21, _⟩ => ⟨S16896x1024, .f32⟩
  | .hbm, ⟨22, _⟩ => ⟨S16896x1024, .f32⟩
  | .hbm, ⟨23, _⟩ => ⟨S16896x1024, .f32⟩
  | .hbm, ⟨24, _⟩ => ⟨S16896x1024, .f32⟩
  | .hbm, ⟨25, _⟩ => ⟨S_, .f32⟩
  | .hbm, ⟨26, _⟩ => ⟨S16896, .f32⟩
  | .hbm, ⟨27, _⟩ => ⟨S16896x1, .f32⟩
  | .hbm, ⟨28, _⟩ => ⟨S_, .f32⟩
  | .hbm, ⟨29, _⟩ => ⟨S16896x1, .f32⟩
  | .hbm, ⟨30, _⟩ => ⟨S16896x1, .f32⟩
  | .hbm, ⟨31, _⟩ => ⟨S_, .f32⟩
  | .hbm, ⟨32, _⟩ => ⟨S16896x1, .f32⟩
  | .hbm, ⟨33, _⟩ => ⟨S16896x1, .f32⟩
  | .hbm, ⟨34, _⟩ => ⟨S16896x1, .f32⟩
  | .hbm, ⟨35, _⟩ => ⟨S16896x1024, .f32⟩
  | .hbm, ⟨36, _⟩ => ⟨S16896x1024, .f32⟩
  | .hbm, ⟨37, _⟩ => ⟨S1x1024, .f32⟩
  | .hbm, ⟨38, _⟩ => ⟨S16896x1024, .f32⟩
  | .hbm, ⟨39, _⟩ => ⟨S16896x1024, .f32⟩
  | .hbm, ⟨40, _⟩ => ⟨S8x1x1024, .f32⟩
  | .hbm, ⟨41, _⟩ => ⟨S8x1024, .f32⟩
  | .hbm, ⟨42, _⟩ => ⟨S2x1024, .f32⟩
  | .hbm, ⟨43, _⟩ => ⟨S2x1x1024, .f32⟩
  | .hbm, ⟨44, _⟩ => ⟨S2x8192x1024, .f32⟩
  | .hbm, ⟨45, _⟩ => ⟨S16384x1024, .f32⟩
  | .hbm, ⟨46, _⟩ => ⟨S1x1024, .f32⟩
  | .hbm, ⟨47, _⟩ => ⟨S512x1024, .f32⟩
  | .hbm, ⟨48, _⟩ => ⟨S16896x1024, .f32⟩
  | .hbm, ⟨49, _⟩ => ⟨S_, .f32⟩
  | .hbm, ⟨50, _⟩ => ⟨S16896x1024, .f32⟩
  | .hbm, ⟨51, _⟩ => ⟨S16896x1024, .f32⟩
  | .hbm, ⟨52, _⟩ => ⟨S16896x1024, .f32⟩
  | .hbm, ⟨53, _⟩ => ⟨S8x1x1024, .f32⟩
  | .hbm, ⟨54, _⟩ => ⟨S8x1024, .f32⟩
  | .hbm, ⟨55, _⟩ => ⟨S2x1024, .f32⟩
  | .hbm, ⟨56, _⟩ => ⟨S2x1x1024, .f32⟩
  | .hbm, ⟨57, _⟩ => ⟨S2x8192x1024, .f32⟩
  | .hbm, ⟨58, _⟩ => ⟨S16384x1024, .f32⟩
  | .hbm, ⟨59, _⟩ => ⟨S1x1024, .f32⟩
  | .hbm, ⟨60, _⟩ => ⟨S512x1024, .f32⟩
  | .hbm, ⟨61, _⟩ => ⟨S16896x1024, .f32⟩
  | .hbm, ⟨62, _⟩ => ⟨S16896x1024, .f32⟩
  | .hbm, ⟨63, _⟩ => ⟨S16896x1024, .bf16⟩
  | .hbm, ⟨64, _⟩ => ⟨S16896x2048, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Kernel3.lean ====
abbrev S16896x1024 : Shape := ⟨2, ![16896, 1024]⟩
abbrev S8x6x1024 : Shape := ⟨3, ![8, 6, 1024]⟩
abbrev S1024 : Shape := ⟨1, ![1024]⟩
abbrev S1024x2304 : Shape := ⟨2, ![1024, 2304]⟩
abbrev S8192x16 : Shape := ⟨2, ![8192, 16]⟩
abbrev S8192x8 : Shape := ⟨2, ![8192, 8]⟩
abbrev S_ : Shape := ⟨0, ![]⟩
abbrev S8192x128 : Shape := ⟨2, ![8192, 128]⟩
abbrev S512x128 : Shape := ⟨2, ![512, 128]⟩
abbrev S8704x128 : Shape := ⟨2, ![8704, 128]⟩
abbrev S1x1024 : Shape := ⟨2, ![1, 1024]⟩
abbrev S16896x768 : Shape := ⟨2, ![16896, 768]⟩
abbrev S16896x512 : Shape := ⟨2, ![16896, 512]⟩
abbrev S16896x128 : Shape := ⟨2, ![16896, 128]⟩
abbrev S16896x256 : Shape := ⟨2, ![16896, 256]⟩
abbrev S256x16896 : Shape := ⟨2, ![256, 16896]⟩
abbrev S128x16896 : Shape := ⟨2, ![128, 16896]⟩
abbrev S512x1024 : Shape := ⟨2, ![512, 1024]⟩
abbrev S1x6x1024 : Shape := ⟨3, ![1, 6, 1024]⟩
abbrev S512x768 : Shape := ⟨2, ![512, 768]⟩
abbrev S512x512 : Shape := ⟨2, ![512, 512]⟩
abbrev S512x256 : Shape := ⟨2, ![512, 256]⟩
abbrev S256x512 : Shape := ⟨2, ![256, 512]⟩
abbrev S128x512 : Shape := ⟨2, ![128, 512]⟩
abbrev S1x1x1024 : Shape := ⟨3, ![1, 1, 1024]⟩
abbrev S512 : Shape := ⟨1, ![512]⟩
abbrev S512x1 : Shape := ⟨2, ![512, 1]⟩
abbrev S1024x768 : Shape := ⟨2, ![1024, 768]⟩

abbrev nBuf : Space → Nat
  | .hbm => 51
  | .vmem => 36
  | .smem => 0
  | _ => 0

abbrev bufTy : (tb : Table) → Fin (tcTables nBuf tb) → BufTy
  | .hbm, ⟨0, _⟩ => ⟨S16896x1024, .f32⟩
  | .hbm, ⟨1, _⟩ => ⟨S8x6x1024, .f32⟩
  | .hbm, ⟨2, _⟩ => ⟨S1024, .f32⟩
  | .hbm, ⟨3, _⟩ => ⟨S1024x2304, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x8, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S_, .f32⟩
  | .hbm, ⟨13, _⟩ => ⟨S8192x16, .f32⟩
  | .hbm, ⟨14, _⟩ => ⟨S8192x128, .f32⟩
  | .hbm, ⟨15, _⟩ => ⟨S8192x16, .f32⟩
  | .hbm, ⟨16, _⟩ => ⟨S8192x16, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S512x128, .f32⟩
  | .hbm, ⟨21, _⟩ => ⟨S_, .f32⟩
  | .hbm, ⟨22, _⟩ => ⟨S512x128, .f32⟩
  | .hbm, ⟨23, _⟩ => ⟨S8704x128, .f32⟩
  | .hbm, ⟨24, _⟩ => ⟨S8704x128, .f32⟩
  | .hbm, ⟨25, _⟩ => ⟨S8704x128, .f32⟩
  | .hbm, ⟨26, _⟩ => ⟨S_, .f32⟩
  | .hbm, ⟨27, _⟩ => ⟨S8192x8, .f32⟩
  | .hbm, ⟨28, _⟩ => ⟨S8192x128, .f32⟩
  | .hbm, ⟨29, _⟩ => ⟨S8192x8, .f32⟩
  | .hbm, ⟨30, _⟩ => ⟨S8192x8, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S8704x128, .f32⟩
  | .hbm, ⟨38, _⟩ => ⟨S8704x128, .f32⟩
  | .hbm, ⟨39, _⟩ => ⟨S8704x128, .f32⟩
  | .hbm, ⟨40, _⟩ => ⟨S1x1024, .f32⟩
  | .hbm, ⟨41, _⟩ => ⟨S1024x2304, .bf16⟩
  | .hbm, ⟨42, _⟩ => ⟨S16896x768, .f32⟩
  | .hbm, ⟨43, _⟩ => ⟨S16896x512, .bf16⟩
  | .hbm, ⟨44, _⟩ => ⟨S16896x128, .bf16⟩
  | .hbm, ⟨45, _⟩ => ⟨S16896x128, .bf16⟩
  | .hbm, ⟨46, _⟩ => ⟨S16896x256, .bf16⟩
  | .hbm, ⟨47, _⟩ => ⟨S16896x256, .bf16⟩
  | .hbm, ⟨48, _⟩ => ⟨S16896x256, .bf16⟩
  | .hbm, ⟨49, _⟩ => ⟨S256x16896, .bf16⟩
  | .hbm, ⟨50, _⟩ => ⟨S128x16896, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2304, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x768, .f32⟩
  | .local _ .vmem, ⟨19, _⟩ => ⟨S512x768, .f32⟩
  | .local _ .vmem, ⟨20, _⟩ => ⟨S512x512, .bf16⟩
  | .local _ .vmem, ⟨21, _⟩ => ⟨S512x512, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S256x512, .bf16⟩
  | .local _ .vmem, ⟨33, _⟩ => ⟨S256x512, .bf16⟩
  | .local _ .vmem, ⟨34, _⟩ => ⟨S128x512, .bf16⟩
  | .local _ .vmem, ⟨35, _⟩ => ⟨S128x512, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v24_3 : Ref sig .tc := ⟨.hbm, 45, rfl⟩
abbrev main_v24_4 : Ref sig .tc := ⟨.hbm, 46, rfl⟩
abbrev main_v24_5 : Ref sig .tc := ⟨.hbm, 47, rfl⟩
abbrev main_v24_6 : Ref sig .tc := ⟨.hbm, 48, rfl⟩
abbrev main_v24_7 : Ref sig .tc := ⟨.hbm, 49, rfl⟩
abbrev main_v24_8 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel3Ideal.lean ====
variable {F : FTy → Type} [FloatOps F] [Named F]
def κ : String → Option EReal := fun
  | "da_scale" => some (((Real.sqrt 32)⁻¹ * (Real.log 2)⁻¹ : ℝ) : EReal)
  | _ => none
-- ==== Reference3Ideal.lean ====
abbrev S16896x1024 : Shape := ⟨2, ![16896, 1024]⟩
abbrev S8x6x1024 : Shape := ⟨3, ![8, 6, 1024]⟩
abbrev S1024 : Shape := ⟨1, ![1024]⟩
abbrev S1024x2304 : Shape := ⟨2, ![1024, 2304]⟩
abbrev S8192x16 : Shape := ⟨2, ![8192, 16]⟩
abbrev S8192x8 : Shape := ⟨2, ![8192, 8]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S8x1x1024 : Shape := ⟨3, ![8, 1, 1024]⟩
abbrev S8x1024 : Shape := ⟨2, ![8, 1024]⟩
abbrev S2x1024 : Shape := ⟨2, ![2, 1024]⟩
abbrev S2x1x1024 : Shape := ⟨3, ![2, 1, 1024]⟩
abbrev S2x8192x1024 : Shape := ⟨3, ![2, 8192, 1024]⟩
abbrev S16384x1024 : Shape := ⟨2, ![16384, 1024]⟩
abbrev S512x1024 : Shape := ⟨2, ![512, 1024]⟩
abbrev S16896x2304 : Shape := ⟨2, ![16896, 2304]⟩
abbrev S16896x768 : Shape := ⟨2, ![16896, 768]⟩
abbrev S16896x512 : Shape := ⟨2, ![16896, 512]⟩
abbrev S16384x512 : Shape := ⟨2, ![16384, 512]⟩
abbrev S2x8192x8x64 : Shape := ⟨4, ![2, 8192, 8, 64]⟩
abbrev S2x8192x8x32 : Shape := ⟨4, ![2, 8192, 8, 32]⟩
abbrev S2x8192x8x16 : Shape := ⟨4, ![2, 8192, 8, 16]⟩
abbrev S1x8192x1x16 : Shape := ⟨4, ![1, 8192, 1, 16]⟩
abbrev S512x512 : Shape := ⟨2, ![512, 512]⟩
abbrev S16896x128 : Shape := ⟨2, ![16896, 128]⟩
abbrev S16384x128 : Shape := ⟨2, ![16384, 128]⟩
abbrev S2x8192x2x64 : Shape := ⟨4, ![2, 8192, 2, 64]⟩
abbrev S2x8192x2x32 : Shape := ⟨4, ![2, 8192, 2, 32]⟩
abbrev S2x8192x2x16 : Shape := ⟨4, ![2, 8192, 2, 16]⟩
abbrev S512x128 : Shape := ⟨2, ![512, 128]⟩
abbrev S16896x256 : Shape := ⟨2, ![16896, 256]⟩
abbrev S16384x256 : Shape := ⟨2, ![16384, 256]⟩
abbrev S2x8192x8x8 : Shape := ⟨4, ![2, 8192, 8, 8]⟩
abbrev S1x8192x1x8 : Shape := ⟨4, ![1, 8192, 1, 8]⟩
abbrev S512x256 : Shape := ⟨2, ![512, 256]⟩
abbrev S256x16896 : Shape := ⟨2, ![256, 16896]⟩
abbrev S128x16896 : Shape := ⟨2, ![128, 16896]⟩

abbrev nBuf : Space → Nat
  | .hbm => 234
  | .vmem => 0
  | .smem => 0
  | _ => 0

abbrev hbmTy0_0 (i : Nat) : BufTy := match i % 128 with
  | 0 => ⟨S16896x1024, .f32⟩
  | 1 => ⟨S8x6x1024, .f32⟩
  | 2 => ⟨S1024, .f32⟩
  | 3 => ⟨S1024x2304, .f32⟩
  | 4 => ⟨S8192x16, .f32⟩
  | 5 => ⟨S8192x16, .f32⟩
  | 6 => ⟨S8192x16, .f32⟩
  | 7 => ⟨S8192x16, .f32⟩
  | 8 => ⟨S8192x8, .f32⟩
  | 9 => ⟨S8192x8, .f32⟩
  | 10 => ⟨S8192x8, .f32⟩
  | 11 => ⟨S8192x8, .f32⟩
  | 12 => ⟨S16896x1024, .f32⟩
  | 13 => ⟨S_, .f32⟩
  | 14 => ⟨S16896, .f32⟩
  | 15 => ⟨S16896x1, .f32⟩
  | 16 => ⟨S_, .f32⟩
  | 17 => ⟨S16896x1, .f32⟩
  | 18 => ⟨S16896x1, .f32⟩
  | 19 => ⟨S_, .f32⟩
  | 20 => ⟨S16896x1, .f32⟩
  | 21 => ⟨S16896x1, .f32⟩
  | 22 => ⟨S16896x1, .f32⟩
  | 23 => ⟨S16896x1024, .f32⟩
  | 24 => ⟨S16896x1024, .f32⟩
  | 25 => ⟨S1x1024, .f32⟩
  | 26 => ⟨S16896x1024, .f32⟩
  | 27 => ⟨S16896x1024, .f32⟩
  | 28 => ⟨S8x1x1024, .f32⟩
  | 29 => ⟨S8x1024, .f32⟩
  | 30 => ⟨S2x1024, .f32⟩
  | 31 => ⟨S2x1x1024, .f32⟩
  | 32 => ⟨S2x8192x1024, .f32⟩
  | 33 => ⟨S16384x1024, .f32⟩
  | 34 => ⟨S1x1024, .f32⟩
  | 35 => ⟨S512x1024, .f32⟩
  | 36 => ⟨S16896x1024, .f32⟩
  | 37 => ⟨S_, .f32⟩
  | 38 => ⟨S16896x1024, .f32⟩
  | 39 => ⟨S16896x1024, .f32⟩
  | 40 => ⟨S16896x1024, .f32⟩
  | 41 => ⟨S8x1x1024, .f32⟩
  | 42 => ⟨S8x1024, .f32⟩
  | 43 => ⟨S2x1024, .f32⟩
  | 44 => ⟨S2x1x1024, .f32⟩
  | 45 => ⟨S2x8192x1024, .f32⟩
  | 46 => ⟨S16384x1024, .f32⟩
  | 47 => ⟨S1x1024, .f32⟩
  | 48 => ⟨S512x1024, .f32⟩
  | 49 => ⟨S16896x1024, .f32⟩
  | 50 => ⟨S16896x1024, .f32⟩
  | 51 => ⟨S16896x2304, .f32⟩
  | 52 => ⟨S16896x768, .f32⟩
  | 53 => ⟨S16896x768, .f32⟩
  | 54 => ⟨S16896x768, .f32⟩
  | 55 => ⟨S16896x512, .f32⟩
  | 56 => ⟨S16384x512, .f32⟩
  | 57 => ⟨S2x8192x8x64, .f32⟩
  | 58 => ⟨S2x8192x8x32, .f32⟩
  | 59 => ⟨S2x8192x8x16, .f32⟩
  | 60 => ⟨S2x8192x8x16, .f32⟩
  | 61 => ⟨S1x8192x1x16, .f32⟩
  | 62 => ⟨S1x8192x1x16, .f32⟩
  | 63 => ⟨S2x8192x8x16, .f32⟩
  | 64 => ⟨S2x8192x8x16, .f32⟩
  | 65 => ⟨S2x8192x8x16, .f32⟩
  | 66 => ⟨S2x8192x8x16, .f32⟩
  | 67 => ⟨S2x8192x8x16, .f32⟩
  | 68 => ⟨S2x8192x8x16, .f32⟩
  | 69 => ⟨S2x8192x8x16, .f32⟩
  | 70 => ⟨S2x8192x8x16, .f32⟩
  | 71 => ⟨S2x8192x8x16, .f32⟩
  | 72 => ⟨S2x8192x8x16, .f32⟩
  | 73 => ⟨S2x8192x8x32, .f32⟩
  | 74 => ⟨S2x8192x8x32, .f32⟩
  | 75 => ⟨S2x8192x8x16, .f32⟩
  | 76 => ⟨S2x8192x8x16, .f32⟩
  | 77 => ⟨S1x8192x1x16, .f32⟩
  | 78 => ⟨S1x8192x1x16, .f32⟩
  | 79 => ⟨S2x8192x8x16, .f32⟩
  | 80 => ⟨S2x8192x8x16, .f32⟩
  | 81 => ⟨S2x8192x8x16, .f32⟩
  | 82 => ⟨S2x8192x8x16, .f32⟩
  | 83 => ⟨S2x8192x8x16, .f32⟩
  | 84 => ⟨S2x8192x8x16, .f32⟩
  | 85 => ⟨S2x8192x8x16, .f32⟩
  | 86 => ⟨S2x8192x8x16, .f32⟩
  | 87 => ⟨S2x8192x8x16, .f32⟩
  | 88 => ⟨S2x8192x8x16, .f32⟩
  | 89 => ⟨S2x8192x8x32, .f32⟩
  | 90 => ⟨S2x8192x8x64, .f32⟩
  | 91 => ⟨S16384x512, .f32⟩
  | 92 => ⟨S512x512, .f32⟩
  | 93 => ⟨S16896x512, .f32⟩
  | 94 => ⟨S_, .f32⟩
  | 95 => ⟨S16896x512, .f32⟩
  | 96 => ⟨S16896x512, .f32⟩
  | 97 => ⟨S16896x128, .f32⟩
  | 98 => ⟨S16384x128, .f32⟩
  | 99 => ⟨S2x8192x2x64, .f32⟩
  | 100 => ⟨S2x8192x2x32, .f32⟩
  | 101 => ⟨S2x8192x2x16, .f32⟩
  | 102 => ⟨S2x8192x2x16, .f32⟩
  | 103 => ⟨S1x8192x1x16, .f32⟩
  | 104 => ⟨S1x8192x1x16, .f32⟩
  | 105 => ⟨S2x8192x2x16, .f32⟩
  | 106 => ⟨S2x8192x2x16, .f32⟩
  | 107 => ⟨S2x8192x2x16, .f32⟩
  | 108 => ⟨S2x8192x2x16, .f32⟩
  | 109 => ⟨S2x8192x2x16, .f32⟩
  | 110 => ⟨S2x8192x2x16, .f32⟩
  | 111 => ⟨S2x8192x2x16, .f32⟩
  | 112 => ⟨S2x8192x2x16, .f32⟩
  | 113 => ⟨S2x8192x2x16, .f32⟩
  | 114 => ⟨S2x8192x2x16, .f32⟩
  | 115 => ⟨S2x8192x2x32, .f32⟩
  | 116 => ⟨S2x8192x2x32, .f32⟩
  | 117 => ⟨S2x8192x2x16, .f32⟩
  | 118 => ⟨S2x8192x2x16, .f32⟩
  | 119 => ⟨S1x8192x1x16, .f32⟩
  | 120 => ⟨S1x8192x1x16, .f32⟩
  | 121 => ⟨S2x8192x2x16, .f32⟩
  | 122 => ⟨S2x8192x2x16, .f32⟩
  | 123 => ⟨S2x8192x2x16, .f32⟩
  | 124 => ⟨S2x8192x2x16, .f32⟩
  | 125 => ⟨S2x8192x2x16, .f32⟩
  | 126 => ⟨S2x8192x2x16, .f32⟩
  | 127 => ⟨S2x8192x2x16, .f32⟩
  | _ => ⟨S16896x1024, .f32⟩

abbrev hbmTy0_1 (i : Nat) : BufTy := match i % 128 with
  | 0 => ⟨S2x8192x2x16, .f32⟩
  | 1 => ⟨S2x8192x2x16, .f32⟩
  | 2 => ⟨S2x8192x2x16, .f32⟩
  | 3 => ⟨S2x8192x2x32, .f32⟩
  | 4 => ⟨S2x8192x2x64, .f32⟩
  | 5 => ⟨S16384x128, .f32⟩
  | 6 => ⟨S512x128, .f32⟩
  | 7 => ⟨S16896x128, .f32⟩
  | 8 => ⟨S16896x128, .f32⟩
  | 9 => ⟨S16896x128, .bf16⟩
  | 10 => ⟨S16896x256, .f32⟩
  | 11 => ⟨S16384x256, .f32⟩
  | 12 => ⟨S2x8192x8x32, .f32⟩
  | 13 => ⟨S2x8192x8x16, .f32⟩
  | 14 => ⟨S2x8192x8x8, .f32⟩
  | 15 => ⟨S2x8192x8x8, .f32⟩
  | 16 => ⟨S1x8192x1x8, .f32⟩
  | 17 => ⟨S1x8192x1x8, .f32⟩
  | 18 => ⟨S2x8192x8x8, .f32⟩
  | 19 => ⟨S2x8192x8x8, .f32⟩
  | 20 => ⟨S2x8192x8x8, .f32⟩
  | 21 => ⟨S2x8192x8x8, .f32⟩
  | 22 => ⟨S2x8192x8x8, .f32⟩
  | 23 => ⟨S2x8192x8x8, .f32⟩
  | 24 => ⟨S2x8192x8x8, .f32⟩
  | 25 => ⟨S2x8192x8x8, .f32⟩
  | 26 => ⟨S2x8192x8x8, .f32⟩
  | 27 => ⟨S2x8192x8x8, .f32⟩
  | 28 => ⟨S2x8192x8x16, .f32⟩
  | 29 => ⟨S2x8192x8x16, .f32⟩
  | 30 => ⟨S2x8192x8x8, .f32⟩
  | 31 => ⟨S2x8192x8x8, .f32⟩
  | 32 => ⟨S1x8192x1x8, .f32⟩
  | 33 => ⟨S1x8192x1x8, .f32⟩
  | 34 => ⟨S2x8192x8x8, .f32⟩
  | 35 => ⟨S2x8192x8x8, .f32⟩
  | 36 => ⟨S2x8192x8x8, .f32⟩
  | 37 => ⟨S2x8192x8x8, .f32⟩
  | 38 => ⟨S2x8192x8x8, .f32⟩
  | 39 => ⟨S2x8192x8x8, .f32⟩
  | 40 => ⟨S2x8192x8x8, .f32⟩
  | 41 => ⟨S2x8192x8x8, .f32⟩
  | 42 => ⟨S2x8192x8x8, .f32⟩
  | 43 => ⟨S2x8192x8x8, .f32⟩
  | 44 => ⟨S2x8192x8x16, .f32⟩
  | 45 => ⟨S2x8192x8x32, .f32⟩
  | 46 => ⟨S16384x256, .f32⟩
  | 47 => ⟨S512x256, .f32⟩
  | 48 => ⟨S16896x256, .f32⟩
  | 49 => ⟨S_, .f32⟩
  | 50 => ⟨S_, .f32⟩
  | 51 => ⟨S_, .f32⟩
  | 52 => ⟨S16896x256, .f32⟩
  | 53 => ⟨S16896x256, .f32⟩
  | 54 => ⟨S_, .f32⟩
  | 55 => ⟨S_, .f32⟩
  | 56 => ⟨S_, .f32⟩
  | 57 => ⟨S16896x256, .f32⟩
  | 58 => ⟨S16896x256, .f32⟩
  | 59 => ⟨S16896x256, .f32⟩
  | 60 => ⟨S16384x256, .f32⟩
  | 61 => ⟨S2x8192x8x32, .f32⟩
  | 62 => ⟨S2x8192x8x16, .f32⟩
  | 63 => ⟨S2x8192x8x8, .f32⟩
  | 64 => ⟨S2x8192x8x8, .f32⟩
  | 65 => ⟨S1x8192x1x8, .f32⟩
  | 66 => ⟨S1x8192x1x8, .f32⟩
  | 67 => ⟨S2x8192x8x8, .f32⟩
  | 68 => ⟨S2x8192x8x8, .f32⟩
  | 69 => ⟨S2x8192x8x8, .f32⟩
  | 70 => ⟨S2x8192x8x8, .f32⟩
  | 71 => ⟨S2x8192x8x8, .f32⟩
  | 72 => ⟨S2x8192x8x8, .f32⟩
  | 73 => ⟨S2x8192x8x8, .f32⟩
  | 74 => ⟨S2x8192x8x8, .f32⟩
  | 75 => ⟨S2x8192x8x8, .f32⟩
  | 76 => ⟨S2x8192x8x8, .f32⟩
  | 77 => ⟨S2x8192x8x16, .f32⟩
  | 78 => ⟨S2x8192x8x16, .f32⟩
  | 79 => ⟨S2x8192x8x8, .f32⟩
  | 80 => ⟨S2x8192x8x8, .f32⟩
  | 81 => ⟨S1x8192x1x8, .f32⟩
  | 82 => ⟨S1x8192x1x8, .f32⟩
  | 83 => ⟨S2x8192x8x8, .f32⟩
  | 84 => ⟨S2x8192x8x8, .f32⟩
  | 85 => ⟨S2x8192x8x8, .f32⟩
  | 86 => ⟨S2x8192x8x8, .f32⟩
  | 87 => ⟨S2x8192x8x8, .f32⟩
  | 88 => ⟨S2x8192x8x8, .f32⟩
  | 89 => ⟨S2x8192x8x8, .f32⟩
  | 90 => ⟨S2x8192x8x8, .f32⟩
  | 91 => ⟨S2x8192x8x8, .f32⟩
  | 92 => ⟨S2x8192x8x8, .f32⟩
  | 93 => ⟨S2x8192x8x16, .f32⟩
  | 94 => ⟨S2x8192x8x32, .f32⟩
  | 95 => ⟨S16384x256, .f32⟩
  | 96 => ⟨S512x256, .f32⟩
  | 97 => ⟨S16896x256, .f32⟩
  | 98 => ⟨S16896x256, .f32⟩
  | 99 => ⟨S16896x256, .bf16⟩
  | 100 => ⟨S16896x512, .bf16⟩
  | 101 => ⟨S16896x128, .bf16⟩
  | 102 => ⟨S16896x256, .bf16⟩
  | 103 => ⟨S16896x256, .bf16⟩
  | 104 => ⟨S256x16896, .bf16⟩
  | 105 => ⟨S128x16896, .bf16⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_3 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_cst_4 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_cst_5 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩

abbrev nD : Nat := 1
abbrev τ : Topo := Topo.v7x

variable {F : FTy → Type} [FloatOps F]
-- ==== Kernel4.lean ====
abbrev S8 : Shape := ⟨1, ![8]⟩
abbrev S16896x512 : Shape := ⟨2, ![16896, 512]⟩
abbrev S16896x128 : Shape := ⟨2, ![16896, 128]⟩
abbrev S128x16896 : Shape := ⟨2, ![128, 16896]⟩
abbrev S16384x512 : Shape := ⟨2, ![16384, 512]⟩
abbrev S256x512 : Shape := ⟨2, ![256, 512]⟩
abbrev S128x128 : Shape := ⟨2, ![128, 128]⟩
abbrev S256x128 : Shape := ⟨2, ![256, 128]⟩
abbrev S128x256 : Shape := ⟨2, ![128, 256]⟩
abbrev S8x256x128 : Shape := ⟨3, ![8, 256, 128]⟩
abbrev S512x256 : Shape := ⟨2, ![512, 256]⟩
abbrev S768x128 : Shape := ⟨2, ![768, 128]⟩
abbrev S128x768 : Shape := ⟨2, ![128, 768]⟩
abbrev S1x256x128 : Shape := ⟨3, ![1, 256, 128]⟩
abbrev S256x64 : Shape := ⟨2, ![256, 64]⟩
abbrev S768x256 : Shape := ⟨2, ![768, 256]⟩
abbrev S256x256 : Shape := ⟨2, ![256, 256]⟩
abbrev S1 : Shape := ⟨1, ![1]⟩
abbrev S256 : Shape := ⟨1, ![256]⟩
abbrev S1x256 : Shape := ⟨2, ![1, 256]⟩
abbrev S64x768 : Shape := ⟨2, ![64, 768]⟩
abbrev S64x256 : Shape := ⟨2, ![64, 256]⟩

abbrev nBuf : Space → Nat
  | .hbm => 5
  | .vmem => 21
  | .smem => 1
  | _ => 0

abbrev bufTy : (tb : Table) → Fin (tcTables nBuf tb) → BufTy
  | .hbm, ⟨0, _⟩ => ⟨S8, .f32⟩
  | .hbm, ⟨1, _⟩ => ⟨S16896x512, .bf16⟩
  | .hbm, ⟨2, _⟩ => ⟨S16896x128, .bf16⟩
  | .hbm, ⟨3, _⟩ => ⟨S128x16896, .bf16⟩
  | .hbm, ⟨4, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S128x128, .bf16⟩
  | .local _ .vmem, ⟨3, _⟩ => ⟨S128x128, .bf16⟩
  | .local _ .vmem, ⟨4, _⟩ => ⟨S256x128, .bf16⟩
  | .local _ .vmem, ⟨5, _⟩ => ⟨S256x128, .bf16⟩
  | .local _ .vmem, ⟨6, _⟩ => ⟨S128x128, .bf16⟩
  | .local _ .vmem, ⟨7, _⟩ => ⟨S128x128, .bf16⟩
  | .local _ .vmem, ⟨8, _⟩ => ⟨S256x128, .bf16⟩
  | .local _ .vmem, ⟨9, _⟩ => ⟨S256x128, .bf16⟩
  | .local _ .vmem, ⟨10, _⟩ => ⟨S128x128, .bf16⟩
  | .local _ .vmem, ⟨11, _⟩ => ⟨S128x128, .bf16⟩
  | .local _ .vmem, ⟨12, _⟩ => ⟨S128x256, .bf16⟩
  | .local _ .vmem, ⟨13, _⟩ => ⟨S128x256, .bf16⟩
  | .local _ .vmem, ⟨14, _⟩ => ⟨S128x128, .bf16⟩
  | .local _ .vmem, ⟨15, _⟩ => ⟨S128x128, .bf16⟩
  | .local _ .vmem, ⟨16, _⟩ => ⟨S128x256, .bf16⟩
  | .local _ .vmem, ⟨17, _⟩ => ⟨S128x256, .bf16⟩
  | .local _ .vmem, ⟨18, _⟩ => ⟨S256x512, .bf16⟩
  | .local _ .vmem, ⟨19, _⟩ => ⟨S256x512, .bf16⟩
  | .local _ .vmem, ⟨20, _⟩ => ⟨S8x256x128, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c2_i32_0 : BitVec 32 := 2#32
  let v2 : BitVec 32 := Scalar.addi v1 c2_i32_0
  let c63_i32 : BitVec 32 := 63#32
  let v3 : BitVec 32 := Scalar.minsi v2 c63_i32
  let v4 : BitVec 32 := Scalar.addi v0 v3
  let c0_i32 : BitVec 32 := 0#32
  let c0_i32_1 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![c0_i32_0.toNat, v4.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c2_i32_0 : BitVec 32 := 2#32
  let v2 : BitVec 32 := Scalar.addi v1 c2_i32_0
  let c63_i32 : BitVec 32 := 63#32
  let v3 : BitVec 32 := Scalar.minsi v2 c63_i32
  let v4 : BitVec 32 := Scalar.addi v0 v3
  let c0_i32 : BitVec 32 := 0#32
  let c0_i32_1 : BitVec 32 := 0#32
  ![c0_i32.toNat, v4.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S8 : Shape := ⟨1, ![8]⟩
abbrev S16896x512 : Shape := ⟨2, ![16896, 512]⟩
abbrev S16896x128 : Shape := ⟨2, ![16896, 128]⟩
abbrev S128x16896 : Shape := ⟨2, ![128, 16896]⟩
abbrev S16384x512 : Shape := ⟨2, ![16384, 512]⟩
abbrev S2x8192x2x4x64 : Shape := ⟨5, ![2, 8192, 2, 4, 64]⟩
abbrev S16384x128 : Shape := ⟨2, ![16384, 128]⟩
abbrev S2x8192x2x64 : Shape := ⟨4, ![2, 8192, 2, 64]⟩
abbrev S512x128 : Shape := ⟨2, ![512, 128]⟩
abbrev S2x256x2x64 : Shape := ⟨4, ![2, 256, 2, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2x2x8192x8192x4 : Shape := ⟨5, ![2, 2, 8192, 8192, 4]⟩
abbrev S2x2x4x8192x8192 : Shape := ⟨5, ![2, 2, 4, 8192, 8192]⟩
abbrev S2x2x256x8192x4 : Shape := ⟨5, ![2, 2, 256, 8192, 4]⟩
abbrev S2x2x4x8192x256 : Shape := ⟨5, ![2, 2, 4, 8192, 256]⟩
abbrev S2x4 : Shape := ⟨2, ![2, 4]⟩
abbrev S1x2x4x1x1 : Shape := ⟨5, ![1, 2, 4, 1, 1]⟩
abbrev S2x2x4x8192x1 : Shape := ⟨5, ![2, 2, 4, 8192, 1]⟩
abbrev S2x2x4x8192x8449 : Shape := ⟨5, ![2, 2, 4, 8192, 8449]⟩
abbrev S2x2x4x8192 : Shape := ⟨4, ![2, 2, 4, 8192]⟩
abbrev S2x2x64x4x8192 : Shape := ⟨5, ![2, 2, 64, 4, 8192]⟩

abbrev nBuf : Space → Nat
  | .hbm => 64
  | .vmem => 0
  | .smem => 0
  | _ => 0

abbrev bufTy : (tb : Table) → Fin (tcTables nBuf tb) → BufTy
  | .hbm, ⟨0, _⟩ => ⟨S8, .f32⟩
  | .hbm, ⟨1, _⟩ => ⟨S16896x512, .bf16⟩
  | .hbm, ⟨2, _⟩ => ⟨S16896x128, .bf16⟩
  | .hbm, ⟨3, _⟩ => ⟨S128x16896, .bf16⟩
  | .hbm, ⟨4, _⟩ => ⟨S16896x512, .f32⟩
  | .hbm, ⟨5, _⟩ => ⟨S16896x128, .f32⟩
  | .hbm, ⟨6, _⟩ => ⟨S128x16896, .f32⟩
  | .hbm, ⟨7, _⟩ => ⟨S16896x128, .f32⟩
  | .hbm, ⟨8, _⟩ => ⟨S16384x512, .f32⟩
  | .hbm, ⟨9, _⟩ => ⟨S2x8192x2x4x64, .f32⟩
  | .hbm, ⟨10, _⟩ => ⟨S16384x128, .f32⟩
  | .hbm, ⟨11, _⟩ => ⟨S2x8192x2x64, .f32⟩
  | .hbm, ⟨12, _⟩ => ⟨S512x128, .f32⟩
  | .hbm, ⟨13, _⟩ => ⟨S2x256x2x64, .f32⟩
  | .hbm, ⟨14, _⟩ => ⟨S16384x128, .f32⟩
  | .hbm, ⟨15, _⟩ => ⟨S2x8192x2x64, .f32⟩
  | .hbm, ⟨16, _⟩ => ⟨S512x128, .f32⟩
  | .hbm, ⟨17, _⟩ => ⟨S2x256x2x64, .f32⟩
  | .hbm, ⟨18, _⟩ => ⟨S8192, .i32⟩
  | .hbm, ⟨19, _⟩ => ⟨S8192x1, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i1⟩
  | .hbm, ⟨28, _⟩ => ⟨S2x2x8192x8192x4, .f32⟩
  | .hbm, ⟨29, _⟩ => ⟨S2x2x4x8192x8192, .f32⟩
  | .hbm, ⟨30, _⟩ => ⟨S_, .f32⟩
  | .hbm, ⟨31, _⟩ => ⟨S_, .f32⟩
  | .hbm, ⟨32, _⟩ => ⟨S2x2x4x8192x8192, .i1⟩
  | .hbm, ⟨33, _⟩ => ⟨S2x2x4x8192x8192, .f32⟩
  | .hbm, ⟨34, _⟩ => ⟨S2x2x4x8192x8192, .f32⟩
  | .hbm, ⟨35, _⟩ => ⟨S2x2x256x8192x4, .f32⟩
  | .hbm, ⟨36, _⟩ => ⟨S2x2x4x8192x256, .f32⟩
  | .hbm, ⟨37, _⟩ => ⟨S2x4, .f32⟩
  | .hbm, ⟨38, _⟩ => ⟨S1x2x4x1x1, .f32⟩
  | .hbm, ⟨39, _⟩ => ⟨S2x2x4x8192x1, .f32⟩
  | .hbm, ⟨40, _⟩ => ⟨S2x2x4x8192x8449, .f32⟩
  | .hbm, ⟨41, _⟩ => ⟨S_, .f32⟩
  | .hbm, ⟨42, _⟩ => ⟨S2x2x4x8192, .f32⟩
  | .hbm, ⟨43, _⟩ => ⟨S_, .f32⟩
  | .hbm, ⟨44, _⟩ => ⟨S2x2x4x8192, .f32⟩
  | .hbm, ⟨45, _⟩ => ⟨S2x2x4x8192, .f32⟩
  | .hbm, ⟨46, _⟩ => ⟨S2x2x4x8192x1, .f32⟩
  | .hbm, ⟨47, _⟩ => ⟨S2x2x4x8192x8449, .f32⟩
  | .hbm, ⟨48, _⟩ => ⟨S2x2x4x8192x8449, .f32⟩
  | .hbm, ⟨49, _⟩ => ⟨S2x2x4x8192x8449, .f32⟩
  | .hbm, ⟨50, _⟩ => ⟨S_, .f32⟩
  | .hbm, ⟨51, _⟩ => ⟨S2x2x4x8192, .f32⟩
  | .hbm, ⟨52, _⟩ => ⟨S2x2x4x8192x1, .f32⟩
  | .hbm, ⟨53, _⟩ => ⟨S2x2x4x8192x8449, .f32⟩
  | .hbm, ⟨54, _⟩ => ⟨S2x2x4x8192x8449, .f32⟩
  | .hbm, ⟨55, _⟩ => ⟨S2x2x4x8192x8192, .f32⟩
  | .hbm, ⟨56, _⟩ => ⟨S2x2x64x4x8192, .f32⟩
  | .hbm, ⟨57, _⟩ => ⟨S2x8192x2x4x64, .f32⟩
  | .hbm, ⟨58, _⟩ => ⟨S2x2x4x8192x256, .f32⟩
  | .hbm, ⟨59, _⟩ => ⟨S2x2x64x4x8192, .f32⟩
  | .hbm, ⟨60, _⟩ => ⟨S2x8192x2x4x64, .f32⟩
  | .hbm, ⟨61, _⟩ => ⟨S2x8192x2x4x64, .f32⟩
  | .hbm, ⟨62, _⟩ => ⟨S16384x512, .f32⟩
  | .hbm, ⟨63, _⟩ => ⟨S16384x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== Proof.KI.RunA.lean ====
/- One grid step of the attention kernel of `KernelIdeal`, run symbolically: the generated run, with the part that
   holds the loop (`k0_part76`) brought to its skeleton inside `k0_part88`, where the loop's invariant applies. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1016000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S4x32 .f32) (harg2 : arg2.IsWhole) (arg3 : Memref sig .tc .vmem S64x512 .f32) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S256x8192 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S512x256 .bf16) (harg9 : arg9.IsWhole) (arg10 : Memref sig .tc .vmem S8x512x128 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x64x512 .f32) (harg13 : arg13.IsWhole)
    (x0 : Vec F S4x32 .f32) (x1 : Vec F S64x512 .f32) (x2 : Vec F S512x256 .bf16) (x3 : Vec F S8192x256 .bf16) (x4 : Vec F S256x8192 .bf16) (x5 : Vec F S256x256 .bf16) (x6 : Vec F S256x256 .bf16) :
    { L7 : List (View.Piece (Elt F) S512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_diff_attention i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_diff_attention_eq_skeleton]; unfold cc0_diff_attention_skel
    simp only [k0_part88_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton]
    unfold k0_part88_skel
    simp only [k0_part76_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.KI.Frame.lean ====
/- The frame of `KernelIdeal` over the run of `Proof/KI/RunA.lean`: the launch, what each grid step reads and leaves,
   termination and unchanged arguments (the generated frame over that run). -/
module

public import proofs.«01_k».proof.Proof.KI.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 7 tile its block (1 store of `S512x256`, checked by the kernel's evaluation: Lib/Ring.lean `Piece.tiledL`, linear in the pieces, through a loop's `@[irreducible]` trip theorem too), so they cover it. -/
theorem cover0_A_7 (c : Dev nD) (i : grid0.Coords) (arg2 : Memref sig .tc .vmem S4x32 .f32) (harg2 : arg2.IsWhole) (arg3 : Memref sig .tc .vmem S64x512 .f32) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S256x8192 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S512x256 .bf16) (harg9 : arg9.IsWhole) (arg10 : Memref sig .tc .vmem S8x512x128 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x64x512 .f32) (harg13 : arg13.IsWhole)
    (x0 : Vec F S4x32 .f32) (x1 : Vec F S64x512 .f32) (x2 : Vec F S512x256 .bf16) (x3 : Vec F S8192x256 .bf16) (x4 : Vec F S256x8192 .bf16) (x5 : Vec F S256x256 .bf16) (x6 : Vec F S256x256 .bf16) (y : S512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).1 S512x256.size (by sl_kernel_rfl) y

/-- What the run leaves in output 7's staging buffer: its pieces read back over junk. -/
def out0_A_7 (c : Dev nD) (i : grid0.Coords) (arg2 : Memref sig .tc .vmem S4x32 .f32) (harg2 : arg2.IsWhole) (arg3 : Memref sig .tc .vmem S64x512 .f32) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S256x8192 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S512x256 .bf16) (harg9 : arg9.IsWhole) (arg10 : Memref sig .tc .vmem S8x512x128 .bf16) (harg10 : arg10.IsWhole) (arg11 : Memref sig .tc .vmem S8x1x512 .f32) (harg11 : arg11.IsWhole) (arg12 : Memref sig .tc .vmem S8x1x512 .f32) (harg12 : arg12.IsWhole) (arg13 : Memref sig .tc .vmem S8x64x512 .f32) (harg13 : arg13.IsWhole)
    (x0 : Vec F S4x32 .f32) (x1 : Vec F S64x512 .f32) (x2 : Vec F S512x256 .bf16) (x3 : Vec F S8192x256 .bf16) (x4 : Vec F S256x8192 .bf16) (x5 : Vec F S256x256 .bf16) (x6 : Vec F S256x256 .bf16) : Vec F S512x256 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).1)

/-! ## What the outputs hold after each point -/

/-- What the outputs' staging buffers hold after the body at point `t`: the run's contents at
    the point's memrefs and input blocks. -/
def outsAt0 (c : Dev nD) (t : Fin cfg0.N) : Vec F S512x256 .bf16 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (X0_3 m c t) (X0_4 m c t) (iblk m c 5 t) (iblk m c 6 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => iblk m c 5 t
    | ⟨6, _⟩ => iblk m c 6 t
    | ⟨7, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_7
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ (iblk m c 0 t) (iblk m c 1 t) (iblk m c 2 t) (X0_3 m c t) (X0_4 m c t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, ⟨%e7, H7⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.Claims.lean ====
/- The claims beside the value claim: the frames of the three programs (with and without the precondition) and the
   named mask constant. -/
module

public import proofs.«01_k».proof.Defs
public import proofs.«01_k».proof.Proof.K.Frame
public import proofs.«01_k».proof.Proof.KI.Frame
public import proofs.«01_k».proof.Proof.Gen.ReferenceIdeal
public import proofs.«01_k».proof.Proof.Gen.ReferenceIdeal.Run
public import proofs.«01_k».proof.Proof.Gen.Pre_finite
public import Idealize.ShloMosaic.Lib.Quiescent

@[expose] public section

noncomputable section

open Idealize.ShloMosaic Idealize.ShloMosaic.TcCoe Idealize.SL.Sem

namespace Cert.Proof

/-- The kernel runs, ends with its arguments unchanged and its semaphores at zero. -/
theorem frame_p : Cert.quiescent_Kernel (hKernel := Cert.Kernel.Gen.facts) := fun m ρ _ => Cert.Kernel.Gen.frame m ρ

/-- So does the idealised kernel. -/
theorem frame_pi : Cert.quiescent_KernelIdeal (hKernelIdeal := Cert.KernelIdeal.Gen.facts) :=
  fun m ρ _ => Cert.KernelIdeal.Gen.frame m ρ

/-- And under the precondition, which it does not need. -/
theorem frame_pi_finite : Cert.quiescent_KernelIdeal_pre_finite (hKernelIdeal := Cert.KernelIdeal.Gen.facts)
    (hPre_finite := Cert.Pre_finite.Gen.facts) :=
  fun m ρ _ => Cert.KernelIdeal.Gen.frame m ρ

/-- The idealised reference runs, ends with its arguments unchanged and its semaphores at zero. -/
theorem frame_ri : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- And under the precondition. -/
theorem frame_ri_finite : Cert.quiescent_ReferenceIdeal_pre_finite (hReferenceIdeal := Cert.ReferenceIdeal.Gen.facts)
    (hPre_finite := Cert.Pre_finite.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask that the kernel initialises its running maximum with is named −∞. -/
theorem preserves : Cert.preserves_Kernel_KernelIdeal :=
  IdealRules.named_const.statement Cert.KernelIdeal.κ "mask" .f32 0xF149F2CA#32 ⊥ rfl

end Cert.Proof

end
-- ==== Proof.KI.Value.lean ====
/- What `KernelIdeal`'s output array holds after the launch, block by block (the generated value leg over
   `Proof/KI/Frame.lean`). -/
module

public import proofs.«01_k».proof.Proof.KI.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`), read through the window's block. -/
theorem flushed7 (c : Dev nD) (t : Fin cfg0.N) :
    (dats m 0 c).flushed 7 t = (cfg0.win 7).cut (grid0.coords t) (outsAt0 m c t) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — the kernel's one case, `Gen.outsAt0` by definition. -/
theorem flushed7_A (c : Dev nD) (t : Fin cfg0.N) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (X0_3 m c t) (X0_4 m c t) (iblk m c 5 t) (iblk m c 6 t)) := by
  simp only [flushed7, outsAt0]

/-- The index map sends distinct grid points to distinct block indices (decided over the 32 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S16384x256.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v7) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 2 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 2).trans (((dats m 0 c).arrAt_in 2 rfl _).trans ((A_eq m c 2).trans (V_main_arg5 m c)))

/-- After the frame run, argument `main_arg6` is as launched: input window 5 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 5).trans (((dats m 0 c).arrAt_in 5 rfl _).trans ((A_eq m c 5).trans (V_main_arg6 m c)))

/-- After the frame run, argument `main_arg7` is as launched: input window 6 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 6).trans (((dats m 0 c).arrAt_in 6 rfl _).trans ((A_eq m c 6).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v7) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post7 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Value

end
-- ==== Proof.Chain.lean ====
/- One chain of the attention kernel: what it stores of a row's running maximum, sum and accumulator, given what it
   loads of them, a block of keys, a block of transposed values and the row's masked queries. Any float values. -/
module

public import proofs.«01_k».proof.KernelIdeal
public import proofs.«01_k».proof.Proof.Gen.KernelIdeal
public import proofs.«01_k».proof.Proof.Gen.KernelIdeal.Skeleton

@[expose] public section

noncomputable section

namespace Cert.KernelIdeal.Attn

open Idealize.ShloMosaic Cert.KernelIdeal Cert.KernelIdeal.Gen

variable {F : FTy → Type} [FloatOps F] [Named F]

/-- The heads 0..3 take the first 128 columns of a key block, the heads 4..7 the last. -/
theorem slicesK (h : ℕ) (hh : h < 8) : S256x256.Slices ![0, 128 * (h / 4)] S256x128 := by
  revert hh; revert h
  have : ∀ h : Fin 8, S256x256.Slices ![0, 128 * (h.val / 4)] S256x128 := by decide
  exact fun h hh => this ⟨h, hh⟩

/-- Two rows share the 64 value columns of one head. -/
theorem slicesV (h : ℕ) (hh : h < 8) : S256x256.Slices ![64 * (h / 2), 0] S64x256 := by
  revert hh; revert h
  have : ∀ h : Fin 8, S256x256.Slices ![64 * (h.val / 2), 0] S64x256 := by decide
  exact fun h hh => this ⟨h, hh⟩

/-- Row `h` of the running maxima and of the running sums. -/
theorem inbM (h : ℕ) (hh : h < 8) : ∀ a, (![h, 0, 0] : Fin 3 → ℕ) a + S1x1x512.size a ≤ S8x1x512.size a := by
  intro a; fin_cases a <;> simp [S1x1x512, S8x1x512] <;> omega

/-- Row `h` of the accumulators. -/
theorem inbA (h : ℕ) (hh : h < 8) : ∀ a, (![h, 0, 0] : Fin 3 → ℕ) a + S1x64x512.size a ≤ S8x64x512.size a := by
  intro a; fin_cases a <;> simp [S1x64x512, S8x64x512] <;> omega

/-- Row `h` of the masked queries. -/
theorem inbQ (h : ℕ) (hh : h < 8) : ∀ a, (![h, 0, 0] : Fin 3 → ℕ) a + S1x512x128.size a ≤ S8x512x128.size a := by
  intro a; fin_cases a <;> simp [S1x512x128, S8x512x128] <;> omega

/-- The scores of a block of 256 keys against the 512 queries of row `h`. -/
def score (h : ℕ) (hh : h < 8) (kc : FVec F S256x256 .bf16) (q : FVec F S1x512x128 .bf16) : FVec F S256x512 .f32 :=
  matmul dot_S256x128_S512x128_S256x512_1_1_0_0_n_n none
    (extractStridedSlice S256x128 ![0, 128 * (h / 4)] kc (slicesK h hh))
    (shapeCast S512x128 q shapeCasts_S1x512x128_S512x128) (constant S256x512 .f32 0#32)

/-- The new maximum, as a row. -/
def mrow (s : FVec F S256x512 .f32) (m : FVec F S1x1x512 .f32) : FVec F S1x512 .f32 :=
  maximumf (shapeCast S1x512 m shapeCasts_S1x1x512_S1x512)
    (shapeCast S1x512 (multiReduction .maximumf [0] S512 s 0xFF800000#32 reduces_S256x512_S512 (.inl rfl) rfl)
      shapeCasts_S512_S1x512)

/-- The factor that rescales the old sums. -/
def alpha (s : FVec F S256x512 .f32) (m : FVec F S1x1x512 .f32) : FVec F S1x512 .f32 :=
  exp2 (subf (shapeCast S1x512 m shapeCasts_S1x1x512_S1x512) (mrow s m))

/-- The weights of the block. -/
def wts (s : FVec F S256x512 .f32) (m : FVec F S1x1x512 .f32) : FVec F S256x512 .f32 :=
  exp2 (subf s (broadcastTo S256x512 (mrow s m) broadcasts_S1x512_S256x512))

/-- The stored maximum. -/
def stepM (s : FVec F S256x512 .f32) (m : FVec F S1x1x512 .f32) : FVec F S1x1x512 .f32 :=
  shapeCast S1x1x512 (mrow s m) shapeCasts_S1x512_S1x1x512

/-- The stored sum. -/
def stepL (s : FVec F S256x512 .f32) (m l : FVec F S1x1x512 .f32) : FVec F S1x1x512 .f32 :=
  shapeCast S1x1x512 (addf (mulf (alpha s m) (shapeCast S1x512 l shapeCasts_S1x1x512_S1x512))
    (shapeCast S1x512 (multiReduction .add [0] S512 (wts s m) 0x00000000#32 reduces_S256x512_S512 (.inl rfl) rfl)
      shapeCasts_S512_S1x512)) shapeCasts_S1x512_S1x1x512

/-- The stored accumulator. -/
def stepA (h : ℕ) (hh : h < 8) (vc : FVec F S256x256 .bf16) (s : FVec F S256x512 .f32) (m : FVec F S1x1x512 .f32)
    (a : FVec F S1x64x512 .f32) : FVec F S1x64x512 .f32 :=
  shapeCast S1x64x512
    (addf (mulf (broadcastTo S64x512 (alpha s m) broadcasts_S1x512_S64x512) (shapeCast S64x512 a shapeCasts_S1x64x512_S64x512))
      (matmul dot_S64x256_S256x512_S64x512_1_0_0_1_n_n none
        (extractStridedSlice S64x256 ![64 * (h / 2), 0] vc (slicesV h hh))
        (truncf .bf16 (wts s m) bitsLt_bf16_f32) (constant S64x512 .f32 0#32))) shapeCasts_S64x512_S1x64x512

end Cert.KernelIdeal.Attn

end
-- ==== Proof.Online.lean ====
/- The running maximum, sum and accumulator of one row over the extended reals: after `N` blocks of 256 keys the sum is
   the sum of the weights `2 ^ (score - μ)`, the accumulator the sum of the weighted values, for some real `μ`. -/
module

public import proofs.«01_k».proof.Proof.Chain
public import Idealize.ShloMosaic.Lib.ValueIdx
public import Idealize.ShloMosaic.Lib.ValueLayout
public import Idealize.ShloMosaic.Lib.MatmulPlain
public import Idealize.ShloMosaic.PureOps.Ideal.Laws

@[expose] public section

noncomputable section

namespace Cert.KernelIdeal.Attn

open Idealize.ShloMosaic Idealize.ShloMosaic.ValueIdx Cert.KernelIdeal Cert.KernelIdeal.Gen

/-- A sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, starting from `⊥`, is real or the family is empty. -/
theorem fold_max_real {ι : Type*} (s : Finset ι) (f : ι → EReal) (hf : ∀ i, ∃ r : ℝ, f i = r) :
    (s = ∅ ∧ s.fold max ⊥ f = ⊥) ∨ ∃ r : ℝ, s.fold max ⊥ f = r := by
  classical
  induction s using Finset.induction_on with
  | empty => exact Or.inl ⟨rfl, by simp⟩
  | insert a s ha ih =>
    right
    rw [Finset.fold_insert ha]
    obtain ⟨r, hr⟩ := hf a
    rcases ih with ⟨_, h⟩ | ⟨q, h⟩
    · exact ⟨r, by rw [h, hr]; simp⟩
    · exact ⟨max r q, by rw [h, hr]; exact (EReal.coe_strictMono.monotone.map_max).symm⟩

/-- The weight of a score against a maximum. -/
def wt (s μ : ℝ) : ℝ := Real.rpow 2 (s - μ)

theorem wt_pos (s μ : ℝ) : 0 < wt s μ := Real.rpow_pos_of_pos (by norm_num) _

/-- A change of the maximum rescales the weights. -/
theorem wt_mul (s μ ν : ℝ) : Real.rpow 2 (μ - ν) * wt s μ = wt s ν := by
  unfold wt
  show (2 : ℝ) ^ (μ - ν) * (2 : ℝ) ^ (s - μ) = (2 : ℝ) ^ (s - ν)
  rw [← Real.rpow_add (by norm_num)]; congr 1; ring

/-- What a row's maximum, sum and accumulator hold after `N` blocks: nothing seen yet, or the sums against a real `μ`. -/
def RowI (S : ℕ → Fin 512 → ℝ) (V : ℕ → Fin 64 → ℝ) (N : ℕ) (m l : FVec Ideal S1x1x512 .f32) (a : FVec Ideal S1x64x512 .f32) : Prop :=
  (N = 0 ∧ (∀ t, m (ix3 0 0 t) = ⊥) ∧ (∀ t, l (ix3 0 0 t) = 0) ∧ ∀ d t, a (ix3 0 d t) = 0)
  ∨ ∃ μ : Fin 512 → ℝ, (∀ t, m (ix3 0 0 t) = (μ t : EReal))
    ∧ (∀ t, l (ix3 0 0 t) = ((∑ κ ∈ Finset.range (256 * N), wt (S κ t) (μ t) : ℝ) : EReal))
    ∧ ∀ d t, a (ix3 0 d t) = ((∑ κ ∈ Finset.range (256 * N), wt (S κ t) (μ t) * V κ d : ℝ) : EReal)

section Step

variable {S : ℕ → Fin 512 → ℝ} {V : ℕ → Fin 64 → ℝ} {N : ℕ} {m l : FVec Ideal S1x1x512 .f32} {a : FVec Ideal S1x64x512 .f32}
  {s : FVec Ideal S256x512 .f32}

/-- The new maximum of a query is the larger of the old one and the block's. -/
theorem mrow_apply (s : FVec Ideal S256x512 .f32) (m : FVec Ideal S1x1x512 .f32) (t : Fin 512) :
    mrow s m (ix2 0 t) = max (m (ix3 0 0 t)) ((Finset.univ : Finset (Fin 256)).fold max ⊥ fun x => s (ix2 x t)) := by
  unfold mrow
  rw [maximumf_apply]
  refine congrArg₂ max ?_ ?_
  · exact shapeCast_1ab_ab_apply m _ 0 t
  · refine (shapeCast_a_1a_apply _ _ 0 t).trans ?_
    refine (Ideal.multiReduction_maximumf_single s _ _ _ _ _).trans ?_
    have hb : (FloatOps.ofBits .f32 0xFF800000#32 : Ideal .f32) = (⊥ : EReal) := by simp [Ideal.ofBits_def]; rfl
    rw [hb]
    refine Finset.fold_congr fun x _ => ?_
    refine congrArg s (funext fun ax => ?_)
    match ax with | ⟨0, _⟩ => rfl | ⟨1, _⟩ => rfl

/-- It is real, when the scores are real and the old maximum is real or `⊥`. -/
theorem mrow_real {Sx : Fin 256 → Fin 512 → ℝ} (hs : ∀ x t, s (ix2 x t) = (Sx x t : EReal))
    (hm : ∀ t, m (ix3 0 0 t) = ⊥ ∨ ∃ r : ℝ, m (ix3 0 0 t) = r) : ∃ ν : Fin 512 → ℝ, ∀ t, mrow s m (ix2 0 t) = (ν t : EReal) := by
  have : ∀ t, ∃ r : ℝ, mrow s m (ix2 0 t) = (r : EReal) := fun t => by
    rw [mrow_apply]
    rcases fold_max_real (Finset.univ : Finset (Fin 256)) (fun x => s (ix2 x t)) (fun x => ⟨_, hs x t⟩) with ⟨h, _⟩ | ⟨q, h⟩
    · exact absurd (Finset.mem_univ (0 : Fin 256)) (by rw [h]; simp)
    · rcases hm t with h0 | ⟨r, h0⟩
      · exact ⟨q, by rw [h, h0]; simp⟩
      · exact ⟨max r q, by rw [h, h0]; exact (EReal.coe_strictMono.monotone.map_max).symm⟩
  exact ⟨fun t => (this t).choose, fun t => (this t).choose_spec⟩

/-- The factor that rescales the old sums. -/
theorem alpha_apply (s : FVec Ideal S256x512 .f32) (m : FVec Ideal S1x1x512 .f32) (t : Fin 512) :
    alpha s m (ix2 0 t) = Ideal.exp2 (m (ix3 0 0 t) - mrow s m (ix2 0 t)) := by
  unfold alpha
  show Ideal.exp2 (shapeCast S1x512 m shapeCasts_S1x1x512_S1x512 (ix2 0 t) - mrow s m (ix2 0 t)) = _
  rw [show shapeCast S1x512 m shapeCasts_S1x1x512_S1x512 (ix2 0 t) = m (ix3 0 0 t) from shapeCast_1ab_ab_apply m _ 0 t]

/-- The weight of a key of the block. -/
theorem wts_apply (s : FVec Ideal S256x512 .f32) (m : FVec Ideal S1x1x512 .f32) (x : Fin 256) (t : Fin 512) :
    wts s m (ix2 x t) = Ideal.exp2 (s (ix2 x t) - mrow s m (ix2 0 t)) := by
  unfold wts
  show Ideal.exp2 (s (ix2 x t) - broadcastTo S256x512 (mrow s m) broadcasts_S1x512_S256x512 (ix2 x t)) = _
  rw [show broadcastTo S256x512 (mrow s m) broadcasts_S1x512_S256x512 (ix2 x t) = mrow s m (ix2 0 t)
    from broadcastTo_1b_ab_apply _ _ x t]

theorem stepM_apply (s : FVec Ideal S256x512 .f32) (m : FVec Ideal S1x1x512 .f32) (t : Fin 512) :
    stepM s m (ix3 0 0 t) = mrow s m (ix2 0 t) := shapeCast_ab_1ab_apply _ _ 0 0 t

theorem stepL_apply (s : FVec Ideal S256x512 .f32) (m l : FVec Ideal S1x1x512 .f32) (t : Fin 512) :
    stepL s m l (ix3 0 0 t) = alpha s m (ix2 0 t) * l (ix3 0 0 t) + ∑ x : Fin 256, wts s m (ix2 x t) := by
  unfold stepL
  refine (shapeCast_ab_1ab_apply _ _ 0 0 t).trans ?_
  rw [addf_apply, mulf_apply]
  refine congrArg₂ (· + ·) (congrArg₂ (· * ·) rfl (shapeCast_1ab_ab_apply l _ 0 t)) ?_
  refine (shapeCast_a_1a_apply _ _ 0 t).trans ?_
  refine (Ideal.multiReduction_add_single _ _ _ _ _ _).trans ?_
  refine Finset.sum_congr rfl fun x _ => congrArg (wts s m) (funext fun ax => ?_)
  match ax with | ⟨0, _⟩ => rfl | ⟨1, _⟩ => rfl

theorem stepA_apply (h : ℕ) (hh : h < 8) (vc : FVec Ideal S256x256 .bf16) (s : FVec Ideal S256x512 .f32) (m : FVec Ideal S1x1x512 .f32)
    (a : FVec Ideal S1x64x512 .f32) (d : Fin 64) (t : Fin 512) :
    stepA h hh vc s m a (ix3 0 d t) = alpha s m (ix2 0 t) * a (ix3 0 d t)
      + ∑ x : Fin 256, vc (ix2 ⟨64 * (h / 2) + d.val, by omega⟩ x) * wts s m (ix2 x t) := by
  unfold stepA
  refine (shapeCast_ab_1ab_apply _ _ 0 d t).trans ?_
  rw [addf_apply, mulf_apply]
  refine congrArg₂ (· + ·) (congrArg₂ (· * ·) (broadcastTo_1b_ab_apply _ _ d t) (shapeCast_1ab_ab_apply a _ d t)) ?_
  refine (Ideal.matmul_plain_apply none _ _ _ d t).trans ?_
  have h0 : (constant S64x512 .f32 0#32 : FVec Ideal S64x512 .f32) (ix2 d t) = 0 := Ideal.ofBits_zero_f32
  rw [h0, zero_add]
  refine Finset.sum_congr rfl fun x _ => congrArg₂ (· * ·) ?_ rfl
  exact slice2_axis0_apply (64 * (h / 2)) vc _ d x _ rfl

/-- Splitting off the last block of a sum over the keys. -/
theorem sum_block (f : ℕ → ℝ) (N : ℕ) : ∑ κ ∈ Finset.range (256 * (N + 1)), f κ
    = ∑ κ ∈ Finset.range (256 * N), f κ + ∑ x : Fin 256, f (256 * N + x.val) := by
  rw [show 256 * (N + 1) = 256 * N + 256 by ring, Finset.sum_range_add, Finset.sum_range (fun x => f (256 * N + x))]

/-- One block carries the row's property forward. -/
theorem RowI.step (h : ℕ) (hh : h < 8) (vc : FVec Ideal S256x256 .bf16)
    (hs : ∀ (x : Fin 256) t, s (ix2 x t) = (S (256 * N + x.val) t : EReal))
    (hv : ∀ (x : Fin 256) (d : Fin 64), vc (ix2 ⟨64 * (h / 2) + d.val, by omega⟩ x) = (V (256 * N + x.val) d : EReal))
    (H : RowI S V N m l a) : RowI S V (N + 1) (stepM s m) (stepL s m l) (stepA h hh vc s m a) := by
  have hm : ∀ t, m (ix3 0 0 t) = ⊥ ∨ ∃ r : ℝ, m (ix3 0 0 t) = r := fun t => by
    rcases H with ⟨_, h1, _⟩ | ⟨μ, h1, _⟩
    · exact Or.inl (h1 t)
    · exact Or.inr ⟨_, h1 t⟩
  obtain ⟨ν, hν⟩ := mrow_real hs hm
  have hw : ∀ x t, wts s m (ix2 x t) = (wt (S (256 * N + x.val) t) (ν t) : EReal) := fun x t => by
    rw [wts_apply, hν, hs, ← EReal.coe_sub, Ideal.exp2_coe]; rfl
  refine Or.inr ⟨ν, fun t => (stepM_apply s m t).trans (hν t), fun t => ?_, fun d t => ?_⟩
  · rw [stepL_apply, Finset.sum_congr rfl fun x _ => hw x t, ← coe_sum, sum_block, EReal.coe_add]
    refine congrArg (· + _) ?_
    rcases H with ⟨rfl, h1, h2, _⟩ | ⟨μ, h1, h2, _⟩
    · rw [h2, mul_zero]; simp
    · rw [h2, alpha_apply, h1, hν, ← EReal.coe_sub, Ideal.exp2_coe, ← EReal.coe_mul, Finset.mul_sum]
      exact congrArg _ (Finset.sum_congr rfl fun κ _ => wt_mul _ _ _)
  · rw [stepA_apply, Finset.sum_congr rfl fun x _ => by rw [hv x d, hw x t, ← EReal.coe_mul, mul_comm], ← coe_sum, sum_block,
      EReal.coe_add]
    refine congrArg (· + _) ?_
    rcases H with ⟨rfl, h1, _, h3⟩ | ⟨μ, h1, _, h3⟩
    · rw [h3, mul_zero]; simp
    · rw [h3, alpha_apply, h1, hν, ← EReal.coe_sub, Ideal.exp2_coe, ← EReal.coe_mul, Finset.mul_sum]
      exact congrArg _ (Finset.sum_congr rfl fun κ _ => by rw [← mul_assoc, wt_mul])

end Step

end Cert.KernelIdeal.Attn

end
-- ==== Proof.Rows.lean ====
/- The three scratch buffers of the attention kernel, row by row: a property of each row's maximum, sum and accumulator
   that every chain carries forward holds after any number of chains, for the lists of stores that the chains make. -/
module

public import proofs.«01_k».proof.Proof.Chain
public import Idealize.ShloMosaic.Lib.Exec
public import Idealize.ShloMosaic.Lib.WritesUnit

@[expose] public section

noncomputable section

namespace Cert.KernelIdeal.Attn

open Idealize.ShloMosaic Cert.KernelIdeal Cert.KernelIdeal.Gen

section Row
variable {Val : EltTy → Type} [∀ e, Nonempty (Val e)] {sig : RefSig} {κ : Kind} {sp : Space} {d1 d2 : ℕ} {e : EltTy}

/-- Row `h` of an array of eight rows. -/
abbrev rowR (h : ℕ) (inb : ∀ a, (![h, 0, 0] : Fin 3 → ℕ) a + (⟨3, ![1, d1, d2]⟩ : Shape).size a ≤ (⟨3, ![8, d1, d2]⟩ : Shape).size a) :
    Rect (⟨3, ![8, d1, d2]⟩ : Shape) :=
  Rect.unit (s := ⟨3, ![8, d1, d2]⟩) ![h, 0, 0] (⟨3, ![1, d1, d2]⟩ : Shape).size inb

variable (v : View sig κ sp (⟨3, ![8, d1, d2]⟩ : Shape) e) (f : v.ty.Contents Val) {h h' : ℕ}
  (inb : ∀ a, (![h, 0, 0] : Fin 3 → ℕ) a + (⟨3, ![1, d1, d2]⟩ : Shape).size a ≤ (⟨3, ![8, d1, d2]⟩ : Shape).size a)
  (inb' : ∀ a, (![h', 0, 0] : Fin 3 → ℕ) a + (⟨3, ![1, d1, d2]⟩ : Shape).size a ≤ (⟨3, ![8, d1, d2]⟩ : Shape).size a)

/-- A row just stored reads as what was stored. -/
theorem row_hit (w : (rowR h inb).shape.Idx → Val e) (L : List (View.Piece Val (⟨3, ![8, d1, d2]⟩ : Shape) e)) :
    v.readAt Val (rowR h inb).toLoadRect (v.writes Val f (⟨rowR h inb, w⟩ :: L)) = w := by
  funext j
  rw [View.readAt_apply]
  exact View.read_writes_cons_unit_of_mem v f inb w L _ j rfl (fun a => by
    simp [LoadRect.idx, Rect.toLoadRect, Rect.unit])

/-- A store to another row leaves a row. -/
theorem row_miss (hne : h ≠ h') (w : (rowR h inb).shape.Idx → Val e)
    (L : List (View.Piece Val (⟨3, ![8, d1, d2]⟩ : Shape) e)) :
    v.readAt Val (rowR h' inb').toLoadRect (v.writes Val f (⟨rowR h inb, w⟩ :: L))
      = v.readAt Val (rowR h' inb').toLoadRect (v.writes Val f L) := by
  funext j
  rw [View.readAt_apply, View.readAt_apply]
  refine View.read_writes_cons_unit_of_not_mem v f inb w L _ rfl 0 ?_
  have : (j 0).val < 1 := (j 0).isLt
  simp [LoadRect.idx, Rect.toLoadRect, Rect.unit]
  omega

end Row

variable {F : FTy → Type} [FloatOps F] [Named F]

/-- Row `h` of the maxima or the sums, after the stores `L` over the contents `f`. -/
abbrev readM (w : Memref sig .tc .vmem S8x1x512 .f32) (f : w.view.ty.Contents (Elt F)) (L : List (View.Piece (Elt F) S8x1x512 .f32))
    (h : ℕ) (hh : h < 8) : Vec F S1x1x512 .f32 :=
  w.view.readAt (Elt F) (Rect.unit (s := S8x1x512) ![h, 0, 0] S1x1x512.size (inbM h hh)).toLoadRect (w.view.writes (Elt F) f L)

/-- Row `h` of the accumulators, after the stores `L` over the contents `f`. -/
abbrev readA (w : Memref sig .tc .vmem S8x64x512 .f32) (f : w.view.ty.Contents (Elt F)) (L : List (View.Piece (Elt F) S8x64x512 .f32))
    (h : ℕ) (hh : h < 8) : Vec F S1x64x512 .f32 :=
  w.view.readAt (Elt F) (Rect.unit (s := S8x64x512) ![h, 0, 0] S1x64x512.size (inbA h hh)).toLoadRect (w.view.writes (Elt F) f L)

section Good

variable (I : ℕ → ℕ → Vec F S1x1x512 .f32 → Vec F S1x1x512 .f32 → Vec F S1x64x512 .f32 → Prop) (b : ℕ)
  (kc vc : ℕ → Vec F S256x256 .bf16) (qm : (h : ℕ) → h < 8 → Vec F S1x512x128 .bf16)
  (w1 w2 : Memref sig .tc .vmem S8x1x512 .f32) (w3 : Memref sig .tc .vmem S8x64x512 .f32)
  (f1 : w1.view.ty.Contents (Elt F)) (f2 : w2.view.ty.Contents (Elt F)) (f3 : w3.view.ty.Contents (Elt F))

/-- The property `I` is carried by a chain: of a row `h` after `b + c` blocks, to after one more. -/
def Carries : Prop := ∀ c h (hh : h < 8) m l a, c < 8 → I (b + c) h m l a →
  I (b + c + 1) h (stepM (score h hh (kc c) (qm h hh)) m) (stepL (score h hh (kc c) (qm h hh)) m l)
    (stepA h hh (vc c) (score h hh (kc c) (qm h hh)) m a)

/-- After `n` chains, eight to a block: each row has the property for the blocks it has seen. -/
def Inv (n : ℕ) (L1 L2 : List (View.Piece (Elt F) S8x1x512 .f32)) (L3 : List (View.Piece (Elt F) S8x64x512 .f32)) : Prop :=
  ∀ h (hh : h < 8), I (b + (n / 8 + if h < n % 8 then 1 else 0)) h (readM w1 f1 L1 h hh) (readM w2 f2 L2 h hh) (readA w3 f3 L3 h hh)

/-- The rows below `n` are stored and read the same over any contents; the others read as the contents found. -/
def Seen (n : ℕ) (L1 L2 : List (View.Piece (Elt F) S8x1x512 .f32)) (L3 : List (View.Piece (Elt F) S8x64x512 .f32)) : Prop :=
  ∀ h (hh : h < 8),
    (h < n → (∀ g, readM w1 g L1 h hh = readM w1 f1 L1 h hh) ∧ (∀ g, readM w2 g L2 h hh = readM w2 f2 L2 h hh)
      ∧ ∀ g, readA w3 g L3 h hh = readA w3 f3 L3 h hh)
    ∧ (n ≤ h → readM w1 f1 L1 h hh = readM w1 f1 [] h hh ∧ readM w2 f2 L2 h hh = readM w2 f2 [] h hh
      ∧ readA w3 f3 L3 h hh = readA w3 f3 [] h hh)

variable {I b kc vc qm w1 w2 w3 f1 f2 f3}

/-- The property after a chain's stores. -/
theorem Inv.step (hI : Carries I b kc vc qm) {n : ℕ} (h : ℕ) (hh : h < 8) (hn : h = n % 8) (hn8 : n < 64)
    {L1 L2 : List (View.Piece (Elt F) S8x1x512 .f32)} {L3 : List (View.Piece (Elt F) S8x64x512 .f32)}
    (G : Inv I b w1 w2 w3 f1 f2 f3 n L1 L2 L3)
    {p1 p2 : Vec F S1x1x512 .f32} {p3 : Vec F S1x64x512 .f32}
    (e1 : p1 = stepM (score h hh (kc (n / 8)) (qm h hh)) (readM w1 f1 L1 h hh))
    (e2 : p2 = stepL (score h hh (kc (n / 8)) (qm h hh)) (readM w1 f1 L1 h hh) (readM w2 f2 L2 h hh))
    (e3 : p3 = stepA h hh (vc (n / 8)) (score h hh (kc (n / 8)) (qm h hh)) (readM w1 f1 L1 h hh) (readA w3 f3 L3 h hh)) :
    Inv I b w1 w2 w3 f1 f2 f3 (n + 1) (⟨Rect.unit (s := S8x1x512) ![h, 0, 0] S1x1x512.size (inbM h hh), p1⟩ :: L1)
      (⟨Rect.unit (s := S8x1x512) ![h, 0, 0] S1x1x512.size (inbM h hh), p2⟩ :: L2)
      (⟨Rect.unit (s := S8x64x512) ![h, 0, 0] S1x64x512.size (inbA h hh), p3⟩ :: L3) := by
  intro k hk
  by_cases hkh : h = k
  · subst hkh
    have h0 := G h hh
    rw [if_neg (by omega), Nat.add_zero] at h0
    have hc := hI (n / 8) h hh _ _ _ (by omega) h0
    have hcount : b + ((n + 1) / 8 + if h < (n + 1) % 8 then 1 else 0) = b + n / 8 + 1 := by
      split_ifs <;> omega
    rw [hcount]
    rw [show readM w1 f1 (⟨Rect.unit (s := S8x1x512) ![h, 0, 0] S1x1x512.size (inbM h hh), p1⟩ :: L1) h hh = p1 from row_hit ..,
      show readM w2 f2 (⟨Rect.unit (s := S8x1x512) ![h, 0, 0] S1x1x512.size (inbM h hh), p2⟩ :: L2) h hh = p2 from row_hit ..,
      show readA w3 f3 (⟨Rect.unit (s := S8x64x512) ![h, 0, 0] S1x64x512.size (inbA h hh), p3⟩ :: L3) h hh = p3 from row_hit ..,
      e1, e2, e3]
    exact hc
  · have h0 := G k hk
    have hcount : b + ((n + 1) / 8 + if k < (n + 1) % 8 then 1 else 0) = b + (n / 8 + if k < n % 8 then 1 else 0) := by
      split_ifs <;> omega
    rw [hcount]
    rw [show readM w1 f1 (⟨Rect.unit (s := S8x1x512) ![h, 0, 0] S1x1x512.size (inbM h hh), p1⟩ :: L1) k hk = readM w1 f1 L1 k hk
        from row_miss _ _ _ _ hkh _ _,
      show readM w2 f2 (⟨Rect.unit (s := S8x1x512) ![h, 0, 0] S1x1x512.size (inbM h hh), p2⟩ :: L2) k hk = readM w2 f2 L2 k hk
        from row_miss _ _ _ _ hkh _ _,
      show readA w3 f3 (⟨Rect.unit (s := S8x64x512) ![h, 0, 0] S1x64x512.size (inbA h hh), p3⟩ :: L3) k hk = readA w3 f3 L3 k hk
        from row_miss _ _ _ _ hkh _ _]
    exact h0

/-- What is stored after one more chain. -/
theorem Seen.step {n : ℕ} (h : ℕ) (hh : h < 8) (hn : h = n % 8)
    {L1 L2 : List (View.Piece (Elt F) S8x1x512 .f32)} {L3 : List (View.Piece (Elt F) S8x64x512 .f32)}
    (G : Seen w1 w2 w3 f1 f2 f3 n L1 L2 L3) (p1 p2 : Vec F S1x1x512 .f32) (p3 : Vec F S1x64x512 .f32) :
    Seen w1 w2 w3 f1 f2 f3 (n + 1) (⟨Rect.unit (s := S8x1x512) ![h, 0, 0] S1x1x512.size (inbM h hh), p1⟩ :: L1)
      (⟨Rect.unit (s := S8x1x512) ![h, 0, 0] S1x1x512.size (inbM h hh), p2⟩ :: L2)
      (⟨Rect.unit (s := S8x64x512) ![h, 0, 0] S1x64x512.size (inbA h hh), p3⟩ :: L3) := by
  intro k hk
  by_cases hkh : h = k
  · subst hkh
    refine ⟨fun _ => ⟨fun g => ?_, fun g => ?_, fun g => ?_⟩, fun hle => absurd hle (by omega)⟩
    · exact (row_hit w1.view g _ _ _).trans (row_hit w1.view f1 _ _ _).symm
    · exact (row_hit w2.view g _ _ _).trans (row_hit w2.view f2 _ _ _).symm
    · exact (row_hit w3.view g _ _ _).trans (row_hit w3.view f3 _ _ _).symm
  · have h0 := G k hk
    refine ⟨fun hlt => ?_, fun hle => ?_⟩
    · obtain ⟨a1, a2, a3⟩ := h0.1 (by omega)
      refine ⟨fun g => ?_, fun g => ?_, fun g => ?_⟩
      · exact (row_miss w1.view g _ _ hkh _ _).trans ((a1 g).trans (row_miss w1.view f1 _ _ hkh _ _).symm)
      · exact (row_miss w2.view g _ _ hkh _ _).trans ((a2 g).trans (row_miss w2.view f2 _ _ hkh _ _).symm)
      · exact (row_miss w3.view g _ _ hkh _ _).trans ((a3 g).trans (row_miss w3.view f3 _ _ hkh _ _).symm)
    · obtain ⟨a1, a2, a3⟩ := h0.2 (by omega)
      exact ⟨(row_miss w1.view f1 _ _ hkh _ _).trans a1, (row_miss w2.view f2 _ _ hkh _ _).trans a2,
        (row_miss w3.view f3 _ _ hkh _ _).trans a3⟩

variable (I b w1 w2 w3 f1 f2 f3) in
/-- Both facts. -/
def Good (n : ℕ) (L1 L2 : List (View.Piece (Elt F) S8x1x512 .f32)) (L3 : List (View.Piece (Elt F) S8x64x512 .f32)) : Prop :=
  Inv I b w1 w2 w3 f1 f2 f3 n L1 L2 L3 ∧ Seen w1 w2 w3 f1 f2 f3 n L1 L2 L3

/-- Before the first chain. -/
theorem Good.nil (h0 : ∀ h (hh : h < 8), I b h (readM w1 f1 [] h hh) (readM w2 f2 [] h hh) (readA w3 f3 [] h hh)) :
    Good I b w1 w2 w3 f1 f2 f3 0 [] [] [] :=
  ⟨fun h hh => h0 h hh, fun _ _ => ⟨fun hlt => absurd hlt (by omega), fun _ => ⟨rfl, rfl, rfl⟩⟩⟩

/-- A chain of the first block, which loads what the trip found. -/
theorem Good.first (hI : Carries I b kc vc qm) {n : ℕ} (h : ℕ) (hh : h < 8) (hn : h = n)
    {L1 L2 : List (View.Piece (Elt F) S8x1x512 .f32)} {L3 : List (View.Piece (Elt F) S8x64x512 .f32)}
    {p1 p2 : Vec F S1x1x512 .f32} {p3 : Vec F S1x64x512 .f32}
    (e1 : p1 = stepM (score h hh (kc 0) (qm h hh)) (readM w1 f1 [] h hh))
    (e2 : p2 = stepL (score h hh (kc 0) (qm h hh)) (readM w1 f1 [] h hh) (readM w2 f2 [] h hh))
    (e3 : p3 = stepA h hh (vc 0) (score h hh (kc 0) (qm h hh)) (readM w1 f1 [] h hh) (readA w3 f3 [] h hh))
    (G : Good I b w1 w2 w3 f1 f2 f3 n L1 L2 L3) :
    Good I b w1 w2 w3 f1 f2 f3 (n + 1) (⟨Rect.unit (s := S8x1x512) ![h, 0, 0] S1x1x512.size (inbM h hh), p1⟩ :: L1)
      (⟨Rect.unit (s := S8x1x512) ![h, 0, 0] S1x1x512.size (inbM h hh), p2⟩ :: L2)
      (⟨Rect.unit (s := S8x64x512) ![h, 0, 0] S1x64x512.size (inbA h hh), p3⟩ :: L3) := by
  obtain ⟨a1, a2, a3⟩ := (G.2 h hh).2 (by omega)
  have hz : n / 8 = 0 := by omega
  refine ⟨Inv.step hI h hh (by omega) (by omega) G.1 ?_ ?_ ?_, Seen.step h hh (by omega) G.2 p1 p2 p3⟩
  · rw [hz, a1]; exact e1
  · rw [hz, a1, a2]; exact e2
  · rw [hz, a1, a3]; exact e3

/-- A chain of a later block, which loads what an earlier chain stored. -/
theorem Good.next (hI : Carries I b kc vc qm) {n : ℕ} (h : ℕ) (hh : h < 8) (hn : h = n % 8) (h8 : 8 ≤ n) (h64 : n < 64)
    {L1 L2 : List (View.Piece (Elt F) S8x1x512 .f32)} {L3 : List (View.Piece (Elt F) S8x64x512 .f32)}
    {p1 p2 : Vec F S1x1x512 .f32} {p3 : Vec F S1x64x512 .f32}
    (e1 : p1 = stepM (score h hh (kc (n / 8)) (qm h hh)) (readM w1 w1.view.junk L1 h hh))
    (e2 : p2 = stepL (score h hh (kc (n / 8)) (qm h hh)) (readM w1 w1.view.junk L1 h hh) (readM w2 w2.view.junk L2 h hh))
    (e3 : p3 = stepA h hh (vc (n / 8)) (score h hh (kc (n / 8)) (qm h hh)) (readM w1 w1.view.junk L1 h hh)
      (readA w3 w3.view.junk L3 h hh))
    (G : Good I b w1 w2 w3 f1 f2 f3 n L1 L2 L3) :
    Good I b w1 w2 w3 f1 f2 f3 (n + 1) (⟨Rect.unit (s := S8x1x512) ![h, 0, 0] S1x1x512.size (inbM h hh), p1⟩ :: L1)
      (⟨Rect.unit (s := S8x1x512) ![h, 0, 0] S1x1x512.size (inbM h hh), p2⟩ :: L2)
      (⟨Rect.unit (s := S8x64x512) ![h, 0, 0] S1x64x512.size (inbA h hh), p3⟩ :: L3) := by
  obtain ⟨a1, a2, a3⟩ := (G.2 h hh).1 (by omega)
  refine ⟨Inv.step hI h hh hn h64 G.1 ?_ ?_ ?_, Seen.step h hh hn G.2 p1 p2 p3⟩
  · rw [← a1 w1.view.junk]; exact e1
  · rw [← a1 w1.view.junk, ← a2 w2.view.junk]; exact e2
  · rw [← a1 w1.view.junk, ← a3 w3.view.junk]; exact e3

end Good

end Cert.KernelIdeal.Attn

end
-- ==== Proof.Trip.lean ====
/- One trip of the attention kernel's loop: eight blocks of 256 keys, eight rows to a block, carry a row property
   forward. -/
module

public import proofs.«01_k».proof.Proof.Rows
public import proofs.«01_k».proof.Proof.Gen.KernelIdeal.Loops

@[expose] public section

set_option maxRecDepth 8192

noncomputable section

namespace Cert.KernelIdeal.Attn

open Idealize.ShloMosaic Idealize.ShloMosaic.TcCoe Idealize.ShloMosaic.Tactic Cert.KernelIdeal Cert.KernelIdeal.Gen
open Idealize.SL Idealize.SL.RA Idealize.SL.BI Idealize.SL.Sem

variable {F : FTy → Type} [FloatOps F] [Named F]

/-- Block `c` of the eight key blocks of trip `k`. -/
def keyBlk (arg5 : Memref sig .tc .vmem S8192x256 .bf16) (X : arg5.view.ty.Contents (Elt F)) (k : Fin k0_t1_loop.trips) (c : ℕ) :
    Vec F S256x256 .bf16 :=
  arg5.view.readAt (Elt F) (Rect.unit (s := S8192x256) (k0_off1 k (BitVec.ofNat 32 (Fin.ofNat 8 c).val)) S256x256.size
    (k0_off1_inb k (Fin.ofNat 8 c))).toLoadRect X

/-- Block `c` of the eight value blocks of trip `k`. -/
def valBlk (arg6 : Memref sig .tc .vmem S256x8192 .bf16) (X : arg6.view.ty.Contents (Elt F)) (k : Fin k0_t1_loop.trips) (c : ℕ) :
    Vec F S256x256 .bf16 :=
  arg6.view.readAt (Elt F) (Rect.unit (s := S256x8192) (k0_off2 k (BitVec.ofNat 32 (Fin.ofNat 8 c).val)) S256x256.size
    (k0_off2_inb k (Fin.ofNat 8 c))).toLoadRect X

/-- Row `h` of the masked queries. -/
def qRow (arg10 : Memref sig .tc .vmem S8x512x128 .bf16) (X : arg10.view.ty.Contents (Elt F)) (h : ℕ) (hh : h < 8) :
    Vec F S1x512x128 .bf16 :=
  arg10.view.readAt (Elt F) (Rect.unit (s := S8x512x128) ![h, 0, 0] S1x512x128.size (inbQ h hh)).toLoadRect X

set_option maxHeartbeats 4000000 in
/-- The 64 chains of a trip. -/
theorem trip_good {I : ℕ → ℕ → Vec F S1x1x512 .f32 → Vec F S1x1x512 .f32 → Vec F S1x64x512 .f32 → Prop} {b : ℕ}
    (𝒱 : Variants) (c : Dev nD) (bd : Option 𝒱.V) (i : grid0.Coords)
    (arg2 : Memref sig .tc .vmem S4x32 .f32) (harg2 : arg2.IsWhole) (arg3 : Memref sig .tc .vmem S64x512 .f32) (harg3 : arg3.IsWhole)
    (arg4 : Memref sig .tc .vmem S512x256 .bf16) (harg4 : arg4.IsWhole) (arg5 : Memref sig .tc .vmem S8192x256 .bf16) (harg5 : arg5.IsWhole)
    (arg6 : Memref sig .tc .vmem S256x8192 .bf16) (harg6 : arg6.IsWhole) (arg7 : Memref sig .tc .vmem S256x256 .bf16) (harg7 : arg7.IsWhole)
    (arg8 : Memref sig .tc .vmem S256x256 .bf16) (harg8 : arg8.IsWhole) (arg9 : Memref sig .tc .vmem S512x256 .bf16) (harg9 : arg9.IsWhole)
    (arg10 : Memref sig .tc .vmem S8x512x128 .bf16) (harg10 : arg10.IsWhole) (arg11 : Memref sig .tc .vmem S8x1x512 .f32) (harg11 : arg11.IsWhole)
    (arg12 : Memref sig .tc .vmem S8x1x512 .f32) (harg12 : arg12.IsWhole) (arg13 : Memref sig .tc .vmem S8x64x512 .f32) (harg13 : arg13.IsWhole)
    (cst_53 : F .f32) (X5 : arg5.view.ty.Contents (Elt F)) (X6 : arg6.view.ty.Contents (Elt F)) (X10 : arg10.view.ty.Contents (Elt F))
    (k : Fin k0_t1_loop.trips) (f11 : arg11.view.ty.Contents (Elt F)) (f12 : arg12.view.ty.Contents (Elt F)) (f13 : arg13.view.ty.Contents (Elt F))
    (hI : Carries I b (keyBlk arg5 X5 k) (valBlk arg6 X6 k) (qRow arg10 X10))
    (h0 : ∀ h (hh : h < 8), I b h (readM arg11 f11 [] h hh) (readM arg12 f12 [] h hh) (readA arg13 f13 [] h hh)) :
    Good I b arg11 arg12 arg13 f11 f12 f13 64
      (tripL_k0_t1 (F := F) 𝒱 c bd i arg2 harg2 arg3 harg3 arg4 harg4 arg5 harg5 arg6 harg6 arg7 harg7 arg8 harg8 arg9 harg9 arg10 harg10
        arg11 harg11 arg12 harg12 arg13 harg13 cst_53 X5 X6 X10 k f11 f12 f13).1
      (tripL_k0_t1 (F := F) 𝒱 c bd i arg2 harg2 arg3 harg3 arg4 harg4 arg5 harg5 arg6 harg6 arg7 harg7 arg8 harg8 arg9 harg9 arg10 harg10
        arg11 harg11 arg12 harg12 arg13 harg13 cst_53 X5 X6 X10 k f11 f12 f13).2.1
      (tripL_k0_t1 (F := F) 𝒱 c bd i arg2 harg2 arg3 harg3 arg4 harg4 arg5 harg5 arg6 harg6 arg7 harg7 arg8 harg8 arg9 harg9 arg10 harg10
        arg11 harg11 arg12 harg12 arg13 harg13 cst_53 X5 X6 X10 k f11 f12 f13).2.2 := by
  unfold tripL_k0_t1 trip_k0_t1
  dsimp only
  iterate 56 refine Good.next hI _ (by decide) rfl (by decide) (by decide) rfl rfl rfl ?_
  iterate 8 refine Good.first hI _ (by decide) rfl rfl rfl rfl ?_
  exact Good.nil h0

end Cert.KernelIdeal.Attn

end
-- ==== Proof.Loop.lean ====
/- The loop of the attention kernel: its four trips carry a row property over 32 blocks of 256 keys. -/
module

public import proofs.«01_k».proof.Proof.Trip

@[expose] public section

set_option maxRecDepth 8192

noncomputable section

namespace Cert.KernelIdeal.Attn

open Idealize.ShloMosaic Idealize.ShloMosaic.TcCoe Idealize.ShloMosaic.Tactic Cert.KernelIdeal Cert.KernelIdeal.Gen
open Idealize.SL Idealize.SL.RA Idealize.SL.BI Idealize.SL.Sem

variable {F : FTy → Type} [FloatOps F] [Named F]
variable (c : Dev nD) (i : grid0.Coords)
  (arg2 : Memref sig .tc .vmem S4x32 .f32) (harg2 : arg2.IsWhole) (arg3 : Memref sig .tc .vmem S64x512 .f32) (harg3 : arg3.IsWhole)
  (arg4 : Memref sig .tc .vmem S512x256 .bf16) (harg4 : arg4.IsWhole) (arg5 : Memref sig .tc .vmem S8192x256 .bf16) (harg5 : arg5.IsWhole)
  (arg6 : Memref sig .tc .vmem S256x8192 .bf16) (harg6 : arg6.IsWhole) (arg7 : Memref sig .tc .vmem S256x256 .bf16) (harg7 : arg7.IsWhole)
  (arg8 : Memref sig .tc .vmem S256x256 .bf16) (harg8 : arg8.IsWhole) (arg9 : Memref sig .tc .vmem S512x256 .bf16) (harg9 : arg9.IsWhole)
  (arg10 : Memref sig .tc .vmem S8x512x128 .bf16) (harg10 : arg10.IsWhole) (arg11 : Memref sig .tc .vmem S8x1x512 .f32) (harg11 : arg11.IsWhole)
  (arg12 : Memref sig .tc .vmem S8x1x512 .f32) (harg12 : arg12.IsWhole) (arg13 : Memref sig .tc .vmem S8x64x512 .f32) (harg13 : arg13.IsWhole)
  (cst_53 : F .f32) (X5 : arg5.view.ty.Contents (Elt F)) (X6 : arg6.view.ty.Contents (Elt F)) (X10 : arg10.view.ty.Contents (Elt F))
  (G11 : arg11.view.ty.Contents (Elt F)) (G12 : arg12.view.ty.Contents (Elt F)) (G13 : arg13.view.ty.Contents (Elt F))

/-- After `n` trips each row has the property for `8 n` blocks. -/
theorem loop_inv {I : ℕ → ℕ → Vec F S1x1x512 .f32 → Vec F S1x1x512 .f32 → Vec F S1x64x512 .f32 → Prop} (𝒱 : Variants) (bd : Option 𝒱.V)
    (hI : ∀ k : Fin k0_t1_loop.trips, Carries I (8 * k.val) (keyBlk arg5 X5 k) (valBlk arg6 X6 k) (qRow arg10 X10))
    (h0 : ∀ h (hh : h < 8), I 0 h (readM arg11 G11 [] h hh) (readM arg12 G12 [] h hh) (readA arg13 G13 [] h hh))
    (n : ℕ) (hn : n ≤ k0_t1_loop.trips) (h : ℕ) (hh : h < 8) :
    I (8 * n) h
      (readM arg11 G11 (pb_k0_t1 (F := F) 𝒱 c bd i arg2 harg2 arg3 harg3 arg4 harg4 arg5 harg5 arg6 harg6 arg7 harg7 arg8 harg8 arg9 harg9 arg10 harg10 arg11 harg11
      arg12 harg12 arg13 harg13 cst_53 X5 X6 X10 G11 G12 G13 n).1 h hh)
      (readM arg12 G12 (pb_k0_t1 (F := F) 𝒱 c bd i arg2 harg2 arg3 harg3 arg4 harg4 arg5 harg5 arg6 harg6 arg7 harg7 arg8 harg8 arg9 harg9 arg10 harg10 arg11 harg11
      arg12 harg12 arg13 harg13 cst_53 X5 X6 X10 G11 G12 G13 n).2.1 h hh)
      (readA arg13 G13 (pb_k0_t1 (F := F) 𝒱 c bd i arg2 harg2 arg3 harg3 arg4 harg4 arg5 harg5 arg6 harg6 arg7 harg7 arg8 harg8 arg9 harg9 arg10 harg10 arg11 harg11
      arg12 harg12 arg13 harg13 cst_53 X5 X6 X10 G11 G12 G13 n).2.2 h hh) := by
  induction n generalizing h with
  | zero => exact h0 h hh
  | succ n ih =>
    have hs := pb_k0_t1_succ (F := F) 𝒱 c bd i arg2 harg2 arg3 harg3 arg4 harg4 arg5 harg5 arg6 harg6 arg7 harg7 arg8 harg8 arg9 harg9 arg10 harg10 arg11 harg11
      arg12 harg12 arg13 harg13 cst_53 X5 X6 X10 G11 G12 G13 ⟨n, hn⟩
    have hg := (trip_good (F := F) (I := I) (b := 8 * n) 𝒱 c bd i arg2 harg2 arg3 harg3 arg4 harg4 arg5 harg5 arg6 harg6 arg7 harg7 arg8 harg8 arg9 harg9 arg10 harg10 arg11 harg11
      arg12 harg12 arg13 harg13 cst_53 X5 X6 X10 ⟨n, hn⟩ _ _ _ (hI ⟨n, hn⟩)
      (fun h hh => ih (by omega) h hh)).1 h hh
    rw [if_neg (by omega)] at hg
    rw [show n + 1 = (⟨n, hn⟩ : Fin k0_t1_loop.trips).val + 1 from rfl, hs]
    unfold readM readA
    rw [View.writes_append, View.writes_append, View.writes_append]
    exact hg

/-- After the loop, started over the stores `L1`, `L2`, `L3`. -/
theorem loop_after {I : ℕ → ℕ → Vec F S1x1x512 .f32 → Vec F S1x1x512 .f32 → Vec F S1x64x512 .f32 → Prop} (𝒱 : Variants) (bd : Option 𝒱.V)
    (L1 L2 : List (View.Piece (Elt F) S8x1x512 .f32)) (L3 : List (View.Piece (Elt F) S8x64x512 .f32))
    (hI : ∀ k : Fin k0_t1_loop.trips, Carries I (8 * k.val) (keyBlk arg5 X5 k) (valBlk arg6 X6 k) (qRow arg10 X10))
    (h0 : ∀ h (hh : h < 8), I 0 h (readM arg11 G11 L1 h hh) (readM arg12 G12 L2 h hh) (readA arg13 G13 L3 h hh)) :
    Inv I 32 arg11 arg12 arg13 G11 G12 G13 0 ((pb_k0_t1 (F := F) 𝒱 c bd i arg2 harg2 arg3 harg3 arg4 harg4 arg5 harg5 arg6 harg6 arg7 harg7 arg8 harg8 arg9 harg9 arg10 harg10 arg11 harg11
      arg12 harg12 arg13 harg13 cst_53 X5 X6 X10 (arg11.view.writes (Elt F) G11 L1) (arg12.view.writes (Elt F) G12 L2) (arg13.view.writes (Elt F) G13 L3) k0_t1_loop.trips).1 ++ L1) ((pb_k0_t1 (F := F) 𝒱 c bd i arg2 harg2 arg3 harg3 arg4 harg4 arg5 harg5 arg6 harg6 arg7 harg7 arg8 harg8 arg9 harg9 arg10 harg10 arg11 harg11
      arg12 harg12 arg13 harg13 cst_53 X5 X6 X10 (arg11.view.writes (Elt F) G11 L1) (arg12.view.writes (Elt F) G12 L2) (arg13.view.writes (Elt F) G13 L3) k0_t1_loop.trips).2.1 ++ L2) ((pb_k0_t1 (F := F) 𝒱 c bd i arg2 harg2 arg3 harg3 arg4 harg4 arg5 harg5 arg6 harg6 arg7 harg7 arg8 harg8 arg9 harg9 arg10 harg10 arg11 harg11
      arg12 harg12 arg13 harg13 cst_53 X5 X6 X10 (arg11.view.writes (Elt F) G11 L1) (arg12.view.writes (Elt F) G12 L2) (arg13.view.writes (Elt F) G13 L3) k0_t1_loop.trips).2.2 ++ L3) := by
  intro h hh
  have ht : k0_t1_loop.trips = 4 := by decide
  have e : 32 + (0 / 8 + if h < 0 % 8 then 1 else 0) = 8 * k0_t1_loop.trips := by rw [ht]; simp
  have hl := loop_inv (F := F) c i arg2 harg2 arg3 harg3 arg4 harg4 arg5 harg5 arg6 harg6 arg7 harg7 arg8 harg8 arg9 harg9 arg10 harg10 arg11 harg11
      arg12 harg12 arg13 harg13 cst_53 X5 X6 X10 (arg11.view.writes (Elt F) G11 L1) (arg12.view.writes (Elt F) G12 L2)
    (arg13.view.writes (Elt F) G13 L3) 𝒱 bd hI h0 k0_t1_loop.trips le_rfl h hh
  rw [e]
  unfold readM readA at hl ⊢
  rw [View.writes_append, View.writes_append, View.writes_append]
  exact hl

end Cert.KernelIdeal.Attn

end
-- ==== Proof.Epilogue.lean ====
/- The last 256 keys, which come from the context: after them every row has its property for all 33 blocks. -/
module

public import proofs.«01_k».proof.Proof.Loop
public import proofs.«01_k».proof.Proof.KI.RunA

@[expose] public section

set_option maxRecDepth 65536

noncomputable section

namespace Cert.KernelIdeal.Attn

open Idealize.ShloMosaic Idealize.ShloMosaic.TcCoe Idealize.ShloMosaic.Tactic Cert.KernelIdeal Cert.KernelIdeal.Gen
open Idealize.SL Idealize.SL.RA Idealize.SL.BI Idealize.SL.Sem

variable {F : FTy → Type} [FloatOps F] [Named F]
variable (c : Dev nD) (i : grid0.Coords)
  (arg2 : Memref sig .tc .vmem S4x32 .f32) (harg2 : arg2.IsWhole) (arg3 : Memref sig .tc .vmem S64x512 .f32) (harg3 : arg3.IsWhole)
  (arg4 : Memref sig .tc .vmem S512x256 .bf16) (harg4 : arg4.IsWhole) (arg5 : Memref sig .tc .vmem S8192x256 .bf16) (harg5 : arg5.IsWhole)
  (arg6 : Memref sig .tc .vmem S256x8192 .bf16) (harg6 : arg6.IsWhole) (arg7 : Memref sig .tc .vmem S256x256 .bf16) (harg7 : arg7.IsWhole)
  (arg8 : Memref sig .tc .vmem S256x256 .bf16) (harg8 : arg8.IsWhole) (arg9 : Memref sig .tc .vmem S512x256 .bf16) (harg9 : arg9.IsWhole)
  (arg10 : Memref sig .tc .vmem S8x512x128 .bf16) (harg10 : arg10.IsWhole) (arg11 : Memref sig .tc .vmem S8x1x512 .f32) (harg11 : arg11.IsWhole)
  (arg12 : Memref sig .tc .vmem S8x1x512 .f32) (harg12 : arg12.IsWhole) (arg13 : Memref sig .tc .vmem S8x64x512 .f32) (harg13 : arg13.IsWhole)
  (x2 : Vec F S512x256 .bf16) (x3 : Vec F S8192x256 .bf16) (x4 : Vec F S256x8192 .bf16)
  (x5 : Vec F S256x256 .bf16) (x6 : Vec F S256x256 .bf16)

/-- The masked queries as the kernel stores them. -/
abbrev qmOf : arg10.view.ty.Contents (Elt F) :=
  arg10.view.writes (Elt F) arg10.view.junk (kernelRun0_A.sl.HS0_8 c arg4 harg4 x2)

/-- The context's keys, or its transposed values, read whole. -/
abbrev ctxBlk (w : Memref sig .tc .vmem S256x256 .bf16) (hw : w.IsWhole) (x : Vec F S256x256 .bf16) (_ : ℕ) : Vec F S256x256 .bf16 :=
  w.view.readAt (Elt F) (Rect.unit (s := S256x256) ![0, 0] S256x256.size inb_S256x256_S256x256_0_0).toLoadRect (hw.unread x)

set_option maxHeartbeats 4000000 in
/-- After the context's block. -/
theorem epilogue_inv {I : ℕ → ℕ → Vec F S1x1x512 .f32 → Vec F S1x1x512 .f32 → Vec F S1x64x512 .f32 → Prop}
    (hI : ∀ k : Fin k0_t1_loop.trips, Carries I (8 * k.val) (keyBlk arg5 (harg5.unread x3) k) (valBlk arg6 (harg6.unread x4) k)
      (qRow arg10 (qmOf c arg4 harg4 arg10 x2)))
    (hI' : Carries I 32 (ctxBlk arg7 harg7 x5) (ctxBlk arg8 harg8 x6) (qRow arg10 (qmOf c arg4 harg4 arg10 x2)))
    (h0 : ∀ h (hh : h < 8), I 0 h (readM arg11 arg11.view.junk (kernelRun0_A.sl.HS1_1) h hh)
      (readM arg12 arg12.view.junk (kernelRun0_A.sl.HS2_1) h hh) (readA arg13 arg13.view.junk (kernelRun0_A.sl.HS3_1) h hh))
    (h : ℕ) (hh : h < 8) : ∃ m, I 33 h m
      (readM arg12 arg12.view.junk (kernelRun0_A.sl.HS2_8 c i arg2 harg2 arg3 harg3 arg4 harg4 arg5 harg5 arg6 harg6 arg7 harg7 arg8 harg8 arg9 harg9 arg10 harg10 arg11 harg11
      arg12 harg12 arg13 harg13 x2 x3 x4 x5) h hh)
      (readA arg13 arg13.view.junk (kernelRun0_A.sl.HS3_8 c i arg2 harg2 arg3 harg3 arg4 harg4 arg5 harg5 arg6 harg6 arg7 harg7 arg8 harg8 arg9 harg9 arg10 harg10 arg11 harg11
      arg12 harg12 arg13 harg13 x2 x3 x4 x5 x6) h hh) := by
  have g0 := loop_after (F := F) c i arg2 harg2 arg3 harg3 arg4 harg4 arg5 harg5 arg6 harg6 arg7 harg7 arg8 harg8 arg9 harg9 arg10 harg10 arg11 harg11
      arg12 harg12 arg13 harg13 (Scalar.ofBits .f32 0x00000000#32) (harg5.unread x3) (harg6.unread x4)
    (qmOf c arg4 harg4 arg10 x2) arg11.view.junk arg12.view.junk arg13.view.junk Variants.none none
    (kernelRun0_A.sl.HS1_1) (kernelRun0_A.sl.HS2_1) (kernelRun0_A.sl.HS3_1) hI h0
  have g8 : Inv I 32 arg11 arg12 arg13 arg11.view.junk arg12.view.junk arg13.view.junk 8
      (⟨Rect.unit (s := S8x1x512) ![7, 0, 0] S1x1x512.size (inbM 7 (by decide)),
        kernelRun0_A.sl.v406 c i arg2 harg2 arg3 harg3 arg4 harg4 arg5 harg5 arg6 harg6 arg7 harg7 arg8 harg8 arg9 harg9 arg10 harg10 arg11 harg11
      arg12 harg12 arg13 harg13 x2 x3 x4 x5⟩ :: kernelRun0_A.sl.HS1_7 c i arg2 harg2 arg3 harg3 arg4 harg4 arg5 harg5 arg6 harg6 arg7 harg7 arg8 harg8 arg9 harg9 arg10 harg10 arg11 harg11
      arg12 harg12 arg13 harg13 x2 x3 x4 x5)
      (kernelRun0_A.sl.HS2_8 c i arg2 harg2 arg3 harg3 arg4 harg4 arg5 harg5 arg6 harg6 arg7 harg7 arg8 harg8 arg9 harg9 arg10 harg10 arg11 harg11
      arg12 harg12 arg13 harg13 x2 x3 x4 x5) (kernelRun0_A.sl.HS3_8 c i arg2 harg2 arg3 harg3 arg4 harg4 arg5 harg5 arg6 harg6 arg7 harg7 arg8 harg8 arg9 harg9 arg10 harg10 arg11 harg11
      arg12 harg12 arg13 harg13 x2 x3 x4 x5 x6) := by
    iterate 8 (refine Inv.step hI' _ (by decide) rfl (by decide) ?_ ?_ ?_ ?_; rotate_left; rfl; rfl; rfl)
    exact g0
  exact ⟨_, g8 h hh⟩

end Cert.KernelIdeal.Attn

end
-- ==== Proof.Masked.lean ====
/- The masked queries and the scores: row `h` of the masked queries holds the 32 columns of the row's map and zeros beside
   them, so that its product with 128 key columns is the product over those 32 columns. -/
module

public import proofs.«01_k».proof.Proof.Online
public import proofs.«01_k».proof.Proof.Epilogue
public import Idealize.ShloMosaic.Lib.WholeRead

@[expose] public section

set_option maxRecDepth 16384

noncomputable section

namespace Cert.KernelIdeal.Attn

open Idealize.ShloMosaic Idealize.ShloMosaic.ValueIdx Cert.KernelIdeal Cert.KernelIdeal.Gen

section Pieces
variable {F : FTy → Type} [FloatOps F] [Named F]

/-- The columns `lo ≤ j < hi` of a block of 128, zeros elsewhere. -/
def maskQ (lo hi : BitVec 32) (v : Vec F S512x128 .bf16) : FVec F S1x512x128 .bf16 :=
  shapeCast S1x512x128 (select (andi (cmpi .sge (iota .tc S512x128 32 [1] iota_S512x128_d1_w32) (broadcast S512x128 lo))
    (cmpi .slt (iota .tc S512x128 32 [1] iota_S512x128_d1_w32) (broadcast S512x128 hi))) v
    (broadcast S512x128 (Scalar.ofBits .bf16 0x0000#16))) shapeCasts_S512x128_S1x512x128

/-- The half of the query block that holds row `h`'s columns. -/
theorem inbH (h : ℕ) (hh : h < 8) : ∀ a, (![0, 128 * (h / 4)] : Fin 2 → ℕ) a + S512x128.size a ≤ S512x256.size a := by
  intro a; fin_cases a <;> simp [S512x128, S512x256] <;> omega

/-- The payload stored to row `h` of the masked queries. -/
def qPay (arg4 : Memref sig .tc .vmem S512x256 .bf16) (harg4 : arg4.IsWhole) (x2 : Vec F S512x256 .bf16) (h : ℕ) (hh : h < 8) :
    FVec F S1x512x128 .bf16 :=
  maskQ (BitVec.ofNat 32 (32 * (h % 4))) (BitVec.ofNat 32 (32 * (h % 4) + 32))
    (arg4.view.readAt (Elt F) (Rect.unit (s := S512x256) ![0, 128 * (h / 4)] S512x128.size (inbH h hh)).toLoadRect (harg4.unread x2))

/-- The stores of the first `n` rows. -/
def qPieces (w : (h : ℕ) → h < 8 → FVec F S1x512x128 .bf16) : (n : ℕ) → n ≤ 8 → List (View.Piece (Elt F) S8x512x128 .bf16)
  | 0, _ => []
  | n + 1, hn => ⟨Rect.unit (s := S8x512x128) ![n, 0, 0] S1x512x128.size (inbQ n hn), w n hn⟩ :: qPieces w n (Nat.le_of_succ_le hn)

/-- A stored row reads as its payload. -/
theorem read_qPieces (v : View sig .tc .vmem S8x512x128 .bf16) (f : v.ty.Contents (Elt F))
    (w : (h : ℕ) → h < 8 → FVec F S1x512x128 .bf16) (h : ℕ) (hh : h < 8) (n : ℕ) (hn : n ≤ 8) (hlt : h < n) :
    v.readAt (Elt F) (Rect.unit (s := S8x512x128) ![h, 0, 0] S1x512x128.size (inbQ h hh)).toLoadRect (v.writes (Elt F) f (qPieces w n hn))
      = w h hh := by
  induction n with
  | zero => omega
  | succ n ih =>
    by_cases he : n = h
    · subst he; exact row_hit v f _ _ _
    · exact (row_miss v f _ _ he _ _).trans (ih (by omega) (by omega))

/-- The kernel's list of stores to the masked queries is that one. -/
theorem HS0_eq (c : Dev nD) (arg4 : Memref sig .tc .vmem S512x256 .bf16) (harg4 : arg4.IsWhole) (x2 : Vec F S512x256 .bf16) :
    kernelRun0_A.sl.HS0_8 c arg4 harg4 x2 = qPieces (qPay arg4 harg4 x2) 8 le_rfl := rfl

/-- Row `h` of the masked queries. -/
theorem qRow_eq (c : Dev nD) (arg4 : Memref sig .tc .vmem S512x256 .bf16) (harg4 : arg4.IsWhole)
    (arg10 : Memref sig .tc .vmem S8x512x128 .bf16) (x2 : Vec F S512x256 .bf16) (h : ℕ) (hh : h < 8) :
    qRow arg10 (qmOf c arg4 harg4 arg10 x2) h hh = qPay arg4 harg4 x2 h hh := by
  unfold qmOf qRow
  rw [HS0_eq]
  exact read_qPieces arg10.view _ _ h hh 8 le_rfl hh

end Pieces

/-- A load of a rectangle of a whole array reads the array at the shifted index. -/
theorem read_whole2 {Val : EltTy → Type} [∀ e, Nonempty (Val e)] {sp : Space} {e : EltTy} {n0 n1 m0 m1 : ℕ}
    (w : Memref sig .tc sp (⟨2, ![n0, n1]⟩ : Shape) e) (hw : w.IsWhole)
    (x : (⟨2, ![n0, n1]⟩ : Shape).Idx → Val e) {o : Fin 2 → ℕ}
    (inb : ∀ a, o a + (⟨2, ![m0, m1]⟩ : Shape).size a ≤ (⟨2, ![n0, n1]⟩ : Shape).size a) (a : Fin m0) (b : Fin m1) (a' : Fin n0) (b' : Fin n1)
    (ha : a'.val = o 0 + a.val) (hb : b'.val = o 1 + b.val) :
    w.view.readAt Val (Rect.unit (s := (⟨2, ![n0, n1]⟩ : Shape)) o (⟨2, ![m0, m1]⟩ : Shape).size inb).toLoadRect (hw.unread x) (ix2 a b) = x (ix2 a' b') := by
  refine (Memref.IsWhole.readAt_unread hw x _ _).trans (congrArg x (funext fun ax => Fin.ext ?_))
  match ax with
  | ⟨0, _⟩ => simp [LoadRect.idx, Rect.toLoadRect, Rect.unit, ha, ix2]
  | ⟨1, _⟩ => simp [LoadRect.idx, Rect.toLoadRect, Rect.unit, hb, ix2]

/-- The mask of row `h` at a column. -/
theorem mask_bit (r : Fin 4) (j : Fin 128) :
    IntOp.andi (IntOp.cmpi .sge (BitVec.ofNat 32 j.val) (BitVec.ofNat 32 (32 * r.val)))
      (IntOp.cmpi .slt (BitVec.ofNat 32 j.val) (BitVec.ofNat 32 (32 * r.val + 32)))
      = if 32 * r.val ≤ j.val ∧ j.val < 32 * r.val + 32 then 1#1 else 0#1 := by
  revert r j; decide +kernel

/-- An entry of row `h` of the masked queries. -/
theorem qPay_apply (arg4 : Memref sig .tc .vmem S512x256 .bf16) (harg4 : arg4.IsWhole) (x2 : Vec Ideal S512x256 .bf16) (h : ℕ) (hh : h < 8)
    (t : Fin 512) (j : Fin 128) : qPay arg4 harg4 x2 h hh (ix3 0 t j)
      = if 32 * (h % 4) ≤ j.val ∧ j.val < 32 * (h % 4) + 32 then x2 (ix2 t ⟨128 * (h / 4) + j.val, by omega⟩) else (0 : EReal) := by
  unfold qPay maskQ
  refine (shapeCast_ab_1ab_apply _ _ 0 t j).trans ?_
  rw [select_apply]
  have hb : andi (cmpi .sge (iota .tc S512x128 32 [1] iota_S512x128_d1_w32) (broadcast S512x128 (BitVec.ofNat 32 (32 * (h % 4)))))
      (cmpi .slt (iota .tc S512x128 32 [1] iota_S512x128_d1_w32) (broadcast S512x128 (BitVec.ofNat 32 (32 * (h % 4) + 32)))) (ix2 t j)
      = if 32 * (h % 4) ≤ j.val ∧ j.val < 32 * (h % 4) + 32 then 1#1 else 0#1 := by
    have := mask_bit ⟨h % 4, Nat.mod_lt _ (by decide)⟩ j
    rw [← this]
    have hi : iota .tc S512x128 32 [1] iota_S512x128_d1_w32 (ix2 t j) = BitVec.ofNat 32 j.val := by
      show BitVec.ofNat 32 (0 * 128 + j.val) = _
      rw [Nat.zero_mul, Nat.zero_add]
    show IntOp.andi (IntOp.cmpi .sge (iota .tc S512x128 32 [1] iota_S512x128_d1_w32 (ix2 t j)) _)
      (IntOp.cmpi .slt (iota .tc S512x128 32 [1] iota_S512x128_d1_w32 (ix2 t j)) _) = _
    rw [hi]; rfl
  rw [hb]
  have hz : (Scalar.ofBits .bf16 0x0000#16 : Ideal .bf16) = (0 : EReal) := by simp [Scalar.ofBits, Ideal.ofBits_def, Ideal.ofBits, Ideal.ieee]
  split_ifs with hc
  · rw [show (Scalar.select (1#1) : Ideal .bf16 → Ideal .bf16 → Ideal .bf16) = fun a _ => a from rfl]
    exact read_whole2 arg4 harg4 x2 _ t j t _ (by simp) rfl
  · exact hz

/-- The product over the 128 columns is the product over the row's 32. -/
theorem sum_mask (r : ℕ) (hr : r < 4) (f g : ℕ → ℝ) :
    ∑ j : Fin 128, f j.val * (if 32 * r ≤ j.val ∧ j.val < 32 * r + 32 then g j.val else 0)
      = ∑ e ∈ Finset.range 32, f (32 * r + e) * g (32 * r + e) := by
  rw [← Finset.sum_range (fun j => f j * (if 32 * r ≤ j ∧ j < 32 * r + 32 then g j else 0))]
  have : ∀ j, f j * (if 32 * r ≤ j ∧ j < 32 * r + 32 then g j else 0) = if j ∈ Finset.Ico (32 * r) (32 * r + 32) then f j * g j else 0 := by
    intro j; simp only [Finset.mem_Ico]; split_ifs <;> simp
  simp only [this]
  rw [Finset.sum_ite_mem, Finset.inter_eq_right.mpr (fun j hj => by simp only [Finset.mem_Ico, Finset.mem_range] at *; omega),
    Finset.sum_Ico_eq_sum_range]
  simp

/-- The score of a key against a query on map `h`, in base-two logarithms. -/
def sc (Q K : ℕ → ℕ → ℝ) (h κ t : ℕ) : ℝ := ∑ e ∈ Finset.range 32, K κ (32 * h + e) * Q t (32 * h + e)

/-- A block's scores. -/
theorem score_apply {Q K : ℕ → ℕ → ℝ} (arg4 : Memref sig .tc .vmem S512x256 .bf16) (harg4 : arg4.IsWhole) (x2 : Vec Ideal S512x256 .bf16)
    (hq : ∀ (t : Fin 512) (j : Fin 256), x2 (ix2 t j) = (Q t.val j.val : EReal)) (kc : Vec Ideal S256x256 .bf16) (k0 : ℕ)
    (hk : ∀ (x j : Fin 256), kc (ix2 x j) = (K (k0 + x.val) j.val : EReal)) (h : ℕ) (hh : h < 8) (x : Fin 256) (t : Fin 512) :
    score h hh kc (qPay arg4 harg4 x2 h hh) (ix2 x t) = (sc Q K h (k0 + x.val) t.val : EReal) := by
  unfold score
  refine (Ideal.matmul_transposedRhs_apply none _ _ _ x t).trans ?_
  have h0 : (constant S256x512 .f32 0#32 : FVec Ideal S256x512 .f32) (ix2 x t) = 0 := Ideal.ofBits_zero_f32
  rw [h0, zero_add]
  have hterm : ∀ j : Fin 128, (extractStridedSlice S256x128 ![0, 128 * (h / 4)] kc (slicesK h hh) (ix2 x j) : EReal)
      * shapeCast S512x128 (qPay arg4 harg4 x2 h hh) shapeCasts_S1x512x128_S512x128 (ix2 t j)
      = ((K (k0 + x.val) (128 * (h / 4) + j.val)
          * (if 32 * (h % 4) ≤ j.val ∧ j.val < 32 * (h % 4) + 32 then Q t.val (128 * (h / 4) + j.val) else 0) : ℝ) : EReal) := fun j => by
    rw [EReal.coe_mul]
    refine congrArg₂ (· * ·) ?_ ?_
    · exact (slice2_axis1_apply (128 * (h / 4)) kc _ x j ⟨128 * (h / 4) + j.val, by omega⟩ rfl).trans (hk _ _)
    · refine (shapeCast_1ab_ab_apply _ _ t j).trans ((qPay_apply arg4 harg4 x2 h hh t j).trans ?_)
      split_ifs
      · exact hq _ _
      · rfl
  rw [Finset.sum_congr rfl fun j _ => hterm j, ← coe_sum]
  refine congrArg _ ?_
  refine (sum_mask (h % 4) (Nat.mod_lt _ (by decide)) (fun j => K (k0 + x.val) (128 * (h / 4) + j)) fun j => Q t.val (128 * (h / 4) + j)).trans ?_
  unfold sc
  refine Finset.sum_congr rfl fun e _ => ?_
  have : 128 * (h / 4) + (32 * (h % 4) + e) = 32 * h + e := by omega
  simp only [this]

end Cert.KernelIdeal.Attn

end
-- ==== Proof.Tile.lean ====
/- A whole tile of queries: after the loop and the context's block, each row's sum and accumulator are the sums over all
   8448 keys. -/
module

public import proofs.«01_k».proof.Proof.Masked

@[expose] public section

set_option maxRecDepth 16384

noncomputable section

namespace Cert.KernelIdeal.Attn

open Idealize.ShloMosaic Idealize.ShloMosaic.ValueIdx Cert.KernelIdeal Cert.KernelIdeal.Gen

/-- Where a trip's key block begins. -/
theorem off1_val (k : Fin k0_t1_loop.trips) (c : Fin 8) :
    k0_off1 k (BitVec.ofNat 32 c.val) 0 = 256 * (8 * k.val + c.val) ∧ k0_off1 k (BitVec.ofNat 32 c.val) 1 = 0 := by
  revert k c; decide +kernel

/-- Where a trip's value block begins. -/
theorem off2_val (k : Fin k0_t1_loop.trips) (c : Fin 8) :
    k0_off2 k (BitVec.ofNat 32 c.val) 0 = 0 ∧ k0_off2 k (BitVec.ofNat 32 c.val) 1 = 256 * (8 * k.val + c.val) := by
  revert k c; decide +kernel

theorem trips_eq : k0_t1_loop.trips = 4 := by decide

variable {Q K V : ℕ → ℕ → ℝ}

/-- Row `h`'s property for the tile: its scores and the value columns of its head. -/
def TileI (Q K V : ℕ → ℕ → ℝ) (N h : ℕ) (m l : Vec Ideal S1x1x512 .f32) (a : Vec Ideal S1x64x512 .f32) : Prop :=
  RowI (fun κ t => sc Q K h κ t.val) (fun κ d => V κ (64 * (h / 2) + d.val)) N m l a

/-- Blocks that hold the keys and values from `256 b` on carry the property. -/
theorem carries (b : ℕ) (kc vc : ℕ → Vec Ideal S256x256 .bf16) (qm : (h : ℕ) → h < 8 → Vec Ideal S1x512x128 .bf16)
    (arg4 : Memref sig .tc .vmem S512x256 .bf16) (harg4 : arg4.IsWhole) (x2 : Vec Ideal S512x256 .bf16)
    (hq : ∀ (t : Fin 512) (j : Fin 256), x2 (ix2 t j) = (Q t.val j.val : EReal))
    (hqm : ∀ h hh, qm h hh = qPay arg4 harg4 x2 h hh) (n : ℕ)
    (hk : ∀ c < n, ∀ (x j : Fin 256), kc c (ix2 x j) = (K (256 * (b + c) + x.val) j.val : EReal))
    (hv : ∀ c < n, ∀ (j x : Fin 256), vc c (ix2 j x) = (V (256 * (b + c) + x.val) j.val : EReal)) (c h : ℕ) (hh : h < 8)
    (m l : Vec Ideal S1x1x512 .f32) (a : Vec Ideal S1x64x512 .f32) (hc : c < n) (H : TileI Q K V (b + c) h m l a) :
    TileI Q K V (b + c + 1) h (stepM (F := Ideal) (score h hh (kc c) (qm h hh)) m) (stepL (F := Ideal) (score h hh (kc c) (qm h hh)) m l)
      (stepA (F := Ideal) h hh (vc c) (score h hh (kc c) (qm h hh)) m a) :=
  RowI.step h hh (vc c)
    (fun x t => by rw [hqm]; exact score_apply arg4 harg4 x2 hq (kc c) (256 * (b + c)) (hk c hc) h hh x t)
    (fun x d => hv c hc _ x) H

section Run

variable (c : Dev nD) (i : grid0.Coords)
  (arg2 : Memref sig .tc .vmem S4x32 .f32) (harg2 : arg2.IsWhole) (arg3 : Memref sig .tc .vmem S64x512 .f32) (harg3 : arg3.IsWhole)
  (arg4 : Memref sig .tc .vmem S512x256 .bf16) (harg4 : arg4.IsWhole) (arg5 : Memref sig .tc .vmem S8192x256 .bf16) (harg5 : arg5.IsWhole)
  (arg6 : Memref sig .tc .vmem S256x8192 .bf16) (harg6 : arg6.IsWhole) (arg7 : Memref sig .tc .vmem S256x256 .bf16) (harg7 : arg7.IsWhole)
  (arg8 : Memref sig .tc .vmem S256x256 .bf16) (harg8 : arg8.IsWhole) (arg9 : Memref sig .tc .vmem S512x256 .bf16) (harg9 : arg9.IsWhole)
  (arg10 : Memref sig .tc .vmem S8x512x128 .bf16) (harg10 : arg10.IsWhole) (arg11 : Memref sig .tc .vmem S8x1x512 .f32) (harg11 : arg11.IsWhole)
  (arg12 : Memref sig .tc .vmem S8x1x512 .f32) (harg12 : arg12.IsWhole) (arg13 : Memref sig .tc .vmem S8x64x512 .f32) (harg13 : arg13.IsWhole)
  (x2 : Vec Ideal S512x256 .bf16) (x3 : Vec Ideal S8192x256 .bf16) (x4 : Vec Ideal S256x8192 .bf16)
  (x5 : Vec Ideal S256x256 .bf16) (x6 : Vec Ideal S256x256 .bf16)

/-- What the scratch buffers hold before the first block: `⊥`, `0` and `0`. -/
theorem initial (h : ℕ) (hh : h < 8) : TileI Q K V 0 h
    (readM (F := Ideal) arg11 arg11.view.junk (kernelRun0_A.sl.HS1_1) h hh)
    (readM (F := Ideal) arg12 arg12.view.junk (kernelRun0_A.sl.HS2_1) h hh)
    (readA (F := Ideal) arg13 arg13.view.junk (kernelRun0_A.sl.HS3_1) h hh) := by
  refine Or.inl ⟨rfl, fun t => ?_, fun t => ?_, fun d t => ?_⟩
  · have hm : (Named.named κ "mask" 0xF149F2CA#32 : Ideal .f32) = (⊥ : EReal) :=
      IdealRules.named_const.ideal_named_scalar _ _ _ _ rfl
    refine Eq.trans ?_ hm
    unfold readM kernelRun0_A.sl.HS1_1
    rw [View.readAt_apply]
    exact View.read_writes_cons_unit_of_mem arg11.view _ _ _ _ _ (ix3 ⟨h, hh⟩ 0 t) rfl (fun a => by
      match a with | ⟨0, _⟩ => simp [LoadRect.idx, Rect.toLoadRect, Rect.unit, ix3]
                   | ⟨1, _⟩ => simp [LoadRect.idx, Rect.toLoadRect, Rect.unit, ix3]
                   | ⟨2, _⟩ => simp [LoadRect.idx, Rect.toLoadRect, Rect.unit, ix3])
  · refine Eq.trans ?_ Ideal.ofBits_zero_f32
    unfold readM kernelRun0_A.sl.HS2_1
    rw [View.readAt_apply]
    exact View.read_writes_cons_unit_of_mem arg12.view _ _ _ _ _ (ix3 ⟨h, hh⟩ 0 t) rfl (fun a => by
      match a with | ⟨0, _⟩ => simp [LoadRect.idx, Rect.toLoadRect, Rect.unit, ix3]
                   | ⟨1, _⟩ => simp [LoadRect.idx, Rect.toLoadRect, Rect.unit, ix3]
                   | ⟨2, _⟩ => simp [LoadRect.idx, Rect.toLoadRect, Rect.unit, ix3])
  · refine Eq.trans ?_ Ideal.ofBits_zero_f32
    unfold readA kernelRun0_A.sl.HS3_1
    rw [View.readAt_apply]
    exact View.read_writes_cons_unit_of_mem arg13.view _ _ _ _ _ (ix3 ⟨h, hh⟩ d t) rfl (fun a => by
      match a with | ⟨0, _⟩ => simp [LoadRect.idx, Rect.toLoadRect, Rect.unit, ix3]
                   | ⟨1, _⟩ => simp [LoadRect.idx, Rect.toLoadRect, Rect.unit, ix3]
                   | ⟨2, _⟩ => simp [LoadRect.idx, Rect.toLoadRect, Rect.unit, ix3])

/-- Every row after all the keys. -/
theorem tile_rows
    (hq : ∀ (t : Fin 512) (j : Fin 256), x2 (ix2 t j) = (Q t.val j.val : EReal))
    (hk : ∀ (x : Fin 8192) (j : Fin 256), x3 (ix2 x j) = (K x.val j.val : EReal))
    (hv : ∀ (j : Fin 256) (x : Fin 8192), x4 (ix2 j x) = (V x.val j.val : EReal))
    (hkx : ∀ (x j : Fin 256), x5 (ix2 x j) = (K (8192 + x.val) j.val : EReal))
    (hvx : ∀ (j x : Fin 256), x6 (ix2 j x) = (V (8192 + x.val) j.val : EReal)) (h : ℕ) (hh : h < 8) :
    ∃ m, TileI Q K V 33 h m
      (readM arg12 arg12.view.junk (kernelRun0_A.sl.HS2_8 c i arg2 harg2 arg3 harg3 arg4 harg4 arg5 harg5 arg6 harg6 arg7 harg7 arg8 harg8
        arg9 harg9 arg10 harg10 arg11 harg11 arg12 harg12 arg13 harg13 x2 x3 x4 x5) h hh)
      (readA arg13 arg13.view.junk (kernelRun0_A.sl.HS3_8 c i arg2 harg2 arg3 harg3 arg4 harg4 arg5 harg5 arg6 harg6 arg7 harg7 arg8 harg8
        arg9 harg9 arg10 harg10 arg11 harg11 arg12 harg12 arg13 harg13 x2 x3 x4 x5 x6) h hh) := by
  refine Exists.elim (epilogue_inv (F := Ideal) c i arg2 harg2 arg3 harg3 arg4 harg4 arg5 harg5 arg6 harg6 arg7 harg7 arg8 harg8
    arg9 harg9 arg10 harg10 arg11 harg11 arg12 harg12 arg13 harg13 x2 x3 x4 x5 x6 (I := fun N h m l a => N ≤ 33 → TileI Q K V N h m l a)
    (fun k => ?_) ?_ (fun h hh _ => initial arg11 arg12 arg13 h hh) h hh) fun m hm => ⟨m, hm le_rfl⟩
  · have hkb : k.val < 4 := lt_of_lt_of_eq k.isLt trips_eq
    intro c' h' hh' m l a hc' H hN
    refine carries (8 * k.val) _ _ _ arg4 harg4 x2 hq (fun h hh => qRow_eq c arg4 harg4 arg10 x2 h hh) 8 (fun c hc x j => ?_) (fun c hc j x => ?_)
      c' h' hh' m l a hc' (H (by omega))
    · have hx : 256 * (8 * k.val + c) + x.val < 8192 := by omega
      have ho := off1_val k (Fin.ofNat 8 c)
      have hcv : (Fin.ofNat 8 c).val = c := Nat.mod_eq_of_lt hc
      unfold keyBlk
      rw [← hk ⟨_, hx⟩ j]
      refine read_whole2 arg5 harg5 x3 _ x j _ _ ?_ ?_
      · rw [ho.1, hcv]
      · rw [ho.2, Nat.zero_add]
    · have hx : 256 * (8 * k.val + c) + x.val < 8192 := by omega
      have ho := off2_val k (Fin.ofNat 8 c)
      have hcv : (Fin.ofNat 8 c).val = c := Nat.mod_eq_of_lt hc
      unfold valBlk
      rw [← hv j ⟨_, hx⟩]
      refine read_whole2 arg6 harg6 x4 _ j x _ _ ?_ ?_
      · rw [ho.1, Nat.zero_add]
      · rw [ho.2, hcv]
  · intro c' h' hh' m l a _ H hN
    have hc0 : c' = 0 := by omega
    subst hc0
    refine carries 32 (ctxBlk arg7 harg7 x5) (ctxBlk arg8 harg8 x6) _ arg4 harg4 x2 hq (fun h hh => qRow_eq c arg4 harg4 arg10 x2 h hh) 1
      (fun c hc x j => ?_) (fun c hc j x => ?_) 0 h' hh' m l a (by decide) (H (by decide))
    · obtain rfl : c = 0 := by omega
      rw [show 256 * (32 + 0) = 8192 from rfl, ← hkx x j]
      exact read_whole2 arg7 harg7 x5 _ x j x j (by simp) (by simp)
    · obtain rfl : c = 0 := by omega
      rw [show 256 * (32 + 0) = 8192 from rfl, ← hvx j x]
      exact read_whole2 arg8 harg8 x6 _ j x j x (by simp) (by simp)

end Run

end Cert.KernelIdeal.Attn

end
-- ==== Proof.Finish.lean ====
/- What the kernel stores of a tile: per head the difference of the two maps' attention, its norm over the 64 columns, the
   gain and the constant factor. -/
module

public import proofs.«01_k».proof.Proof.Tile

@[expose] public section

set_option maxRecDepth 16384

noncomputable section

namespace Cert.KernelIdeal.Attn

open Idealize.ShloMosaic Idealize.ShloMosaic.ValueIdx Cert.KernelIdeal Cert.KernelIdeal.Gen

section Terms
variable {F : FTy → Type} [FloatOps F] [Named F]

/-- The quotient of an accumulator by its sums. -/
def quot (a : Vec F S1x64x512 .f32) (l : Vec F S1x1x512 .f32) : FVec F S64x512 .f32 :=
  divf (shapeCast S64x512 a shapeCasts_S1x64x512_S64x512)
    (broadcastTo S64x512 (shapeCast S1x512 l shapeCasts_S1x1x512_S1x512) broadcasts_S1x512_S64x512)

/-- The differential attention of one head. -/
def diffHead (lam : FVec F S1x1 .f32) (a : ℕ → Vec F S1x64x512 .f32) (l : ℕ → Vec F S1x1x512 .f32) (h : ℕ) : FVec F S64x512 .f32 :=
  subf (quot (a (2 * h)) (l (2 * h))) (mulf (broadcastTo S64x512 lam broadcasts_S1x1_S64x512) (quot (a (2 * h + 1)) (l (2 * h + 1))))

/-- The norm of one head, its gain and the constant factor. -/
def normHead (o : FVec F S64x512 .f32) (g : Vec F S64x512 .f32) : FVec F S64x512 .f32 :=
  mulf (mulf (mulf o (broadcastTo S64x512 (rsqrt (addf (divf (shapeCast S1x512
      (multiReduction .add [0] S512 (mulf o o) 0x00000000#32 reduces_S64x512_S512 (.inl rfl) rfl) shapeCasts_S512_S1x512)
      (broadcast S1x512 (Scalar.ofBits .f32 0x42800000#32))) (broadcast S1x512 (Scalar.ofBits .f32 0x358637BD#32)))) broadcasts_S1x512_S64x512))
    (shapeCast S64x512 g shapeCasts_S64x512_S64x512)) (broadcast S64x512 (Scalar.ofBits .f32 0x3F4CCCCD#32))

/-- The four heads side by side, one row to a query. -/
def joined (o : ℕ → FVec F S64x512 .f32) : FVec F S512x256 .bf16 :=
  truncf .bf16 (transpose S512x256 [1, 0] (concatenate S256x512 0 [⟨S64x512, o 0⟩, ⟨S64x512, o 1⟩, ⟨S64x512, o 2⟩, ⟨S64x512, o 3⟩]
    concatenates_S64x512_S64x512_S64x512_S64x512_S256x512_d0) transposes_S256x512_p1_0_S512x256) bitsLt_bf16_f32

variable (c : Dev nD) (i : grid0.Coords)
  (arg2 : Memref sig .tc .vmem S4x32 .f32) (harg2 : arg2.IsWhole) (arg3 : Memref sig .tc .vmem S64x512 .f32) (harg3 : arg3.IsWhole)
  (arg4 : Memref sig .tc .vmem S512x256 .bf16) (harg4 : arg4.IsWhole) (arg5 : Memref sig .tc .vmem S8192x256 .bf16) (harg5 : arg5.IsWhole)
  (arg6 : Memref sig .tc .vmem S256x8192 .bf16) (harg6 : arg6.IsWhole) (arg7 : Memref sig .tc .vmem S256x256 .bf16) (harg7 : arg7.IsWhole)
  (arg8 : Memref sig .tc .vmem S256x256 .bf16) (harg8 : arg8.IsWhole) (arg9 : Memref sig .tc .vmem S512x256 .bf16) (harg9 : arg9.IsWhole)
  (arg10 : Memref sig .tc .vmem S8x512x128 .bf16) (harg10 : arg10.IsWhole) (arg11 : Memref sig .tc .vmem S8x1x512 .f32) (harg11 : arg11.IsWhole)
  (arg12 : Memref sig .tc .vmem S8x1x512 .f32) (harg12 : arg12.IsWhole) (arg13 : Memref sig .tc .vmem S8x64x512 .f32) (harg13 : arg13.IsWhole)
  (x0 : Vec F S4x32 .f32) (x1 : Vec F S64x512 .f32) (x2 : Vec F S512x256 .bf16) (x3 : Vec F S8192x256 .bf16) (x4 : Vec F S256x8192 .bf16)
  (x5 : Vec F S256x256 .bf16) (x6 : Vec F S256x256 .bf16)

/-- The sums of row `h` at the end (of row 0 for an `h` beyond the last). -/
def sumRow (h : ℕ) : Vec F S1x1x512 .f32 :=
  readM arg12 arg12.view.junk (kernelRun0_A.sl.HS2_8 c i arg2 harg2 arg3 harg3 arg4 harg4 arg5 harg5 arg6 harg6 arg7 harg7 arg8 harg8
    arg9 harg9 arg10 harg10 arg11 harg11 arg12 harg12 arg13 harg13 x2 x3 x4 x5) (h % 8) (Nat.mod_lt _ (by decide))

/-- The accumulators of row `h` at the end (of row 0 for an `h` beyond the last). -/
def accRow (h : ℕ) : Vec F S1x64x512 .f32 :=
  readA arg13 arg13.view.junk (kernelRun0_A.sl.HS3_8 c i arg2 harg2 arg3 harg3 arg4 harg4 arg5 harg5 arg6 harg6 arg7 harg7 arg8 harg8
    arg9 harg9 arg10 harg10 arg11 harg11 arg12 harg12 arg13 harg13 x2 x3 x4 x5 x6) (h % 8) (Nat.mod_lt _ (by decide))

set_option maxHeartbeats 4000000 in
/-- The one store of the output block. -/
theorem out_pieces : (kernelRun0_A c i arg2 harg2 arg3 harg3 arg4 harg4 arg5 harg5 arg6 harg6 arg7 harg7 arg8 harg8
      arg9 harg9 arg10 harg10 arg11 harg11 arg12 harg12 arg13 harg13 x0 x1 x2 x3 x4 x5 x6).1
    = [⟨Rect.unit ![0, 0] ![512, 256] inb_S512x256_S512x256_0_0, joined fun h => normHead (diffHead (kernelRun0_A.sl.v425 c arg2 harg2 x0)
        (accRow c i arg2 harg2 arg3 harg3 arg4 harg4 arg5 harg5 arg6 harg6 arg7 harg7 arg8 harg8
          arg9 harg9 arg10 harg10 arg11 harg11 arg12 harg12 arg13 harg13 x2 x3 x4 x5 x6)
        (sumRow c i arg2 harg2 arg3 harg3 arg4 harg4 arg5 harg5 arg6 harg6 arg7 harg7 arg8 harg8
          arg9 harg9 arg10 harg10 arg11 harg11 arg12 harg12 arg13 harg13 x2 x3 x4 x5) h)
        (arg3.view.readAt (Elt F) (Rect.unit (s := S64x512) ![0, 0] S64x512.size inb_S64x512_S64x512_0_0).toLoadRect (harg3.unread x1))⟩] := by
  rfl

end Terms

end Cert.KernelIdeal.Attn

end
-- ==== Proof.Joined.lean ====
/- The four heads of a tile, joined along the columns: column `64 h + d` of the block is column `d` of head `h`. -/
module

public import proofs.«01_k».proof.Proof.Finish
import Idealize.ShloMosaic.Lib.Pointwise

@[expose] public section

set_option maxRecDepth 16384

noncomputable section

namespace Cert.KernelIdeal.Attn

open Idealize.ShloMosaic Cert.KernelIdeal Cert.KernelIdeal.Gen

/-- The joined heads at an index. -/
theorem joined_apply (o : ℕ → FVec Ideal S64x512 .f32) (h : Fin 4) (d : Fin 64) (t : Fin 512) :
    joined o (ValueIdx.ix2 t ⟨64 * h.val + d.val, by omega⟩) = o h.val (ValueIdx.ix2 d t) := by
  unfold joined
  rw [ValueIdx.truncf_apply]
  refine (ValueIdx.transpose_ix2_apply _ _ t _).trans ?_
  rw [concatenate_cons_apply]
  obtain ⟨h, hh⟩ := h
  interval_cases h
  all_goals
    simp only [concatenateAt_cons, concatenateAt_singleton]
    have hd := d.isLt
    have e (p : S256x512.rank = 2) : (![64, 512] : Fin 2 → ℕ) (Fin.cast p 0) = 64 := rfl
    split_ifs with h1 h2 h3
    all_goals
      first
      | (exfalso; simp only [S64x512, e] at *; omega)
      | (refine congrArg (o _) (funext fun ax => Fin.ext ?_)
         match ax with
         | ⟨0, _⟩ => simp [Shape.Idx.norm, ValueIdx.ix2, S64x512, e]; try omega
         | ⟨1, _⟩ => rfl)

end Cert.KernelIdeal.Attn

end
-- ==== Proof.BlockValue.lean ====
/- The output block over the extended reals: at query `t` and column `64 h + d`, the normalised difference of the two
   attention averages of head `h`. -/
module

public import proofs.«01_k».proof.Proof.Joined

@[expose] public section

set_option maxRecDepth 16384

noncomputable section

namespace Cert.KernelIdeal.Attn

open Idealize.ShloMosaic Idealize.ShloMosaic.ValueIdx Cert.KernelIdeal Cert.KernelIdeal.Gen

/-- The norm over 64 columns of `o`, the gain `g` and the constant factor, at column `d`. -/
def normVal (o : Fin 64 → EReal) (g : EReal) (d : Fin 64) : EReal :=
  o d * Ideal.rsqrt (Ideal.div (∑ e, o e * o e) (Ideal.ofBits .f32 0x42800000#32) + Ideal.ofBits .f32 0x358637BD#32) * g
    * Ideal.ofBits .f32 0x3F4CCCCD#32

/-- The weight of the second map from its four vectors. -/
def lamVal (p q r s : Fin 32 → EReal) : EReal :=
  Ideal.exp (∑ e, p e * q e) - Ideal.exp (∑ e, r e * s e) + Ideal.ofBits .f32 0x3E4CCCCD#32

/-- The attention average of map `h`: the values' mean under the weights `2 ^ score` of all 8448 keys. -/
def att (Q K V : ℕ → ℕ → ℝ) (h d t : ℕ) : ℝ :=
  (∑ κ ∈ Finset.range 8448, Real.rpow 2 (sc Q K h κ t) * V κ (64 * (h / 2) + d)) / ∑ κ ∈ Finset.range 8448, Real.rpow 2 (sc Q K h κ t)

/-- The quotient does not depend on the maximum taken out. -/
theorem att_eq (Q K V : ℕ → ℕ → ℝ) (h d t : ℕ) (μ : ℝ) :
    (∑ κ ∈ Finset.range 8448, wt (sc Q K h κ t) μ * V κ (64 * (h / 2) + d)) / ∑ κ ∈ Finset.range 8448, wt (sc Q K h κ t) μ
      = att Q K V h d t := by
  have hw : ∀ s, wt s μ = Real.rpow 2 (-μ) * Real.rpow 2 s := fun s => by
    show (2 : ℝ) ^ (s - μ) = (2 : ℝ) ^ (-μ) * (2 : ℝ) ^ s
    rw [← Real.rpow_add (by norm_num)]; congr 1; ring
  simp only [hw, mul_assoc, ← Finset.mul_sum]
  exact mul_div_mul_left _ _ (Real.rpow_pos_of_pos (by norm_num) _).ne'

/-- The quotient of a finished row. -/
theorem quot_apply {Q K V : ℕ → ℕ → ℝ} {h : ℕ} {m l : Vec Ideal S1x1x512 .f32} {a : Vec Ideal S1x64x512 .f32}
    (H : TileI Q K V 33 h m l a) (d : Fin 64) (t : Fin 512) : quot a l (ix2 d t) = (att Q K V h d.val t.val : EReal) := by
  rcases H with ⟨h0, _⟩ | ⟨μ, _, hl, ha⟩
  · exact absurd h0 (by decide)
  have e : quot a l (ix2 d t) = Ideal.div (a (ix3 0 d t)) (l (ix3 0 0 t)) := by
    unfold quot
    rw [divf_apply]
    refine congrArg₂ Ideal.div (shapeCast_1ab_ab_apply a _ d t) ?_
    exact (broadcastTo_1b_ab_apply _ _ d t).trans (shapeCast_1ab_ab_apply l _ 0 t)
  have hpos : (0 : ℝ) < ∑ κ ∈ Finset.range (256 * 33), wt (sc Q K h κ t.val) (μ t) :=
    Finset.sum_pos (fun _ _ => wt_pos _ _) ⟨0, by simp⟩
  rw [e, hl, ha, Ideal.div_coe hpos.ne', ← EReal.coe_mul, mul_one_div]
  exact congrArg _ (att_eq Q K V h d.val t.val (μ t))

/-- The norm of one head at an index. -/
theorem normHead_apply (o : FVec Ideal S64x512 .f32) (g : Vec Ideal S64x512 .f32) (d : Fin 64) (t : Fin 512) :
    normHead o g (ix2 d t) = normVal (fun e => o (ix2 e t)) (g (ix2 d t)) d := by
  have hsum : shapeCast S1x512 (multiReduction .add [0] S512 (mulf o o) 0x00000000#32 reduces_S64x512_S512 (.inl rfl) rfl)
      shapeCasts_S512_S1x512 (ix2 0 t) = (∑ e : Fin 64, o (ix2 e t) * o (ix2 e t) : EReal) := by
    refine (shapeCast_a_1a_apply _ _ 0 t).trans ?_
    refine (Ideal.multiReduction_add_single _ _ _ _ _ _).trans ?_
    refine Finset.sum_congr rfl fun x _ => congrArg (mulf o o) (funext fun ax => ?_)
    match ax with | ⟨0, _⟩ => rfl | ⟨1, _⟩ => rfl
  unfold normHead normVal
  rw [mulf_apply, mulf_apply, mulf_apply]
  refine congrArg₂ (· * ·) (congrArg₂ (· * ·) (congrArg₂ (· * ·) rfl ?_) ?_) rfl
  · refine (broadcastTo_1b_ab_apply _ _ d t).trans ?_
    show Ideal.rsqrt (Ideal.div (shapeCast S1x512 _ shapeCasts_S512_S1x512 (ix2 0 t)) _ + _) = _
    rw [hsum]; rfl
  · exact congrFun (shapeCast_self g _) _

/-- The difference of the two maps at an index. -/
theorem diffHead_apply {Q K V : ℕ → ℕ → ℝ} {lam : FVec Ideal S1x1 .f32} {lr : ℝ} (hlam : lam (ix2 0 0) = (lr : EReal))
    {a : ℕ → Vec Ideal S1x64x512 .f32} {l : ℕ → Vec Ideal S1x1x512 .f32} (h : ℕ)
    (H0 : ∃ m, TileI Q K V 33 (2 * h) m (l (2 * h)) (a (2 * h)))
    (H1 : ∃ m, TileI Q K V 33 (2 * h + 1) m (l (2 * h + 1)) (a (2 * h + 1))) (d : Fin 64) (t : Fin 512) :
    diffHead lam a l h (ix2 d t) = ((att Q K V (2 * h) d.val t.val - lr * att Q K V (2 * h + 1) d.val t.val : ℝ) : EReal) := by
  obtain ⟨_, H0⟩ := H0
  obtain ⟨_, H1⟩ := H1
  unfold diffHead
  rw [subf_apply, mulf_apply, quot_apply H0, quot_apply H1, EReal.coe_sub, EReal.coe_mul]
  refine congrArg (_ - ·) (congrArg (· * _) ?_)
  refine Eq.trans (congrArg lam (funext fun ax => ?_)) hlam
  match ax with | ⟨0, _⟩ => rfl | ⟨1, _⟩ => rfl

/-- The sum of the products of two rows. -/
theorem dot_apply (p q : Vec Ideal S1x32 .f32) :
    shapeCast S1x1 (multiReduction (F := Ideal) .add [1] S1 (mulf (shapeCast S1x32 p shapeCasts_S1x32_S1x32) (shapeCast S1x32 q shapeCasts_S1x32_S1x32))
      0x00000000#32 reduces_S1x32_S1 (.inl rfl) rfl) shapeCasts_S1_S1x1 (ix2 0 0) = (∑ e : Fin 32, p (ix2 0 e) * q (ix2 0 e) : EReal) := by
  rw [shapeCast_self, shapeCast_self]
  refine (shapeCast_a_1a_apply _ _ 0 0).trans ?_
  refine (Ideal.multiReduction_add_single _ _ _ _ _ _).trans ?_
  refine Finset.sum_congr rfl fun x _ => congrArg (mulf (F := Ideal) p q) (funext fun ax => ?_)
  match ax with | ⟨0, _⟩ => rfl | ⟨1, _⟩ => rfl

/-- The weight of the second map as the kernel computes it from the four vectors. -/
def lamv (p q r s : Vec Ideal S1x32 .f32) : FVec Ideal S1x1 .f32 :=
  addf (subf (exp (shapeCast S1x1 (multiReduction (F := Ideal) .add [1] S1 (mulf (shapeCast S1x32 p shapeCasts_S1x32_S1x32)
      (shapeCast S1x32 q shapeCasts_S1x32_S1x32)) 0x00000000#32 reduces_S1x32_S1 (.inl rfl) rfl) shapeCasts_S1_S1x1))
    (exp (shapeCast S1x1 (multiReduction (F := Ideal) .add [1] S1 (mulf (shapeCast S1x32 r shapeCasts_S1x32_S1x32)
      (shapeCast S1x32 s shapeCasts_S1x32_S1x32)) 0x00000000#32 reduces_S1x32_S1 (.inl rfl) rfl) shapeCasts_S1_S1x1)))
    (broadcast S1x1 (Scalar.ofBits .f32 0x3E4CCCCD#32))

/-- The kernel's weight of the second map. -/
theorem lam_apply (c : Dev nD) (arg2 : Memref sig .tc .vmem S4x32 .f32) (harg2 : arg2.IsWhole) (x0 : Vec Ideal S4x32 .f32) :
    kernelRun0_A.sl.v425 c arg2 harg2 x0 (ix2 0 0)
      = lamVal (fun e => x0 (ix2 0 e)) (fun e => x0 (ix2 1 e)) (fun e => x0 (ix2 2 e)) (fun e => x0 (ix2 3 e)) := by
  have r : ∀ (n : Fin 4) (inb : _) (e : Fin 32), arg2.view.readAt (Elt Ideal) (Rect.unit (s := S4x32) ![n.val, 0] S1x32.size inb).toLoadRect
      (harg2.unread x0) (ix2 0 e) = x0 (ix2 n e) := fun n inb e =>
    read_whole2 arg2 harg2 x0 inb 0 e n e (by simp) (by simp)
  show lamv (arg2.view.readAt (Elt Ideal) (Rect.unit (s := S4x32) ![0, 0] S1x32.size inb_S4x32_S1x32_0_0).toLoadRect (harg2.unread x0))
    (arg2.view.readAt (Elt Ideal) (Rect.unit (s := S4x32) ![1, 0] S1x32.size inb_S4x32_S1x32_1_0).toLoadRect (harg2.unread x0))
    (arg2.view.readAt (Elt Ideal) (Rect.unit (s := S4x32) ![2, 0] S1x32.size inb_S4x32_S1x32_2_0).toLoadRect (harg2.unread x0))
    (arg2.view.readAt (Elt Ideal) (Rect.unit (s := S4x32) ![3, 0] S1x32.size inb_S4x32_S1x32_3_0).toLoadRect (harg2.unread x0)) (ix2 0 0) = _
  unfold lamv lamVal
  refine congrArg₂ (· + ·) (congrArg₂ (· - ·) (congrArg Ideal.exp ((dot_apply _ _).trans ?_)) (congrArg Ideal.exp ((dot_apply _ _).trans ?_))) rfl
  · exact Finset.sum_congr rfl fun e _ => congrArg₂ (· * ·) (r 0 _ e) (r 1 _ e)
  · exact Finset.sum_congr rfl fun e _ => congrArg₂ (· * ·) (r 2 _ e) (r 3 _ e)

section Block

variable (c : Dev nD) (i : grid0.Coords)
  (arg2 : Memref sig .tc .vmem S4x32 .f32) (harg2 : arg2.IsWhole) (arg3 : Memref sig .tc .vmem S64x512 .f32) (harg3 : arg3.IsWhole)
  (arg4 : Memref sig .tc .vmem S512x256 .bf16) (harg4 : arg4.IsWhole) (arg5 : Memref sig .tc .vmem S8192x256 .bf16) (harg5 : arg5.IsWhole)
  (arg6 : Memref sig .tc .vmem S256x8192 .bf16) (harg6 : arg6.IsWhole) (arg7 : Memref sig .tc .vmem S256x256 .bf16) (harg7 : arg7.IsWhole)
  (arg8 : Memref sig .tc .vmem S256x256 .bf16) (harg8 : arg8.IsWhole) (arg9 : Memref sig .tc .vmem S512x256 .bf16) (harg9 : arg9.IsWhole)
  (arg10 : Memref sig .tc .vmem S8x512x128 .bf16) (harg10 : arg10.IsWhole) (arg11 : Memref sig .tc .vmem S8x1x512 .f32) (harg11 : arg11.IsWhole)
  (arg12 : Memref sig .tc .vmem S8x1x512 .f32) (harg12 : arg12.IsWhole) (arg13 : Memref sig .tc .vmem S8x64x512 .f32) (harg13 : arg13.IsWhole)
  (x0 : Vec Ideal S4x32 .f32) (x1 : Vec Ideal S64x512 .f32) (x2 : Vec Ideal S512x256 .bf16) (x3 : Vec Ideal S8192x256 .bf16)
  (x4 : Vec Ideal S256x8192 .bf16) (x5 : Vec Ideal S256x256 .bf16) (x6 : Vec Ideal S256x256 .bf16)
  {Q K V : ℕ → ℕ → ℝ} {lr : ℝ}

/-- What a tile's store holds at query `t` and column `64 h + d`: the norm of the difference of the two averages of head `h`. -/
theorem block_apply (v : View sig .tc .vmem S512x256 .bf16)
    (hlam : lamVal (fun e => x0 (ix2 0 e)) (fun e => x0 (ix2 1 e)) (fun e => x0 (ix2 2 e)) (fun e => x0 (ix2 3 e)) = (lr : EReal))
    (hq : ∀ (t : Fin 512) (j : Fin 256), x2 (ix2 t j) = (Q t.val j.val : EReal))
    (hk : ∀ (x : Fin 8192) (j : Fin 256), x3 (ix2 x j) = (K x.val j.val : EReal))
    (hv : ∀ (j : Fin 256) (x : Fin 8192), x4 (ix2 j x) = (V x.val j.val : EReal))
    (hkx : ∀ (x j : Fin 256), x5 (ix2 x j) = (K (8192 + x.val) j.val : EReal))
    (hvx : ∀ (j x : Fin 256), x6 (ix2 j x) = (V (8192 + x.val) j.val : EReal)) (h : Fin 4) (d : Fin 64) (t : Fin 512) :
    v.read (Elt Ideal) (v.writes (Elt Ideal) v.junk (kernelRun0_A c i arg2 harg2 arg3 harg3 arg4 harg4 arg5 harg5 arg6 harg6 arg7 harg7
        arg8 harg8 arg9 harg9 arg10 harg10 arg11 harg11 arg12 harg12 arg13 harg13 x0 x1 x2 x3 x4 x5 x6).1) (ix2 t ⟨64 * h.val + d.val, by omega⟩)
      = normVal (fun e => ((att Q K V (2 * h.val) e.val t.val - lr * att Q K V (2 * h.val + 1) e.val t.val : ℝ) : EReal)) (x1 (ix2 d t)) d := by
  have hrow : ∀ n < 8, ∃ m, TileI Q K V 33 n m
      (sumRow c i arg2 harg2 arg3 harg3 arg4 harg4 arg5 harg5 arg6 harg6 arg7 harg7 arg8 harg8
        arg9 harg9 arg10 harg10 arg11 harg11 arg12 harg12 arg13 harg13 x2 x3 x4 x5 n)
      (accRow c i arg2 harg2 arg3 harg3 arg4 harg4 arg5 harg5 arg6 harg6 arg7 harg7 arg8 harg8
        arg9 harg9 arg10 harg10 arg11 harg11 arg12 harg12 arg13 harg13 x2 x3 x4 x5 x6 n) := fun n hn => by
    have := tile_rows c i arg2 harg2 arg3 harg3 arg4 harg4 arg5 harg5 arg6 harg6 arg7 harg7 arg8 harg8
        arg9 harg9 arg10 harg10 arg11 harg11 arg12 harg12 arg13 harg13 x2 x3 x4 x5 x6 hq hk hv hkx hvx (n % 8) (Nat.mod_lt _ (by decide))
    have e : n % 8 = n := Nat.mod_eq_of_lt hn
    unfold sumRow accRow
    refine Exists.imp (fun m hm => ?_) this
    rwa [show TileI Q K V 33 (n % 8) = TileI Q K V 33 n from by rw [e]] at hm
  rw [out_pieces]
  refine (View.read_writes_cons_unit_of_mem _ _ _ _ _ _ (ix2 t ⟨64 * h.val + d.val, by omega⟩) rfl (fun a => by
    match a with
    | ⟨0, _⟩ => simp [ix2]
    | ⟨1, _⟩ => simp [ix2])).trans ?_
  refine (joined_apply _ h d t).trans ((normHead_apply _ _ d t).trans ?_)
  have hg : arg3.view.readAt (Elt Ideal) (Rect.unit (s := S64x512) ![0, 0] S64x512.size inb_S64x512_S64x512_0_0).toLoadRect (harg3.unread x1) (ix2 d t)
      = x1 (ix2 d t) := read_whole2 arg3 harg3 x1 inb_S64x512_S64x512_0_0 d t d t (by simp) (by simp)
  rw [hg]
  refine congrArg (fun o => normVal o _ d) (funext fun e => ?_)
  exact diffHead_apply ((lam_apply c arg2 harg2 x0).trans hlam) h.val (hrow _ (by omega)) (hrow _ (by omega)) e t

end Block

end Cert.KernelIdeal.Attn

end
-- ==== Proof.HostPart.lean ====
/- What the host code prepares before the call: the four vectors of the second map's weight as rows of one array, and the gain
   as a column repeated over the queries. -/
module

public import proofs.«01_k».proof.Proof.KI.Value
public import Idealize.ShloMosaic.Lib.ValueIdx
public import Idealize.ShloMosaic.Lib.ValueLayout
import Idealize.ShloMosaic.Lib.Pointwise
import Idealize.ShloMosaic.Lib.StableHlo.Run

@[expose] public section

set_option maxRecDepth 16384

noncomputable section

namespace Cert.KernelIdeal.Attn

open Idealize.ShloMosaic Idealize.ShloMosaic.TcCoe Cert.KernelIdeal Cert.KernelIdeal.Gen

variable (m : (ℓ : Loc nD τ sig) → Buf (Elt Ideal) ℓ) (c : Dev nD)

/-- The gain array as the call finds it. -/
theorem gain_apply (d : Fin 64) (t : Fin 512) :
    V m c main_v6 (ValueIdx.ix2 d t) = m ((c : Thread nD τ).loc main_arg4) (ValueIdx.ix1 d) := by
  have e : V m c main_v6 = broadcastInDim S64x512 ![0, 1] bcast_S64x1_S64x512_0_1 (broadcastInDim S64x1 ![0] bcast_S64_S64x1_0
      (m ((c : Thread nD τ).loc main_arg4))) := by
    after_results_simp <;> rfl
  rw [e]
  refine (broadcastInDim_apply _ _ _ (ValueIdx.ix2 d t) (ValueIdx.ix2 d (0 : Fin 1)) fun a => ?_).trans ?_
  · match a with
    | ⟨0, _⟩ => rfl
    | ⟨1, _⟩ => rfl
  refine broadcastInDim_apply _ _ _ (ValueIdx.ix2 d (0 : Fin 1)) (ValueIdx.ix1 d) fun a => ?_
  match a with
  | ⟨0, _⟩ => rfl

/-- The stacked vectors as the call finds them. -/
theorem stack_apply (n : Fin 4) (e : Fin 32) :
    V m c main_v4 (ValueIdx.ix2 n e)
      = (![m ((c : Thread nD τ).loc main_arg0), m ((c : Thread nD τ).loc main_arg1), m ((c : Thread nD τ).loc main_arg2),
          m ((c : Thread nD τ).loc main_arg3)] : Fin 4 → S32.Idx → EReal) n (ValueIdx.ix1 e) := by
  have ev : V m c main_v4 = concatenate S4x32 0 [⟨S1x32, broadcastInDim S1x32 ![1] bcast_S32_S1x32_1 (m ((c : Thread nD τ).loc main_arg0))⟩,
      ⟨S1x32, broadcastInDim S1x32 ![1] bcast_S32_S1x32_1 (m ((c : Thread nD τ).loc main_arg1))⟩,
      ⟨S1x32, broadcastInDim S1x32 ![1] bcast_S32_S1x32_1 (m ((c : Thread nD τ).loc main_arg2))⟩,
      ⟨S1x32, broadcastInDim S1x32 ![1] bcast_S32_S1x32_1 (m ((c : Thread nD τ).loc main_arg3))⟩] concatenates_S1x32_S1x32_S1x32_S1x32_S4x32_d0 := by
    after_results_simp <;> rfl
  rw [ev]
  have hr : ∀ (x : S32.Idx → EReal) (j : S1x32.Idx), (j 1).val = e.val →
      broadcastInDim S1x32 ![1] bcast_S32_S1x32_1 x j = x (ValueIdx.ix1 e) := fun x j hj =>
    broadcastInDim_apply _ _ x j (ValueIdx.ix1 e) fun a => by
      match a with
      | ⟨0, _⟩ => exact hj.symm
  rw [concatenate_cons_apply]
  obtain ⟨n, hn⟩ := n
  interval_cases n
  all_goals
    simp only [concatenateAt_cons, concatenateAt_singleton]
    have k (p : S4x32.rank = 2) : (![1, 32] : Fin 2 → ℕ) (Fin.cast p 0) = 1 := rfl
    split_ifs with h1 h2 h3
    all_goals
      first
      | (exfalso; simp only [S1x32, k] at *; simp [ValueIdx.ix2] at *; done)
      | exact hr _ _ rfl

end Cert.KernelIdeal.Attn

end
-- ==== Proof.Array.lean ====
/- The array the kernel leaves: every index, from the arguments' real values. -/
module

public import proofs.«01_k».proof.Proof.BlockValue
public import proofs.«01_k».proof.Proof.HostPart

@[expose] public section

set_option maxRecDepth 16384

noncomputable section

namespace Cert.KernelIdeal.Attn

open Idealize.ShloMosaic Idealize.ShloMosaic.TcCoe Idealize.ShloMosaic.ValueIdx Cert.KernelIdeal Cert.KernelIdeal.Gen

/-- The row of key `κ` of batch `b`: its 8192 latent rows come first, then its 256 context rows. -/
def keyRow (b κ : ℕ) : ℕ := if κ < 8192 then 8192 * b + κ else 16384 + 256 * b + (κ - 8192)

/-- The attention average of map `h` of batch `b` at its query `s`. -/
def attG (Q K V : ℕ → ℕ → ℝ) (b h d s : ℕ) : ℝ :=
  att (fun s => Q (8192 * b + s)) (fun κ => K (keyRow b κ)) (fun κ => V (keyRow b κ)) h d s

/-- The layer's differential attention at row `r`, head `h` and column `d`. -/
def outVal (Q K V : ℕ → ℕ → ℝ) (lr : ℝ) (g : Fin 64 → EReal) (r h : ℕ) (d : Fin 64) : EReal :=
  normVal (fun e => ((attG Q K V (r / 8192) (2 * h) e.val (r % 8192) - lr * attG Q K V (r / 8192) (2 * h + 1) e.val (r % 8192) : ℝ) : EReal))
    (g d) d

/-- The same as an array. -/
def outArr (Q K V : ℕ → ℕ → ℝ) (lr : ℝ) (g : Fin 64 → EReal) : S16384x256.Idx → EReal := fun y =>
  outVal Q K V lr g (y 0).val ((y 1).val / 64) ⟨(y 1).val % 64, Nat.mod_lt _ (by decide)⟩

/-- The array at an index with row `r` and column `64 h + d`. -/
theorem outArr_apply (Q K V : ℕ → ℕ → ℝ) (lr : ℝ) (g : Fin 64 → EReal) (y : S16384x256.Idx) (r h : ℕ) (d : Fin 64)
    (h0 : (y 0).val = r) (h1 : (y 1).val = 64 * h + d.val) : outArr Q K V lr g y = outVal Q K V lr g r h d := by
  have hd := d.isLt
  have e : (⟨(y 1).val % 64, Nat.mod_lt _ (by decide)⟩ : Fin 64) = d := Fin.ext (by show (y 1).val % 64 = d.val; omega)
  unfold outArr
  rw [e, h0, show (y 1).val / 64 = h by omega]

/-- A tile's averages are those of its batch at its own queries. -/
theorem att_tile (Q K V : ℕ → ℕ → ℝ) (b i h d t : ℕ) :
    att (fun t => Q (8192 * b + 512 * i + t)) (fun κ => K (keyRow b κ)) (fun κ => V (keyRow b κ)) h d t = attG Q K V b h d (512 * i + t) := by
  unfold attG att sc
  simp only [Nat.add_assoc]

section Windows

variable (t : Fin cfg0.N)

theorem index7 : ∀ t : Fin cfg0.N, win0_7.index t 0 = t.val ∧ win0_7.index t 1 = 0 := by decide +kernel
theorem index0 : ∀ t : Fin cfg0.N, win0_0.index t 0 = 0 ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val / 16 ∧ win0_3.index t 1 = 0 := by decide +kernel
theorem index4 : ∀ t : Fin cfg0.N, win0_4.index t 0 = 0 ∧ win0_4.index t 1 = t.val / 16 := by decide +kernel
theorem index5 : ∀ t : Fin cfg0.N, win0_5.index t 0 = 64 + t.val / 16 ∧ win0_5.index t 1 = 0 := by decide +kernel
theorem index6 : ∀ t : Fin cfg0.N, win0_6.index t 0 = 0 ∧ win0_6.index t 1 = 64 + t.val / 16 := by decide +kernel

end Windows

section Reads

variable (m : (ℓ : Loc nD τ sig) → Buf (Elt Ideal) ℓ) (c : Dev nD) (t : Fin cfg0.N)

/-- Window 0 holds the stacked vectors. -/
theorem read0 (n : Fin 4) (e : Fin 32) : (iblk m c 0 t : Vec Ideal S4x32 .f32) (ix2 n e) = V m c main_v4 (ix2 n e) := by
  unfold iblk
  rw [View.read_apply]
  show V m c main_v4 _ = _
  refine congrArg (V m c main_v4) (funext fun a => Fin.ext ?_)
  match a with
  | ⟨0, _⟩ => show win0_0.index t 0 * 4 + 1 * n.val = n.val; rw [(index0 t).1]; omega
  | ⟨1, _⟩ => show win0_0.index t 1 * 32 + 1 * e.val = e.val; rw [(index0 t).2]; omega

/-- Window 1 holds the gain. -/
theorem read1 (d : Fin 64) (x : Fin 512) : (iblk m c 1 t : Vec Ideal S64x512 .f32) (ix2 d x) = V m c main_v6 (ix2 d x) := by
  unfold iblk
  rw [View.read_apply]
  show V m c main_v6 _ = _
  refine congrArg (V m c main_v6) (funext fun a => Fin.ext ?_)
  match a with
  | ⟨0, _⟩ => show win0_1.index t 0 * 64 + 1 * d.val = d.val; rw [(index1 t).1]; omega
  | ⟨1, _⟩ => show win0_1.index t 1 * 512 + 1 * x.val = x.val; rw [(index1 t).2]; omega

variable {Q K W : ℕ → ℕ → ℝ}

/-- Window 2 holds 512 queries. -/
theorem read2 (hq : ∀ (r : Fin 16896) (j : Fin 256), m ((c : Thread nD τ).loc main_arg5) (ix2 r j) = (Q r.val j.val : EReal))
    (x : Fin 512) (j : Fin 256) : (iblk m c 2 t : Vec Ideal S512x256 .bf16) (ix2 x j) = (Q (512 * t.val + x.val) j.val : EReal) := by
  have ht : t.val < 32 := t.isLt
  rw [← hq ⟨512 * t.val + x.val, by omega⟩ j, ← V_main_arg5 m c]
  unfold iblk
  rw [View.read_apply]
  show V m c main_arg5 _ = _
  refine congrArg (V m c main_arg5) (funext fun a => Fin.ext ?_)
  match a with
  | ⟨0, _⟩ => show win0_2.index t 0 * 512 + 1 * x.val = 512 * t.val + x.val; rw [(index2 t).1]; omega
  | ⟨1, _⟩ => show win0_2.index t 1 * 256 + 1 * j.val = j.val; rw [(index2 t).2]; omega

/-- Window 3 holds the batch's latent keys. -/
theorem read3 (hk : ∀ (r : Fin 16896) (j : Fin 256), m ((c : Thread nD τ).loc main_arg6) (ix2 r j) = (K r.val j.val : EReal))
    (x : Fin 8192) (j : Fin 256) : (X0_3 m c t : Vec Ideal S8192x256 .bf16) (ix2 x j) = (K (8192 * (t.val / 16) + x.val) j.val : EReal) := by
  have ht : t.val < 32 := t.isLt
  rw [← hk ⟨8192 * (t.val / 16) + x.val, by omega⟩ j, ← V_main_arg6 m c]
  unfold X0_3 Pipeline.Window.fill
  rw [dif_pos (moved0_3 t _)]
  unfold iblk
  rw [View.read_apply]
  show V m c main_arg6 _ = _
  refine congrArg (V m c main_arg6) (funext fun a => Fin.ext ?_)
  match a with
  | ⟨0, _⟩ => show win0_3.index t 0 * 8192 + 1 * x.val = 8192 * (t.val / 16) + x.val; rw [(index3 t).1]; omega
  | ⟨1, _⟩ => show win0_3.index t 1 * 256 + 1 * j.val = j.val; rw [(index3 t).2]; omega

/-- Window 4 holds the batch's latent values. -/
theorem read4 (hv : ∀ (j : Fin 256) (r : Fin 16896), m ((c : Thread nD τ).loc main_arg7) (ix2 j r) = (W r.val j.val : EReal))
    (j : Fin 256) (x : Fin 8192) : (X0_4 m c t : Vec Ideal S256x8192 .bf16) (ix2 j x) = (W (8192 * (t.val / 16) + x.val) j.val : EReal) := by
  have ht : t.val < 32 := t.isLt
  rw [← hv j ⟨8192 * (t.val / 16) + x.val, by omega⟩, ← V_main_arg7 m c]
  unfold X0_4 Pipeline.Window.fill
  rw [dif_pos (moved0_4 t _)]
  unfold iblk
  rw [View.read_apply]
  show V m c main_arg7 _ = _
  refine congrArg (V m c main_arg7) (funext fun a => Fin.ext ?_)
  match a with
  | ⟨0, _⟩ => show win0_4.index t 0 * 256 + 1 * j.val = j.val; rw [(index4 t).1]; omega
  | ⟨1, _⟩ => show win0_4.index t 1 * 8192 + 1 * x.val = 8192 * (t.val / 16) + x.val; rw [(index4 t).2]; omega

/-- Window 5 holds the batch's context keys. -/
theorem read5 (hk : ∀ (r : Fin 16896) (j : Fin 256), m ((c : Thread nD τ).loc main_arg6) (ix2 r j) = (K r.val j.val : EReal))
    (x j : Fin 256) : (iblk m c 5 t : Vec Ideal S256x256 .bf16) (ix2 x j) = (K (16384 + 256 * (t.val / 16) + x.val) j.val : EReal) := by
  have ht : t.val < 32 := t.isLt
  rw [← hk ⟨16384 + 256 * (t.val / 16) + x.val, by omega⟩ j, ← V_main_arg6 m c]
  unfold iblk
  rw [View.read_apply]
  show V m c main_arg6 _ = _
  refine congrArg (V m c main_arg6) (funext fun a => Fin.ext ?_)
  match a with
  | ⟨0, _⟩ => show win0_5.index t 0 * 256 + 1 * x.val = 16384 + 256 * (t.val / 16) + x.val; rw [(index5 t).1]; omega
  | ⟨1, _⟩ => show win0_5.index t 1 * 256 + 1 * j.val = j.val; rw [(index5 t).2]; omega

/-- Window 6 holds the batch's context values. -/
theorem read6 (hv : ∀ (j : Fin 256) (r : Fin 16896), m ((c : Thread nD τ).loc main_arg7) (ix2 j r) = (W r.val j.val : EReal))
    (j x : Fin 256) : (iblk m c 6 t : Vec Ideal S256x256 .bf16) (ix2 j x) = (W (16384 + 256 * (t.val / 16) + x.val) j.val : EReal) := by
  have ht : t.val < 32 := t.isLt
  rw [← hv j ⟨16384 + 256 * (t.val / 16) + x.val, by omega⟩, ← V_main_arg7 m c]
  unfold iblk
  rw [View.read_apply]
  show V m c main_arg7 _ = _
  refine congrArg (V m c main_arg7) (funext fun a => Fin.ext ?_)
  match a with
  | ⟨0, _⟩ => show win0_6.index t 0 * 256 + 1 * j.val = j.val; rw [(index6 t).1]; omega
  | ⟨1, _⟩ => show win0_6.index t 1 * 256 + 1 * x.val = 16384 + 256 * (t.val / 16) + x.val; rw [(index6 t).2]; omega

end Reads

/-- What a point writes, from blocks that hold the stacked vectors, the gain, the queries of point `n`, and the keys and values of its batch. -/
theorem point_apply (n : ℕ) {Q K W : ℕ → ℕ → ℝ} {lr : ℝ} {g : Fin 64 → EReal} (c : Dev nD) (i : grid0.Coords)
    (arg2 : Memref sig .tc .vmem S4x32 .f32) (harg2 : arg2.IsWhole) (arg3 : Memref sig .tc .vmem S64x512 .f32) (harg3 : arg3.IsWhole)
    (arg4 : Memref sig .tc .vmem S512x256 .bf16) (harg4 : arg4.IsWhole) (arg5 : Memref sig .tc .vmem S8192x256 .bf16) (harg5 : arg5.IsWhole)
    (arg6 : Memref sig .tc .vmem S256x8192 .bf16) (harg6 : arg6.IsWhole) (arg7 : Memref sig .tc .vmem S256x256 .bf16) (harg7 : arg7.IsWhole)
    (arg8 : Memref sig .tc .vmem S256x256 .bf16) (harg8 : arg8.IsWhole) (arg9 : Memref sig .tc .vmem S512x256 .bf16) (harg9 : arg9.IsWhole)
    (arg10 : Memref sig .tc .vmem S8x512x128 .bf16) (harg10 : arg10.IsWhole) (arg11 : Memref sig .tc .vmem S8x1x512 .f32) (harg11 : arg11.IsWhole)
    (arg12 : Memref sig .tc .vmem S8x1x512 .f32) (harg12 : arg12.IsWhole) (arg13 : Memref sig .tc .vmem S8x64x512 .f32) (harg13 : arg13.IsWhole)
    (x0 : Vec Ideal S4x32 .f32) (x1 : Vec Ideal S64x512 .f32) (x2 : Vec Ideal S512x256 .bf16) (x3 : Vec Ideal S8192x256 .bf16)
    (x4 : Vec Ideal S256x8192 .bf16) (x5 : Vec Ideal S256x256 .bf16) (x6 : Vec Ideal S256x256 .bf16)
    (h0 : lamVal (fun e => x0 (ix2 0 e)) (fun e => x0 (ix2 1 e)) (fun e => x0 (ix2 2 e)) (fun e => x0 (ix2 3 e)) = (lr : EReal))
    (h1 : ∀ d t, x1 (ix2 d t) = g d)
    (h2 : ∀ (x : Fin 512) (j : Fin 256), x2 (ix2 x j) = (Q (512 * n + x.val) j.val : EReal))
    (h3 : ∀ (x : Fin 8192) (j : Fin 256), x3 (ix2 x j) = (K (8192 * (n / 16) + x.val) j.val : EReal))
    (h4 : ∀ (j : Fin 256) (x : Fin 8192), x4 (ix2 j x) = (W (8192 * (n / 16) + x.val) j.val : EReal))
    (h5 : ∀ (x j : Fin 256), x5 (ix2 x j) = (K (16384 + 256 * (n / 16) + x.val) j.val : EReal))
    (h6 : ∀ (j x : Fin 256), x6 (ix2 j x) = (W (16384 + 256 * (n / 16) + x.val) j.val : EReal)) (x : Fin 512) (h : Fin 4) (d : Fin 64) :
    out0_A_7 c i arg2 harg2 arg3 harg3 arg4 harg4 arg5 harg5 arg6 harg6 arg7 harg7 arg8 harg8 arg9 harg9 arg10 harg10 arg11 harg11
        arg12 harg12 arg13 harg13 x0 x1 x2 x3 x4 x5 x6 (ix2 x (⟨64 * h.val + d.val, by omega⟩ : Fin 256))
      = outVal Q K W lr g (512 * n + x.val) h.val d := by
  have hb : (512 * n + x.val) / 8192 = n / 16 := by omega
  have hs : (512 * n + x.val) % 8192 = 512 * (n % 16) + x.val := by omega
  have hr : 512 * n = 8192 * (n / 16) + 512 * (n % 16) := by omega
  unfold out0_A_7
  rw [block_apply (Q := fun x => Q (8192 * (n / 16) + 512 * (n % 16) + x)) (K := fun κ => K (keyRow (n / 16) κ))
    (V := fun κ => W (keyRow (n / 16) κ)) (lr := lr) c i arg2 harg2 arg3 harg3 arg4 harg4 arg5 harg5 arg6 harg6 arg7 harg7
    arg8 harg8 arg9 harg9 arg10 harg10 arg11 harg11 arg12 harg12 arg13 harg13 x0 x1 x2 x3 x4 x5 x6 VO0_7 h0
    (fun x j => by rw [h2, hr]) (fun x j => by rw [h3, keyRow, if_pos x.isLt]) (fun j x => by rw [h4, keyRow, if_pos x.isLt])
    (fun x j => by rw [h5, keyRow, if_neg (by omega), Nat.add_sub_cancel_left])
    (fun j x => by rw [h6, keyRow, if_neg (by omega), Nat.add_sub_cancel_left]) h d x, h1]
  unfold outVal
  rw [hb, hs]
  simp only [att_tile]

section Final

variable (m : (ℓ : Loc nD τ sig) → Buf (Elt Ideal) ℓ) (c : Dev nD) {Q K W : ℕ → ℕ → ℝ} {lr : ℝ}
  (hq : ∀ (r : Fin 16896) (j : Fin 256), m ((c : Thread nD τ).loc main_arg5) (ix2 r j) = (Q r.val j.val : EReal))
  (hk : ∀ (r : Fin 16896) (j : Fin 256), m ((c : Thread nD τ).loc main_arg6) (ix2 r j) = (K r.val j.val : EReal))
  (hv : ∀ (j : Fin 256) (r : Fin 16896), m ((c : Thread nD τ).loc main_arg7) (ix2 j r) = (W r.val j.val : EReal))
  (hl : lamVal (fun e => m ((c : Thread nD τ).loc main_arg0) (ix1 e)) (fun e => m ((c : Thread nD τ).loc main_arg1) (ix1 e))
    (fun e => m ((c : Thread nD τ).loc main_arg2) (ix1 e)) (fun e => m ((c : Thread nD τ).loc main_arg3) (ix1 e)) = (lr : EReal))

include hq hk hv hl

omit hq hk hv in
/-- The second map's weight from window 0. -/
theorem lam_read (t : Fin cfg0.N) (x0 : Vec Ideal S4x32 .f32) (hx : x0 = iblk m c 0 t) :
    lamVal (fun e => x0 (ix2 0 e)) (fun e => x0 (ix2 1 e)) (fun e => x0 (ix2 2 e)) (fun e => x0 (ix2 3 e)) = (lr : EReal) := by
  have r : ∀ n e, x0 (ix2 n e) = (![m ((c : Thread nD τ).loc main_arg0), m ((c : Thread nD τ).loc main_arg1),
      m ((c : Thread nD τ).loc main_arg2), m ((c : Thread nD τ).loc main_arg3)] : Fin 4 → S32.Idx → EReal) n (ix1 e) := fun n e => by
    rw [hx]; exact (read0 m c t n e).trans (stack_apply m c n e)
  rw [← hl, funext (r 0), funext (r 1), funext (r 2), funext (r 3)]
  rfl

/-- What point `t` writes back, at query `x` and column `64 h + d` of its block. -/
theorem flushed_apply (t : Fin cfg0.N) (x : Fin 512) (h : Fin 4) (d : Fin 64) :
    (dats m 0 c).flushed 7 t (ix2 x (⟨64 * h.val + d.val, by omega⟩ : Fin 256))
      = outVal Q K W lr (fun d => m ((c : Thread nD τ).loc main_arg4) (ix1 d)) (512 * t.val + x.val) h.val d := by
  rw [Value.flushed7_A]
  refine Eq.trans ?_ (point_apply t.val c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _)
    scM0_1 (Memref.isWhole_whole _) scM0_2 (Memref.isWhole_whole _) scM0_3 (Memref.isWhole_whole _)
    (iblk m c 0 t) (iblk m c 1 t) (iblk m c 2 t) (X0_3 m c t) (X0_4 m c t) (iblk m c 5 t) (iblk m c 6 t)
    (lam_read m c hl t _ rfl) (fun d x => (read1 m c t d x).trans (gain_apply m c d x))
    (read2 m c t hq) (read3 m c t hk) (read4 m c t hv) (read5 m c t hk) (read6 m c t hv) x h d)
  rfl

/-- The array after the launch. -/
theorem final : (dats m 0 c).arrAt 7 cfg0.N = outArr Q K W lr (fun d => m ((c : Thread nD τ).loc main_arg4) (ix1 d)) := by
  refine (dats m 0 c).arrAt_eq_of_cover 7 _ (fun t _ => ?_) fun i => ?_
  · have ht : t.val < 32 := t.isLt
    funext j
    have h0 : (j 0).val < 512 := (j 0).isLt
    have h1 : (j 1).val < 256 := (j 1).isLt
    have e : j = ix2 (⟨(j 0).val, h0⟩ : Fin 512) (⟨64 * ((j 1).val / 64) + (j 1).val % 64, by omega⟩ : Fin 256) := by
      funext a
      match a with
      | ⟨0, _⟩ => rfl
      | ⟨1, _⟩ => exact Fin.ext (Nat.div_add_mod _ _).symm
    rw [View.read_apply]
    rw [e]
    refine (flushed_apply m c hq hk hv hl t ⟨(j 0).val, h0⟩ ⟨(j 1).val / 64, by omega⟩ ⟨(j 1).val % 64, by omega⟩).trans ?_
    refine (outArr_apply Q K W lr _ _ _ _ _ ?_ ?_).symm
    · show win0_7.index t 0 * 512 + 1 * (j 0).val = 512 * t.val + (j 0).val
      rw [(index7 t).1]; omega
    · show win0_7.index t 1 * 256 + 1 * (64 * ((j 1).val / 64) + (j 1).val % 64) = 64 * ((j 1).val / 64) + (j 1).val % 64
      rw [(index7 t).2]; omega
  · have h0 : (i 0 : Nat) < 16384 := (i 0).isLt
    have h1 : (i 1 : Nat) < 256 := (i 1).isLt
    obtain ⟨t, ht⟩ : ∃ t : Fin cfg0.N, t.val = (i 0).val / 512 := ⟨⟨(i 0).val / 512, by show _ < 32; omega⟩, rfl⟩
    refine ⟨t, flush0_7 t, ?_⟩
    show i ∈ ((View.whole main_v7).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [(index7 t).1]; omega
    | ⟨1, _⟩ =>
      show win0_7.index t 1 * 256 ≤ (i 1 : Nat) ∧ (i 1 : Nat) < win0_7.index t 1 * 256 + 256
      rw [(index7 t).2]; omega

end Final

end Cert.KernelIdeal.Attn

end
-- ==== Proof.RefTerms.lean ====
/- The reference's result as a chain of named parts: queries, keys, values, logits, softmax, difference, norm. -/
module

public import proofs.«01_k».proof.Proof.Gen.ReferenceIdeal
public import proofs.«01_k».proof.Proof.Gen.ReferenceIdeal.Run

@[expose] public section

set_option maxRecDepth 16384

noncomputable section

namespace Cert.ReferenceIdeal.Attn

open Idealize.ShloMosaic Idealize.ShloMosaic.TcCoe Cert.ReferenceIdeal Cert.ReferenceIdeal.Gen

variable {F : FTy → Type} [FloatOps F]

/-- The queries by batch, position, head, map and column. -/
def qT (a5 : FVec F S16896x256 .bf16) : FVec F S2x8192x4x2x32 .f32 :=
  shapeCast _ (extractStridedSlice S16384x256 ![0, 0] (extf .f32 a5 bitsLt_bf16_f32) slices_S16896x256_S16384x256_0_0)
    shapeCasts_S16384x256_S2x8192x4x2x32

/-- The keys, the latent ones first. -/
def kT (a6 : FVec F S16896x256 .bf16) : FVec F S2x8448x4x2x32 .f32 :=
  concatenate S2x8448x4x2x32 1 [
    ⟨S2x8192x4x2x32, shapeCast _ (extractStridedSlice S16384x256 ![0, 0] (extf .f32 a6 bitsLt_bf16_f32) slices_S16896x256_S16384x256_0_0)
      shapeCasts_S16384x256_S2x8192x4x2x32⟩,
    ⟨S2x256x4x2x32, shapeCast _ (extractStridedSlice S512x256 ![16384, 0] (extf .f32 a6 bitsLt_bf16_f32) slices_S16896x256_S512x256_16384_0)
      shapeCasts_S512x256_S2x256x4x2x32⟩] concatenates_S2x8192x4x2x32_S2x256x4x2x32_S2x8448x4x2x32_d1

/-- The values, the latent ones first. -/
def vT (a7 : FVec F S256x16896 .bf16) : FVec F S2x8448x4x64 .f32 :=
  concatenate S2x8448x4x64 1 [
    ⟨S2x8192x4x64, shapeCast _ (extractStridedSlice S16384x256 ![0, 0] (transpose S16896x256 [1, 0] (extf .f32 a7 bitsLt_bf16_f32)
      transposes_S256x16896_S16896x256_1_0) slices_S16896x256_S16384x256_0_0) shapeCasts_S16384x256_S2x8192x4x64⟩,
    ⟨S2x256x4x64, shapeCast _ (extractStridedSlice S512x256 ![16384, 0] (transpose S16896x256 [1, 0] (extf .f32 a7 bitsLt_bf16_f32)
      transposes_S256x16896_S16896x256_1_0) slices_S16896x256_S512x256_16384_0) shapeCasts_S512x256_S2x256x4x64⟩]
    concatenates_S2x8192x4x64_S2x256x4x64_S2x8448x4x64_d1

/-- The logits. -/
def logits (q : FVec F S2x8192x4x2x32 .f32) (k : FVec F S2x8448x4x2x32 .f32) : FVec F S2x4x2x8192x8448 .f32 :=
  mulf (Host.dotGeneral dot_S2x8192x4x2x32_S2x8448x4x2x32_S2x4x2x8192x8448_4_4_1_1_023_023 none q k)
    (broadcastInDim S2x4x2x8192x8448 ![] bcast_S_S2x4x2x8192x8448 (id (Host.log (constant S_ .f32 0x40000000#32))))

/-- A row statistic against every key. -/
def spread (x : FVec F S2x4x2x8192 .f32) : FVec F S2x4x2x8192x8448 .f32 :=
  broadcastInDim S2x4x2x8192x8448 ![0, 1, 2, 3, 4] bcast_S2x4x2x8192x1_S2x4x2x8192x8448_0_1_2_3_4
    (broadcastInDim S2x4x2x8192x1 ![0, 1, 2, 3] bcast_S2x4x2x8192_S2x4x2x8192x1_0_1_2_3 x)

/-- The row maximum. -/
def rowMax (x : FVec F S2x4x2x8192x8448 .f32) : FVec F S2x4x2x8192 .f32 :=
  maximumf (broadcastInDim S2x4x2x8192 ![] bcast_S_S2x4x2x8192 (constant S_ .f32 0xFF800000#32))
    (Host.reduce FloatOps.maximumf x (constant S_ .f32 0xFF800000#32) reducesTo_S2x4x2x8192x8448_S2x4x2x8192_d4 h_S_)

/-- The exponentials. -/
def expo (x : FVec F S2x4x2x8192x8448 .f32) : FVec F S2x4x2x8192x8448 .f32 := Host.exp (subf x (spread (rowMax x)))

/-- The softmax. -/
def soft (x : FVec F S2x4x2x8192x8448 .f32) : FVec F S2x4x2x8192x8448 .f32 :=
  Host.divf (expo x) (spread (Host.reduceAdd (expo x) (constant S_ .f32 0x00000000#32) reducesTo_S2x4x2x8192x8448_S2x4x2x8192_d4 h_S_))

/-- The weight of the second map. -/
def lamT (a0 a1 a2 a3 : FVec F S32 .f32) : FVec F S_ .f32 :=
  addf (subf (Host.exp (Host.reduceAdd (mulf a0 a1) (constant S_ .f32 0x00000000#32) reducesTo_S32_S_d0 h_S_))
    (Host.exp (Host.reduceAdd (mulf a2 a3) (constant S_ .f32 0x00000000#32) reducesTo_S32_S_d0 h_S_))) (constant S_ .f32 0x3E4CCCCD#32)

/-- The difference of the two maps. -/
def mixed (lam : FVec F S_ .f32) (p : FVec F S2x4x2x8192x8448 .f32) : FVec F S2x4x8192x8448 .f32 :=
  subf (shapeCast _ (extractStridedSlice S2x4x1x8192x8448 ![0, 0, 0, 0, 0] p slices_S2x4x2x8192x8448_S2x4x1x8192x8448_0_0_0_0_0)
      shapeCasts_S2x4x1x8192x8448_S2x4x8192x8448)
    (mulf (broadcastInDim S2x4x8192x8448 ![] bcast_S_S2x4x8192x8448 lam)
      (shapeCast _ (extractStridedSlice S2x4x1x8192x8448 ![0, 0, 1, 0, 0] p slices_S2x4x2x8192x8448_S2x4x1x8192x8448_0_0_1_0_0)
        shapeCasts_S2x4x1x8192x8448_S2x4x8192x8448))

/-- The values under the weights. -/
def heads (v : FVec F S2x8448x4x64 .f32) (a : FVec F S2x4x8192x8448 .f32) : FVec F S2x8192x4x64 .f32 :=
  transpose S2x8192x4x64 [0, 3, 1, 2] (Host.dotGeneral dot_S2x8448x4x64_S2x4x8192x8448_S2x4x64x8192_1_3_3_2_02_01 none v a)
    transposes_S2x4x64x8192_S2x8192x4x64_0_3_1_2

/-- The norm, the gain and the constant factor. -/
def normT (o : FVec F S2x8192x4x64 .f32) (a4 : FVec F S64 .f32) : FVec F S2x8192x4x64 .f32 :=
  mulf (mulf (mulf o (broadcastInDim S2x8192x4x64 ![0, 1, 2, 3] bcast_S2x8192x4x1_S2x8192x4x64_0_1_2_3 (Host.rsqrt (addf (Host.divf
      (broadcastInDim S2x8192x4x1 ![0, 1, 2] bcast_S2x8192x4_S2x8192x4x1_0_1_2
        (Host.reduceAdd (mulf o o) (constant S_ .f32 0x00000000#32) reducesTo_S2x8192x4x64_S2x8192x4_d3 h_S_))
      (broadcastInDim S2x8192x4x1 ![] bcast_S_S2x8192x4x1 (constant S_ .f32 0x42800000#32)))
      (broadcastInDim S2x8192x4x1 ![] bcast_S_S2x8192x4x1 (constant S_ .f32 0x358637BD#32))))))
    (broadcastInDim S2x8192x4x64 ![0, 1, 2, 3] bcast_S1x1x1x64_S2x8192x4x64_0_1_2_3 (broadcastInDim S1x1x1x64 ![3] bcast_S64_S1x1x1x64_3 a4)))
    (broadcastInDim S2x8192x4x64 ![] bcast_S_S2x8192x4x64 (constant S_ .f32 0x3F4CCCCD#32))

/-- The whole. -/
def result (a0 a1 a2 a3 : FVec F S32 .f32) (a4 : FVec F S64 .f32) (a5 a6 : FVec F S16896x256 .bf16) (a7 : FVec F S256x16896 .bf16) :
    FVec F S16384x256 .bf16 :=
  truncf .bf16 (shapeCast S16384x256 (normT (heads (vT a7) (mixed (lamT a0 a1 a2 a3) (soft (logits (qT a5) (kT a6))))) a4)
    shapeCasts_S2x8192x4x64_S16384x256) bitsLt_bf16_f32

/-- The reference's result is that chain. -/
theorem result_eq (m : (ℓ : Loc nD τ sig) → Buf (Elt F) ℓ) (c : Dev nD) :
    Value.res_main_v65 m c = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  unfold Value.res_main_v65
  rfl

end Cert.ReferenceIdeal.Attn

end
-- ==== Proof.RefLayout.lean ====
/- The reference's arrays at an index: its queries, keys and values, its two products, and what it slices and repeats. -/
module

public import proofs.«01_k».proof.Proof.RefTerms
public import proofs.«01_k».proof.Proof.Array
public import Idealize.ShloMosaic.Lib.ValueIdx
public import Idealize.ShloMosaic.Lib.ValueLayout
public import Idealize.ShloMosaic.PureOps.Ideal.Laws
public import Idealize.ShloMosaic.Lib.IdealHost

@[expose] public section

set_option maxRecDepth 16384

noncomputable section

namespace Cert.ReferenceIdeal.Attn

open Idealize.ShloMosaic Idealize.ShloMosaic.ValueIdx Cert.ReferenceIdeal Cert.ReferenceIdeal.Gen
open Cert.KernelIdeal.Attn (keyRow sc)

variable {Q K W : ℕ → ℕ → ℝ}

/-- The queries. -/
theorem qT_apply (a5 : FVec Ideal S16896x256 .bf16) (hq : ∀ (r : Fin 16896) (j : Fin 256), a5 (ix2 r j) = (Q r.val j.val : EReal))
    (b : Fin 2) (s : Fin 8192) (h : Fin 4) (n : Fin 2) (e : Fin 32) :
    qT a5 (ix5 b s h n e) = (Q (8192 * b.val + s.val) (32 * (2 * h.val + n.val) + e.val) : EReal) := by
  rw [← hq ⟨8192 * b.val + s.val, by omega⟩ ⟨32 * (2 * h.val + n.val) + e.val, by omega⟩]
  unfold qT
  refine (shapeCast_apply _ _ _ (ix2 (⟨8192 * b.val + s.val, by omega⟩ : Fin 16384) (⟨32 * (2 * h.val + n.val) + e.val, by omega⟩ : Fin 256)) ?_).trans ?_
  · rw [Shape.rowMajor_val_two, Shape.rowMajor_val_five]
    show (8192 * b.val + s.val) * 256 + (32 * (2 * h.val + n.val) + e.val) = (((b.val * 8192 + s.val) * 4 + h.val) * 2 + n.val) * 32 + e.val
    omega
  refine congrArg a5 (funext fun a => Fin.ext ?_)
  match a with
  | ⟨0, _⟩ => exact Nat.zero_add _
  | ⟨1, _⟩ => exact Nat.zero_add _

/-- The keys. -/
theorem kT_apply (a6 : FVec Ideal S16896x256 .bf16) (hk : ∀ (r : Fin 16896) (j : Fin 256), a6 (ix2 r j) = (K r.val j.val : EReal))
    (b : Fin 2) (κ : Fin 8448) (h : Fin 4) (n : Fin 2) (e : Fin 32) :
    kT a6 (ix5 b κ h n e) = (K (keyRow b.val κ.val) (32 * (2 * h.val + n.val) + e.val) : EReal) := by
  unfold kT keyRow
  by_cases hκ : κ.val < 8192
  · rw [if_pos hκ, ← hk ⟨8192 * b.val + κ.val, by omega⟩ ⟨32 * (2 * h.val + n.val) + e.val, by omega⟩]
    refine (concatenate_pair_apply_left (t := S2x8448x4x2x32) (s₁ := S2x8192x4x2x32) (s₂ := S2x256x4x2x32) _ _ _ _ _ rfl (ix5 b (⟨κ.val, hκ⟩ : Fin 8192) h n e) fun a => ?_).trans ?_
    · match a with | ⟨0, _⟩ => rfl | ⟨1, _⟩ => rfl | ⟨2, _⟩ => rfl | ⟨3, _⟩ => rfl | ⟨4, _⟩ => rfl
    refine (shapeCast_apply _ _ _ (ix2 (⟨8192 * b.val + κ.val, by omega⟩ : Fin 16384) (⟨32 * (2 * h.val + n.val) + e.val, by omega⟩ : Fin 256)) ?_).trans ?_
    · rw [Shape.rowMajor_val_two, Shape.rowMajor_val_five]
      show (8192 * b.val + κ.val) * 256 + (32 * (2 * h.val + n.val) + e.val) = (((b.val * 8192 + κ.val) * 4 + h.val) * 2 + n.val) * 32 + e.val
      omega
    refine congrArg a6 (funext fun a => Fin.ext ?_)
    match a with
    | ⟨0, _⟩ => exact Nat.zero_add _
    | ⟨1, _⟩ => exact Nat.zero_add _
  · rw [if_neg hκ, ← hk ⟨16384 + 256 * b.val + (κ.val - 8192), by omega⟩ ⟨32 * (2 * h.val + n.val) + e.val, by omega⟩]
    refine (concatenate_pair_apply_right (t := S2x8448x4x2x32) (s₁ := S2x8192x4x2x32) (s₂ := S2x256x4x2x32) _ _ _ _ _ rfl rfl (ix5 b (⟨κ.val - 8192, by omega⟩ : Fin 256) h n e) (fun a ha => ?_) ?_).trans ?_
    · match a with | ⟨0, _⟩ => rfl | ⟨1, _⟩ => exact absurd rfl ha | ⟨2, _⟩ => rfl | ⟨3, _⟩ => rfl | ⟨4, _⟩ => rfl
    · show κ.val - 8192 + 8192 = κ.val
      omega
    refine (shapeCast_apply _ _ _ (ix2 (⟨256 * b.val + (κ.val - 8192), by omega⟩ : Fin 512) (⟨32 * (2 * h.val + n.val) + e.val, by omega⟩ : Fin 256)) ?_).trans ?_
    · rw [Shape.rowMajor_val_two, Shape.rowMajor_val_five]
      show (256 * b.val + (κ.val - 8192)) * 256 + (32 * (2 * h.val + n.val) + e.val)
        = (((b.val * 256 + (κ.val - 8192)) * 4 + h.val) * 2 + n.val) * 32 + e.val
      omega
    refine congrArg a6 (funext fun a => Fin.ext ?_)
    match a with
    | ⟨0, _⟩ => exact (Nat.add_assoc _ _ _).symm
    | ⟨1, _⟩ => exact Nat.zero_add _

/-- The values. -/
theorem vT_apply (a7 : FVec Ideal S256x16896 .bf16) (hv : ∀ (j : Fin 256) (r : Fin 16896), a7 (ix2 j r) = (W r.val j.val : EReal))
    (b : Fin 2) (κ : Fin 8448) (h : Fin 4) (d : Fin 64) :
    vT a7 (ix4 b κ h d) = (W (keyRow b.val κ.val) (64 * h.val + d.val) : EReal) := by
  unfold vT keyRow
  by_cases hκ : κ.val < 8192
  · rw [if_pos hκ, ← hv ⟨64 * h.val + d.val, by omega⟩ ⟨8192 * b.val + κ.val, by omega⟩]
    refine (concatenate_pair_apply_left (t := S2x8448x4x64) (s₁ := S2x8192x4x64) (s₂ := S2x256x4x64) _ _ _ _ _ rfl (ix4 b (⟨κ.val, hκ⟩ : Fin 8192) h d) fun a => ?_).trans ?_
    · match a with | ⟨0, _⟩ => rfl | ⟨1, _⟩ => rfl | ⟨2, _⟩ => rfl | ⟨3, _⟩ => rfl
    refine (shapeCast_apply _ _ _ (ix2 (⟨8192 * b.val + κ.val, by omega⟩ : Fin 16384) (⟨64 * h.val + d.val, by omega⟩ : Fin 256)) ?_).trans ?_
    · rw [Shape.rowMajor_val_two, Shape.rowMajor_val_four]
      show (8192 * b.val + κ.val) * 256 + (64 * h.val + d.val) = ((b.val * 8192 + κ.val) * 4 + h.val) * 64 + d.val
      omega
    refine congrArg a7 (funext fun a => Fin.ext ?_)
    match a with
    | ⟨0, _⟩ => exact Nat.zero_add _
    | ⟨1, _⟩ => exact Nat.zero_add _
  · rw [if_neg hκ, ← hv ⟨64 * h.val + d.val, by omega⟩ ⟨16384 + 256 * b.val + (κ.val - 8192), by omega⟩]
    refine (concatenate_pair_apply_right (t := S2x8448x4x64) (s₁ := S2x8192x4x64) (s₂ := S2x256x4x64) _ _ _ _ _ rfl rfl (ix4 b (⟨κ.val - 8192, by omega⟩ : Fin 256) h d) (fun a ha => ?_) ?_).trans ?_
    · match a with | ⟨0, _⟩ => rfl | ⟨1, _⟩ => exact absurd rfl ha | ⟨2, _⟩ => rfl | ⟨3, _⟩ => rfl
    · show κ.val - 8192 + 8192 = κ.val
      omega
    refine (shapeCast_apply _ _ _ (ix2 (⟨256 * b.val + (κ.val - 8192), by omega⟩ : Fin 512) (⟨64 * h.val + d.val, by omega⟩ : Fin 256)) ?_).trans ?_
    · rw [Shape.rowMajor_val_two, Shape.rowMajor_val_four]
      show (256 * b.val + (κ.val - 8192)) * 256 + (64 * h.val + d.val) = ((b.val * 256 + (κ.val - 8192)) * 4 + h.val) * 64 + d.val
      omega
    refine congrArg a7 (funext fun a => Fin.ext ?_)
    match a with
    | ⟨0, _⟩ => exact Nat.zero_add _
    | ⟨1, _⟩ => exact (Nat.add_assoc _ _ _).symm

/-- The first product at an index. -/
theorem qk_apply (q : FVec Ideal S2x8192x4x2x32 .f32) (k : FVec Ideal S2x8448x4x2x32 .f32) (b : Fin 2) (h : Fin 4) (n : Fin 2) (s : Fin 8192) (κ : Fin 8448) :
    Host.dotGeneral dot_S2x8192x4x2x32_S2x8448x4x2x32_S2x4x2x8192x8448_4_4_1_1_023_023 none q k (ix5 b h n s κ)
      = (∑ e : Fin 32, q (ix5 b s h n e) * k (ix5 b κ h n e) : EReal) := by
  show FloatOps.dotGeneral _ none _ q k _ = _
  rw [Ideal.dotGeneral_apply, ← Equiv.sum_comp (contrEquiv1 dot_S2x8192x4x2x32_S2x8448x4x2x32_S2x4x2x8192x8448_4_4_1_1_023_023 32 rfl rfl).symm]
  refine Finset.sum_congr rfl fun e _ => congrArg₂ (· * ·) (congrArg q (funext fun a => ?_)) (congrArg k (funext fun a => ?_))
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl | ⟨4, _⟩ => rfl

/-- The second product at an index, its axes in the result's order. -/
theorem heads_apply (v : FVec Ideal S2x8448x4x64 .f32) (w : FVec Ideal S2x4x8192x8448 .f32) (b : Fin 2) (s : Fin 8192) (h : Fin 4) (d : Fin 64) :
    heads v w (ix4 b s h d) = (∑ κ : Fin 8448, v (ix4 b κ h d) * w (ix4 b h s κ) : EReal) := by
  unfold heads
  refine (transpose_apply _ _ _ _ (ix4 b h d s) fun a => ?_).trans ?_
  · match a with | ⟨0, _⟩ => rfl | ⟨1, _⟩ => rfl | ⟨2, _⟩ => rfl | ⟨3, _⟩ => rfl
  show FloatOps.dotGeneral _ none _ v w _ = _
  rw [Ideal.dotGeneral_apply, ← Equiv.sum_comp (contrEquiv1 dot_S2x8448x4x64_S2x4x8192x8448_S2x4x64x8192_1_3_3_2_02_01 8448 rfl rfl).symm]
  refine Finset.sum_congr rfl fun e _ => congrArg₂ (· * ·) (congrArg v (funext fun a => ?_)) (congrArg w (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

/-- A row statistic repeated over the keys. -/
theorem spread_apply (x : FVec Ideal S2x4x2x8192 .f32) (b : Fin 2) (h : Fin 4) (n : Fin 2) (s : Fin 8192) (κ : Fin 8448) :
    spread x (ix5 b h n s κ) = x (ix4 b h n s) := by
  unfold spread
  refine (broadcastInDim_apply _ _ _ (ix5 b h n s κ) (ix5 b h n s (0 : Fin 1)) fun a => ?_).trans ?_
  · match a with | ⟨0, _⟩ => rfl | ⟨1, _⟩ => rfl | ⟨2, _⟩ => rfl | ⟨3, _⟩ => rfl | ⟨4, _⟩ => rfl
  refine broadcastInDim_apply _ _ _ (ix5 b h n s (0 : Fin 1)) (ix4 b h n s) fun a => ?_
  match a with | ⟨0, _⟩ => rfl | ⟨1, _⟩ => rfl | ⟨2, _⟩ => rfl | ⟨3, _⟩ => rfl

/-- One map of the two. -/
theorem map_apply (n : Fin 2) (off : Fin 5 → ℕ) (hoff : off = ![0, 0, n.val, 0, 0]) (p : FVec Ideal S2x4x2x8192x8448 .f32)
    (hs : S2x4x2x8192x8448.Slices off S2x4x1x8192x8448) (b : Fin 2) (h : Fin 4) (s : Fin 8192) (κ : Fin 8448) :
    shapeCast S2x4x8192x8448 (extractStridedSlice S2x4x1x8192x8448 off p hs) shapeCasts_S2x4x1x8192x8448_S2x4x8192x8448 (ix4 b h s κ)
      = p (ix5 b h n s κ) := by
  subst hoff
  refine (shapeCast_apply _ _ _ (ix5 b h (0 : Fin 1) s κ) ?_).trans ?_
  · rw [Shape.rowMajor_val_four, Shape.rowMajor_val_five]
    show (((b.val * 4 + h.val) * 1 + 0) * 8192 + s.val) * 8448 + κ.val = ((b.val * 4 + h.val) * 8192 + s.val) * 8448 + κ.val
    omega
  refine congrArg p (funext fun a => Fin.ext ?_)
  match a with
  | ⟨0, _⟩ => exact Nat.zero_add _
  | ⟨1, _⟩ => exact Nat.zero_add _
  | ⟨2, _⟩ => exact Nat.add_zero _
  | ⟨3, _⟩ => exact Nat.zero_add _
  | ⟨4, _⟩ => exact Nat.zero_add _

/-- The difference of the two maps. -/
theorem mixed_apply (lam : FVec Ideal S_ .f32) (p : FVec Ideal S2x4x2x8192x8448 .f32) (b : Fin 2) (h : Fin 4) (s : Fin 8192) (κ : Fin 8448) :
    mixed lam p (ix4 b h s κ) = (p (ix5 b h 0 s κ) - lam ix0 * p (ix5 b h 1 s κ) : EReal) := by
  unfold mixed
  rw [subf_apply, mulf_apply]
  refine congrArg₂ (· - ·) (map_apply 0 _ rfl p _ b h s κ) (congrArg₂ (· * ·) ?_ (map_apply 1 _ rfl p _ b h s κ))
  exact broadcastInDim_scalar_apply _ _ _

end Cert.ReferenceIdeal.Attn

end
-- ==== Proof.RefValue.lean ====
/- What the reference computes: its softmax, its heads and its norm, entry by entry, and the array it returns. -/
module

public import proofs.«01_k».proof.Proof.RefLayout

@[expose] public section

set_option maxRecDepth 16384

noncomputable section

namespace Cert.ReferenceIdeal.Attn

open Idealize.ShloMosaic Idealize.ShloMosaic.ValueIdx Cert.ReferenceIdeal Cert.ReferenceIdeal.Gen
open Cert.KernelIdeal.Attn (keyRow sc att attG normVal lamVal outVal outArr outArr_apply coe_sum fold_max_real)

variable {Q K W : ℕ → ℕ → ℝ}

theorem zero_word : (Ideal.ofBits .f32 0x00000000#32 : EReal) = (0 : EReal) := by
  simp [Ideal.ofBits, Ideal.ieee]

theorem two_word : (Ideal.ofBits .f32 0x40000000#32 : EReal) = ((2 : ℝ) : EReal) := by
  simp [Ideal.ofBits, Ideal.ieee]
  rw [← EReal.coe_mul]
  norm_num

theorem bot_word : (Ideal.ofBits .f32 0xFF800000#32 : EReal) = (⊥ : EReal) := by
  simp [Ideal.ofBits, Ideal.ieee]

/-- Summing the last of five axes. -/
theorem red5 : S2x4x2x8192x8448.Reduces [4] S2x4x2x8192 := by decide

/-- Summing the last of four axes. -/
theorem red4 : S2x8192x4x64.Reduces [3] S2x8192x4 := by decide

theorem lift5 (b : Fin 2) (h : Fin 4) (n : Fin 2) (s : Fin 8192) (κ : Fin 8448) : red5.lift (ix4 b h n s) κ = ix5 b h n s κ := by
  funext a
  match a with | ⟨0, _⟩ => rfl | ⟨1, _⟩ => rfl | ⟨2, _⟩ => rfl | ⟨3, _⟩ => rfl | ⟨4, _⟩ => rfl

theorem lift4 (b : Fin 2) (s : Fin 8192) (h : Fin 4) (d : Fin 64) : red4.lift (ix3 b s h) d = ix4 b s h d := by
  funext a
  match a with | ⟨0, _⟩ => rfl | ⟨1, _⟩ => rfl | ⟨2, _⟩ => rfl | ⟨3, _⟩ => rfl

/-- A sum over the keys. -/
theorem sum5 (x : FVec Ideal S2x4x2x8192x8448 .f32) (b : Fin 2) (h : Fin 4) (n : Fin 2) (s : Fin 8192) :
    Host.reduceAdd x (constant S_ .f32 0x00000000#32) reducesTo_S2x4x2x8192x8448_S2x4x2x8192_d4 h_S_ (ix4 b h n s)
      = (∑ κ : Fin 8448, x (ix5 b h n s κ) : EReal) := by
  rw [hostReduceAdd_apply, Ideal.hostReduceAdd_single _ red5, show (constant S_ .f32 0x00000000#32 : FVec Ideal S_ .f32) (Shape.Idx.first h_S_) = (0 : EReal) from zero_word, zero_add]
  exact Finset.sum_congr rfl fun κ _ => congrArg x (lift5 b h n s κ)

/-- A sum over the columns of a head. -/
theorem sum4 (x : FVec Ideal S2x8192x4x64 .f32) (b : Fin 2) (s : Fin 8192) (h : Fin 4) :
    Host.reduceAdd x (constant S_ .f32 0x00000000#32) reducesTo_S2x8192x4x64_S2x8192x4_d3 h_S_ (ix3 b s h)
      = (∑ d : Fin 64, x (ix4 b s h d) : EReal) := by
  rw [hostReduceAdd_apply, Ideal.hostReduceAdd_single _ red4, show (constant S_ .f32 0x00000000#32 : FVec Ideal S_ .f32) (Shape.Idx.first h_S_) = (0 : EReal) from zero_word, zero_add]
  exact Finset.sum_congr rfl fun d _ => congrArg x (lift4 b s h d)

/-- The logits: the scores times `log 2`. -/
theorem logits_apply (a5 : FVec Ideal S16896x256 .bf16) (hq : ∀ (r : Fin 16896) (j : Fin 256), a5 (ix2 r j) = (Q r.val j.val : EReal))
    (a6 : FVec Ideal S16896x256 .bf16) (hk : ∀ (r : Fin 16896) (j : Fin 256), a6 (ix2 r j) = (K r.val j.val : EReal))
    (b : Fin 2) (h : Fin 4) (n : Fin 2) (s : Fin 8192) (κ : Fin 8448) :
    logits (qT a5) (kT a6) (ix5 b h n s κ)
      = ((sc (fun s => Q (8192 * b.val + s)) (fun κ => K (keyRow b.val κ)) (2 * h.val + n.val) κ.val s.val * Real.log 2 : ℝ) : EReal) := by
  unfold logits
  rw [mulf_apply, qk_apply, EReal.coe_mul]
  refine congrArg₂ (· * ·) ?_ ?_
  · unfold sc
    rw [← Fin.sum_univ_eq_sum_range (fun e => K (keyRow b.val κ.val) (32 * (2 * h.val + n.val) + e) * Q (8192 * b.val + s.val) (32 * (2 * h.val + n.val) + e)),
      coe_sum]
    refine Finset.sum_congr rfl fun e _ => ?_
    rw [qT_apply a5 hq, kT_apply a6 hk, mul_comm, EReal.coe_mul]
  · refine (broadcastInDim_scalar_apply _ _ _).trans ?_
    show Ideal.log (Ideal.ofBits .f32 0x40000000#32) = _
    rw [two_word, Ideal.log_coe, if_neg (by norm_num)]

/-- The row maximum of real logits is real. -/
theorem rowMax_real (x : FVec Ideal S2x4x2x8192x8448 .f32) (b : Fin 2) (h : Fin 4) (n : Fin 2) (s : Fin 8192)
    (hx : ∀ κ : Fin 8448, ∃ r : ℝ, x (ix5 b h n s κ) = (r : EReal)) : ∃ r : ℝ, rowMax x (ix4 b h n s) = (r : EReal) := by
  have e : rowMax x (ix4 b h n s) = (Finset.univ.fold max ⊥ (fun κ : Fin 8448 => x (ix5 b h n s κ)) : EReal) := by
    unfold rowMax
    rw [maximumf_apply, Host.reduce_eq_fold_single FloatOps.maximumf x _ _ red5]
    rw [show (broadcastInDim S2x4x2x8192 ![] bcast_S_S2x4x2x8192 (constant S_ .f32 0xFF800000#32) : FVec Ideal S2x4x2x8192 .f32) (ix4 b h n s) = (⊥ : EReal) from
      (broadcastInDim_scalar_apply _ _ _).trans bot_word,
      show (constant S_ .f32 0xFF800000#32 : FVec Ideal S_ .f32) (Shape.Idx.first h_S_) = (⊥ : EReal) from bot_word]
    refine (max_eq_right bot_le).trans ?_
    refine congrArg (Finset.univ.fold max (⊥ : EReal)) (funext fun κ => congrArg x (lift5 b h n s κ))
  rcases fold_max_real Finset.univ (fun κ : Fin 8448 => x (ix5 b h n s κ)) hx with ⟨h0, _⟩ | ⟨r, hr⟩
  · exact absurd (Finset.mem_univ (0 : Fin 8448)) (by rw [h0]; simp)
  · exact ⟨r, e.trans hr⟩

/-- The softmax of logits in natural units is the share of the powers of two. -/
theorem soft_apply (x : FVec Ideal S2x4x2x8192x8448 .f32) (b : Fin 2) (h : Fin 4) (n : Fin 2) (s : Fin 8192) (σ : ℕ → ℝ)
    (hx : ∀ κ : Fin 8448, x (ix5 b h n s κ) = ((σ κ.val * Real.log 2 : ℝ) : EReal)) (κ : Fin 8448) :
    soft x (ix5 b h n s κ) = ((Real.rpow 2 (σ κ.val) / ∑ j ∈ Finset.range 8448, Real.rpow 2 (σ j) : ℝ) : EReal) := by
  obtain ⟨μ, hμ⟩ := rowMax_real x b h n s fun κ => ⟨_, hx κ⟩
  have hp : ∀ r : ℝ, Real.exp (r * Real.log 2 - μ) = Real.rpow 2 r * Real.exp (-μ) := fun r => by
    show _ = (2 : ℝ) ^ r * _
    rw [Real.rpow_def_of_pos (by norm_num), ← Real.exp_add]; exact congrArg Real.exp (by ring)
  have he : ∀ κ : Fin 8448, expo x (ix5 b h n s κ) = ((Real.rpow 2 (σ κ.val) * Real.exp (-μ) : ℝ) : EReal) := fun κ => by
    show Ideal.exp (subf x (spread (rowMax x)) (ix5 b h n s κ)) = _
    rw [subf_apply, spread_apply, hμ, hx κ, ← EReal.coe_sub, Ideal.exp_coe, hp]
  have hs : (∑ j : Fin 8448, expo x (ix5 b h n s j) : EReal)
      = (((∑ j ∈ Finset.range 8448, Real.rpow 2 (σ j)) * Real.exp (-μ) : ℝ) : EReal) := by
    rw [Finset.sum_congr rfl fun j _ => he j, ← coe_sum, Finset.sum_mul, Fin.sum_univ_eq_sum_range (fun j => Real.rpow 2 (σ j) * Real.exp (-μ))]
  have h0 : 0 < ∑ j ∈ Finset.range 8448, Real.rpow 2 (σ j) :=
    Finset.sum_pos (fun j _ => Real.rpow_pos_of_pos (by norm_num) _) ⟨0, by simp⟩
  have hm := Real.exp_pos (-μ)
  show Ideal.div (expo x (ix5 b h n s κ)) (spread (Host.reduceAdd (expo x) (constant S_ .f32 0x00000000#32) reducesTo_S2x4x2x8192x8448_S2x4x2x8192_d4 h_S_) (ix5 b h n s κ)) = _
  rw [spread_apply, sum5, hs, he κ, Ideal.div_coe (mul_pos h0 hm).ne', ← EReal.coe_mul]
  generalize (∑ j ∈ Finset.range 8448, Real.rpow 2 (σ j)) = t at h0
  refine congrArg (fun r : ℝ => (r : EReal)) ?_
  have h0' := h0.ne'
  have hm' := hm.ne'
  field_simp

/-- The second map's weight. -/
theorem lam_apply (a0 a1 a2 a3 : FVec Ideal S32 .f32) :
    lamT a0 a1 a2 a3 ix0 = lamVal (fun e => a0 (ix1 e)) (fun e => a1 (ix1 e)) (fun e => a2 (ix1 e)) (fun e => a3 (ix1 e)) := by
  have hs : ∀ p q : FVec Ideal S32 .f32, Host.reduceAdd (mulf p q) (constant S_ .f32 0x00000000#32) reducesTo_S32_S_d0 h_S_ ix0
      = (∑ e : Fin 32, p (ix1 e) * q (ix1 e) : EReal) := fun p q => by
    rw [hostReduceAdd_apply, Ideal.hostReduceAdd_total _ (fun b => b.elim0), show (constant S_ .f32 0x00000000#32 : FVec Ideal S_ .f32) (Shape.Idx.first h_S_) = (0 : EReal) from zero_word, zero_add]
    refine (Fintype.sum_bijective (fun e : Fin 32 => (ix1 e : S32.Idx)) ⟨fun a b hab => ?_, fun i => ⟨i 0, (eq_ix1 i).symm⟩⟩ _ _ fun e => ?_).symm
    · exact congrFun hab 0
    · exact (mulf_apply _ _ _).symm
  unfold lamT lamVal
  rw [addf_apply, subf_apply, ← hs a0 a1, ← hs a2 a3]
  rfl

/-- The share of key `κ` in map `h`'s softmax at query `s` of batch `b`. -/
def share (Q K : ℕ → ℕ → ℝ) (b h s κ : ℕ) : ℝ :=
  Real.rpow 2 (sc (fun s => Q (8192 * b + s)) (fun κ => K (keyRow b κ)) h κ s)
    / ∑ j ∈ Finset.range 8448, Real.rpow 2 (sc (fun s => Q (8192 * b + s)) (fun κ => K (keyRow b κ)) h j s)

/-- A head's output. -/
theorem head_apply (a0 a1 a2 a3 : FVec Ideal S32 .f32) (a5 : FVec Ideal S16896x256 .bf16) (hq : ∀ (r : Fin 16896) (j : Fin 256), a5 (ix2 r j) = (Q r.val j.val : EReal))
    (a6 : FVec Ideal S16896x256 .bf16) (hk : ∀ (r : Fin 16896) (j : Fin 256), a6 (ix2 r j) = (K r.val j.val : EReal))
    (a7 : FVec Ideal S256x16896 .bf16) (hv : ∀ (j : Fin 256) (r : Fin 16896), a7 (ix2 j r) = (W r.val j.val : EReal)) (lr : ℝ)
    (hl : lamT a0 a1 a2 a3 ix0 = (lr : EReal)) (b : Fin 2) (s : Fin 8192) (h : Fin 4) (d : Fin 64) :
    heads (vT a7) (mixed (lamT a0 a1 a2 a3) (soft (logits (qT a5) (kT a6)))) (ix4 b s h d)
      = ((attG Q K W b.val (2 * h.val) d.val s.val - lr * attG Q K W b.val (2 * h.val + 1) d.val s.val : ℝ) : EReal) := by
  have hp := fun (n : Fin 2) (κ : Fin 8448) =>
    soft_apply (logits (qT a5) (kT a6)) b h n s (fun κ => sc (fun s => Q (8192 * b.val + s)) (fun κ => K (keyRow b.val κ)) (2 * h.val + n.val) κ s.val)
      (fun κ => logits_apply a5 hq a6 hk b h n s κ) κ
  have hs : ∀ κ : Fin 8448, (vT a7 (ix4 b κ h d) * mixed (lamT a0 a1 a2 a3) (soft (logits (qT a5) (kT a6))) (ix4 b h s κ) : EReal)
      = ((W (keyRow b.val κ.val) (64 * h.val + d.val) * (share Q K b.val (2 * h.val) s.val κ.val
        - lr * share Q K b.val (2 * h.val + 1) s.val κ.val) : ℝ) : EReal) := fun κ => by
    rw [vT_apply a7 hv, mixed_apply, hl, hp 0 κ, hp 1 κ, ← EReal.coe_mul, ← EReal.coe_sub, ← EReal.coe_mul]
    rfl
  rw [heads_apply, Finset.sum_congr rfl fun κ _ => hs κ, ← coe_sum,
    Fin.sum_univ_eq_sum_range (fun κ => W (keyRow b.val κ) (64 * h.val + d.val) * (share Q K b.val (2 * h.val) s.val κ
        - lr * share Q K b.val (2 * h.val + 1) s.val κ))]
  congr 1
  unfold attG att
  rw [show (2 * h.val + 1) / 2 = h.val by omega, show 2 * h.val / 2 = h.val by omega, Finset.sum_div, Finset.sum_div, Finset.mul_sum,
    ← Finset.sum_sub_distrib]
  refine Finset.sum_congr rfl fun κ _ => ?_
  unfold share
  ring

/-- The norm. -/
theorem normT_apply (o : FVec Ideal S2x8192x4x64 .f32) (a4 : FVec Ideal S64 .f32) (b : Fin 2) (s : Fin 8192) (h : Fin 4) (d : Fin 64) :
    normT o a4 (ix4 b s h d) = normVal (fun e => o (ix4 b s h e)) (a4 (ix1 d)) d := by
  unfold normT normVal
  rw [mulf_apply, mulf_apply, mulf_apply]
  refine congrArg₂ (· * ·) (congrArg₂ (· * ·) (congrArg₂ (· * ·) rfl ?_) ?_) ?_
  · refine (broadcastInDim_apply _ _ _ (ix4 b s h d) (ix4 b s h (0 : Fin 1)) fun a => ?_).trans ?_
    · match a with | ⟨0, _⟩ => rfl | ⟨1, _⟩ => rfl | ⟨2, _⟩ => rfl | ⟨3, _⟩ => rfl
    show Ideal.rsqrt (Ideal.div (broadcastInDim _ _ _ _ (ix4 b s h (0 : Fin 1))) (broadcastInDim _ _ _ _ (ix4 b s h (0 : Fin 1)))
      + broadcastInDim _ _ _ _ (ix4 b s h (0 : Fin 1))) = _
    refine congrArg Ideal.rsqrt (congrArg₂ (· + ·) (congrArg₂ Ideal.div ?_ (broadcastInDim_scalar_apply _ _ _)) (broadcastInDim_scalar_apply _ _ _))
    refine (broadcastInDim_apply _ _ _ (ix4 b s h (0 : Fin 1)) (ix3 b s h) fun a => ?_).trans (sum4 _ b s h)
    match a with | ⟨0, _⟩ => rfl | ⟨1, _⟩ => rfl | ⟨2, _⟩ => rfl
  · refine (broadcastInDim_apply _ _ _ (ix4 b s h d) (ix4 (0 : Fin 1) (0 : Fin 1) (0 : Fin 1) d) fun a => ?_).trans ?_
    · match a with | ⟨0, _⟩ => rfl | ⟨1, _⟩ => rfl | ⟨2, _⟩ => rfl | ⟨3, _⟩ => rfl
    refine broadcastInDim_apply _ _ _ (ix4 (0 : Fin 1) (0 : Fin 1) (0 : Fin 1) d) (ix1 d) fun a => ?_
    match a with | ⟨0, _⟩ => rfl
  · exact broadcastInDim_scalar_apply _ _ _

/-- The reference's array is the layer's differential attention. -/
theorem result_outArr (a0 a1 a2 a3 : FVec Ideal S32 .f32) (a4 : FVec Ideal S64 .f32) (a5 : FVec Ideal S16896x256 .bf16)
    (hq : ∀ (r : Fin 16896) (j : Fin 256), a5 (ix2 r j) = (Q r.val j.val : EReal))
    (a6 : FVec Ideal S16896x256 .bf16) (hk : ∀ (r : Fin 16896) (j : Fin 256), a6 (ix2 r j) = (K r.val j.val : EReal))
    (a7 : FVec Ideal S256x16896 .bf16) (hv : ∀ (j : Fin 256) (r : Fin 16896), a7 (ix2 j r) = (W r.val j.val : EReal)) (lr : ℝ)
    (hl : lamVal (fun e => a0 (ix1 e)) (fun e => a1 (ix1 e)) (fun e => a2 (ix1 e)) (fun e => a3 (ix1 e)) = (lr : EReal)) :
    result a0 a1 a2 a3 a4 a5 a6 a7 = outArr Q K W lr (fun d => a4 (ix1 d)) := by
  funext y
  obtain ⟨r, j, rfl⟩ : ∃ (r : Fin 16384) (j : Fin 256), y = ix2 r j := ⟨y 0, y 1, eq_ix2 y⟩
  rw [outArr_apply Q K W lr _ (ix2 r j) r.val (j.val / 64) ⟨j.val % 64, Nat.mod_lt _ (by decide)⟩ rfl
    (by show j.val = 64 * (j.val / 64) + j.val % 64; omega)]
  unfold result outVal
  rw [truncf_apply]
  refine (shapeCast_apply _ _ _ (ix4 (⟨r.val / 8192, by omega⟩ : Fin 2) (⟨r.val % 8192, by omega⟩ : Fin 8192) (⟨j.val / 64, by omega⟩ : Fin 4)
    (⟨j.val % 64, by omega⟩ : Fin 64)) ?_).trans ?_
  · rw [Shape.rowMajor_val_two, Shape.rowMajor_val_four]
    show ((r.val / 8192 * 8192 + r.val % 8192) * 4 + j.val / 64) * 64 + j.val % 64 = r.val * 256 + j.val
    omega
  rw [normT_apply]
  refine congrArg (fun o => normVal o _ _) (funext fun e => ?_)
  exact head_apply a0 a1 a2 a3 a5 hq a6 hk a7 hv lr ((lam_apply a0 a1 a2 a3).trans hl) _ _ _ e

end Cert.ReferenceIdeal.Attn

end
-- ==== Proof.Finite.lean ====
/- What the precondition says: the arrays it reads hold real numbers. -/
module

public import proofs.«01_k».proof.Proof.Gen.Pre_finite
public import Idealize.ShloMosaic.Lib.ValueIdx
public import Idealize.ShloMosaic.Lib.IdealHost
public import Idealize.ShloMosaic.Lib.ReduceAll
public import Idealize.ShloMosaic.PureOps.Ideal.Laws
import Idealize.ShloMosaic.Lib.Affine

@[expose] public section

noncomputable section

namespace Cert.Pre_finite.Attn

open Idealize.ShloMosaic Idealize.ShloMosaic.ValueIdx Cert.Pre_finite

/-- The word the test compares with is `⊤`. -/
theorem top_word : (Ideal.ofBits .f32 0x7F800000#32 : EReal) = ⊤ := by
  simp [Ideal.ofBits, Ideal.ieee]

/-- A number whose absolute value lies under `⊤` is real. -/
theorem real_of_abs (x : EReal) (h : max x (-x) < ⊤) : ∃ r : ℝ, x = r := by
  induction x with
  | bot => simp at h
  | top => simp at h
  | coe r => exact ⟨r, rfl⟩

/-- Where the test of a whole array holds, every entry is real. -/
theorem real_of_all {s : Shape} {axes : List (Fin s.rank)} (x : FVec Ideal s .f32) (hb : S_.BroadcastsInDim s ![]) (init : IVec S_ 1)
    (hr : s.ReducesTo axes S_) (hu : 0 < S_.numel)
    (e : Host.reduce IntOp.andi (cmpf .olt (Host.absf x) (broadcastInDim s ![] hb (constant S_ .f32 0x7F800000#32))) init hr hu ix0 = 1#1) (i : s.Idx) :
    ∃ r : ℝ, x i = (r : EReal) := by
  haveI : Subsingleton S_.Idx := ⟨fun a b => funext fun k => k.elim0⟩
  have h := Host.reduce_andi_all _ _ _ _ _ e i
  have h' : Ideal.cmp .olt (max (x i) (-(x i))) (broadcastInDim s ![] hb (constant (F := Ideal) S_ .f32 0x7F800000#32) i) = 1#1 := h
  rw [show (broadcastInDim s ![] hb (constant (F := Ideal) S_ .f32 0x7F800000#32) i : EReal) = ⊤ from
    (broadcastInDim_scalar_apply _ _ _).trans top_word] at h'
  refine real_of_abs _ ?_
  by_contra hn
  simp [Ideal.cmp, hn] at h'

/-- The precondition's arrays are real. -/
theorem finite_args [Facts] (a0 a1 a2 a3 : FVec Ideal S32 .f32) (a4 : FVec Ideal S64 .f32) (a5 a6 : FVec Ideal S16896x256 .bf16) (a7 : FVec Ideal S256x16896 .bf16)
    (h : fn (F := Ideal) a0 a1 a2 a3 a4 a5 a6 a7 ix0 = 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a5 i = (r : EReal)) ∧ (∀ i, ∃ r : ℝ, a6 i = (r : EReal)) ∧ (∀ i, ∃ r : ℝ, a7 i = (r : EReal)) := by
  unfold fn fn_part1 fn_part2 at h
  obtain ⟨h, h7⟩ := IntOp.andi_eq_one.1 h
  obtain ⟨h, h6⟩ := IntOp.andi_eq_one.1 h
  obtain ⟨h, h5⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all a0 _ _ _ _ h0, real_of_all a1 _ _ _ _ h1, real_of_all a2 _ _ _ _ h2, real_of_all a3 _ _ _ _ h3,
    real_of_all (extf .f32 a5 (by decide)) _ _ _ _ h5, real_of_all (extf .f32 a6 (by decide)) _ _ _ _ h6,
    real_of_all (extf .f32 a7 (by decide)) _ _ _ _ h7⟩

end Cert.Pre_finite.Attn

end
-- ==== Proof.Algebraic.lean ====
/- The value claim: with finite arguments the idealised kernel and the idealised reference return the same array. -/
module

public import proofs.«01_k».proof.Defs
public import proofs.«01_k».proof.Proof.KI.Value
public import proofs.«01_k».proof.Proof.Array
public import proofs.«01_k».proof.Proof.RefValue
public import proofs.«01_k».proof.Proof.Finite
public import proofs.«01_k».proof.Proof.Gen.Pre_finite

@[expose] public section

set_option maxRecDepth 16384

noncomputable section

open Idealize.ShloMosaic Idealize.ShloMosaic.TcCoe Idealize.ShloMosaic.ValueIdx Idealize.SL.Sem

namespace Cert.Proof

open Cert.KernelIdeal.Attn (lamVal outArr coe_sum)

/-- A two-axis array of reals as a function of the row's and the column's numbers. -/
theorem table {a b : ℕ} (x : (⟨2, ![a, b]⟩ : Shape).Idx → EReal) (h : ∀ i, ∃ r : ℝ, x i = (r : EReal)) :
    ∃ f : ℕ → ℕ → ℝ, ∀ (i : Fin a) (j : Fin b), x (ix2 i j) = (f i.val j.val : EReal) := by
  refine ⟨fun i j => if hi : i < a then if hj : j < b then (x (ix2 ⟨i, hi⟩ ⟨j, hj⟩)).toReal else 0 else 0, fun i j => ?_⟩
  simp only [i.isLt, j.isLt, dif_pos]
  obtain ⟨r, hr⟩ := h (ix2 i j)
  rw [hr, EReal.toReal_coe]

/-- Of real vectors the second map's weight is real. -/
theorem lam_real (p q r s : Fin 32 → EReal) (hp : ∀ e, ∃ x : ℝ, p e = x) (hq : ∀ e, ∃ x : ℝ, q e = x) (hr : ∀ e, ∃ x : ℝ, r e = x)
    (hs : ∀ e, ∃ x : ℝ, s e = x) : ∃ lr : ℝ, lamVal p q r s = (lr : EReal) := by
  choose p' hp using hp
  choose q' hq using hq
  choose r' hr using hr
  choose s' hs using hs
  have hc : ∃ x : ℝ, (Ideal.ofBits .f32 0x3E4CCCCD#32 : EReal) = x := by
    refine ⟨(Ideal.ofBits .f32 0x3E4CCCCD#32 : EReal).toReal, (EReal.coe_toReal ?_ ?_).symm⟩
    · simp [Ideal.ofBits, Ideal.ieee, ← EReal.coe_mul]
    · simp [Ideal.ofBits, Ideal.ieee, ← EReal.coe_mul]
  obtain ⟨k, hk⟩ := hc
  refine ⟨Real.exp (∑ e, p' e * q' e) - Real.exp (∑ e, r' e * s' e) + k, ?_⟩
  unfold lamVal
  simp only [hp, hq, hr, hs, hk, ← EReal.coe_mul, ← coe_sum, Ideal.exp_coe, ← EReal.coe_sub, ← EReal.coe_add]

/-- With finite arguments the two programs return the same array: the layer's differential attention. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  obtain ⟨f0, f1, f2, f3, f5, f6, f7⟩ := Cert.Pre_finite.Attn.finite_args _ _ _ _ _ _ _ _ (congrFun (hpre c) ix0)
  obtain ⟨Q, hq⟩ := table _ f5
  obtain ⟨K, hk⟩ := table _ f6
  obtain ⟨W', hv⟩ := table _ f7
  obtain ⟨lr, hl⟩ := lam_real _ _ _ _ (fun e => f0 (ix1 e)) (fun e => f1 (ix1 e)) (fun e => f2 (ix1 e)) (fun e => f3 (ix1 e))
  rw [Cert.ReferenceIdeal.Attn.result_eq, e0, e1, e2, e3, e4, e5, e6, e7]
  refine (Cert.ReferenceIdeal.Attn.result_outArr _ _ _ _ _ _ hq _ hk _ (W := fun r j => W' j r) hv lr hl).trans ?_
  exact (Cert.KernelIdeal.Attn.final m c hq hk hv hl).symm

end Cert.Proof

end
-- ==== Proof.Claims2.lean ====
/- The claims about the output projection's programs beside their value claim: their frames. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Quiescent

@[expose] public section

noncomputable section

open Idealize.ShloMosaic Idealize.ShloMosaic.TcCoe Idealize.SL.Sem

namespace Cert.Proof

/-- The output projection's kernel runs, ends with its arguments unchanged and its semaphores at zero. -/
theorem frame2_p : Cert.quiescent_Kernel2 (hKernel2 := Cert.Kernel2.Gen.facts) := fun m ρ _ => Cert.Kernel2.Gen.frame m ρ

/-- So does the idealised kernel. -/
theorem frame2_pi : Cert.quiescent_Kernel2Ideal (hKernel2Ideal := Cert.Kernel2Ideal.Gen.facts) :=
  fun m ρ _ => Cert.Kernel2Ideal.Gen.frame m ρ

/-- And the idealised reference. -/
theorem frame2_ri : Cert.quiescent_Reference2Ideal (hReference2Ideal := Cert.Reference2Ideal.Gen.facts) := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

/-- Idealising the output projection rewrote nothing. -/
theorem preserves2 : Cert.preserves_Kernel2_Kernel2Ideal := trivial

end Cert.Proof

end
-- ==== Proof.OutVal.lean ====
/- What the output projection computes, entry by entry, as functions of its arguments' entries. -/
module

public import Idealize.ShloMosaic.Lib.ValueIdx
public import Idealize.ShloMosaic.PureOps.Ideal.Laws

@[expose] public section

noncomputable section

namespace Cert.OutProj

open Idealize.ShloMosaic Idealize.ShloMosaic.ValueIdx

/-- One entry of the stream after the residual: the old entry plus the gate times the product of the three mixers' row with the
    weight's column, the mixers taken one after the other. -/
def xv (x : EReal) (yh : Fin 256 → EReal) (yw : Fin 512 → EReal) (yd : Fin 256 → EReal) (w : Fin 1024 → EReal) (g : EReal) : EReal :=
  x + g * ((∑ k : Fin 256, yh k * w ⟨k.val, by omega⟩) + (∑ k : Fin 512, yw k * w ⟨256 + k.val, by omega⟩)
    + (∑ k : Fin 256, yd k * w ⟨768 + k.val, by omega⟩))

/-- One entry of the modulated norm of a row. -/
def hv (xr : Fin 1024 → EReal) (s a b : EReal) (j : Fin 1024) : EReal :=
  xr j * Ideal.rsqrt (Ideal.div (∑ k : Fin 1024, xr k * xr k) (Ideal.ofBits .f32 0x44800000#32) + Ideal.ofBits .f32 0x358637BD#32) * s
    * (Ideal.ofBits .f32 0x3F800000#32 + a) + b

/-- The modulation that a row takes: rows of the two latent batches take theirs, the context's rows the third. -/
def bat (r : ℕ) : Fin 8 := ⟨min (r / 8192) 2, by omega⟩

section Arrays

variable (x : (⟨2, ![16896, 1024]⟩ : Shape).Idx → EReal) (yh : (⟨2, ![16896, 256]⟩ : Shape).Idx → EReal)
  (yw : (⟨2, ![16896, 512]⟩ : Shape).Idx → EReal) (yd : (⟨2, ![16896, 256]⟩ : Shape).Idx → EReal)
  (md : (⟨3, ![8, 6, 1024]⟩ : Shape).Idx → EReal) (wo : (⟨2, ![1024, 1024]⟩ : Shape).Idx → EReal)
  (gn : (⟨1, ![1024]⟩ : Shape).Idx → EReal) (wq : (⟨2, ![1024, 2048]⟩ : Shape).Idx → EReal)

/-- The stream after the residual at row `r`, column `j`. -/
def xG (r : Fin 16896) (j : Fin 1024) : EReal :=
  xv (x (ix2 r j)) (fun k => yh (ix2 r k)) (fun k => yw (ix2 r k)) (fun k => yd (ix2 r k)) (fun k => wo (ix2 k j))
    (md (ix3 (bat r.val) (2 : Fin 6) j))

/-- The modulated norm at row `r`, column `j`. -/
def hG (r : Fin 16896) (j : Fin 1024) : EReal :=
  hv (xG x yh yw yd md wo r) (gn (ix1 j)) (md (ix3 (bat r.val) (4 : Fin 6) j)) (md (ix3 (bat r.val) (3 : Fin 6) j)) j

/-- The retrieval query at row `r`, column `p`. -/
def qG (r : Fin 16896) (p : Fin 2048) : EReal := ∑ k : Fin 1024, hG x yh yw yd md wo gn r k * wq (ix2 k p)

/-- The three results as arrays. -/
def xArr : (⟨2, ![16896, 1024]⟩ : Shape).Idx → EReal := fun i => xG x yh yw yd md wo (i 0) (i 1)
def hArr : (⟨2, ![16896, 1024]⟩ : Shape).Idx → EReal := fun i => hG x yh yw yd md wo gn (i 0) (i 1)
def qArr : (⟨2, ![16896, 2048]⟩ : Shape).Idx → EReal := fun i => qG x yh yw yd md wo gn wq (i 0) (i 1)

end Arrays

/-- A sum over 1024 columns as the sums over its first 256, its next 512 and its last 256. -/
theorem sum_split (f : Fin 1024 → EReal) : ∑ k, f k = (∑ k : Fin 256, f ⟨k.val, by omega⟩) + (∑ k : Fin 512, f ⟨256 + k.val, by omega⟩)
    + (∑ k : Fin 256, f ⟨768 + k.val, by omega⟩) := by
  have h1 := Fin.sum_univ_add (a := 768) (b := 256) f
  have h2 := Fin.sum_univ_add (a := 256) (b := 512) fun i => f (Fin.castAdd 256 i)
  exact h1.trans (congrArg (· + _) h2)

end Cert.OutProj

end
-- ==== Proof.OutBlock.lean ====
/- What the output projection's kernel leaves in its three output blocks, from the blocks it is given. -/
module

public import proofs.«01_k».proof.Proof.OutVal
public import proofs.«01_k».proof.Proof.Gen.Kernel2Ideal.Value
public import Idealize.ShloMosaic.Lib.ValueIdx
public import Idealize.ShloMosaic.Lib.ValueLayout
public import Idealize.ShloMosaic.Lib.MatmulPlain
public import Idealize.ShloMosaic.PureOps.Ideal.Laws
public import Idealize.ShloMosaic.Lib.Pipeline.Value

@[expose] public section

set_option maxRecDepth 16384

noncomputable section

namespace Cert.Kernel2Ideal.Out

open Idealize.ShloMosaic Idealize.ShloMosaic.TcCoe Idealize.ShloMosaic.ValueIdx Cert.Kernel2Ideal Cert.Kernel2Ideal.Gen Cert.OutProj

/-- A product accumulated from zero, entry by entry. -/
theorem prod_apply {M K N : ℕ} (l : FVec Ideal ⟨2, ![M, K]⟩ .bf16) (w : FVec Ideal ⟨2, ![K, N]⟩ .bf16) (x : Fin M) (j : Fin N) :
    FloatOps.matmul (DotDims.plain M K N) none l w (constant ⟨2, ![M, N]⟩ .f32 0x00000000#32) (ix2 x j)
      = (∑ k : Fin K, l (ix2 x k) * w (ix2 k j) : EReal) := by
  refine (Ideal.matmul_plain_apply none _ _ _ x j).trans ?_
  rw [show (constant ⟨2, ![M, N]⟩ .f32 0x00000000#32 : FVec Ideal ⟨2, ![M, N]⟩ .f32) (ix2 x j) = (0 : EReal) from Ideal.ofBits_zero_f32, zero_add]

/-- The first result's entry from the loaded vectors. -/
theorem pay3_apply (v0 : Vec Ideal S512x256 .bf16) (v1 : Vec Ideal S256x1024 .bf16) (v4 : Vec Ideal S512x512 .bf16)
    (v5 : Vec Ideal S512x1024 .bf16) (v9 : Vec Ideal S512x256 .bf16) (v10 : Vec Ideal S256x1024 .bf16) (v14 : Vec Ideal S512x1024 .f32)
    (v15 : Vec Ideal S1x1x1024 .f32) (x : Fin 512) (j : Fin 1024) :
    k0_pay3 v0 v1 v4 v5 v9 v10 v14 v15 (ix2 x j)
      = (v14 (ix2 x j) + v15 (ix3 0 0 j) * ((∑ k : Fin 256, v0 (ix2 x k) * v1 (ix2 k j)) + (∑ k : Fin 512, v4 (ix2 x k) * v5 (ix2 k j))
        + (∑ k : Fin 256, v9 (ix2 x k) * v10 (ix2 k j))) : EReal) := by
  unfold k0_pay3
  refine (addf_apply _ _ _).trans (congrArg (_ + ·) ((mulf_apply _ _ _).trans (congrArg₂ (· * ·) ?_ ?_)))
  · exact (broadcastTo_1b_ab_apply _ _ x j).trans (shapeCast_1ab_ab_apply _ _ 0 j)
  · refine (addf_apply _ _ _).trans (congrArg₂ (· + ·) ((addf_apply _ _ _).trans (congrArg₂ (· + ·) ?_ ?_)) ?_)
    · rw [shapeCast_self]; exact prod_apply _ _ x j
    · rw [shapeCast_self]; exact prod_apply _ _ x j
    · rw [shapeCast_self]; exact prod_apply _ _ x j

theorem red2 : S512x1024.Reduces [1] S512 := reduces_S512x1024_S512

theorem lift2 (x : Fin 512) (k : Fin 1024) : red2.lift (ix1 x) k = ix2 x k := by
  funext a
  match a with
  | ⟨0, _⟩ => rfl
  | ⟨1, _⟩ => rfl

variable (x0 : Vec Ideal S512x1024 .f32) (x1 : Vec Ideal S512x256 .bf16) (x2 : Vec Ideal S512x512 .bf16) (x3 : Vec Ideal S512x256 .bf16)
  (x4 : Vec Ideal S1x6x1024 .f32) (x5 : Vec Ideal S1024x1024 .bf16) (x6 : Vec Ideal S1x1024 .f32) (x7 : Vec Ideal S1024x2048 .bf16)

/-- An entry of the first result's block, from the blocks given. -/
def xB (x : Fin 512) (j : Fin 1024) : EReal :=
  xv (x0 (ix2 x j)) (fun k => x1 (ix2 x k)) (fun k => x2 (ix2 x k)) (fun k => x3 (ix2 x k)) (fun k => x5 (ix2 k j)) (x4 (ix3 0 2 j))

/-- An entry of the second result's block. -/
def hB (x : Fin 512) (j : Fin 1024) : EReal :=
  hv (xB x0 x1 x2 x3 x4 x5 x) (x6 (ix2 0 j)) (x4 (ix3 0 4 j)) (x4 (ix3 0 3 j)) j

theorem zero2 : (![0, 0] : Fin 2 → ℕ) = fun _ => 0 := by
  funext a
  match a with
  | ⟨0, _⟩ => rfl
  | ⟨1, _⟩ => rfl

/-- A modulation vector is loaded from its row of the block. -/
theorem mod_ld (n : Fin 6) (inb) (j : Fin 1024) :
    View.ld x4 (Rect.unit (s := S1x6x1024) ![0, n.val, 0] S1x1x1024.size inb) (ix3 0 0 j) = x4 (ix3 0 n j) := by
  refine congrArg x4 (funext fun a => Fin.ext ?_)
  match a with
  | ⟨0, _⟩ => rfl
  | ⟨1, _⟩ => show n.val + 1 * 0 = n.val; omega
  | ⟨2, _⟩ => show 0 + 1 * j.val = j.val; omega

/-- A band of the weight's rows is loaded from its first row on. -/
theorem band_ld {n : ℕ} (o : ℕ) (inb) (k : Fin n) (j : Fin 1024) (h : o + k.val < 1024) :
    View.ld x5 (Rect.unit (s := S1024x1024) ![o, 0] (⟨2, ![n, 1024]⟩ : Shape).size inb) (ix2 k j) = x5 (ix2 ⟨o + k.val, h⟩ j) := by
  refine congrArg x5 (funext fun a => Fin.ext ?_)
  match a with
  | ⟨0, _⟩ => show o + 1 * k.val = o + k.val; omega
  | ⟨1, _⟩ => show 0 + 1 * j.val = j.val; omega

/-- The body's first value, entry by entry. -/
theorem pay8_apply (x : Fin 512) (j : Fin 1024) :
    k0_pay3 (View.ld x1 r0_0) (View.ld x5 r0_1) (View.ld x2 r0_2) (View.ld x5 r0_3) (View.ld x3 r0_0) (View.ld x5 r0_4) (View.ld x0 r0_5)
      (View.ld x4 r0_6) (ix2 x j) = xB x0 x1 x2 x3 x4 x5 x j := by
  rw [pay3_apply]
  unfold xB xv
  rw [View.ld_unit_zero zero2, View.ld_unit_zero zero2, View.ld_unit_zero zero2, View.ld_unit_zero zero2]
  refine congrArg (_ + ·) (congrArg₂ (· * ·) (mod_ld x4 2 _ j) (congrArg₂ (· + ·) (congrArg₂ (· + ·) ?_ ?_) ?_))
  · refine Finset.sum_congr rfl fun k _ => congrArg (_ * ·) ((band_ld x5 0 _ k j (by omega)).trans ?_)
    exact congrArg x5 (congrArg (fun i => ix2 i j) (Fin.ext (Nat.zero_add _)))
  · exact Finset.sum_congr rfl fun k _ => congrArg (_ * ·) (band_ld x5 256 _ k j (by omega))
  · exact Finset.sum_congr rfl fun k _ => congrArg (_ * ·) (band_ld x5 768 _ k j (by omega))

/-- The first result's block. -/
theorem block8 (x : Fin 512) (j : Fin 1024) : out0_8 x0 x1 x2 x3 x4 x5 x6 x7 (ix2 x j) = xB x0 x1 x2 x3 x4 x5 x j := by
  unfold out0_8
  rw [View.canon_cons_unit_zero zero2]
  exact pay8_apply x0 x1 x2 x3 x4 x5 x j

/-- The second result's block. -/
theorem block9 (x : Fin 512) (j : Fin 1024) : out0_9 x0 x1 x2 x3 x4 x5 x6 x7 (ix2 x j) = hB x0 x1 x2 x3 x4 x5 x6 x j := by
  unfold_out out0_9
  refine (Value.canon9_eq _ _ _ _ _ _ _ _ _ _ _ (ix2 x j)).trans ?_
  unfold hB hv
  have i0 : Value.ix9_0 (ix2 x j) = ix2 x j := by
    funext a
    match a with
    | ⟨0, _⟩ => rfl
    | ⟨1, _⟩ => rfl
  have i1 : Value.ix9_1 (ix2 x j) = ix1 x := by
    funext a
    match a with
    | ⟨0, _⟩ => rfl
  have i2 : Value.ix9_2 (ix2 x j) = ix2 0 j := by
    funext a
    match a with
    | ⟨0, _⟩ => rfl
    | ⟨1, _⟩ => rfl
  have i3 : Value.ix9_3 (ix2 x j) = ix3 0 0 j := by
    funext a
    match a with
    | ⟨0, _⟩ => rfl
    | ⟨1, _⟩ => rfl
    | ⟨2, _⟩ => rfl
  have i4 : Value.ix9_4 (ix2 x j) = ix3 0 0 j := i3
  have hs : multiReduction .add [1] S512 (mulf
      (k0_pay3 (View.ld x1 r0_0) (View.ld x5 r0_1) (View.ld x2 r0_2) (View.ld x5 r0_3) (View.ld x3 r0_0) (View.ld x5 r0_4) (View.ld x0 r0_5) (View.ld x4 r0_6))
      (k0_pay3 (View.ld x1 r0_0) (View.ld x5 r0_1) (View.ld x2 r0_2) (View.ld x5 r0_3) (View.ld x3 r0_0) (View.ld x5 r0_4) (View.ld x0 r0_5) (View.ld x4 r0_6)))
      0x00000000#32 reduces_S512x1024_S512 (.inl rfl) rfl (ix1 x)
      = (∑ k : Fin 1024, xB x0 x1 x2 x3 x4 x5 x k * xB x0 x1 x2 x3 x4 x5 x k : EReal) := by
    refine (Ideal.multiReduction_add_single _ _ red2 _ _ (ix1 x)).trans (Finset.sum_congr rfl fun (k : Fin 1024) _ => ?_)
    refine (congrArg _ (lift2 x k)).trans ((mulf_apply _ _ (ix2 x k)).trans ?_)
    rw [pay8_apply]
  rw [Value.E9, i0, i1, i2, i3, i4, hs, pay8_apply, View.ld_unit_zero zero2]
  exact congrArg₂ (· + ·) (congrArg (_ * ·) (congrArg (_ + ·) (mod_ld x4 4 _ j))) (mod_ld x4 3 _ j)

/-- The third result's block. -/
theorem block10 (x : Fin 512) (p : Fin 2048) : out0_10 x0 x1 x2 x3 x4 x5 x6 x7 (ix2 x p)
    = (∑ k : Fin 1024, hB x0 x1 x2 x3 x4 x5 x6 x k * x7 (ix2 k p) : EReal) := by
  have h9 : ∀ k : Fin 1024, k0_pay1 (k0_pay8 x0 x1 x2 x3 x4 x5 x6 x7) (k0_pay9 x0 x1 x2 x3 x4 x5 x6 x7) (k0_pay10 x0 x1 x2 x3 x4 x5 x6 x7)
      (k0_pay11 x0 x1 x2 x3 x4 x5 x6 x7) (k0_pay12 x0 x1 x2 x3 x4 x5 x6 x7) (ix2 x k) = hB x0 x1 x2 x3 x4 x5 x6 x k := fun k => by
    have e := block9 x0 x1 x2 x3 x4 x5 x6 x7 x k
    unfold out0_9 at e
    rwa [View.canon_cons_unit_zero zero2] at e
  unfold out0_10
  rw [View.canon_cons_unit_zero zero2]
  unfold k0_pay2
  rw [shapeCast_self, View.ld_unit_zero zero2]
  refine (prod_apply _ _ x p).trans (Finset.sum_congr rfl fun k _ => congrArg (· * _) (h9 k))

end Cert.Kernel2Ideal.Out

end
-- ==== Proof.OutArray.lean ====
/- The three arrays the output projection's kernel leaves: every entry, from the arguments. -/
module

public import proofs.«01_k».proof.Proof.OutBlock

@[expose] public section

set_option maxRecDepth 16384

noncomputable section

namespace Cert.Kernel2Ideal.Out

open Idealize.ShloMosaic Idealize.ShloMosaic.TcCoe Idealize.ShloMosaic.ValueIdx Cert.Kernel2Ideal Cert.Kernel2Ideal.Gen Cert.OutProj

section Index

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = min (t.val / 16) 2 ∧ win0_4.index t 1 = 0 ∧ win0_4.index t 2 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = t.val ∧ win0_9.index t 1 = 0 := by decide +kernel
theorem index10 : ∀ t : Fin cfg0.N, win0_10.index t 0 = t.val ∧ win0_10.index t 1 = 0 := by decide +kernel

end Index

/-- The row of the array that row `x` of point `t`'s block is. -/
def row (t : Fin cfg0.N) (x : Fin 512) : Fin 16896 := ⟨512 * t.val + x.val, by have := t.isLt; have : cfg0.N = 33 := rfl; omega⟩

/-- Its modulation is the block's. -/
theorem bat_row (t : Fin cfg0.N) (x : Fin 512) : (bat (row t x).val).val = min (t.val / 16) 2 := by
  show min ((512 * t.val + x.val) / 8192) 2 = min (t.val / 16) 2
  have := x.isLt
  omega

section Reads

variable (m : (ℓ : Loc nD τ sig) → Buf (Elt Ideal) ℓ) (c : Dev nD) (t : Fin cfg0.N)

/-- Window 0 holds 512 rows of the stream. -/
theorem read0 (x : Fin 512) (j : Fin 1024) : (iblk m c 0 t : Vec Ideal S512x1024 .f32) (ix2 x j) = m ((c : Thread nD τ).loc main_arg0) (ix2 (row t x) j) := by
  rw [← V_main_arg0 m c]
  unfold iblk
  rw [View.read_apply]
  show V m c main_arg0 _ = _
  refine congrArg (V m c main_arg0) (funext fun a => Fin.ext ?_)
  match a with
  | ⟨0, _⟩ => show win0_0.index t 0 * 512 + 1 * x.val = 512 * t.val + x.val; rw [(index0 t).1]; omega
  | ⟨1, _⟩ => show win0_0.index t 1 * 1024 + 1 * j.val = j.val; rw [(index0 t).2]; omega

/-- Window 1 holds 512 rows of the first mixer. -/
theorem read1 (x : Fin 512) (j : Fin 256) : (iblk m c 1 t : Vec Ideal S512x256 .bf16) (ix2 x j) = m ((c : Thread nD τ).loc main_arg1) (ix2 (row t x) j) := by
  rw [← V_main_arg1 m c]
  unfold iblk
  rw [View.read_apply]
  show V m c main_arg1 _ = _
  refine congrArg (V m c main_arg1) (funext fun a => Fin.ext ?_)
  match a with
  | ⟨0, _⟩ => show win0_1.index t 0 * 512 + 1 * x.val = 512 * t.val + x.val; rw [(index1 t).1]; omega
  | ⟨1, _⟩ => show win0_1.index t 1 * 256 + 1 * j.val = j.val; rw [(index1 t).2]; omega

/-- Window 2 holds 512 rows of the second. -/
theorem read2 (x : Fin 512) (j : Fin 512) : (iblk m c 2 t : Vec Ideal S512x512 .bf16) (ix2 x j) = m ((c : Thread nD τ).loc main_arg2) (ix2 (row t x) j) := by
  rw [← V_main_arg2 m c]
  unfold iblk
  rw [View.read_apply]
  show V m c main_arg2 _ = _
  refine congrArg (V m c main_arg2) (funext fun a => Fin.ext ?_)
  match a with
  | ⟨0, _⟩ => show win0_2.index t 0 * 512 + 1 * x.val = 512 * t.val + x.val; rw [(index2 t).1]; omega
  | ⟨1, _⟩ => show win0_2.index t 1 * 512 + 1 * j.val = j.val; rw [(index2 t).2]; omega

/-- Window 3 holds 512 rows of the third. -/
theorem read3 (x : Fin 512) (j : Fin 256) : (iblk m c 3 t : Vec Ideal S512x256 .bf16) (ix2 x j) = m ((c : Thread nD τ).loc main_arg3) (ix2 (row t x) j) := by
  rw [← V_main_arg3 m c]
  unfold iblk
  rw [View.read_apply]
  show V m c main_arg3 _ = _
  refine congrArg (V m c main_arg3) (funext fun a => Fin.ext ?_)
  match a with
  | ⟨0, _⟩ => show win0_3.index t 0 * 512 + 1 * x.val = 512 * t.val + x.val; rw [(index3 t).1]; omega
  | ⟨1, _⟩ => show win0_3.index t 1 * 256 + 1 * j.val = j.val; rw [(index3 t).2]; omega

/-- Window 4 holds the modulation of the block's rows. -/
theorem read4 (x : Fin 512) (n : Fin 6) (j : Fin 1024) :
    (iblk m c 4 t : Vec Ideal S1x6x1024 .f32) (ix3 0 n j) = m ((c : Thread nD τ).loc main_arg4) (ix3 (bat (row t x).val) n j) := by
  rw [← V_main_arg4 m c]
  unfold iblk
  rw [View.read_apply]
  show V m c main_arg4 _ = _
  refine congrArg (V m c main_arg4) (funext fun a => Fin.ext ?_)
  match a with
  | ⟨0, _⟩ => show win0_4.index t 0 * 1 + 1 * 0 = (bat (row t x).val).val; rw [(index4 t).1, bat_row]; omega
  | ⟨1, _⟩ => show win0_4.index t 1 * 6 + 1 * n.val = n.val; rw [(index4 t).2.1]; omega
  | ⟨2, _⟩ => show win0_4.index t 2 * 1024 + 1 * j.val = j.val; rw [(index4 t).2.2]; omega

/-- Window 5 holds the output weight. -/
theorem read5 (k j : Fin 1024) : (iblk m c 5 t : Vec Ideal S1024x1024 .bf16) (ix2 k j) = m ((c : Thread nD τ).loc main_arg5) (ix2 k j) := by
  have e : V m c main_v0 = truncf (F := Ideal) .bf16 (m ((c : Thread nD τ).loc main_arg5)) bitsLt_bf16_f32 := by
    rfl
  have e' : V m c main_v0 (ix2 k j) = m ((c : Thread nD τ).loc main_arg5) (ix2 k j) := congrFun e (ix2 k j)
  rw [← e']
  unfold iblk
  rw [View.read_apply]
  show V m c main_v0 _ = _
  refine congrArg (V m c main_v0) (funext fun a => Fin.ext ?_)
  match a with
  | ⟨0, _⟩ => show win0_5.index t 0 * 1024 + 1 * k.val = k.val; rw [(index5 t).1]; omega
  | ⟨1, _⟩ => show win0_5.index t 1 * 1024 + 1 * j.val = j.val; rw [(index5 t).2]; omega

/-- Window 6 holds the gain. -/
theorem read6 (j : Fin 1024) : (iblk m c 6 t : Vec Ideal S1x1024 .f32) (ix2 0 j) = m ((c : Thread nD τ).loc main_arg6) (ix1 j) := by
  have e : V m c main_v1 = broadcastInDim S1x1024 ![1] bcast_S1024_S1x1024_1 (m ((c : Thread nD τ).loc main_arg6)) := by
    after_results_simp <;> rfl
  have e' : V m c main_v1 (ix2 (0 : Fin 1) j) = m ((c : Thread nD τ).loc main_arg6) (ix1 j) := by
    rw [e]
    refine broadcastInDim_apply _ _ _ (ix2 (0 : Fin 1) j) (ix1 j) fun a => ?_
    match a with
    | ⟨0, _⟩ => rfl
  rw [← e']
  unfold iblk
  rw [View.read_apply]
  show V m c main_v1 _ = _
  refine congrArg (V m c main_v1) (funext fun a => Fin.ext ?_)
  match a with
  | ⟨0, _⟩ => show win0_6.index t 0 * 1 + 1 * 0 = 0; rw [(index6 t).1]
  | ⟨1, _⟩ => show win0_6.index t 1 * 1024 + 1 * j.val = j.val; rw [(index6 t).2]; omega

/-- Window 7 holds the retrieval weight. -/
theorem read7 (k : Fin 1024) (p : Fin 2048) :
    (iblk m c 7 t : Vec Ideal S1024x2048 .bf16) (ix2 k p) = m ((c : Thread nD τ).loc main_arg7) (ix2 k p) := by
  have e : V m c main_v2 = truncf (F := Ideal) .bf16 (m ((c : Thread nD τ).loc main_arg7)) bitsLt_bf16_f32 := by
    rfl
  have e' : V m c main_v2 (ix2 k p) = m ((c : Thread nD τ).loc main_arg7) (ix2 k p) := congrFun e (ix2 k p)
  rw [← e']
  unfold iblk
  rw [View.read_apply]
  show V m c main_v2 _ = _
  refine congrArg (V m c main_v2) (funext fun a => Fin.ext ?_)
  match a with
  | ⟨0, _⟩ => show win0_7.index t 0 * 1024 + 1 * k.val = k.val; rw [(index7 t).1]; omega
  | ⟨1, _⟩ => show win0_7.index t 1 * 2048 + 1 * p.val = p.val; rw [(index7 t).2]; omega

end Reads

section Blocks

variable (x0 : Vec Ideal S512x1024 .f32) (x1 : Vec Ideal S512x256 .bf16) (x2 : Vec Ideal S512x512 .bf16) (x3 : Vec Ideal S512x256 .bf16)
  (x4 : Vec Ideal S1x6x1024 .f32) (x5 : Vec Ideal S1024x1024 .bf16) (x6 : Vec Ideal S1x1024 .f32) (x7 : Vec Ideal S1024x2048 .bf16)
  (a0 : FVec Ideal S16896x1024 .f32) (a1 : FVec Ideal S16896x256 .bf16) (a2 : FVec Ideal S16896x512 .bf16) (a3 : FVec Ideal S16896x256 .bf16)
  (a4 : FVec Ideal S8x6x1024 .f32) (a5 : FVec Ideal S1024x1024 .f32) (a6 : FVec Ideal S1024 .f32) (a7 : FVec Ideal S1024x2048 .f32)
  (x : Fin 512) (r : Fin 16896)
  (h0 : ∀ j, x0 (ix2 x j) = a0 (ix2 r j)) (h1 : ∀ j, x1 (ix2 x j) = a1 (ix2 r j)) (h2 : ∀ j, x2 (ix2 x j) = a2 (ix2 r j))
  (h3 : ∀ j, x3 (ix2 x j) = a3 (ix2 r j)) (h4 : ∀ n j, x4 (ix3 0 n j) = a4 (ix3 (bat r.val) n j)) (h5 : ∀ k j, x5 (ix2 k j) = a5 (ix2 k j))
  (h6 : ∀ j, x6 (ix2 0 j) = a6 (ix1 j)) (h7 : ∀ k p, x7 (ix2 k p) = a7 (ix2 k p))

include h0 h1 h2 h3 h4 h5

/-- With the row's entries in its blocks, the body's first value is the row's. -/
theorem xB_eq (j : Fin 1024) : xB x0 x1 x2 x3 x4 x5 x j = xG a0 a1 a2 a3 a4 a5 r j := by
  unfold xB xG
  rw [h0 j, funext h1, funext h2, funext h3, funext fun k => h5 k j, h4 2 j]

include h6

/-- So is its norm. -/
theorem hB_eq (j : Fin 1024) : hB x0 x1 x2 x3 x4 x5 x6 x j = hG a0 a1 a2 a3 a4 a5 a6 r j := by
  unfold hB hG
  rw [h6 j, h4 4 j, h4 3 j, funext (xB_eq x0 x1 x2 x3 x4 x5 a0 a1 a2 a3 a4 a5 x r h0 h1 h2 h3 h4 h5)]

include h7

/-- And its retrieval query. -/
theorem qB_eq (p : Fin 2048) : (∑ k : Fin 1024, hB x0 x1 x2 x3 x4 x5 x6 x k * x7 (ix2 k p) : EReal) = qG a0 a1 a2 a3 a4 a5 a6 a7 r p := by
  unfold qG
  exact Finset.sum_congr rfl fun k _ => congrArg₂ (· * ·) (hB_eq x0 x1 x2 x3 x4 x5 x6 a0 a1 a2 a3 a4 a5 a6 x r h0 h1 h2 h3 h4 h5 h6 k) (h7 k p)

end Blocks

section Final

variable (m : (ℓ : Loc nD τ sig) → Buf (Elt Ideal) ℓ) (c : Dev nD)

/-- What point `t` writes of the first result. -/
theorem flushed8_apply (t : Fin cfg0.N) (x : Fin 512) (j : Fin 1024) : (dats m 0 c).flushed 8 t (ix2 x j)
    = xG (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (row t x) j := by
  rw [Value.flushed8]
  refine Eq.trans ?_ ((block8 (iblk m c 0 t) (iblk m c 1 t) (iblk m c 2 t) (iblk m c 3 t) (iblk m c 4 t) (iblk m c 5 t) (iblk m c 6 t) (iblk m c 7 t) x j).trans
    (xB_eq _ _ _ _ _ _ _ _ _ _ _ _ x (row t x) (read0 m c t x) (read1 m c t x) (read2 m c t x) (read3 m c t x) (read4 m c t x) (read5 m c t) j))
  rfl

/-- What point `t` writes of the second. -/
theorem flushed9_apply (t : Fin cfg0.N) (x : Fin 512) (j : Fin 1024) : (dats m 0 c).flushed 9 t (ix2 x j)
    = hG (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (row t x) j := by
  rw [Value.flushed9]
  refine Eq.trans ?_ ((block9 (iblk m c 0 t) (iblk m c 1 t) (iblk m c 2 t) (iblk m c 3 t) (iblk m c 4 t) (iblk m c 5 t) (iblk m c 6 t) (iblk m c 7 t) x j).trans
    (hB_eq _ _ _ _ _ _ _ _ _ _ _ _ _ _ x (row t x) (read0 m c t x) (read1 m c t x) (read2 m c t x) (read3 m c t x) (read4 m c t x) (read5 m c t)
      (read6 m c t) j))
  rfl

/-- What point `t` writes of the third. -/
theorem flushed10_apply (t : Fin cfg0.N) (x : Fin 512) (p : Fin 2048) : (dats m 0 c).flushed 10 t (ix2 x p)
    = qG (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (row t x) p := by
  rw [Value.flushed10]
  refine Eq.trans ?_ ((block10 (iblk m c 0 t) (iblk m c 1 t) (iblk m c 2 t) (iblk m c 3 t) (iblk m c 4 t) (iblk m c 5 t) (iblk m c 6 t) (iblk m c 7 t) x p).trans
    (qB_eq _ _ _ _ _ _ _ _ _ _ _ _ _ _ _ _ x (row t x) (read0 m c t x) (read1 m c t x) (read2 m c t x) (read3 m c t x) (read4 m c t x) (read5 m c t)
      (read6 m c t) (read7 m c t) p))
  rfl

/-- A block's index as row and column. -/
theorem block_ix {n : ℕ} (j : (⟨2, ![512, n]⟩ : Shape).Idx) : j = ix2 (j 0 : Fin 512) (j 1 : Fin n) := by
  funext a
  match a with
  | ⟨0, _⟩ => rfl
  | ⟨1, _⟩ => rfl

/-- The first array after the launch. -/
theorem final8 : (dats m 0 c).arrAt 8 cfg0.N = xArr (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_cover 8 _ (fun t _ => ?_) fun i => ?_
  · funext j
    rw [View.read_apply]
    refine (congrArg _ (block_ix (n := 1024) j)).trans ((flushed8_apply m c t (j 0) (j 1)).trans ?_)
    refine congrArg₂ (xG _ _ _ _ _ _) (Fin.ext ?_) (Fin.ext ?_)
    · show 512 * t.val + (j 0).val = win0_8.index t 0 * 512 + 1 * (j 0).val
      rw [(index8 t).1]; omega
    · show (j 1).val = win0_8.index t 1 * 1024 + 1 * (j 1).val
      rw [(index8 t).2]; omega
  · have h0 : (i 0 : Nat) < 16896 := (i 0).isLt
    have h1 : (i 1 : Nat) < 1024 := (i 1).isLt
    obtain ⟨t, ht⟩ : ∃ t : Fin cfg0.N, t.val = (i 0).val / 512 := ⟨⟨(i 0).val / 512, by show _ < 33; omega⟩, rfl⟩
    refine ⟨t, flush0_8 t, ?_⟩
    show i ∈ ((View.whole main_v3_0).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [(index8 t).1]; omega
    | ⟨1, _⟩ =>
      show win0_8.index t 1 * 1024 ≤ (i 1 : Nat) ∧ (i 1 : Nat) < win0_8.index t 1 * 1024 + 1024
      rw [(index8 t).2]; omega

/-- The second. -/
theorem final9 : (dats m 0 c).arrAt 9 cfg0.N = hArr (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_cover 9 _ (fun t _ => ?_) fun i => ?_
  · funext j
    rw [View.read_apply]
    refine (congrArg _ (block_ix (n := 1024) j)).trans ((flushed9_apply m c t (j 0) (j 1)).trans ?_)
    refine congrArg₂ (hG _ _ _ _ _ _ _) (Fin.ext ?_) (Fin.ext ?_)
    · show 512 * t.val + (j 0).val = win0_9.index t 0 * 512 + 1 * (j 0).val
      rw [(index9 t).1]; omega
    · show (j 1).val = win0_9.index t 1 * 1024 + 1 * (j 1).val
      rw [(index9 t).2]; omega
  · have h0 : (i 0 : Nat) < 16896 := (i 0).isLt
    have h1 : (i 1 : Nat) < 1024 := (i 1).isLt
    obtain ⟨t, ht⟩ : ∃ t : Fin cfg0.N, t.val = (i 0).val / 512 := ⟨⟨(i 0).val / 512, by show _ < 33; omega⟩, rfl⟩
    refine ⟨t, flush0_9 t, ?_⟩
    show i ∈ ((View.whole main_v3_1).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [(index9 t).1]; omega
    | ⟨1, _⟩ =>
      show win0_9.index t 1 * 1024 ≤ (i 1 : Nat) ∧ (i 1 : Nat) < win0_9.index t 1 * 1024 + 1024
      rw [(index9 t).2]; omega

/-- The third. -/
theorem final10 : (dats m 0 c).arrAt 10 cfg0.N = qArr (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  refine (dats m 0 c).arrAt_eq_of_cover 10 _ (fun t _ => ?_) fun i => ?_
  · funext j
    rw [View.read_apply]
    refine (congrArg _ (block_ix (n := 2048) j)).trans ((flushed10_apply m c t (j 0) (j 1)).trans ?_)
    refine congrArg₂ (qG _ _ _ _ _ _ _ _) (Fin.ext ?_) (Fin.ext ?_)
    · show 512 * t.val + (j 0).val = win0_10.index t 0 * 512 + 1 * (j 0).val
      rw [(index10 t).1]; omega
    · show (j 1).val = win0_10.index t 1 * 2048 + 1 * (j 1).val
      rw [(index10 t).2]; omega
  · have h0 : (i 0 : Nat) < 16896 := (i 0).isLt
    have h1 : (i 1 : Nat) < 2048 := (i 1).isLt
    obtain ⟨t, ht⟩ : ∃ t : Fin cfg0.N, t.val = (i 0).val / 512 := ⟨⟨(i 0).val / 512, by show _ < 33; omega⟩, rfl⟩
    refine ⟨t, flush0_10 t, ?_⟩
    show i ∈ ((View.whole main_v3_2).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [(index10 t).1]; omega
    | ⟨1, _⟩ =>
      show win0_10.index t 1 * 2048 ≤ (i 1 : Nat) ∧ (i 1 : Nat) < win0_10.index t 1 * 2048 + 2048
      rw [(index10 t).2]; omega

end Final

end Cert.Kernel2Ideal.Out

end
-- ==== Proof.OutRef.lean ====
/- The output projection's reference: its three results as chains of named parts, and their values entry by entry. -/
module

public import proofs.«01_k».proof.Proof.OutVal
public import proofs.«01_k».proof.Proof.Gen.Reference2Ideal
public import proofs.«01_k».proof.Proof.Gen.Reference2Ideal.Run
public import Idealize.ShloMosaic.Lib.ValueIdx
public import Idealize.ShloMosaic.Lib.ValueLayout
public import Idealize.ShloMosaic.Lib.MatmulPlain
public import Idealize.ShloMosaic.PureOps.Ideal.Laws
public import Idealize.ShloMosaic.Lib.IdealHost

@[expose] public section

set_option maxRecDepth 16384

noncomputable section

namespace Cert.Reference2Ideal.Out

open Idealize.ShloMosaic Idealize.ShloMosaic.TcCoe Idealize.ShloMosaic.ValueIdx Cert.Reference2Ideal Cert.Reference2Ideal.Gen Cert.OutProj

section Terms

variable {F : FTy → Type} [FloatOps F]

/-- A modulation vector against every row: the two latent batches' and the context's. -/
def rows (v : FVec F S8x1024 .f32) : FVec F S16896x1024 .f32 :=
  concatenate S16896x1024 0 [
    ⟨S16384x1024, shapeCast _ (broadcastInDim S2x8192x1024 ![0, 1, 2] bcast_S2x1x1024_S2x8192x1024_0_1_2
      (broadcastInDim S2x1x1024 ![0, 2] bcast_S2x1024_S2x1x1024_0_2 (extractStridedSlice S2x1024 ![0, 0] v slices_S8x1024_S2x1024_0_0)))
      shapeCasts_S2x8192x1024_S16384x1024⟩,
    ⟨S512x1024, broadcastInDim S512x1024 ![0, 1] bcast_S1x1024_S512x1024_0_1 (extractStridedSlice S1x1024 ![2, 0] v slices_S8x1024_S1x1024_2_0)⟩]
    concatenates_S16384x1024_S512x1024_S16896x1024_d0

/-- The three mixers side by side. -/
def cat (a1 : FVec F S16896x256 .bf16) (a2 : FVec F S16896x512 .bf16) (a3 : FVec F S16896x256 .bf16) : FVec F S16896x1024 .f32 :=
  concatenate S16896x1024 1 [⟨S16896x256, extf .f32 a1 bitsLt_bf16_f32⟩, ⟨S16896x512, extf .f32 a2 bitsLt_bf16_f32⟩,
    ⟨S16896x256, extf .f32 a3 bitsLt_bf16_f32⟩] concatenates_S16896x256_S16896x512_S16896x256_S16896x1024_d1

/-- The modulation's row 2, of every conditioning. -/
def mod2 (a4 : FVec F S8x6x1024 .f32) : FVec F S8x1024 .f32 :=
  shapeCast _ (extractStridedSlice S8x1x1024 ![0, 2, 0] a4 slices_S8x6x1024_S8x1x1024_0_2_0) shapeCasts_S8x1x1024_S8x1024
/-- Its row 3. -/
def mod3 (a4 : FVec F S8x6x1024 .f32) : FVec F S8x1024 .f32 :=
  shapeCast _ (extractStridedSlice S8x1x1024 ![0, 3, 0] a4 slices_S8x6x1024_S8x1x1024_0_3_0) shapeCasts_S8x1x1024_S8x1024
/-- Its row 4. -/
def mod4 (a4 : FVec F S8x6x1024 .f32) : FVec F S8x1024 .f32 :=
  shapeCast _ (extractStridedSlice S8x1x1024 ![0, 4, 0] a4 slices_S8x6x1024_S8x1x1024_0_4_0) shapeCasts_S8x1x1024_S8x1024

/-- The stream after the residual. -/
def xT (a0 : FVec F S16896x1024 .f32) (a1 : FVec F S16896x256 .bf16) (a2 : FVec F S16896x512 .bf16) (a3 : FVec F S16896x256 .bf16)
    (a4 : FVec F S8x6x1024 .f32) (a5 : FVec F S1024x1024 .f32) : FVec F S16896x1024 .f32 :=
  addf a0 (mulf (rows (mod2 a4)) (Host.dotGeneral dot_S16896x1024_S1024x1024_S16896x1024_1_0_0_1_n_n none (cat a1 a2 a3) a5))

/-- The modulated norm of it. -/
def hT (x : FVec F S16896x1024 .f32) (a4 : FVec F S8x6x1024 .f32) (a6 : FVec F S1024 .f32) : FVec F S16896x1024 .f32 :=
  addf (mulf (mulf (mulf x (broadcastInDim S16896x1024 ![0, 1] bcast_S16896x1_S16896x1024_0_1 (Host.rsqrt (addf (Host.divf
      (broadcastInDim S16896x1 ![0] bcast_S16896_S16896x1_0
        (Host.reduceAdd (mulf x x) (constant S_ .f32 0x00000000#32) reducesTo_S16896x1024_S16896_d1 h_S_))
      (broadcastInDim S16896x1 ![] bcast_S_S16896x1 (constant S_ .f32 0x44800000#32)))
      (broadcastInDim S16896x1 ![] bcast_S_S16896x1 (constant S_ .f32 0x358637BD#32))))))
    (broadcastInDim S16896x1024 ![0, 1] bcast_S1x1024_S16896x1024_0_1 (broadcastInDim S1x1024 ![1] bcast_S1024_S1x1024_1 a6)))
    (addf (broadcastInDim S16896x1024 ![] bcast_S_S16896x1024 (constant S_ .f32 0x3F800000#32)) (rows (mod4 a4)))) (rows (mod3 a4))

/-- The second result is the norm's narrowing. -/
theorem res51_eq (m : (ℓ : Loc nD τ sig) → Buf (Elt F) ℓ) (c : Dev nD) :
    Value.res_main_v51 m c = truncf .bf16 (hT (xT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) (m ((c.tc : Thread nD τ).loc main_arg4)) (m ((c.tc : Thread nD τ).loc main_arg6))) bitsLt_bf16_f32 := rfl

/-- The third is its product with the retrieval weight. -/
theorem res52_eq (m : (ℓ : Loc nD τ sig) → Buf (Elt F) ℓ) (c : Dev nD) :
    Value.res_main_v52 m c = Host.dotGeneral dot_S16896x1024_S1024x2048_S16896x2048_1_0_0_1_n_n none
      (hT (xT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) (m ((c.tc : Thread nD τ).loc main_arg4)) (m ((c.tc : Thread nD τ).loc main_arg6)))
      (m ((c.tc : Thread nD τ).loc main_arg7)) := rfl

end Terms

/-- A row of the modulation, read at a conditioning and a column. -/
theorem mod_apply (n : Fin 6) (off : Fin 3 → ℕ) (ho : off = ![0, n.val, 0]) (a4 : FVec Ideal S8x6x1024 .f32)
    (hs : S8x6x1024.Slices off S8x1x1024) (b : Fin 8) (j : Fin 1024) :
    shapeCast S8x1024 (extractStridedSlice S8x1x1024 off a4 hs) shapeCasts_S8x1x1024_S8x1024 (ix2 b j) = a4 (ix3 b n j) := by
  subst ho
  refine (shapeCast_apply _ _ (ix2 b j) (ix3 b (0 : Fin 1) j) ?_).trans ?_
  · rw [Shape.rowMajor_val_two, Shape.rowMajor_val_three]
    show (b.val * 1 + 0) * 1024 + j.val = b.val * 1024 + j.val
    omega
  · refine congrArg a4 (funext fun a => Fin.ext ?_)
    match a with
    | ⟨0, _⟩ => exact Nat.zero_add _
    | ⟨1, _⟩ => exact Nat.add_zero _
    | ⟨2, _⟩ => exact Nat.zero_add _

/-- A modulation vector against every row, entry by entry. -/
theorem rows_apply (v : FVec Ideal S8x1024 .f32) (r : Fin 16896) (j : Fin 1024) : rows v (ix2 r j) = v (ix2 (bat r.val) j) := by
  have hr := r.isLt
  unfold rows
  by_cases h : r.val < 16384
  · refine (concatenate_pair_apply_left (t := S16896x1024) (s₁ := S16384x1024) (s₂ := S512x1024) _ _ _ _ _ rfl
      (ix2 (⟨r.val, h⟩ : Fin 16384) j) fun a => ?_).trans ?_
    · match a with
      | ⟨0, _⟩ => rfl
      | ⟨1, _⟩ => rfl
    refine (shapeCast_apply _ _ _ (ix3 (⟨r.val / 8192, by omega⟩ : Fin 2) (⟨r.val % 8192, Nat.mod_lt _ (by decide)⟩ : Fin 8192) j) ?_).trans ?_
    · rw [Shape.rowMajor_val_two, Shape.rowMajor_val_three]
      show (r.val / 8192 * 8192 + r.val % 8192) * 1024 + j.val = r.val * 1024 + j.val
      omega
    refine (broadcastInDim_apply _ _ _ _ (ix3 (⟨r.val / 8192, by omega⟩ : Fin 2) (0 : Fin 1) j) fun a => ?_).trans ?_
    · match a with
      | ⟨0, _⟩ => rfl
      | ⟨1, _⟩ => rfl
      | ⟨2, _⟩ => rfl
    refine (broadcastInDim_apply _ _ _ _ (ix2 (⟨r.val / 8192, by omega⟩ : Fin 2) j) fun a => ?_).trans ?_
    · match a with
      | ⟨0, _⟩ => rfl
      | ⟨1, _⟩ => rfl
    refine congrArg v (funext fun a => Fin.ext ?_)
    match a with
    | ⟨0, _⟩ => show 0 + r.val / 8192 = min (r.val / 8192) 2; omega
    | ⟨1, _⟩ => exact Nat.zero_add _
  · refine (concatenate_pair_apply_right (t := S16896x1024) (s₁ := S16384x1024) (s₂ := S512x1024) _ _ _ _ _ rfl rfl
      (ix2 (⟨r.val - 16384, by omega⟩ : Fin 512) j) (fun a ha => ?_) ?_).trans ?_
    · match a with
      | ⟨0, _⟩ => exact absurd rfl ha
      | ⟨1, _⟩ => rfl
    · show r.val - 16384 + 16384 = r.val; omega
    refine (broadcastInDim_apply _ _ _ _ (ix2 (0 : Fin 1) j) fun a => ?_).trans ?_
    · match a with
      | ⟨0, _⟩ => rfl
      | ⟨1, _⟩ => rfl
    refine congrArg v (funext fun a => Fin.ext ?_)
    match a with
    | ⟨0, _⟩ => show 2 + 0 = min (r.val / 8192) 2; omega
    | ⟨1, _⟩ => exact Nat.zero_add _

/-- A host product, entry by entry. -/
theorem hostProd_apply {M K N : ℕ} (q : FVec Ideal ⟨2, ![M, K]⟩ .f32) (k : FVec Ideal ⟨2, ![K, N]⟩ .f32) (r : Fin M) (j : Fin N) :
    (Host.dotGeneral (DotDims.plain M K N) none q k : FVec Ideal ⟨2, ![M, N]⟩ .f32) (ix2 r j) = (∑ e : Fin K, q (ix2 r e) * k (ix2 e j) : EReal) := by
  have h := Ideal.matmul_plain_apply none q k (fun _ => (0 : EReal)) r j
  rw [zero_add] at h
  refine Eq.trans ?_ h
  show FloatOps.dotGeneral _ none _ q k _ = _
  rw [Ideal.dotGeneral_apply, Ideal.matmul_apply, zero_add]

/-- The mixers side by side: the first 256 columns. -/
theorem cat_first (a1 : FVec Ideal S16896x256 .bf16) (a2 : FVec Ideal S16896x512 .bf16) (a3 : FVec Ideal S16896x256 .bf16)
    (r : Fin 16896) (k : Fin 256) : cat a1 a2 a3 (ix2 r (⟨k.val, by omega⟩ : Fin 1024)) = a1 (ix2 r k) := by
  unfold cat
  refine concatenate_apply_piece (t := S16896x1024) _ _ _ _ 0 (by show 0 < 3; decide) S16896x256 (extf .f32 a1 bitsLt_bf16_f32) rfl rfl 0 rfl (ix2 r k) (fun a ha => ?_) ?_
  · match a with
    | ⟨0, _⟩ => rfl
    | ⟨1, _⟩ => exact absurd rfl ha
  · exact Nat.zero_add _

/-- The next 512. -/
theorem cat_second (a1 : FVec Ideal S16896x256 .bf16) (a2 : FVec Ideal S16896x512 .bf16) (a3 : FVec Ideal S16896x256 .bf16)
    (r : Fin 16896) (k : Fin 512) : cat a1 a2 a3 (ix2 r (⟨256 + k.val, by omega⟩ : Fin 1024)) = a2 (ix2 r k) := by
  unfold cat
  refine concatenate_apply_piece (t := S16896x1024) _ _ _ _ 1 (by show 1 < 3; decide) S16896x512 (extf .f32 a2 bitsLt_bf16_f32) rfl rfl 256 rfl (ix2 r k) (fun a ha => ?_) ?_
  · match a with
    | ⟨0, _⟩ => rfl
    | ⟨1, _⟩ => exact absurd rfl ha
  · rfl

/-- The last 256. -/
theorem cat_third (a1 : FVec Ideal S16896x256 .bf16) (a2 : FVec Ideal S16896x512 .bf16) (a3 : FVec Ideal S16896x256 .bf16)
    (r : Fin 16896) (k : Fin 256) : cat a1 a2 a3 (ix2 r (⟨768 + k.val, by omega⟩ : Fin 1024)) = a3 (ix2 r k) := by
  unfold cat
  refine concatenate_apply_piece (t := S16896x1024) _ _ _ _ 2 (by show 2 < 3; decide) S16896x256 (extf .f32 a3 bitsLt_bf16_f32) rfl rfl 768 rfl (ix2 r k) (fun a ha => ?_) ?_
  · match a with
    | ⟨0, _⟩ => rfl
    | ⟨1, _⟩ => exact absurd rfl ha
  · rfl

section Values

variable (a0 : FVec Ideal S16896x1024 .f32) (a1 : FVec Ideal S16896x256 .bf16) (a2 : FVec Ideal S16896x512 .bf16) (a3 : FVec Ideal S16896x256 .bf16)
  (a4 : FVec Ideal S8x6x1024 .f32) (a5 : FVec Ideal S1024x1024 .f32) (a6 : FVec Ideal S1024 .f32) (a7 : FVec Ideal S1024x2048 .f32)

/-- The first result, entry by entry. -/
theorem xT_apply (r : Fin 16896) (j : Fin 1024) : xT a0 a1 a2 a3 a4 a5 (ix2 r j) = xG a0 a1 a2 a3 a4 a5 r j := by
  unfold xT xG xv
  refine (addf_apply _ _ _).trans (congrArg (_ + ·) ((mulf_apply _ _ _).trans (congrArg₂ (· * ·) ?_ ?_)))
  · exact (rows_apply _ r j).trans (mod_apply 2 _ rfl a4 _ (bat r.val) j)
  · refine (hostProd_apply (cat a1 a2 a3) a5 r j).trans ((sum_split _).trans (congrArg₂ (· + ·) (congrArg₂ (· + ·) ?_ ?_) ?_))
    · exact Finset.sum_congr rfl fun k _ => congrArg (· * _) (cat_first a1 a2 a3 r k)
    · exact Finset.sum_congr rfl fun k _ => congrArg (· * _) (cat_second a1 a2 a3 r k)
    · exact Finset.sum_congr rfl fun k _ => congrArg (· * _) (cat_third a1 a2 a3 r k)

theorem redRow : S16896x1024.Reduces [1] S16896 := by decide

theorem liftRow (r : Fin 16896) (k : Fin 1024) : redRow.lift (ix1 r) k = ix2 r k := by
  funext a
  match a with
  | ⟨0, _⟩ => rfl
  | ⟨1, _⟩ => rfl

/-- A row's sum. -/
theorem sumRow (x : FVec Ideal S16896x1024 .f32) (r : Fin 16896) :
    Host.reduceAdd x (constant S_ .f32 0x00000000#32) reducesTo_S16896x1024_S16896_d1 h_S_ (ix1 r) = (∑ k : Fin 1024, x (ix2 r k) : EReal) := by
  rw [hostReduceAdd_apply, Ideal.hostReduceAdd_single _ redRow,
    show (constant S_ .f32 0x00000000#32 : FVec Ideal S_ .f32) (Shape.Idx.first h_S_) = (0 : EReal) from Ideal.ofBits_zero_f32, zero_add]
  exact Finset.sum_congr rfl fun k _ => congrArg x (liftRow r k)

/-- The modulated norm of an array, entry by entry. -/
theorem hT_apply (x : FVec Ideal S16896x1024 .f32) (r : Fin 16896) (j : Fin 1024) :
    hT x a4 a6 (ix2 r j) = hv (fun k => x (ix2 r k)) (a6 (ix1 j)) (a4 (ix3 (bat r.val) (4 : Fin 6) j)) (a4 (ix3 (bat r.val) (3 : Fin 6) j)) j := by
  unfold hT hv
  refine (addf_apply _ _ _).trans (congrArg₂ (· + ·) ((mulf_apply _ _ _).trans (congrArg₂ (· * ·) ((mulf_apply _ _ _).trans
    (congrArg₂ (· * ·) ((mulf_apply _ _ _).trans (congrArg (_ * ·) ?_)) ?_)) ?_)) ?_)
  · refine (broadcastInDim_apply _ _ _ (ix2 r j) (ix2 r (0 : Fin 1)) fun a => ?_).trans ?_
    · match a with
      | ⟨0, _⟩ => rfl
      | ⟨1, _⟩ => rfl
    show Ideal.rsqrt _ = _
    refine congrArg Ideal.rsqrt ((addf_apply _ _ _).trans (congrArg₂ (· + ·) ?_ ?_))
    · show Ideal.div _ _ = _
      refine congrArg₂ Ideal.div ?_ (broadcastInDim_scalar_apply _ _ _)
      refine (broadcastInDim_apply _ _ _ (ix2 r (0 : Fin 1)) (ix1 r) fun a => ?_).trans ?_
      · match a with
        | ⟨0, _⟩ => rfl
      exact sumRow _ r
    · exact broadcastInDim_scalar_apply _ _ _
  · refine (broadcastInDim_apply _ _ _ (ix2 r j) (ix2 (0 : Fin 1) j) fun a => ?_).trans ?_
    · match a with
      | ⟨0, _⟩ => rfl
      | ⟨1, _⟩ => rfl
    refine broadcastInDim_apply _ _ _ (ix2 (0 : Fin 1) j) (ix1 j) fun a => ?_
    match a with
    | ⟨0, _⟩ => rfl
  · refine (addf_apply _ _ _).trans (congrArg₂ (· + ·) (broadcastInDim_scalar_apply _ _ _) ?_)
    exact (rows_apply _ r j).trans (mod_apply 4 _ rfl a4 _ (bat r.val) j)
  · exact (rows_apply _ r j).trans (mod_apply 3 _ rfl a4 _ (bat r.val) j)

/-- The second result, entry by entry. -/
theorem h_apply (r : Fin 16896) (j : Fin 1024) : hT (xT a0 a1 a2 a3 a4 a5) a4 a6 (ix2 r j) = hG a0 a1 a2 a3 a4 a5 a6 r j := by
  rw [hT_apply]
  unfold hG
  exact congrArg (fun f => hv f _ _ _ j) (funext fun k => xT_apply a0 a1 a2 a3 a4 a5 r k)

/-- An index of a two-axis array is its two coordinates. -/
theorem ix2_eta {a b : ℕ} (i : (⟨2, ![a, b]⟩ : Shape).Idx) : i = ix2 (i 0 : Fin a) (i 1 : Fin b) := by
  funext k
  match k with
  | ⟨0, _⟩ => rfl
  | ⟨1, _⟩ => rfl

/-- The three results as arrays. -/
theorem x_arr : xT a0 a1 a2 a3 a4 a5 = xArr a0 a1 a2 a3 a4 a5 := by
  funext i
  rw [ix2_eta i]
  exact xT_apply a0 a1 a2 a3 a4 a5 _ _

theorem h_arr : hT (xT a0 a1 a2 a3 a4 a5) a4 a6 = hArr a0 a1 a2 a3 a4 a5 a6 := by
  funext i
  rw [ix2_eta i]
  exact h_apply a0 a1 a2 a3 a4 a5 a6 _ _

theorem q_arr : Host.dotGeneral dot_S16896x1024_S1024x2048_S16896x2048_1_0_0_1_n_n none (hT (xT a0 a1 a2 a3 a4 a5) a4 a6) a7
    = qArr a0 a1 a2 a3 a4 a5 a6 a7 := by
  funext i
  rw [ix2_eta i]
  refine (hostProd_apply _ a7 _ _).trans (Finset.sum_congr rfl fun k _ => congrArg (· * _) ?_)
  exact h_apply a0 a1 a2 a3 a4 a5 a6 _ k

end Values

end Cert.Reference2Ideal.Out

end
-- ==== Proof.Algebraic2.lean ====
/- The output projection's value claim: the idealised kernel and the idealised reference return the same three arrays. -/
module

public import proofs.«01_k».proof.Defs
public import proofs.«01_k».proof.Proof.OutArray
public import proofs.«01_k».proof.Proof.OutRef

@[expose] public section

set_option maxRecDepth 16384

noncomputable section

open Idealize.ShloMosaic Idealize.ShloMosaic.TcCoe Idealize.ShloMosaic.ValueIdx Idealize.SL.Sem

namespace Cert.Proof

/-- On every argument the two programs return the same stream, the same modulated norm and the same retrieval queries. -/
theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨_, _, _, Cert.Kernel2Ideal.Value.run_blocks (F := Ideal) m ρ, ?_⟩
  refine (θ_run Cert.Reference2Ideal.defs _ _).mono
    (fun _ h c => ⟨(h c).1.trans ?_, (h c).2.1.trans ?_, (h c).2.2.1.trans ?_, (h c).2.2.2⟩)
    (Cert.Reference2Ideal.Value.run (F := Ideal) m' ρ')
  · obtain ⟨e0, e1, e2, e3, e4, e5, e6, e7⟩ := hagree c
    refine (Cert.Reference2Ideal.Out.x_arr _ _ _ _ _ _).trans ?_
    rw [e0, e1, e2, e3, e4, e5]
    exact (Cert.Kernel2Ideal.Out.final8 m c).symm
  · obtain ⟨e0, e1, e2, e3, e4, e5, e6, e7⟩ := hagree c
    refine (Cert.Reference2Ideal.Out.res51_eq m' c).trans ((Cert.Reference2Ideal.Out.h_arr _ _ _ _ _ _ _).trans ?_)
    rw [e0, e1, e2, e3, e4, e5, e6]
    exact (Cert.Kernel2Ideal.Out.final9 m c).symm
  · obtain ⟨e0, e1, e2, e3, e4, e5, e6, e7⟩ := hagree c
    refine (Cert.Reference2Ideal.Out.res52_eq m' c).trans ((Cert.Reference2Ideal.Out.q_arr _ _ _ _ _ _ _ _).trans ?_)
    rw [e0, e1, e2, e3, e4, e5, e6, e7]
    exact (Cert.Kernel2Ideal.Out.final10 m c).symm

end Cert.Proof

end
-- ==== Proof.Claims3.lean ====
/- The claims about the input projection's programs beside their value claim: their frames. -/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Quiescent

@[expose] public section

noncomputable section

open Idealize.ShloMosaic Idealize.ShloMosaic.TcCoe Idealize.SL.Sem

namespace Cert.Proof

/-- The input projection's kernel runs, ends with its arguments unchanged and its semaphores at zero. -/
theorem frame3_p : Cert.quiescent_Kernel3 (hKernel3 := Cert.Kernel3.Gen.facts) := fun m ρ _ => Cert.Kernel3.Gen.frame m ρ

/-- So does the idealised kernel. -/
theorem frame3_pi : Cert.quiescent_Kernel3Ideal (hKernel3Ideal := Cert.Kernel3Ideal.Gen.facts) :=
  fun m ρ _ => Cert.Kernel3Ideal.Gen.frame m ρ

/-- And the idealised reference. -/
theorem frame3_ri : Cert.quiescent_Reference3Ideal (hReference3Ideal := Cert.Reference3Ideal.Gen.facts) := fun m ρ _ =>
  (θ_run Cert.Reference3Ideal.defs _ _).mono (fun r h => ⟨fun c => (h c).2.2.2.2.2.2.2.2.2,
      Idealize.ShloMosaic.sem_eq_zero_of_no_sems (by decide) r.2⟩)
    (Cert.Reference3Ideal.Value.run (F := Ideal) m ρ)

/-- Idealising the input projection names one factor: 1/√32/ln 2, the number that the word 0x3E8293EE rounds. -/
theorem preserves3 : Cert.preserves_Kernel3_Kernel3Ideal :=
  IdealRules.named_const.statement Cert.Kernel3Ideal.κ "da_scale" .f32 0x3E8293EE#32 _ rfl

end Cert.Proof

end
-- ==== Proof.InVal.lean ====
/- What the input projection computes, entry by entry, as functions of its arguments' entries: the projected row, and a
   head's columns turned by the row's position. -/
module

public import proofs.«01_k».proof.Proof.OutVal

@[expose] public section

noncomputable section

namespace Cert.InProj

open Idealize.ShloMosaic Idealize.ShloMosaic.ValueIdx Cert.OutProj

section Turn

variable (m : ℕ) (hm : 0 < m) (cr sr cc sc : (⟨2, ![8192, m]⟩ : Shape).Idx → EReal)

/-- A table's entry at a row's position and a column's frequency. -/
def tabAt (t : (⟨2, ![8192, m]⟩ : Shape).Idx → EReal) (r j : ℕ) : EReal :=
  t (ix2 ⟨r % 8192, Nat.mod_lt _ (by decide)⟩ ⟨j % m, Nat.mod_lt _ hm⟩)

/-- The table of a column: a head's first half takes the image row's, its second half the image column's. -/
def axisAt (tr tc : (⟨2, ![8192, m]⟩ : Shape).Idx → EReal) (r j : ℕ) : EReal :=
  if j % (4 * m) < 2 * m then tabAt m hm tr r j else tabAt m hm tc r j

/-- Column `j` of a latent row after the turn, the pairs being `m` columns apart; a context row is not turned. -/
def turn (r : ℕ) (f : ℕ → EReal) (j : ℕ) : EReal :=
  if r < 16384 then
    if j % (2 * m) < m then f j * axisAt m hm cr cc r j - f (j + m) * axisAt m hm sr sc r j
    else f j * axisAt m hm cr cc r j + f (j - m) * axisAt m hm sr sc r j
  else f j

/-- The lane table of the cosines at a row and a lane. -/
def cosL (r j : ℕ) : EReal := if r < 16384 then axisAt m hm cr cc r j else 1

/-- The lane table of the sines that the next pair member is multiplied by. -/
def sinA (r j : ℕ) : EReal := if r < 16384 then (if j % (2 * m) < m then -axisAt m hm sr sc r j else 0) else 0

/-- The lane table of the sines that the previous pair member is multiplied by. -/
def sinB (r j : ℕ) : EReal := if r < 16384 then (if j % (2 * m) < m then 0 else axisAt m hm sr sc r j) else 0

end Turn

/-- An entry of the table depends on the column's frequency alone. -/
theorem axisAt_add (m : ℕ) (hm : 0 < m) (h : m = 16 ∨ m = 8) (tr tc : (⟨2, ![8192, m]⟩ : Shape).Idx → EReal) (r B j : ℕ) (hB : B % 128 = 0) :
    axisAt m hm tr tc r (B + j) = axisAt m hm tr tc r j := by
  unfold axisAt tabAt
  have e1 : (B + j) % (4 * m) = j % (4 * m) := by rcases h with rfl | rfl <;> omega
  have e2 : (B + j) % m = j % m := by rcases h with rfl | rfl <;> omega
  simp only [e1, e2]

/-- The sum of three products over the lanes of a block is the turn. -/
theorem turn_lanes (m : ℕ) (hm : 0 < m) (h : m = 16 ∨ m = 8) (cr sr cc sc : (⟨2, ![8192, m]⟩ : Shape).Idx → EReal) (r : ℕ) (f : ℕ → EReal)
    (B j : ℕ) (hB : B % 128 = 0) (hj : j < 128) :
    f (B + j) * cosL m hm cr cc r j + f (B + (j + m) % 128) * sinA m hm sr sc r j + f (B + (j + 128 - m) % 128) * sinB m hm sr sc r j
      = turn m hm cr sr cc sc r f (B + j) := by
  unfold turn cosL sinA sinB
  rw [axisAt_add m hm h cr cc r B j hB, axisAt_add m hm h sr sc r B j hB]
  by_cases hr : r < 16384
  · simp only [if_pos hr]
    have e1 : (B + j) % (2 * m) = j % (2 * m) := by rcases h with rfl | rfl <;> omega
    rw [e1]
    by_cases hf : j % (2 * m) < m
    · simp only [if_pos hf]
      have e2 : B + (j + m) % 128 = B + j + m := by rcases h with rfl | rfl <;> omega
      rw [e2, mul_zero, add_zero, mul_neg, sub_eq_add_neg]
    · simp only [if_neg hf]
      have e2 : B + (j + 128 - m) % 128 = B + j - m := by rcases h with rfl | rfl <;> omega
      rw [e2, mul_zero, add_zero]
  · simp only [if_neg hr, mul_zero, add_zero, mul_one]

/-- The factor of the differential attention's queries: one over the root of 32 and over the natural logarithm of 2. -/
def daS : EReal := (((Real.sqrt 32)⁻¹ * (Real.log 2)⁻¹ : ℝ) : EReal)

section Arrays

variable (x : (⟨2, ![16896, 1024]⟩ : Shape).Idx → EReal) (md : (⟨3, ![8, 6, 1024]⟩ : Shape).Idx → EReal)
  (gn : (⟨1, ![1024]⟩ : Shape).Idx → EReal) (w : (⟨2, ![1024, 2304]⟩ : Shape).Idx → EReal)

/-- The modulated norm at row `r`, column `k`. -/
def nG (r : Fin 16896) (k : Fin 1024) : EReal :=
  hv (fun k => x (ix2 r k)) (gn (ix1 k)) (md (ix3 (bat r.val) (1 : Fin 6) k)) (md (ix3 (bat r.val) (0 : Fin 6) k)) k

/-- The projection at row `r`, column `c`. -/
def pG (r : Fin 16896) (c : Fin 2304) : EReal := ∑ k : Fin 1024, nG x md gn r k * w (ix2 k c)

/-- The same with the column a natural number, the last column for one beyond it. -/
def pN (r : Fin 16896) (c : ℕ) : EReal := pG x md gn w r ⟨min c 2303, by omega⟩

theorem pN_of_lt (r : Fin 16896) (c : ℕ) (h : c < 2304) : pN x md gn w r c = pG x md gn w r ⟨c, h⟩ :=
  congrArg (pG x md gn w r) (Fin.ext (show min c 2303 = c by omega))

variable (cw sw cw' sw' : (⟨2, ![8192, 16]⟩ : Shape).Idx → EReal) (cd sd cd' sd' : (⟨2, ![8192, 8]⟩ : Shape).Idx → EReal)

/-- A projected row's columns from `o` on, turned as the window attention's heads are. -/
def turnW (o : ℕ) (r : Fin 16896) (j : ℕ) : EReal := turn 16 (by decide) cw sw cw' sw' r.val (fun c => pN x md gn w r (o + c)) j

/-- A projected row's columns from `o` on, turned as the differential attention's heads are. -/
def turnD (o : ℕ) (r : Fin 16896) (j : ℕ) : EReal := turn 8 (by decide) cd sd cd' sd' r.val (fun c => pN x md gn w r (o + c)) j

/-- A plain band of the projection as an array: its columns from `o` on. -/
def band (o n : ℕ) : (⟨2, ![16896, n]⟩ : Shape).Idx → EReal := fun i => pN x md gn w (i 0) (o + (i 1 : ℕ))

/-- The same with its axes exchanged. -/
def bandT (o n : ℕ) : (⟨2, ![n, 16896]⟩ : Shape).Idx → EReal := fun i => pN x md gn w (i 1) (o + (i 0 : ℕ))

/-- The window attention's queries and keys, and the differential attention's, as arrays. -/
def qwArr : (⟨2, ![16896, 512]⟩ : Shape).Idx → EReal :=
  fun i => turnW x md gn w cw sw cw' sw' 768 (i 0) (i 1 : ℕ) * Ideal.ofBits .f32 0x3E000000#32
def kwArr : (⟨2, ![16896, 128]⟩ : Shape).Idx → EReal := fun i => turnW x md gn w cw sw cw' sw' 1280 (i 0) (i 1 : ℕ)
def qdArr : (⟨2, ![16896, 256]⟩ : Shape).Idx → EReal := fun i => turnD x md gn w cd sd cd' sd' 1536 (i 0) (i 1 : ℕ) * daS
def kdArr : (⟨2, ![16896, 256]⟩ : Shape).Idx → EReal := fun i => turnD x md gn w cd sd cd' sd' 1792 (i 0) (i 1 : ℕ)

end Arrays

end Cert.InProj

end
-- ==== Proof.InBlock.lean ====
/- What the input projection's kernel leaves in its nine output blocks, from the blocks it is given. -/
module

public import proofs.«01_k».proof.Proof.InVal
public import proofs.«01_k».proof.Proof.OutBlock
public import proofs.«01_k».proof.Proof.Gen.Kernel3Ideal.Value
public import Idealize.ShloMosaic.Lib.KernelVsHost

@[expose] public section

set_option maxRecDepth 16384

noncomputable section

namespace Cert.Kernel3Ideal.In

open Idealize.ShloMosaic Idealize.ShloMosaic.TcCoe Idealize.ShloMosaic.ValueIdx Cert.Kernel3Ideal Cert.Kernel3Ideal.Gen Cert.OutProj Cert.InProj
open Cert.Kernel2Ideal.Out (prod_apply red2 lift2 zero2 mod_ld)

/-- The modulated norm's entry from the loaded vectors. -/
theorem pay5_apply (v0 : Vec Ideal S512x1024 .f32) (v1 : Vec Ideal S1x1024 .f32) (v3 v5 : Vec Ideal S1x1x1024 .f32) (x : Fin 512) (j : Fin 1024) :
    k0_pay5 v0 v1 v3 v5 (ix2 x j) = hv (fun k => v0 (ix2 x k)) (v1 (ix2 0 j)) (v5 (ix3 0 0 j)) (v3 (ix3 0 0 j)) j := by
  unfold k0_pay5 hv
  show addf (F := Ideal) (φ := .f32) _ _ (ix2 x j) = _
  refine (addf_apply _ _ _).trans (congrArg₂ (· + ·) ((mulf_apply _ _ _).trans (congrArg₂ (· * ·) ((mulf_apply _ _ _).trans
    (congrArg₂ (· * ·) ((mulf_apply _ _ _).trans (congrArg (_ * ·) ?_)) ?_)) ?_)) ?_)
  · refine (broadcastTo_apply _ _ (ix2 x j) (ix2 x (0 : Fin 1)) fun a => ?_).trans ?_
    · match a with
      | ⟨0, _⟩ => rfl
      | ⟨1, _⟩ => rfl
    show Ideal.rsqrt _ = _
    refine congrArg Ideal.rsqrt ((addf_apply _ _ _).trans (congrArg (· + _) ?_))
    show Ideal.div _ _ = _
    refine congrArg (Ideal.div · _) ?_
    refine (shapeCast_apply _ _ (ix2 x (0 : Fin 1)) (ix1 x) ?_).trans ?_
    · rw [Shape.rowMajor_val_two, Shape.rowMajor_val_one]
      show x.val = x.val * 1 + 0
      omega
    refine (Ideal.multiReduction_add_single _ _ red2 _ _ (ix1 x)).trans (Finset.sum_congr rfl fun (k : Fin 1024) _ => ?_)
    exact (congrArg _ (lift2 x k)).trans (mulf_apply _ _ (ix2 x k))
  · rw [shapeCast_self]
    exact broadcastTo_1b_ab_apply _ _ x j
  · refine (broadcastTo_1b_ab_apply _ _ x j).trans ((addf_apply _ _ _).trans (congrArg (_ + ·) ?_))
    exact shapeCast_1ab_ab_apply _ _ 0 j
  · exact (broadcastTo_1b_ab_apply _ _ x j).trans (shapeCast_1ab_ab_apply _ _ 0 j)

/-- A band of 768 columns of the weight is loaded from its first column on. -/
theorem cols_ld (x3 : Vec Ideal S1024x2304 .bf16) (o : ℕ) (inb) (k : Fin 1024) (j : Fin 768) (h : o + j.val < 2304) :
    View.ld x3 (Rect.unit (s := S1024x2304) ![0, o] S1024x768.size inb) (ix2 k j) = x3 (ix2 k ⟨o + j.val, h⟩) := by
  refine congrArg x3 (funext fun a => Fin.ext ?_)
  match a with
  | ⟨0, _⟩ => show 0 + 1 * k.val = k.val; omega
  | ⟨1, _⟩ => show o + 1 * j.val = o + j.val; omega

/-- A slice of a product's columns. -/
theorem slice_apply (v : FVec Ideal S512x768 .f32) (o n : ℕ) (hs : S512x768.Slices ![0, o] ⟨2, ![512, n]⟩) (x : Fin 512) (j : Fin n) (h : o + j.val < 768) :
    extractStridedSlice ⟨2, ![512, n]⟩ ![0, o] v hs (ix2 x j) = v (ix2 x ⟨o + j.val, h⟩) := by
  refine extractStridedSlice_apply _ _ _ (ix2 x j) _ fun a => ?_
  match a with
  | ⟨0, _⟩ => exact (Nat.zero_add _).symm
  | ⟨1, _⟩ => rfl

/-- A band of 128 columns of a product and its two turns around the lanes, against the three lane tables. -/
theorem lanes_apply (v : FVec Ideal S512x768 .f32) (o m : ℕ) (hm : m ≤ 128) (n1 n2 : BitVec 32) (h1 : n1.toNat = 128 - m) (h2 : n2.toNat = m) (h0 : 0 < m) (hm' : m < 128)
    (hs : S512x768.Slices ![0, o] S512x128) (hr : S512x128.Rotates 1 none) (c a b : FVec Ideal S512x128 .f32) (f : ℕ → EReal)
    (x : Fin 512) (hf : ∀ q : Fin 768, v (ix2 x q) = f q.val) (ho : o + 128 ≤ 768) (j : Fin 128) :
    addf (addf (mulf (extractStridedSlice S512x128 ![0, o] v hs) c)
        (mulf (dynamicRotate 1 n1 none (extractStridedSlice S512x128 ![0, o] v hs) hr) a))
      (mulf (dynamicRotate 1 n2 none (extractStridedSlice S512x128 ![0, o] v hs) hr) b) (ix2 x j)
      = (f (o + j.val) * c (ix2 x j) + f (o + (j.val + m) % 128) * a (ix2 x j) + f (o + (j.val + 128 - m) % 128) * b (ix2 x j) : EReal) := by
  have hj := j.isLt
  have e : ∀ q : Fin 128, extractStridedSlice S512x128 ![0, o] v hs (ix2 x q) = f (o + q.val) := fun q => by
    exact (slice_apply v o 128 hs x q (by omega)).trans (hf _)
  refine (addf_apply _ _ _).trans (congrArg₂ (· + ·) ((addf_apply _ _ _).trans (congrArg₂ (· + ·) ((mulf_apply _ _ _).trans (congrArg (· * _) (e j)))
    ((mulf_apply _ _ _).trans (congrArg (· * _) ?_)))) ((mulf_apply _ _ _).trans (congrArg (· * _) ?_)))
  · refine (dynamicRotate_apply 1 n1 _ hr (ix2 x j) (ix2 x ⟨(j.val + m) % 128, Nat.mod_lt _ (by decide)⟩) fun q => ?_).trans (e _)
    match q with
    | ⟨0, _⟩ => rfl
    | ⟨1, _⟩ =>
      show (j.val + m) % 128 = (j.val + 128 - n1.toNat % 128) % 128
      rw [h1]; congr 1; omega
  · refine (dynamicRotate_apply 1 n2 _ hr (ix2 x j) (ix2 x ⟨(j.val + 128 - m) % 128, Nat.mod_lt _ (by decide)⟩) fun q => ?_).trans (e _)
    match q with
    | ⟨0, _⟩ => rfl
    | ⟨1, _⟩ =>
      show (j.val + 128 - m) % 128 = (j.val + 128 - n2.toNat % 128) % 128
      rw [h2]; congr 1; omega

/-- The named factor is the number it names. -/
theorem named_da : (Named.named (F := Ideal) κ "da_scale" (φ := .f32) 0x3E8293EE#32 : EReal) = daS :=
  (IdealRules.named_const.statement κ "da_scale" .f32 0x3E8293EE#32 _ rfl).2.2

/-- Where a column band of a block's buffer puts an entry. -/
theorem band_emb (n o : ℕ) (inb) (x : Fin 512) (j : Fin 128) (h : o + j.val < n) :
    (Rect.unit (s := ⟨2, ![512, n]⟩) ![0, o] S512x128.size inb).emb (ix2 x j) = ix2 x ⟨o + j.val, h⟩ := by
  refine funext fun a => Fin.ext ?_
  match a with
  | ⟨0, _⟩ => show 0 + 1 * x.val = x.val; omega
  | ⟨1, _⟩ => show o + 1 * j.val = o + j.val; omega

/-- The same against lane tables of a row: the band's columns turned. -/
theorem turned (P : ℕ → EReal) (e e' B : ℕ) (v : FVec Ideal S512x768 .f32) (o m : ℕ) (h0 : 0 < m) (h : m = 16 ∨ m = 8) (n1 n2 : BitVec 32) (h1 : n1.toNat = 128 - m)
    (h2 : n2.toNat = m) (hs : S512x768.Slices ![0, o] S512x128) (hr : S512x128.Rotates 1 none) (c a b : FVec Ideal S512x128 .f32) (x : Fin 512)
    (hf : ∀ q : Fin 768, v (ix2 x q) = P (e + q.val)) (ho : o + 128 ≤ 768) (he : e + o = e' + B) (hB : B % 128 = 0)
    (cr sr cc sc : (⟨2, ![8192, m]⟩ : Shape).Idx → EReal) (r : ℕ) (hc : ∀ j : Fin 128, c (ix2 x j) = cosL m h0 cr cc r j.val)
    (ha : ∀ j : Fin 128, a (ix2 x j) = sinA m h0 sr sc r j.val) (hb : ∀ j : Fin 128, b (ix2 x j) = sinB m h0 sr sc r j.val) (j : Fin 128) :
    addf (addf (mulf (extractStridedSlice S512x128 ![0, o] v hs) c)
        (mulf (dynamicRotate 1 n1 none (extractStridedSlice S512x128 ![0, o] v hs) hr) a))
      (mulf (dynamicRotate 1 n2 none (extractStridedSlice S512x128 ![0, o] v hs) hr) b) (ix2 x j)
      = turn m h0 cr sr cc sc r (fun c => P (e' + c)) (B + j.val) := by
  have hm : m < 128 := by omega
  refine (lanes_apply v o m hm.le n1 n2 h1 h2 h0 hm hs hr c a b (fun q => P (e + q)) x hf ho j).trans ?_
  refine Eq.trans ?_ (turn_lanes m h0 h cr sr cc sc r (fun c => P (e' + c)) B j.val hB j.isLt)
  rw [hc, ha, hb]
  have g : ∀ t, P (e + (o + t)) = P (e' + (B + t)) := fun t => congrArg P (by omega)
  exact congrArg₂ (· + ·) (congrArg₂ (· + ·) (congrArg (· * _) (g _)) (congrArg (· * _) (g _))) (congrArg (· * _) (g _))

section Blocks

variable (x0 : Vec Ideal S512x1024 .f32) (x1 : Vec Ideal S1x6x1024 .f32) (x2 : Vec Ideal S1x1024 .f32) (x3 : Vec Ideal S1024x2304 .bf16)
  (x4 x5 x6 x7 x8 x9 : Vec Ideal S512x128 .f32) (x : Fin 512) (P : ℕ → EReal)

/-- The row's norm against the weight's columns. -/
def RowIs : Prop := ∀ q : Fin 2304, P q.val = (∑ k : Fin 1024, hv (fun k => x0 (ix2 x k)) (x2 (ix2 0 k)) (x1 (ix3 0 1 k)) (x1 (ix3 0 0 k)) k * x3 (ix2 k q) : EReal)

variable (hP : RowIs x0 x1 x2 x3 x P)

include hP

/-- A product with a band of 768 columns of the weight. -/
theorem band_apply (o : ℕ) (ho : o + 768 ≤ 2304) (inb) (q : Fin 768) :
    FloatOps.matmul (F := Ideal) (φ₁ := .bf16) (φ₂ := .bf16) (DotDims.plain 512 1024 768) none (k0_pay5 (View.ld x0 r0_0) (View.ld x2 r0_1) (View.ld x1 r0_2) (View.ld x1 r0_3))
      (View.ld x3 (Rect.unit (s := S1024x2304) ![0, o] S1024x768.size inb)) (constant ⟨2, ![512, 768]⟩ .f32 0x00000000#32) (ix2 x q)
      = P (o + q.val) := by
  have hq := q.isLt
  refine (prod_apply _ _ x q).trans ((Finset.sum_congr rfl fun k _ => ?_).trans (hP ⟨o + q.val, by omega⟩).symm)
  refine congrArg₂ (· * ·) ?_ (cols_ld x3 o _ k q (by omega))
  rw [pay5_apply, View.ld_unit_zero zero2, View.ld_unit_zero zero2]
  exact congrArg₂ (fun a b => hv _ _ a b k) (mod_ld x1 1 _ k) (mod_ld x1 0 _ k)

/-- The window attention's columns. -/
theorem wa_apply (q : Fin 768) : k0_pay28 x0 x1 x2 x3 x4 x5 x6 x7 x8 x9 (ix2 x q) = P (768 + q.val) := by
  unfold k0_pay28 k0_pay7
  rw [shapeCast_self]
  exact band_apply x0 x1 x2 x3 x P hP 768 (by decide) _ q

/-- The differential attention's columns. -/
theorem da_apply (q : Fin 768) : k0_pay29 x0 x1 x2 x3 x4 x5 x6 x7 x8 x9 (ix2 x q) = P (1536 + q.val) := by
  unfold k0_pay29 k0_pay8
  rw [shapeCast_self]
  exact band_apply x0 x1 x2 x3 x P hP 1536 (by decide) _ q

/-- The first result's block: the convolution's columns. -/
theorem block10 (j : Fin 768) : out0_10 x0 x1 x2 x3 x4 x5 x6 x7 x8 x9 (ix2 x j) = P j.val := by
  unfold out0_10
  rw [View.canon_cons_unit_zero zero2]
  unfold k0_pay6
  rw [shapeCast_self]
  exact (band_apply x0 x1 x2 x3 x P hP 0 (by decide) _ j).trans (congrArg P (Nat.zero_add _))

/-- The fourth: the window attention's values. -/
theorem block13 (j : Fin 128) : out0_13 x0 x1 x2 x3 x4 x5 x6 x7 x8 x9 (ix2 x j) = P (1408 + j.val) := by
  unfold out0_13
  rw [View.canon_cons_unit_zero zero2]
  unfold k0_pay21 k0_pay20
  have e := slice_apply (k0_pay28 x0 x1 x2 x3 x4 x5 x6 x7 x8 x9) 640 128 slices_S512x768_o0_640_S512x128 x j (by omega)
  exact e.trans <| (wa_apply x0 x1 x2 x3 x4 x5 x6 x7 x8 x9 x P hP _).trans (congrArg P (by show 768 + (640 + j.val) = _; omega))

/-- The ninth: their transpose. -/
theorem block18 (j : Fin 128) : out0_18 x0 x1 x2 x3 x4 x5 x6 x7 x8 x9 (ix2 j x) = P (1408 + j.val) := by
  unfold out0_18
  rw [View.canon_cons_unit_zero zero2]
  unfold k0_pay22 k0_pay20
  have e := slice_apply (k0_pay28 x0 x1 x2 x3 x4 x5 x6 x7 x8 x9) 640 128 slices_S512x768_o0_640_S512x128 x j (by omega)
  have t := transpose_ix2_apply (extractStridedSlice S512x128 ![0, 640] (k0_pay28 x0 x1 x2 x3 x4 x5 x6 x7 x8 x9) slices_S512x768_o0_640_S512x128) transposes_S512x128_p1_0_S128x512 j x
  exact (t.trans e).trans <| (wa_apply x0 x1 x2 x3 x4 x5 x6 x7 x8 x9 x P hP _).trans (congrArg P (by show 768 + (640 + j.val) = _; omega))

/-- The seventh: the differential attention's values. -/
theorem block16 (j : Fin 256) : out0_16 x0 x1 x2 x3 x4 x5 x6 x7 x8 x9 (ix2 x j) = P (2048 + j.val) := by
  unfold out0_16
  rw [View.canon_cons_unit_zero zero2]
  unfold k0_pay3 k0_pay2
  have e := slice_apply (k0_pay29 x0 x1 x2 x3 x4 x5 x6 x7 x8 x9) 512 256 slices_S512x768_o0_512_S512x256 x j (by omega)
  exact e.trans <| (da_apply x0 x1 x2 x3 x4 x5 x6 x7 x8 x9 x P hP _).trans (congrArg P (by show 1536 + (512 + j.val) = _; omega))

/-- The eighth: their transpose. -/
theorem block17 (j : Fin 256) : out0_17 x0 x1 x2 x3 x4 x5 x6 x7 x8 x9 (ix2 j x) = P (2048 + j.val) := by
  unfold out0_17
  rw [View.canon_cons_unit_zero zero2]
  unfold k0_pay4 k0_pay2
  have e := slice_apply (k0_pay29 x0 x1 x2 x3 x4 x5 x6 x7 x8 x9) 512 256 slices_S512x768_o0_512_S512x256 x j (by omega)
  have t := transpose_ix2_apply (extractStridedSlice S512x256 ![0, 512] (k0_pay29 x0 x1 x2 x3 x4 x5 x6 x7 x8 x9) slices_S512x768_o0_512_S512x256) transposes_S512x256_p1_0_S256x512 j x
  exact (t.trans e).trans <| (da_apply x0 x1 x2 x3 x4 x5 x6 x7 x8 x9 x P hP _).trans (congrArg P (by show 1536 + (512 + j.val) = _; omega))

end Blocks

section Turned

variable (x0 : Vec Ideal S512x1024 .f32) (x1 : Vec Ideal S1x6x1024 .f32) (x2 : Vec Ideal S1x1024 .f32) (x3 : Vec Ideal S1024x2304 .bf16)
  (x4 x5 x6 x7 x8 x9 : Vec Ideal S512x128 .f32) (P : Fin 512 → ℕ → EReal) (hP : ∀ x, RowIs x0 x1 x2 x3 x (P x)) (r : Fin 512 → ℕ)

include hP

section Window

variable (cr sr cc sc : (⟨2, ![8192, 16]⟩ : Shape).Idx → EReal)

/-- A band's columns turned as the kernel turns them. -/
theorem turnedW (h4 : ∀ x j : _, x4 (ix2 x j) = cosL 16 (by decide) cr cc (r x) j.val) (h5 : ∀ x j : _, x5 (ix2 x j) = sinA 16 (by decide) sr sc (r x) j.val) (h6 : ∀ x j : _, x6 (ix2 x j) = sinB 16 (by decide) sr sc (r x) j.val) (e' o B : ℕ) (hB : B % 128 = 0) (he : 768 + o = e' + B) (ho : o + 128 ≤ 768) (hs) (hr) (x : Fin 512) (j : Fin 128) :
    addf (addf (mulf (extractStridedSlice S512x128 ![0, o] (k0_pay28 x0 x1 x2 x3 x4 x5 x6 x7 x8 x9) hs) (k0_pay30 x0 x1 x2 x3 x4 x5 x6 x7 x8 x9))
        (mulf (dynamicRotate 1 112#32 none (extractStridedSlice S512x128 ![0, o] (k0_pay28 x0 x1 x2 x3 x4 x5 x6 x7 x8 x9) hs) hr) (k0_pay31 x0 x1 x2 x3 x4 x5 x6 x7 x8 x9)))
      (mulf (dynamicRotate 1 16#32 none (extractStridedSlice S512x128 ![0, o] (k0_pay28 x0 x1 x2 x3 x4 x5 x6 x7 x8 x9) hs) hr) (k0_pay32 x0 x1 x2 x3 x4 x5 x6 x7 x8 x9)) (ix2 x j)
      = turn 16 (by decide) cr sr cc sc (r x) (fun c => P x (e' + c)) (B + j.val) := by
  refine turned (P x) 768 e' B _ o 16 (by decide) (by decide) _ _ rfl rfl hs hr _ _ _ x (wa_apply x0 x1 x2 x3 x4 x5 x6 x7 x8 x9 x (P x) (hP x)) ho he hB cr sr cc sc (r x)
    (fun j => ?_) (fun j => ?_) (fun j => ?_) j
  · unfold k0_pay30 k0_pay9; rw [shapeCast_self, View.ld_unit_zero zero2]; exact h4 x j
  · unfold k0_pay31 k0_pay10; rw [shapeCast_self, View.ld_unit_zero zero2]; exact h5 x j
  · unfold k0_pay32 k0_pay11; rw [shapeCast_self, View.ld_unit_zero zero2]; exact h6 x j

/-- The second result's block: the window attention's queries. -/
theorem block11 (h4 : ∀ x j : _, x4 (ix2 x j) = cosL 16 (by decide) cr cc (r x) j.val) (h5 : ∀ x j : _, x5 (ix2 x j) = sinA 16 (by decide) sr sc (r x) j.val) (h6 : ∀ x j : _, x6 (ix2 x j) = sinB 16 (by decide) sr sc (r x) j.val) (x : Fin 512) (j : Fin 512) :
    out0_11 x0 x1 x2 x3 x4 x5 x6 x7 x8 x9 (ix2 x j) = (turn 16 (by decide) cr sr cc sc (r x) (fun c => P x (768 + c)) j.val * Ideal.ofBits .f32 0x3E000000#32 : EReal) := by
  unfold out0_11
  refine View.canon_apply_of_pieces (Val := Elt Ideal) (e := .bf16) (fun y : S512x512.Idx => (turn 16 (by decide) cr sr cc sc (r (y 0)) (fun c => P (y 0) (768 + c)) (y 1 : Fin 512).val * Ideal.ofBits .f32 0x3E000000#32 : EReal)) _ ?_ (ix2 x j)
    (cover0_11 _ _ _ _ (ix2 x j))
  intro pc hpc
  rcases List.mem_cons.mp hpc with rfl | hpc
  · intro i
    obtain ⟨x, j, rfl⟩ : ∃ (x : Fin 512) (j : Fin 128), i = ix2 x j := ⟨i 0, i 1, eq_ix2 i⟩
    refine Eq.trans ?_ (congrArg (fun y : S512x512.Idx => (turn 16 (by decide) cr sr cc sc (r (y 0)) (fun c => P (y 0) (768 + c)) (y 1 : Fin 512).val * Ideal.ofBits .f32 0x3E000000#32 : EReal)) (band_emb 512 384 inb_S512x512_S512x128_0_384 x j (by omega))).symm
    exact congrArg₂ (· * ·) (turnedW x0 x1 x2 x3 x4 x5 x6 x7 x8 x9 P hP r cr sr cc sc h4 h5 h6 768 384 384 (by decide) (by decide) (by decide) slices_S512x768_o0_384_S512x128 rotates_S512x128_d1 x j) rfl
  rcases List.mem_cons.mp hpc with rfl | hpc
  · intro i
    obtain ⟨x, j, rfl⟩ : ∃ (x : Fin 512) (j : Fin 128), i = ix2 x j := ⟨i 0, i 1, eq_ix2 i⟩
    refine Eq.trans ?_ (congrArg (fun y : S512x512.Idx => (turn 16 (by decide) cr sr cc sc (r (y 0)) (fun c => P (y 0) (768 + c)) (y 1 : Fin 512).val * Ideal.ofBits .f32 0x3E000000#32 : EReal)) (band_emb 512 256 inb_S512x512_S512x128_0_256 x j (by omega))).symm
    exact congrArg₂ (· * ·) (turnedW x0 x1 x2 x3 x4 x5 x6 x7 x8 x9 P hP r cr sr cc sc h4 h5 h6 768 256 256 (by decide) (by decide) (by decide) slices_S512x768_o0_256_S512x128 rotates_S512x128_d1 x j) rfl
  rcases List.mem_cons.mp hpc with rfl | hpc
  · intro i
    obtain ⟨x, j, rfl⟩ : ∃ (x : Fin 512) (j : Fin 128), i = ix2 x j := ⟨i 0, i 1, eq_ix2 i⟩
    refine Eq.trans ?_ (congrArg (fun y : S512x512.Idx => (turn 16 (by decide) cr sr cc sc (r (y 0)) (fun c => P (y 0) (768 + c)) (y 1 : Fin 512).val * Ideal.ofBits .f32 0x3E000000#32 : EReal)) (band_emb 512 128 inb_S512x512_S512x128_0_128 x j (by omega))).symm
    exact congrArg₂ (· * ·) (turnedW x0 x1 x2 x3 x4 x5 x6 x7 x8 x9 P hP r cr sr cc sc h4 h5 h6 768 128 128 (by decide) (by decide) (by decide) slices_S512x768_o0_128_S512x128 rotates_S512x128_d1 x j) rfl
  rcases List.mem_cons.mp hpc with rfl | hpc
  · intro i
    obtain ⟨x, j, rfl⟩ : ∃ (x : Fin 512) (j : Fin 128), i = ix2 x j := ⟨i 0, i 1, eq_ix2 i⟩
    refine Eq.trans ?_ (congrArg (fun y : S512x512.Idx => (turn 16 (by decide) cr sr cc sc (r (y 0)) (fun c => P (y 0) (768 + c)) (y 1 : Fin 512).val * Ideal.ofBits .f32 0x3E000000#32 : EReal)) (band_emb 512 0 inb_S512x512_S512x128_0_0 x j (by omega))).symm
    exact congrArg₂ (· * ·) (turnedW x0 x1 x2 x3 x4 x5 x6 x7 x8 x9 P hP r cr sr cc sc h4 h5 h6 768 0 0 (by decide) (by decide) (by decide) slices_S512x768_o0_0_S512x128 rotates_S512x128_d1 x j) rfl
  nomatch hpc

/-- The third: its keys. -/
theorem block12 (h4 : ∀ x j : _, x4 (ix2 x j) = cosL 16 (by decide) cr cc (r x) j.val) (h5 : ∀ x j : _, x5 (ix2 x j) = sinA 16 (by decide) sr sc (r x) j.val) (h6 : ∀ x j : _, x6 (ix2 x j) = sinB 16 (by decide) sr sc (r x) j.val) (x : Fin 512) (j : Fin 128) :
    out0_12 x0 x1 x2 x3 x4 x5 x6 x7 x8 x9 (ix2 x j) = turn 16 (by decide) cr sr cc sc (r x) (fun c => P x (1280 + c)) j.val := by
  unfold out0_12
  rw [View.canon_cons_unit_zero zero2]
  have e := turnedW x0 x1 x2 x3 x4 x5 x6 x7 x8 x9 P hP r cr sr cc sc h4 h5 h6 1280 512 0 (by decide) (by decide) (by decide) slices_S512x768_o0_512_S512x128 rotates_S512x128_d1 x j
  rw [Nat.zero_add] at e
  exact e

end Window

section Differential

variable (cr sr cc sc : (⟨2, ![8192, 8]⟩ : Shape).Idx → EReal)

/-- A band's columns turned as the kernel turns them. -/
theorem turnedD (h7 : ∀ x j : _, x7 (ix2 x j) = cosL 8 (by decide) cr cc (r x) j.val) (h8 : ∀ x j : _, x8 (ix2 x j) = sinA 8 (by decide) sr sc (r x) j.val) (h9 : ∀ x j : _, x9 (ix2 x j) = sinB 8 (by decide) sr sc (r x) j.val) (e' o B : ℕ) (hB : B % 128 = 0) (he : 1536 + o = e' + B) (ho : o + 128 ≤ 768) (hs) (hr) (x : Fin 512) (j : Fin 128) :
    addf (addf (mulf (extractStridedSlice S512x128 ![0, o] (k0_pay29 x0 x1 x2 x3 x4 x5 x6 x7 x8 x9) hs) (k0_pay33 x0 x1 x2 x3 x4 x5 x6 x7 x8 x9))
        (mulf (dynamicRotate 1 120#32 none (extractStridedSlice S512x128 ![0, o] (k0_pay29 x0 x1 x2 x3 x4 x5 x6 x7 x8 x9) hs) hr) (k0_pay34 x0 x1 x2 x3 x4 x5 x6 x7 x8 x9)))
      (mulf (dynamicRotate 1 8#32 none (extractStridedSlice S512x128 ![0, o] (k0_pay29 x0 x1 x2 x3 x4 x5 x6 x7 x8 x9) hs) hr) (k0_pay35 x0 x1 x2 x3 x4 x5 x6 x7 x8 x9)) (ix2 x j)
      = turn 8 (by decide) cr sr cc sc (r x) (fun c => P x (e' + c)) (B + j.val) := by
  refine turned (P x) 1536 e' B _ o 8 (by decide) (by decide) _ _ rfl rfl hs hr _ _ _ x (da_apply x0 x1 x2 x3 x4 x5 x6 x7 x8 x9 x (P x) (hP x)) ho he hB cr sr cc sc (r x)
    (fun j => ?_) (fun j => ?_) (fun j => ?_) j
  · unfold k0_pay33 k0_pay12; rw [shapeCast_self, View.ld_unit_zero zero2]; exact h7 x j
  · unfold k0_pay34 k0_pay13; rw [shapeCast_self, View.ld_unit_zero zero2]; exact h8 x j
  · unfold k0_pay35 k0_pay14; rw [shapeCast_self, View.ld_unit_zero zero2]; exact h9 x j

/-- The fifth: the differential attention's queries. -/
theorem block14 (h7 : ∀ x j : _, x7 (ix2 x j) = cosL 8 (by decide) cr cc (r x) j.val) (h8 : ∀ x j : _, x8 (ix2 x j) = sinA 8 (by decide) sr sc (r x) j.val) (h9 : ∀ x j : _, x9 (ix2 x j) = sinB 8 (by decide) sr sc (r x) j.val) (x : Fin 512) (j : Fin 256) :
    out0_14 x0 x1 x2 x3 x4 x5 x6 x7 x8 x9 (ix2 x j) = (turn 8 (by decide) cr sr cc sc (r x) (fun c => P x (1536 + c)) j.val * daS : EReal) := by
  unfold out0_14
  refine View.canon_apply_of_pieces (Val := Elt Ideal) (e := .bf16) (fun y : S512x256.Idx => (turn 8 (by decide) cr sr cc sc (r (y 0)) (fun c => P (y 0) (1536 + c)) (y 1 : Fin 256).val * daS : EReal)) _ ?_ (ix2 x j)
    (cover0_14 _ _ (ix2 x j))
  intro pc hpc
  rcases List.mem_cons.mp hpc with rfl | hpc
  · intro i
    obtain ⟨x, j, rfl⟩ : ∃ (x : Fin 512) (j : Fin 128), i = ix2 x j := ⟨i 0, i 1, eq_ix2 i⟩
    refine Eq.trans ?_ (congrArg (fun y : S512x256.Idx => (turn 8 (by decide) cr sr cc sc (r (y 0)) (fun c => P (y 0) (1536 + c)) (y 1 : Fin 256).val * daS : EReal)) (band_emb 256 128 inb_S512x256_S512x128_0_128 x j (by omega))).symm
    exact congrArg₂ (· * ·) (turnedD x0 x1 x2 x3 x4 x5 x6 x7 x8 x9 P hP r cr sr cc sc h7 h8 h9 1536 128 128 (by decide) (by decide) (by decide) slices_S512x768_o0_128_S512x128 rotates_S512x128_d1 x j) named_da
  rcases List.mem_cons.mp hpc with rfl | hpc
  · intro i
    obtain ⟨x, j, rfl⟩ : ∃ (x : Fin 512) (j : Fin 128), i = ix2 x j := ⟨i 0, i 1, eq_ix2 i⟩
    refine Eq.trans ?_ (congrArg (fun y : S512x256.Idx => (turn 8 (by decide) cr sr cc sc (r (y 0)) (fun c => P (y 0) (1536 + c)) (y 1 : Fin 256).val * daS : EReal)) (band_emb 256 0 inb_S512x256_S512x128_0_0 x j (by omega))).symm
    exact congrArg₂ (· * ·) (turnedD x0 x1 x2 x3 x4 x5 x6 x7 x8 x9 P hP r cr sr cc sc h7 h8 h9 1536 0 0 (by decide) (by decide) (by decide) slices_S512x768_o0_0_S512x128 rotates_S512x128_d1 x j) named_da
  nomatch hpc

/-- The sixth: its keys. -/
theorem block15 (h7 : ∀ x j : _, x7 (ix2 x j) = cosL 8 (by decide) cr cc (r x) j.val) (h8 : ∀ x j : _, x8 (ix2 x j) = sinA 8 (by decide) sr sc (r x) j.val) (h9 : ∀ x j : _, x9 (ix2 x j) = sinB 8 (by decide) sr sc (r x) j.val) (x : Fin 512) (j : Fin 256) :
    out0_15 x0 x1 x2 x3 x4 x5 x6 x7 x8 x9 (ix2 x j) = (turn 8 (by decide) cr sr cc sc (r x) (fun c => P x (1792 + c)) j.val : EReal) := by
  unfold out0_15
  refine View.canon_apply_of_pieces (Val := Elt Ideal) (e := .bf16) (fun y : S512x256.Idx => (turn 8 (by decide) cr sr cc sc (r (y 0)) (fun c => P (y 0) (1792 + c)) (y 1 : Fin 256).val : EReal)) _ ?_ (ix2 x j)
    (cover0_15 _ _ (ix2 x j))
  intro pc hpc
  rcases List.mem_cons.mp hpc with rfl | hpc
  · intro i
    obtain ⟨x, j, rfl⟩ : ∃ (x : Fin 512) (j : Fin 128), i = ix2 x j := ⟨i 0, i 1, eq_ix2 i⟩
    refine Eq.trans ?_ (congrArg (fun y : S512x256.Idx => (turn 8 (by decide) cr sr cc sc (r (y 0)) (fun c => P (y 0) (1792 + c)) (y 1 : Fin 256).val : EReal)) (band_emb 256 128 inb_S512x256_S512x128_0_128 x j (by omega))).symm
    exact (turnedD x0 x1 x2 x3 x4 x5 x6 x7 x8 x9 P hP r cr sr cc sc h7 h8 h9 1792 384 128 (by decide) (by decide) (by decide) slices_S512x768_o0_384_S512x128 rotates_S512x128_d1 x j)
  rcases List.mem_cons.mp hpc with rfl | hpc
  · intro i
    obtain ⟨x, j, rfl⟩ : ∃ (x : Fin 512) (j : Fin 128), i = ix2 x j := ⟨i 0, i 1, eq_ix2 i⟩
    refine Eq.trans ?_ (congrArg (fun y : S512x256.Idx => (turn 8 (by decide) cr sr cc sc (r (y 0)) (fun c => P (y 0) (1792 + c)) (y 1 : Fin 256).val : EReal)) (band_emb 256 0 inb_S512x256_S512x128_0_0 x j (by omega))).symm
    exact (turnedD x0 x1 x2 x3 x4 x5 x6 x7 x8 x9 P hP r cr sr cc sc h7 h8 h9 1792 256 0 (by decide) (by decide) (by decide) slices_S512x768_o0_256_S512x128 rotates_S512x128_d1 x j)
  nomatch hpc

end Differential

end Turned

end Cert.Kernel3Ideal.In

end
-- ==== Proof.InTables.lean ====
/- The lane tables of the rotary turn that the host lays out for the input projection's kernel, entry by entry. -/
module

public import proofs.«01_k».proof.Proof.InVal
public import proofs.«01_k».proof.Proof.Gen.Kernel3Ideal.Value
public import Idealize.ShloMosaic.Lib.KernelVsHost
public import Idealize.ShloMosaic.Lib.IdealHost

@[expose] public section

set_option maxRecDepth 16384

noncomputable section

namespace Cert.Kernel3Ideal.In

open Idealize.ShloMosaic Idealize.ShloMosaic.TcCoe Idealize.ShloMosaic.ValueIdx Cert.Kernel3Ideal Cert.Kernel3Ideal.Gen Cert.InProj

section Pieces

variable {α : Type}

/-- The piece of four that lane piece `k` repeats. -/
def four (A B C D : α) (k : ℕ) : α := if k % 4 = 0 then A else if k % 4 = 1 then B else if k % 4 = 2 then C else D

/-- Pieces of `m` columns side by side: column `j` is the piece `j / m`'s column `j % m`. -/
theorem pieces_apply (m n : ℕ) (hm : 0 < m) (g : ℕ → (⟨2, ![8192, m]⟩ : Shape).Idx → α) (xs : List ((s : Shape) × (s.Idx → α)))
    (hx : xs = (List.range n).map fun k => ⟨⟨2, ![8192, m]⟩, g k⟩) (h : Shape.Concatenates (xs.map (·.1)) ⟨2, ![8192, 128]⟩ 1)
    (r : Fin 8192) (j : Fin 128) (hn : n * m = 128) :
    concatenate ⟨2, ![8192, 128]⟩ 1 xs h (ix2 r j) = g (j.val / m) (ix2 r ⟨j.val % m, Nat.mod_lt _ hm⟩) := by
  subst hx
  have hk : j.val / m < n := Nat.div_lt_of_lt_mul (by rw [Nat.mul_comm, hn]; exact j.isLt)
  refine concatenate_apply_piece (t := ⟨2, ![8192, 128]⟩) 1 _ h (ix2 r j) (j.val / m) (by simpa using hk) ⟨2, ![8192, m]⟩ (g (j.val / m)) (by simp) rfl (j.val / m * m) ?_ _ ?_ ?_
  · have e : ((List.range n).map fun k => (⟨⟨2, ![8192, m]⟩, g k⟩ : (s : Shape) × (s.Idx → α))).take (j.val / m)
        = (List.range (j.val / m)).map fun k => ⟨⟨2, ![8192, m]⟩, g k⟩ := by
      rw [← List.map_take, List.take_range, Nat.min_eq_left hk.le]
    rw [e, List.map_map, List.map_map]
    refine (congrArg List.sum (List.map_congr_left (g := fun _ => m) fun k _ => ?_)).trans ?_
    · rfl
    · rw [List.map_const', List.sum_replicate, List.length_range, smul_eq_mul]
  · intro b hb
    match b with
    | ⟨0, _⟩ => rfl
    | ⟨1, _⟩ => exact absurd rfl hb
  · exact Nat.div_add_mod' j.val m

end Pieces

/-- The rows below a lane table's latent rows are one value. -/
theorem padded_apply (u : FVec Ideal S8192x128 .f32) (v : FVec Ideal S512x128 .f32) (q : Fin 8704) (j : Fin 128) (r : ℕ)
    (h1 : r < 16384 → q.val = r % 8192) (h2 : 16384 ≤ r → 8192 ≤ q.val) (p : EReal) (hp : ∀ i, v i = p) :
    concatenate S8704x128 0 [⟨S8192x128, u⟩, ⟨S512x128, v⟩] concatenates_S8192x128_S512x128_S8704x128_d0 (ix2 q j)
      = (if r < 16384 then u (ix2 ⟨r % 8192, Nat.mod_lt _ (by decide)⟩ j) else p : EReal) := by
  split
  · next h =>
    have hq := h1 h
    refine concatenate_pair_apply_left (t := S8704x128) (s₁ := S8192x128) (s₂ := S512x128) 0 _ _ _ (ix2 q j) rfl (ix2 ⟨r % 8192, Nat.mod_lt _ (by decide)⟩ j) fun b => ?_
    match b with
    | ⟨0, _⟩ => exact hq.symm
    | ⟨1, _⟩ => rfl
  · next h =>
    have hq := h2 (by omega)
    have hq' := q.isLt
    refine (concatenate_pair_apply_right (t := S8704x128) (s₁ := S8192x128) (s₂ := S512x128) 0 _ _ _ (ix2 q j) rfl rfl (ix2 ⟨q.val - 8192, by omega⟩ j) (fun b hb => ?_) ?_).trans (hp _)
    · match b with
      | ⟨0, _⟩ => exact absurd rfl hb
      | ⟨1, _⟩ => rfl
    · show q.val - 8192 + 8192 = q.val
      omega

/-- A lane table of pieces of 16 columns above its constant rows. -/
def tabW (A B C D : FVec Ideal S8192x16 .f32) (p : BitVec 32) : FVec Ideal S8704x128 .f32 :=
  concatenate S8704x128 0 [⟨S8192x128, concatenate S8192x128 1 [⟨S8192x16, A⟩, ⟨S8192x16, B⟩, ⟨S8192x16, C⟩, ⟨S8192x16, D⟩, ⟨S8192x16, A⟩, ⟨S8192x16, B⟩, ⟨S8192x16, C⟩, ⟨S8192x16, D⟩] concatenates_S8192x16_S8192x16_S8192x16_S8192x16_S8192x16_S8192x16_S8192x16_S8192x16_S8192x128_d1⟩,
    ⟨S512x128, broadcastInDim S512x128 ![] bcast_S_S512x128 (constant (F := Ideal) S_ .f32 p)⟩] concatenates_S8192x128_S512x128_S8704x128_d0

/-- Its entry. -/
theorem tabW_apply (A B C D : FVec Ideal S8192x16 .f32) (p : BitVec 32) (q : Fin 8704) (j : Fin 128) (r : ℕ)
    (h1 : r < 16384 → q.val = r % 8192) (h2 : 16384 ≤ r → 8192 ≤ q.val) :
    tabW A B C D p (ix2 q j) = (if r < 16384 then tabAt 16 (by decide) (four A B C D (j.val / 16)) r j.val else Ideal.ofBits .f32 p : EReal) := by
  refine (padded_apply _ _ q j r h1 h2 (Ideal.ofBits .f32 p) fun _ => rfl).trans ?_
  refine if_congr Iff.rfl ?_ rfl
  exact pieces_apply 16 8 (by decide) (four A B C D) _ rfl _ _ j rfl

/-- A lane table of pieces of 8 columns above its constant rows. -/
def tabD (A B C D : FVec Ideal S8192x8 .f32) (p : BitVec 32) : FVec Ideal S8704x128 .f32 :=
  concatenate S8704x128 0 [⟨S8192x128, concatenate S8192x128 1 [⟨S8192x8, A⟩, ⟨S8192x8, B⟩, ⟨S8192x8, C⟩, ⟨S8192x8, D⟩, ⟨S8192x8, A⟩, ⟨S8192x8, B⟩, ⟨S8192x8, C⟩, ⟨S8192x8, D⟩, ⟨S8192x8, A⟩, ⟨S8192x8, B⟩, ⟨S8192x8, C⟩, ⟨S8192x8, D⟩, ⟨S8192x8, A⟩, ⟨S8192x8, B⟩, ⟨S8192x8, C⟩, ⟨S8192x8, D⟩] concatenates_S8192x8_S8192x8_S8192x8_S8192x8_S8192x8_S8192x8_S8192x8_S8192x8_S8192x8_S8192x8_S8192x8_S8192x8_S8192x8_S8192x8_S8192x8_S8192x8_S8192x128_d1⟩,
    ⟨S512x128, broadcastInDim S512x128 ![] bcast_S_S512x128 (constant (F := Ideal) S_ .f32 p)⟩] concatenates_S8192x128_S512x128_S8704x128_d0

/-- Its entry. -/
theorem tabD_apply (A B C D : FVec Ideal S8192x8 .f32) (p : BitVec 32) (q : Fin 8704) (j : Fin 128) (r : ℕ)
    (h1 : r < 16384 → q.val = r % 8192) (h2 : 16384 ≤ r → 8192 ≤ q.val) :
    tabD A B C D p (ix2 q j) = (if r < 16384 then tabAt 8 (by decide) (four A B C D (j.val / 8)) r j.val else Ideal.ofBits .f32 p : EReal) := by
  refine (padded_apply _ _ q j r h1 h2 (Ideal.ofBits .f32 p) fun _ => rfl).trans ?_
  refine if_congr Iff.rfl ?_ rfl
  exact pieces_apply 8 16 (by decide) (four A B C D) _ rfl _ _ j rfl

section Lanes

variable (m : ℕ) (hm : 0 < m) (a b : (⟨2, ![8192, m]⟩ : Shape).Idx → EReal) (z : (⟨2, ![8192, m]⟩ : Shape).Idx → EReal) (hz : ∀ i, z i = 0)
  (na nb : (⟨2, ![8192, m]⟩ : Shape).Idx → EReal) (ha : ∀ i, na i = -a i) (hb : ∀ i, nb i = -b i) (r j : ℕ)

include hm in
/-- Which of four pieces a column lies in, and which half of a head. -/
theorem quarter : (j / m % 4 < 2 ↔ j % (4 * m) < 2 * m) ∧ (j / m % 2 = 0 ↔ j % (2 * m) < m) := by
  have e4 : j % (4 * m) / m = j / m % 4 := by rw [Nat.mul_comm, Nat.mod_mul_right_div_self]
  have e2 : j % (2 * m) / m = j / m % 2 := by rw [Nat.mul_comm, Nat.mod_mul_right_div_self]
  constructor
  · rw [← e4, Nat.div_lt_iff_lt_mul hm]
  · rw [← e2, Nat.div_eq_zero_iff]
    omega

/-- The cosines' lanes. -/
theorem cos_lane : (if r < 16384 then tabAt m hm (four a a b b (j / m)) r j else Ideal.ofBits .f32 0x3F800000#32 : EReal) = cosL m hm a b r j := by
  unfold cosL axisAt
  rw [Ideal.ofBits_one_f32]
  refine if_congr Iff.rfl ?_ rfl
  have h := (quarter m hm j).1
  by_cases h' : j / m % 4 < 2
  · rw [if_pos (h.mp h')]
    refine congrArg (tabAt m hm · r j) ?_
    unfold four
    split_ifs <;> first | rfl | omega
  · rw [if_neg fun g => h' (h.mpr g)]
    refine congrArg (tabAt m hm · r j) ?_
    unfold four
    split_ifs <;> first | rfl | omega

include hz ha hb in
/-- The lanes of the sines that the next pair member is multiplied by. -/
theorem sinA_lane : (if r < 16384 then tabAt m hm (four na z nb z (j / m)) r j else Ideal.ofBits .f32 0x00000000#32 : EReal) = sinA m hm a b r j := by
  unfold sinA axisAt
  rw [Ideal.ofBits_zero_f32]
  refine if_congr Iff.rfl ?_ rfl
  obtain ⟨h, g⟩ := quarter m hm j
  unfold four tabAt
  split_ifs <;> first | omega | exact hz _ | exact ha _ | exact hb _

include hz in
/-- The lanes of the sines that the previous one is multiplied by. -/
theorem sinB_lane : (if r < 16384 then tabAt m hm (four z a z b (j / m)) r j else Ideal.ofBits .f32 0x00000000#32 : EReal) = sinB m hm a b r j := by
  unfold sinB axisAt
  rw [Ideal.ofBits_zero_f32]
  refine if_congr Iff.rfl ?_ rfl
  obtain ⟨h, g⟩ := quarter m hm j
  unfold four tabAt
  split_ifs <;> first | omega | exact hz _ | rfl

end Lanes

section Host

variable (m : (ℓ : Loc nD τ sig) → Buf (Elt Ideal) ℓ) (c : Dev nD) (q : Fin 8704) (j : Fin 128) (r : ℕ)
  (h1 : r < 16384 → q.val = r % 8192) (h2 : 16384 ≤ r → 8192 ≤ q.val)

include h1 h2

/-- The host's lane table of the cosines of the window attention. -/
theorem host8 : V m c main_v8 (ix2 q j) = cosL 16 (by decide) (m ((c : Thread nD τ).loc main_arg4)) (m ((c : Thread nD τ).loc main_arg6)) r j.val := by
  have e : V m c main_v8 = tabW (m ((c : Thread nD τ).loc main_arg4)) (m ((c : Thread nD τ).loc main_arg4)) (m ((c : Thread nD τ).loc main_arg6)) (m ((c : Thread nD τ).loc main_arg6))
      0x3F800000#32 := by
    rfl
  rw [e]
  exact (tabW_apply _ _ _ _ _ q j r h1 h2).trans (cos_lane 16 (by decide) _ _ r j.val)

/-- The host's lane table of the sines of the next pair member of the window attention. -/
theorem host9 : V m c main_v9 (ix2 q j) = sinA 16 (by decide) (m ((c : Thread nD τ).loc main_arg5)) (m ((c : Thread nD τ).loc main_arg7)) r j.val := by
  have e : V m c main_v9 = tabW (Host.negf (F := Ideal) (φ := .f32) (m ((c : Thread nD τ).loc main_arg5))) (broadcastInDim S8192x16 ![] bcast_S_S8192x16 (constant (F := Ideal) S_ .f32 0x00000000#32)) (Host.negf (F := Ideal) (φ := .f32) (m ((c : Thread nD τ).loc main_arg7))) (broadcastInDim S8192x16 ![] bcast_S_S8192x16 (constant (F := Ideal) S_ .f32 0x00000000#32))
      0x00000000#32 := by
    after_results_simp <;> rfl
  rw [e]
  exact (tabW_apply _ _ _ _ _ q j r h1 h2).trans (sinA_lane 16 (by decide) _ _ _ (fun _ => Ideal.ofBits_zero_f32) _ _ (fun _ => rfl) (fun _ => rfl) r j.val)

/-- The host's lane table of the sines of the previous one of the window attention. -/
theorem host10 : V m c main_v10 (ix2 q j) = sinB 16 (by decide) (m ((c : Thread nD τ).loc main_arg5)) (m ((c : Thread nD τ).loc main_arg7)) r j.val := by
  have e : V m c main_v10 = tabW (broadcastInDim S8192x16 ![] bcast_S_S8192x16 (constant (F := Ideal) S_ .f32 0x00000000#32)) (m ((c : Thread nD τ).loc main_arg5)) (broadcastInDim S8192x16 ![] bcast_S_S8192x16 (constant (F := Ideal) S_ .f32 0x00000000#32)) (m ((c : Thread nD τ).loc main_arg7))
      0x00000000#32 := by
    after_results_simp <;> rfl
  rw [e]
  exact (tabW_apply _ _ _ _ _ q j r h1 h2).trans (sinB_lane 16 (by decide) _ _ _ (fun _ => Ideal.ofBits_zero_f32) r j.val)

/-- The host's lane table of the cosines of the differential attention. -/
theorem host19 : V m c main_v19 (ix2 q j) = cosL 8 (by decide) (m ((c : Thread nD τ).loc main_arg8)) (m ((c : Thread nD τ).loc main_arg10)) r j.val := by
  have e : V m c main_v19 = tabD (m ((c : Thread nD τ).loc main_arg8)) (m ((c : Thread nD τ).loc main_arg8)) (m ((c : Thread nD τ).loc main_arg10)) (m ((c : Thread nD τ).loc main_arg10))
      0x3F800000#32 := by
    rfl
  rw [e]
  exact (tabD_apply _ _ _ _ _ q j r h1 h2).trans (cos_lane 8 (by decide) _ _ r j.val)

/-- The host's lane table of the sines of the next pair member of the differential attention. -/
theorem host20 : V m c main_v20 (ix2 q j) = sinA 8 (by decide) (m ((c : Thread nD τ).loc main_arg9)) (m ((c : Thread nD τ).loc main_arg11)) r j.val := by
  have e : V m c main_v20 = tabD (Host.negf (F := Ideal) (φ := .f32) (m ((c : Thread nD τ).loc main_arg9))) (broadcastInDim S8192x8 ![] bcast_S_S8192x8 (constant (F := Ideal) S_ .f32 0x00000000#32)) (Host.negf (F := Ideal) (φ := .f32) (m ((c : Thread nD τ).loc main_arg11))) (broadcastInDim S8192x8 ![] bcast_S_S8192x8 (constant (F := Ideal) S_ .f32 0x00000000#32))
      0x00000000#32 := by
    after_results_simp <;> rfl
  rw [e]
  exact (tabD_apply _ _ _ _ _ q j r h1 h2).trans (sinA_lane 8 (by decide) _ _ _ (fun _ => Ideal.ofBits_zero_f32) _ _ (fun _ => rfl) (fun _ => rfl) r j.val)

/-- The host's lane table of the sines of the previous one of the differential attention. -/
theorem host21 : V m c main_v21 (ix2 q j) = sinB 8 (by decide) (m ((c : Thread nD τ).loc main_arg9)) (m ((c : Thread nD τ).loc main_arg11)) r j.val := by
  have e : V m c main_v21 = tabD (broadcastInDim S8192x8 ![] bcast_S_S8192x8 (constant (F := Ideal) S_ .f32 0x00000000#32)) (m ((c : Thread nD τ).loc main_arg9)) (broadcastInDim S8192x8 ![] bcast_S_S8192x8 (constant (F := Ideal) S_ .f32 0x00000000#32)) (m ((c : Thread nD τ).loc main_arg11))
      0x00000000#32 := by
    after_results_simp <;> rfl
  rw [e]
  exact (tabD_apply _ _ _ _ _ q j r h1 h2).trans (sinB_lane 8 (by decide) _ _ _ (fun _ => Ideal.ofBits_zero_f32) r j.val)

end Host

end Cert.Kernel3Ideal.In

end
-- ==== Proof.InArray.lean ====
/- The input projection's kernel: what its windows hold at a grid point, and the nine arrays it leaves. -/
module

public import proofs.«01_k».proof.Proof.InBlock
public import proofs.«01_k».proof.Proof.InTables

@[expose] public section

set_option maxRecDepth 16384

noncomputable section

namespace Cert.Kernel3Ideal.In

open Idealize.ShloMosaic Idealize.ShloMosaic.TcCoe Idealize.ShloMosaic.ValueIdx Cert.Kernel3Ideal Cert.Kernel3Ideal.Gen Cert.OutProj Cert.InProj

section Index

/-- The block of a lane table that a point reads. -/
def tix (t : ℕ) : ℕ := if t < 32 then t % 16 else 16

theorem index0 : ∀ t : Fin cfg0.N, win0_0.index t 0 = t.val ∧ win0_0.index t 1 = 0 := by decide +kernel
theorem index1 : ∀ t : Fin cfg0.N, win0_1.index t 0 = min (t.val / 16) 2 ∧ win0_1.index t 1 = 0 ∧ win0_1.index t 2 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = tix t.val ∧ win0_4.index t 1 = 0 := by decide +kernel
theorem index5 : ∀ t : Fin cfg0.N, win0_5.index t 0 = tix t.val ∧ win0_5.index t 1 = 0 := by decide +kernel
theorem index6 : ∀ t : Fin cfg0.N, win0_6.index t 0 = tix t.val ∧ win0_6.index t 1 = 0 := by decide +kernel
theorem index7 : ∀ t : Fin cfg0.N, win0_7.index t 0 = tix t.val ∧ win0_7.index t 1 = 0 := by decide +kernel
theorem index8 : ∀ t : Fin cfg0.N, win0_8.index t 0 = tix t.val ∧ win0_8.index t 1 = 0 := by decide +kernel
theorem index9 : ∀ t : Fin cfg0.N, win0_9.index t 0 = tix t.val ∧ win0_9.index t 1 = 0 := by decide +kernel
theorem index10 : ∀ t : Fin cfg0.N, win0_10.index t 0 = t.val ∧ win0_10.index t 1 = 0 := by decide +kernel
theorem index11 : ∀ t : Fin cfg0.N, win0_11.index t 0 = t.val ∧ win0_11.index t 1 = 0 := by decide +kernel
theorem index12 : ∀ t : Fin cfg0.N, win0_12.index t 0 = t.val ∧ win0_12.index t 1 = 0 := by decide +kernel
theorem index13 : ∀ t : Fin cfg0.N, win0_13.index t 0 = t.val ∧ win0_13.index t 1 = 0 := by decide +kernel
theorem index14 : ∀ t : Fin cfg0.N, win0_14.index t 0 = t.val ∧ win0_14.index t 1 = 0 := by decide +kernel
theorem index15 : ∀ t : Fin cfg0.N, win0_15.index t 0 = t.val ∧ win0_15.index t 1 = 0 := by decide +kernel
theorem index16 : ∀ t : Fin cfg0.N, win0_16.index t 0 = t.val ∧ win0_16.index t 1 = 0 := by decide +kernel
theorem index17 : ∀ t : Fin cfg0.N, win0_17.index t 0 = 0 ∧ win0_17.index t 1 = t.val := by decide +kernel
theorem index18 : ∀ t : Fin cfg0.N, win0_18.index t 0 = 0 ∧ win0_18.index t 1 = t.val := by decide +kernel

end Index

/-- The row of the array that row `x` of point `t`'s block is. -/
def row (t : Fin cfg0.N) (x : Fin 512) : Fin 16896 := ⟨512 * t.val + x.val, by have := t.isLt; have : cfg0.N = 33 := rfl; omega⟩

/-- The row of a lane table that it reads. -/
def trow (t : Fin cfg0.N) (x : Fin 512) : Fin 8704 := ⟨512 * tix t.val + x.val, by unfold tix; split <;> omega⟩

theorem trow_latent (t : Fin cfg0.N) (x : Fin 512) (h : (row t x).val < 16384) : (trow t x).val = (row t x).val % 8192 := by
  have hx := x.isLt
  have h' : 512 * t.val + x.val < 16384 := h
  show 512 * tix t.val + x.val = (512 * t.val + x.val) % 8192
  unfold tix
  rw [if_pos (by omega)]
  omega

theorem trow_context (t : Fin cfg0.N) (x : Fin 512) (h : 16384 ≤ (row t x).val) : 8192 ≤ (trow t x).val := by
  have hx := x.isLt
  have h' : 16384 ≤ 512 * t.val + x.val := h
  show 8192 ≤ 512 * tix t.val + x.val
  unfold tix
  rw [if_neg (by omega)]
  omega

/-- The row's modulation is the block's. -/
theorem bat_row (t : Fin cfg0.N) (x : Fin 512) : (bat (row t x).val).val = min (t.val / 16) 2 := by
  show min ((512 * t.val + x.val) / 8192) 2 = min (t.val / 16) 2
  have := x.isLt
  omega

section Reads

variable (m : (ℓ : Loc nD τ sig) → Buf (Elt Ideal) ℓ) (c : Dev nD) (t : Fin cfg0.N)

/-- Window 0 holds 512 rows of the stream. -/
theorem read0 (x : Fin 512) (j : Fin 1024) : (iblk m c 0 t : Vec Ideal S512x1024 .f32) (ix2 x j) = m ((c : Thread nD τ).loc main_arg0) (ix2 (row t x) j) := by
  rw [← V_main_arg0 m c]
  unfold iblk
  rw [View.read_apply]
  show V m c main_arg0 _ = _
  refine congrArg (V m c main_arg0) (funext fun a => Fin.ext ?_)
  match a with
  | ⟨0, _⟩ => show win0_0.index t 0 * 512 + 1 * x.val = 512 * t.val + x.val; rw [(index0 t).1]; omega
  | ⟨1, _⟩ => show win0_0.index t 1 * 1024 + 1 * j.val = j.val; rw [(index0 t).2]; omega

/-- Window 1 holds the modulation of the block's rows. -/
theorem read1 (x : Fin 512) (n : Fin 6) (j : Fin 1024) :
    (iblk m c 1 t : Vec Ideal S1x6x1024 .f32) (ix3 0 n j) = m ((c : Thread nD τ).loc main_arg1) (ix3 (bat (row t x).val) n j) := by
  rw [← V_main_arg1 m c]
  unfold iblk
  rw [View.read_apply]
  show V m c main_arg1 _ = _
  refine congrArg (V m c main_arg1) (funext fun a => Fin.ext ?_)
  match a with
  | ⟨0, _⟩ => show win0_1.index t 0 * 1 + 1 * 0 = (bat (row t x).val).val; rw [(index1 t).1, bat_row]; omega
  | ⟨1, _⟩ => show win0_1.index t 1 * 6 + 1 * n.val = n.val; rw [(index1 t).2.1]; omega
  | ⟨2, _⟩ => show win0_1.index t 2 * 1024 + 1 * j.val = j.val; rw [(index1 t).2.2]; omega

/-- Window 2 holds the gain. -/
theorem read2 (j : Fin 1024) : (iblk m c 2 t : Vec Ideal S1x1024 .f32) (ix2 0 j) = m ((c : Thread nD τ).loc main_arg2) (ix1 j) := by
  have e : V m c main_v22 = broadcastInDim S1x1024 ![1] bcast_S1024_S1x1024_1 (m ((c : Thread nD τ).loc main_arg2)) := by
    after_results_simp <;> rfl
  have e' : V m c main_v22 (ix2 (0 : Fin 1) j) = m ((c : Thread nD τ).loc main_arg2) (ix1 j) := by
    rw [e]
    refine broadcastInDim_apply _ _ _ (ix2 (0 : Fin 1) j) (ix1 j) fun a => ?_
    match a with
    | ⟨0, _⟩ => rfl
  rw [← e']
  unfold iblk
  rw [View.read_apply]
  show V m c main_v22 _ = _
  refine congrArg (V m c main_v22) (funext fun a => Fin.ext ?_)
  match a with
  | ⟨0, _⟩ => show win0_2.index t 0 * 1 + 1 * 0 = 0; rw [(index2 t).1]
  | ⟨1, _⟩ => show win0_2.index t 1 * 1024 + 1 * j.val = j.val; rw [(index2 t).2]; omega

/-- Window 3 holds the projection's weight. -/
theorem read3 (k : Fin 1024) (j : Fin 2304) : (iblk m c 3 t : Vec Ideal S1024x2304 .bf16) (ix2 k j) = m ((c : Thread nD τ).loc main_arg3) (ix2 k j) := by
  have e : V m c main_v23 = truncf (F := Ideal) .bf16 (m ((c : Thread nD τ).loc main_arg3)) bitsLt_bf16_f32 := by
    rfl
  have e' : V m c main_v23 (ix2 k j) = m ((c : Thread nD τ).loc main_arg3) (ix2 k j) := congrFun e (ix2 k j)
  rw [← e']
  unfold iblk
  rw [View.read_apply]
  show V m c main_v23 _ = _
  refine congrArg (V m c main_v23) (funext fun a => Fin.ext ?_)
  match a with
  | ⟨0, _⟩ => show win0_3.index t 0 * 1024 + 1 * k.val = k.val; rw [(index3 t).1]; omega
  | ⟨1, _⟩ => show win0_3.index t 1 * 2304 + 1 * j.val = j.val; rw [(index3 t).2]; omega

/-- An index of a lane table by its two coordinates. -/
theorem table_ix (x : Fin 512) (j : Fin 128) (a b : ℕ) (ha : a = tix t.val) (hb : b = 0) (k : S8704x128.Idx) (h0 : (k 0).val = a * 512 + 1 * x.val)
    (h1 : (k 1).val = b * 128 + 1 * j.val) : k = ix2 (trow t x) j := by
  refine funext fun i => Fin.ext ?_
  match i with
  | ⟨0, _⟩ => refine h0.trans ?_; show _ = 512 * tix t.val + x.val; omega
  | ⟨1, _⟩ => refine h1.trans ?_; show _ = j.val; omega

/-- Window 4 holds the row's lanes of the table `cosL`. -/
theorem read4 (x : Fin 512) (j : Fin 128) : (iblk m c 4 t : Vec Ideal S512x128 .f32) (ix2 x j)
    = cosL 16 (by decide) (m ((c : Thread nD τ).loc main_arg4)) (m ((c : Thread nD τ).loc main_arg6)) (row t x).val j.val := by
  refine Eq.trans ?_ (host8 m c (trow t x) j (row t x).val (trow_latent t x) (trow_context t x))
  unfold iblk
  rw [View.read_apply]
  show V m c main_v8 _ = _
  exact congrArg (V m c main_v8) (table_ix t x j _ _ (index4 t).1 (index4 t).2 _ rfl rfl)

/-- Window 5 holds the row's lanes of the table `sinA`. -/
theorem read5 (x : Fin 512) (j : Fin 128) : (iblk m c 5 t : Vec Ideal S512x128 .f32) (ix2 x j)
    = sinA 16 (by decide) (m ((c : Thread nD τ).loc main_arg5)) (m ((c : Thread nD τ).loc main_arg7)) (row t x).val j.val := by
  refine Eq.trans ?_ (host9 m c (trow t x) j (row t x).val (trow_latent t x) (trow_context t x))
  unfold iblk
  rw [View.read_apply]
  show V m c main_v9 _ = _
  exact congrArg (V m c main_v9) (table_ix t x j _ _ (index5 t).1 (index5 t).2 _ rfl rfl)

/-- Window 6 holds the row's lanes of the table `sinB`. -/
theorem read6 (x : Fin 512) (j : Fin 128) : (iblk m c 6 t : Vec Ideal S512x128 .f32) (ix2 x j)
    = sinB 16 (by decide) (m ((c : Thread nD τ).loc main_arg5)) (m ((c : Thread nD τ).loc main_arg7)) (row t x).val j.val := by
  refine Eq.trans ?_ (host10 m c (trow t x) j (row t x).val (trow_latent t x) (trow_context t x))
  unfold iblk
  rw [View.read_apply]
  show V m c main_v10 _ = _
  exact congrArg (V m c main_v10) (table_ix t x j _ _ (index6 t).1 (index6 t).2 _ rfl rfl)

/-- Window 7 holds the row's lanes of the table `cosL`. -/
theorem read7 (x : Fin 512) (j : Fin 128) : (iblk m c 7 t : Vec Ideal S512x128 .f32) (ix2 x j)
    = cosL 8 (by decide) (m ((c : Thread nD τ).loc main_arg8)) (m ((c : Thread nD τ).loc main_arg10)) (row t x).val j.val := by
  refine Eq.trans ?_ (host19 m c (trow t x) j (row t x).val (trow_latent t x) (trow_context t x))
  unfold iblk
  rw [View.read_apply]
  show V m c main_v19 _ = _
  exact congrArg (V m c main_v19) (table_ix t x j _ _ (index7 t).1 (index7 t).2 _ rfl rfl)

/-- Window 8 holds the row's lanes of the table `sinA`. -/
theorem read8 (x : Fin 512) (j : Fin 128) : (iblk m c 8 t : Vec Ideal S512x128 .f32) (ix2 x j)
    = sinA 8 (by decide) (m ((c : Thread nD τ).loc main_arg9)) (m ((c : Thread nD τ).loc main_arg11)) (row t x).val j.val := by
  refine Eq.trans ?_ (host20 m c (trow t x) j (row t x).val (trow_latent t x) (trow_context t x))
  unfold iblk
  rw [View.read_apply]
  show V m c main_v20 _ = _
  exact congrArg (V m c main_v20) (table_ix t x j _ _ (index8 t).1 (index8 t).2 _ rfl rfl)

/-- Window 9 holds the row's lanes of the table `sinB`. -/
theorem read9 (x : Fin 512) (j : Fin 128) : (iblk m c 9 t : Vec Ideal S512x128 .f32) (ix2 x j)
    = sinB 8 (by decide) (m ((c : Thread nD τ).loc main_arg9)) (m ((c : Thread nD τ).loc main_arg11)) (row t x).val j.val := by
  refine Eq.trans ?_ (host21 m c (trow t x) j (row t x).val (trow_latent t x) (trow_context t x))
  unfold iblk
  rw [View.read_apply]
  show V m c main_v21 _ = _
  exact congrArg (V m c main_v21) (table_ix t x j _ _ (index9 t).1 (index9 t).2 _ rfl rfl)

/-- The blocks' row against the weight is the array's. -/
theorem rowIs (x : Fin 512) : RowIs (iblk m c 0 t) (iblk m c 1 t) (iblk m c 2 t) (iblk m c 3 t) x (pN (m ((c : Thread nD τ).loc main_arg0)) (m ((c : Thread nD τ).loc main_arg1)) (m ((c : Thread nD τ).loc main_arg2)) (m ((c : Thread nD τ).loc main_arg3)) (row t x)) := by
  intro q
  refine (pN_of_lt _ _ _ _ _ q.val q.isLt).trans ?_
  unfold pG nG
  refine Finset.sum_congr rfl fun k _ => congrArg₂ (· * ·) ?_ (read3 m c t k q).symm
  rw [read2, read1 m c t x 1 k, read1 m c t x 0 k, funext (read0 m c t x)]

end Reads

/-- A block's index as row and column. -/
theorem block_ix {a n : ℕ} (j : (⟨2, ![a, n]⟩ : Shape).Idx) : j = ix2 (j 0 : Fin a) (j 1 : Fin n) := by
  funext i
  match i with
  | ⟨0, _⟩ => rfl
  | ⟨1, _⟩ => rfl

/-- An index of a result by its two coordinates, the rows in blocks. -/
theorem row_ix {n : ℕ} (t : Fin cfg0.N) (x : Fin 512) (j : Fin n) (a b : ℕ) (ha : a = t.val) (hb : b = 0) (k : (⟨2, ![16896, n]⟩ : Shape).Idx)
    (h0 : (k 0).val = a * 512 + 1 * x.val) (h1 : (k 1).val = b * n + 1 * j.val) : ix2 (row t x) j = k := by
  subst ha hb
  refine funext fun i => Fin.ext ?_
  match i with
  | ⟨0, _⟩ => refine Eq.trans ?_ h0.symm; show 512 * t.val + x.val = _; omega
  | ⟨1, _⟩ => refine Eq.trans ?_ h1.symm; show j.val = _; omega

/-- The same of a transposed result. -/
theorem col_ix {n : ℕ} (t : Fin cfg0.N) (x : Fin 512) (j : Fin n) (a b : ℕ) (ha : a = 0) (hb : b = t.val) (k : (⟨2, ![n, 16896]⟩ : Shape).Idx)
    (h0 : (k 0).val = a * n + 1 * j.val) (h1 : (k 1).val = b * 512 + 1 * x.val) : ix2 j (row t x) = k := by
  subst ha hb
  refine funext fun i => Fin.ext ?_
  match i with
  | ⟨0, _⟩ => refine Eq.trans ?_ h0.symm; show j.val = _; omega
  | ⟨1, _⟩ => refine Eq.trans ?_ h1.symm; show 512 * t.val + x.val = _; omega

/-- The point that writes a row. -/
def pointOf (k : Fin 16896) : Fin cfg0.N := ⟨k.val / 512, by show _ < 33; omega⟩

/-- A row lies in its point's block. -/
theorem in_rows {n : ℕ} (off : Fin 2 → ℕ) (inb) (i : (⟨2, ![16896, n]⟩ : Shape).Idx) (h0 : off 0 = (pointOf (i 0)).val * 512) (h1 : off 1 = 0 * n) :
    i ∈ (Rect.unit (s := ⟨2, ![16896, n]⟩) off ![512, n] inb).set := by
  rw [Rect.mem_set_unit]
  have e0 : (i 0 : ℕ) < 16896 := (i 0).isLt
  have e1 : (i 1 : ℕ) < n := (i 1).isLt
  have e2 : (pointOf (i 0)).val = (i 0 : ℕ) / 512 := rfl
  intro a
  match a with
  | ⟨0, _⟩ => show off 0 ≤ (i 0 : ℕ) ∧ (i 0 : ℕ) < off 0 + 512; omega
  | ⟨1, _⟩ => show off 1 ≤ (i 1 : ℕ) ∧ (i 1 : ℕ) < off 1 + n; omega

/-- So does a column of a transposed result. -/
theorem in_cols {n : ℕ} (off : Fin 2 → ℕ) (inb) (i : (⟨2, ![n, 16896]⟩ : Shape).Idx) (h0 : off 0 = 0 * n) (h1 : off 1 = (pointOf (i 1)).val * 512) :
    i ∈ (Rect.unit (s := ⟨2, ![n, 16896]⟩) off ![n, 512] inb).set := by
  rw [Rect.mem_set_unit]
  have e0 : (i 0 : ℕ) < n := (i 0).isLt
  have e1 : (i 1 : ℕ) < 16896 := (i 1).isLt
  have e2 : (pointOf (i 1)).val = (i 1 : ℕ) / 512 := rfl
  intro a
  match a with
  | ⟨0, _⟩ => show off 0 ≤ (i 0 : ℕ) ∧ (i 0 : ℕ) < off 0 + n; omega
  | ⟨1, _⟩ => show off 1 ≤ (i 1 : ℕ) ∧ (i 1 : ℕ) < off 1 + 512; omega

section Final

variable (m : (ℓ : Loc nD τ sig) → Buf (Elt Ideal) ℓ) (c : Dev nD)

/-- What a point writes of the convolution's columns. -/
theorem flushed10_apply (t : Fin cfg0.N) (x : Fin 512) (j : Fin 768) : (dats m 0 c).flushed 10 t (ix2 x j)
    = band (m ((c : Thread nD τ).loc main_arg0)) (m ((c : Thread nD τ).loc main_arg1)) (m ((c : Thread nD τ).loc main_arg2)) (m ((c : Thread nD τ).loc main_arg3)) 0 768 (ix2 (row t x) j) := by
  rw [Value.flushed10]
  refine Eq.trans ?_ ((block10 (iblk m c 0 t) (iblk m c 1 t) (iblk m c 2 t) (iblk m c 3 t) (iblk m c 4 t) (iblk m c 5 t) (iblk m c 6 t) (iblk m c 7 t) (iblk m c 8 t) (iblk m c 9 t) x (pN (m ((c : Thread nD τ).loc main_arg0)) (m ((c : Thread nD τ).loc main_arg1)) (m ((c : Thread nD τ).loc main_arg2)) (m ((c : Thread nD τ).loc main_arg3)) (row t x)) (rowIs m c t x) j).trans (congrArg (pN (m ((c : Thread nD τ).loc main_arg0)) (m ((c : Thread nD τ).loc main_arg1)) (m ((c : Thread nD τ).loc main_arg2)) (m ((c : Thread nD τ).loc main_arg3)) (row t x)) (Nat.zero_add _).symm))
  rfl

/-- The array of the convolution's columns. -/
theorem final10 : (dats m 0 c).arrAt 10 cfg0.N = band (m ((c : Thread nD τ).loc main_arg0)) (m ((c : Thread nD τ).loc main_arg1)) (m ((c : Thread nD τ).loc main_arg2)) (m ((c : Thread nD τ).loc main_arg3)) 0 768 := by
  refine (dats m 0 c).arrAt_eq_of_cover 10 _ (fun t _ => ?_) fun i => ?_
  · funext j
    rw [View.read_apply]
    exact (congrArg _ (block_ix (a := 512) (n := 768) j)).trans ((flushed10_apply m c t (j 0) (j 1)).trans
      (congrArg (band (m ((c : Thread nD τ).loc main_arg0)) (m ((c : Thread nD τ).loc main_arg1)) (m ((c : Thread nD τ).loc main_arg2)) (m ((c : Thread nD τ).loc main_arg3)) 0 768) (row_ix t (j 0) (j 1) _ _ (index10 t).1 (index10 t).2 _ rfl rfl)))
  · refine ⟨pointOf (i 0), flush0_10 _, ?_⟩
    show i ∈ ((View.whole main_v24_0).slice (win0_10.rect (pointOf (i 0)))).set
    rw [View.set_slice_whole]
    exact in_rows _ _ i (congrArg (· * 512) (index10 _).1) (congrArg (· * 768) (index10 _).2)

/-- What a point writes of the window attention's queries. -/
theorem flushed11_apply (t : Fin cfg0.N) (x : Fin 512) (j : Fin 512) : (dats m 0 c).flushed 11 t (ix2 x j)
    = qwArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t x) j) := by
  rw [Value.flushed11]
  refine Eq.trans ?_ (block11 (iblk m c 0 t) (iblk m c 1 t) (iblk m c 2 t) (iblk m c 3 t) (iblk m c 4 t) (iblk m c 5 t) (iblk m c 6 t) (iblk m c 7 t) (iblk m c 8 t) (iblk m c 9 t) (fun x => pN (m ((c : Thread nD τ).loc main_arg0)) (m ((c : Thread nD τ).loc main_arg1)) (m ((c : Thread nD τ).loc main_arg2)) (m ((c : Thread nD τ).loc main_arg3)) (row t x)) (rowIs m c t) (fun x => (row t x).val) (m ((c : Thread nD τ).loc main_arg4)) (m ((c : Thread nD τ).loc main_arg5)) (m ((c : Thread nD τ).loc main_arg6)) (m ((c : Thread nD τ).loc main_arg7)) (read4 m c t) (read5 m c t) (read6 m c t) x j)
  rfl

/-- The array of the window attention's queries. -/
theorem final11 : (dats m 0 c).arrAt 11 cfg0.N = qwArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_cover 11 _ (fun t _ => ?_) fun i => ?_
  · funext j
    rw [View.read_apply]
    exact (congrArg _ (block_ix (a := 512) (n := 512) j)).trans ((flushed11_apply m c t (j 0) (j 1)).trans
      (congrArg (qwArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (row_ix t (j 0) (j 1) _ _ (index11 t).1 (index11 t).2 _ rfl rfl)))
  · refine ⟨pointOf (i 0), flush0_11 _, ?_⟩
    show i ∈ ((View.whole main_v24_1).slice (win0_11.rect (pointOf (i 0)))).set
    rw [View.set_slice_whole]
    exact in_rows _ _ i (congrArg (· * 512) (index11 _).1) (congrArg (· * 512) (index11 _).2)

/-- What a point writes of the window attention's keys. -/
theorem flushed12_apply (t : Fin cfg0.N) (x : Fin 512) (j : Fin 128) : (dats m 0 c).flushed 12 t (ix2 x j)
    = kwArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t x) j) := by
  rw [Value.flushed12]
  refine Eq.trans ?_ (block12 (iblk m c 0 t) (iblk m c 1 t) (iblk m c 2 t) (iblk m c 3 t) (iblk m c 4 t) (iblk m c 5 t) (iblk m c 6 t) (iblk m c 7 t) (iblk m c 8 t) (iblk m c 9 t) (fun x => pN (m ((c : Thread nD τ).loc main_arg0)) (m ((c : Thread nD τ).loc main_arg1)) (m ((c : Thread nD τ).loc main_arg2)) (m ((c : Thread nD τ).loc main_arg3)) (row t x)) (rowIs m c t) (fun x => (row t x).val) (m ((c : Thread nD τ).loc main_arg4)) (m ((c : Thread nD τ).loc main_arg5)) (m ((c : Thread nD τ).loc main_arg6)) (m ((c : Thread nD τ).loc main_arg7)) (read4 m c t) (read5 m c t) (read6 m c t) x j)
  rfl

/-- The array of the window attention's keys. -/
theorem final12 : (dats m 0 c).arrAt 12 cfg0.N = kwArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_cover 12 _ (fun t _ => ?_) fun i => ?_
  · funext j
    rw [View.read_apply]
    exact (congrArg _ (block_ix (a := 512) (n := 128) j)).trans ((flushed12_apply m c t (j 0) (j 1)).trans
      (congrArg (kwArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (row_ix t (j 0) (j 1) _ _ (index12 t).1 (index12 t).2 _ rfl rfl)))
  · refine ⟨pointOf (i 0), flush0_12 _, ?_⟩
    show i ∈ ((View.whole main_v24_2).slice (win0_12.rect (pointOf (i 0)))).set
    rw [View.set_slice_whole]
    exact in_rows _ _ i (congrArg (· * 512) (index12 _).1) (congrArg (· * 128) (index12 _).2)

/-- What a point writes of the window attention's values. -/
theorem flushed13_apply (t : Fin cfg0.N) (x : Fin 512) (j : Fin 128) : (dats m 0 c).flushed 13 t (ix2 x j)
    = band (m ((c : Thread nD τ).loc main_arg0)) (m ((c : Thread nD τ).loc main_arg1)) (m ((c : Thread nD τ).loc main_arg2)) (m ((c : Thread nD τ).loc main_arg3)) 1408 128 (ix2 (row t x) j) := by
  rw [Value.flushed13]
  refine Eq.trans ?_ (block13 (iblk m c 0 t) (iblk m c 1 t) (iblk m c 2 t) (iblk m c 3 t) (iblk m c 4 t) (iblk m c 5 t) (iblk m c 6 t) (iblk m c 7 t) (iblk m c 8 t) (iblk m c 9 t) x (pN (m ((c : Thread nD τ).loc main_arg0)) (m ((c : Thread nD τ).loc main_arg1)) (m ((c : Thread nD τ).loc main_arg2)) (m ((c : Thread nD τ).loc main_arg3)) (row t x)) (rowIs m c t x) j)
  rfl

/-- The array of the window attention's values. -/
theorem final13 : (dats m 0 c).arrAt 13 cfg0.N = band (m ((c : Thread nD τ).loc main_arg0)) (m ((c : Thread nD τ).loc main_arg1)) (m ((c : Thread nD τ).loc main_arg2)) (m ((c : Thread nD τ).loc main_arg3)) 1408 128 := by
  refine (dats m 0 c).arrAt_eq_of_cover 13 _ (fun t _ => ?_) fun i => ?_
  · funext j
    rw [View.read_apply]
    exact (congrArg _ (block_ix (a := 512) (n := 128) j)).trans ((flushed13_apply m c t (j 0) (j 1)).trans
      (congrArg (band (m ((c : Thread nD τ).loc main_arg0)) (m ((c : Thread nD τ).loc main_arg1)) (m ((c : Thread nD τ).loc main_arg2)) (m ((c : Thread nD τ).loc main_arg3)) 1408 128) (row_ix t (j 0) (j 1) _ _ (index13 t).1 (index13 t).2 _ rfl rfl)))
  · refine ⟨pointOf (i 0), flush0_13 _, ?_⟩
    show i ∈ ((View.whole main_v24_3).slice (win0_13.rect (pointOf (i 0)))).set
    rw [View.set_slice_whole]
    exact in_rows _ _ i (congrArg (· * 512) (index13 _).1) (congrArg (· * 128) (index13 _).2)

/-- What a point writes of the differential attention's queries. -/
theorem flushed14_apply (t : Fin cfg0.N) (x : Fin 512) (j : Fin 256) : (dats m 0 c).flushed 14 t (ix2 x j)
    = qdArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (ix2 (row t x) j) := by
  rw [Value.flushed14]
  refine Eq.trans ?_ (block14 (iblk m c 0 t) (iblk m c 1 t) (iblk m c 2 t) (iblk m c 3 t) (iblk m c 4 t) (iblk m c 5 t) (iblk m c 6 t) (iblk m c 7 t) (iblk m c 8 t) (iblk m c 9 t) (fun x => pN (m ((c : Thread nD τ).loc main_arg0)) (m ((c : Thread nD τ).loc main_arg1)) (m ((c : Thread nD τ).loc main_arg2)) (m ((c : Thread nD τ).loc main_arg3)) (row t x)) (rowIs m c t) (fun x => (row t x).val) (m ((c : Thread nD τ).loc main_arg8)) (m ((c : Thread nD τ).loc main_arg9)) (m ((c : Thread nD τ).loc main_arg10)) (m ((c : Thread nD τ).loc main_arg11)) (read7 m c t) (read8 m c t) (read9 m c t) x j)
  rfl

/-- The array of the differential attention's queries. -/
theorem final14 : (dats m 0 c).arrAt 14 cfg0.N = qdArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) := by
  refine (dats m 0 c).arrAt_eq_of_cover 14 _ (fun t _ => ?_) fun i => ?_
  · funext j
    rw [View.read_apply]
    exact (congrArg _ (block_ix (a := 512) (n := 256) j)).trans ((flushed14_apply m c t (j 0) (j 1)).trans
      (congrArg (qdArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))) (row_ix t (j 0) (j 1) _ _ (index14 t).1 (index14 t).2 _ rfl rfl)))
  · refine ⟨pointOf (i 0), flush0_14 _, ?_⟩
    show i ∈ ((View.whole main_v24_4).slice (win0_14.rect (pointOf (i 0)))).set
    rw [View.set_slice_whole]
    exact in_rows _ _ i (congrArg (· * 512) (index14 _).1) (congrArg (· * 256) (index14 _).2)

/-- What a point writes of the differential attention's keys. -/
theorem flushed15_apply (t : Fin cfg0.N) (x : Fin 512) (j : Fin 256) : (dats m 0 c).flushed 15 t (ix2 x j)
    = kdArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (ix2 (row t x) j) := by
  rw [Value.flushed15]
  refine Eq.trans ?_ (block15 (iblk m c 0 t) (iblk m c 1 t) (iblk m c 2 t) (iblk m c 3 t) (iblk m c 4 t) (iblk m c 5 t) (iblk m c 6 t) (iblk m c 7 t) (iblk m c 8 t) (iblk m c 9 t) (fun x => pN (m ((c : Thread nD τ).loc main_arg0)) (m ((c : Thread nD τ).loc main_arg1)) (m ((c : Thread nD τ).loc main_arg2)) (m ((c : Thread nD τ).loc main_arg3)) (row t x)) (rowIs m c t) (fun x => (row t x).val) (m ((c : Thread nD τ).loc main_arg8)) (m ((c : Thread nD τ).loc main_arg9)) (m ((c : Thread nD τ).loc main_arg10)) (m ((c : Thread nD τ).loc main_arg11)) (read7 m c t) (read8 m c t) (read9 m c t) x j)
  rfl

/-- The array of the differential attention's keys. -/
theorem final15 : (dats m 0 c).arrAt 15 cfg0.N = kdArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) := by
  refine (dats m 0 c).arrAt_eq_of_cover 15 _ (fun t _ => ?_) fun i => ?_
  · funext j
    rw [View.read_apply]
    exact (congrArg _ (block_ix (a := 512) (n := 256) j)).trans ((flushed15_apply m c t (j 0) (j 1)).trans
      (congrArg (kdArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))) (row_ix t (j 0) (j 1) _ _ (index15 t).1 (index15 t).2 _ rfl rfl)))
  · refine ⟨pointOf (i 0), flush0_15 _, ?_⟩
    show i ∈ ((View.whole main_v24_5).slice (win0_15.rect (pointOf (i 0)))).set
    rw [View.set_slice_whole]
    exact in_rows _ _ i (congrArg (· * 512) (index15 _).1) (congrArg (· * 256) (index15 _).2)

/-- What a point writes of the differential attention's values. -/
theorem flushed16_apply (t : Fin cfg0.N) (x : Fin 512) (j : Fin 256) : (dats m 0 c).flushed 16 t (ix2 x j)
    = band (m ((c : Thread nD τ).loc main_arg0)) (m ((c : Thread nD τ).loc main_arg1)) (m ((c : Thread nD τ).loc main_arg2)) (m ((c : Thread nD τ).loc main_arg3)) 2048 256 (ix2 (row t x) j) := by
  rw [Value.flushed16]
  refine Eq.trans ?_ (block16 (iblk m c 0 t) (iblk m c 1 t) (iblk m c 2 t) (iblk m c 3 t) (iblk m c 4 t) (iblk m c 5 t) (iblk m c 6 t) (iblk m c 7 t) (iblk m c 8 t) (iblk m c 9 t) x (pN (m ((c : Thread nD τ).loc main_arg0)) (m ((c : Thread nD τ).loc main_arg1)) (m ((c : Thread nD τ).loc main_arg2)) (m ((c : Thread nD τ).loc main_arg3)) (row t x)) (rowIs m c t x) j)
  rfl

/-- The array of the differential attention's values. -/
theorem final16 : (dats m 0 c).arrAt 16 cfg0.N = band (m ((c : Thread nD τ).loc main_arg0)) (m ((c : Thread nD τ).loc main_arg1)) (m ((c : Thread nD τ).loc main_arg2)) (m ((c : Thread nD τ).loc main_arg3)) 2048 256 := by
  refine (dats m 0 c).arrAt_eq_of_cover 16 _ (fun t _ => ?_) fun i => ?_
  · funext j
    rw [View.read_apply]
    exact (congrArg _ (block_ix (a := 512) (n := 256) j)).trans ((flushed16_apply m c t (j 0) (j 1)).trans
      (congrArg (band (m ((c : Thread nD τ).loc main_arg0)) (m ((c : Thread nD τ).loc main_arg1)) (m ((c : Thread nD τ).loc main_arg2)) (m ((c : Thread nD τ).loc main_arg3)) 2048 256) (row_ix t (j 0) (j 1) _ _ (index16 t).1 (index16 t).2 _ rfl rfl)))
  · refine ⟨pointOf (i 0), flush0_16 _, ?_⟩
    show i ∈ ((View.whole main_v24_6).slice (win0_16.rect (pointOf (i 0)))).set
    rw [View.set_slice_whole]
    exact in_rows _ _ i (congrArg (· * 512) (index16 _).1) (congrArg (· * 256) (index16 _).2)

/-- What a point writes of their transpose. -/
theorem flushed17_apply (t : Fin cfg0.N) (x : Fin 512) (j : Fin 256) : (dats m 0 c).flushed 17 t (ix2 j x)
    = bandT (m ((c : Thread nD τ).loc main_arg0)) (m ((c : Thread nD τ).loc main_arg1)) (m ((c : Thread nD τ).loc main_arg2)) (m ((c : Thread nD τ).loc main_arg3)) 2048 256 (ix2 j (row t x)) := by
  rw [Value.flushed17]
  refine Eq.trans ?_ (block17 (iblk m c 0 t) (iblk m c 1 t) (iblk m c 2 t) (iblk m c 3 t) (iblk m c 4 t) (iblk m c 5 t) (iblk m c 6 t) (iblk m c 7 t) (iblk m c 8 t) (iblk m c 9 t) x (pN (m ((c : Thread nD τ).loc main_arg0)) (m ((c : Thread nD τ).loc main_arg1)) (m ((c : Thread nD τ).loc main_arg2)) (m ((c : Thread nD τ).loc main_arg3)) (row t x)) (rowIs m c t x) j)
  rfl

/-- The array of their transpose. -/
theorem final17 : (dats m 0 c).arrAt 17 cfg0.N = bandT (m ((c : Thread nD τ).loc main_arg0)) (m ((c : Thread nD τ).loc main_arg1)) (m ((c : Thread nD τ).loc main_arg2)) (m ((c : Thread nD τ).loc main_arg3)) 2048 256 := by
  refine (dats m 0 c).arrAt_eq_of_cover 17 _ (fun t _ => ?_) fun i => ?_
  · funext j
    rw [View.read_apply]
    exact (congrArg _ (block_ix (a := 256) (n := 512) j)).trans ((flushed17_apply m c t (j 1) (j 0)).trans
      (congrArg (bandT (m ((c : Thread nD τ).loc main_arg0)) (m ((c : Thread nD τ).loc main_arg1)) (m ((c : Thread nD τ).loc main_arg2)) (m ((c : Thread nD τ).loc main_arg3)) 2048 256) (col_ix t (j 1) (j 0) _ _ (index17 t).1 (index17 t).2 _ rfl rfl)))
  · refine ⟨pointOf (i 1), flush0_17 _, ?_⟩
    show i ∈ ((View.whole main_v24_7).slice (win0_17.rect (pointOf (i 1)))).set
    rw [View.set_slice_whole]
    exact in_cols _ _ i (congrArg (· * 256) (index17 _).1) (congrArg (· * 512) (index17 _).2)

/-- What a point writes of the window attention's values, transposed. -/
theorem flushed18_apply (t : Fin cfg0.N) (x : Fin 512) (j : Fin 128) : (dats m 0 c).flushed 18 t (ix2 j x)
    = bandT (m ((c : Thread nD τ).loc main_arg0)) (m ((c : Thread nD τ).loc main_arg1)) (m ((c : Thread nD τ).loc main_arg2)) (m ((c : Thread nD τ).loc main_arg3)) 1408 128 (ix2 j (row t x)) := by
  rw [Value.flushed18]
  refine Eq.trans ?_ (block18 (iblk m c 0 t) (iblk m c 1 t) (iblk m c 2 t) (iblk m c 3 t) (iblk m c 4 t) (iblk m c 5 t) (iblk m c 6 t) (iblk m c 7 t) (iblk m c 8 t) (iblk m c 9 t) x (pN (m ((c : Thread nD τ).loc main_arg0)) (m ((c : Thread nD τ).loc main_arg1)) (m ((c : Thread nD τ).loc main_arg2)) (m ((c : Thread nD τ).loc main_arg3)) (row t x)) (rowIs m c t x) j)
  rfl

/-- The array of the window attention's values, transposed. -/
theorem final18 : (dats m 0 c).arrAt 18 cfg0.N = bandT (m ((c : Thread nD τ).loc main_arg0)) (m ((c : Thread nD τ).loc main_arg1)) (m ((c : Thread nD τ).loc main_arg2)) (m ((c : Thread nD τ).loc main_arg3)) 1408 128 := by
  refine (dats m 0 c).arrAt_eq_of_cover 18 _ (fun t _ => ?_) fun i => ?_
  · funext j
    rw [View.read_apply]
    exact (congrArg _ (block_ix (a := 128) (n := 512) j)).trans ((flushed18_apply m c t (j 1) (j 0)).trans
      (congrArg (bandT (m ((c : Thread nD τ).loc main_arg0)) (m ((c : Thread nD τ).loc main_arg1)) (m ((c : Thread nD τ).loc main_arg2)) (m ((c : Thread nD τ).loc main_arg3)) 1408 128) (col_ix t (j 1) (j 0) _ _ (index18 t).1 (index18 t).2 _ rfl rfl)))
  · refine ⟨pointOf (i 1), flush0_18 _, ?_⟩
    show i ∈ ((View.whole main_v24_8).slice (win0_18.rect (pointOf (i 1)))).set
    rw [View.set_slice_whole]
    exact in_cols _ _ i (congrArg (· * 128) (index18 _).1) (congrArg (· * 512) (index18 _).2)

end Final

end Cert.Kernel3Ideal.In

end
-- ==== Proof.InRope.lean ====
/- The reference's rotary turn, written over heads, halves and quarters: what it leaves at a row and a column. -/
module

public import proofs.«01_k».proof.Proof.InVal
public import Idealize.ShloMosaic.Lib.KernelVsHost
public import Idealize.ShloMosaic.Lib.IdealHost

@[expose] public section

set_option maxRecDepth 16384

noncomputable section

namespace Cert.InProj

open Idealize.ShloMosaic Idealize.ShloMosaic.TcCoe Idealize.ShloMosaic.ValueIdx

/-- What the shapes of a turn of `H` heads of `e` columns, in halves of `d` and quarters of `m`, must satisfy. -/
structure Sides (W H d e m : ℕ) : Prop where
  lo : (⟨4, ![2, 8192, H, d]⟩ : Shape).Slices ![0, 0, 0, 0] ⟨4, ![2, 8192, H, m]⟩
  hi : (⟨4, ![2, 8192, H, d]⟩ : Shape).Slices ![0, 0, 0, m] ⟨4, ![2, 8192, H, m]⟩
  tab : (⟨2, ![8192, m]⟩ : Shape).BroadcastsInDim ⟨4, ![1, 8192, 1, m]⟩ (![1, 3] : Fin 2 → Fin (⟨4, ![1, 8192, 1, m]⟩ : Shape).rank)
  wide : (⟨4, ![1, 8192, 1, m]⟩ : Shape).BroadcastsInDim ⟨4, ![2, 8192, H, m]⟩ (![0, 1, 2, 3] : Fin 4 → Fin (⟨4, ![2, 8192, H, m]⟩ : Shape).rank)
  half : Shape.Concatenates [(⟨4, ![2, 8192, H, m]⟩ : Shape), ⟨4, ![2, 8192, H, m]⟩] ⟨4, ![2, 8192, H, d]⟩ 3
  first : (⟨4, ![2, 8192, H, e]⟩ : Shape).Slices ![0, 0, 0, 0] ⟨4, ![2, 8192, H, d]⟩
  second : (⟨4, ![2, 8192, H, e]⟩ : Shape).Slices ![0, 0, 0, d] ⟨4, ![2, 8192, H, d]⟩
  head : Shape.Concatenates [(⟨4, ![2, 8192, H, d]⟩ : Shape), ⟨4, ![2, 8192, H, d]⟩] ⟨4, ![2, 8192, H, e]⟩ 3
  latent : (⟨2, ![16896, W]⟩ : Shape).Slices ![0, 0] ⟨2, ![16384, W]⟩
  split : (⟨2, ![16384, W]⟩ : Shape).ShapeCasts ⟨4, ![2, 8192, H, e]⟩
  join : (⟨4, ![2, 8192, H, e]⟩ : Shape).ShapeCasts ⟨2, ![16384, W]⟩
  context : (⟨2, ![16896, W]⟩ : Shape).Slices ![16384, 0] ⟨2, ![512, W]⟩
  rows : Shape.Concatenates [(⟨2, ![16384, W]⟩ : Shape), ⟨2, ![512, W]⟩] ⟨2, ![16896, W]⟩ 0

section Turn

variable {W H d e m : ℕ} (S : Sides W H d e m)

/-- A table against every batch and head. -/
def wideT (t : FVec Ideal ⟨2, ![8192, m]⟩ .f32) : FVec Ideal ⟨4, ![2, 8192, H, m]⟩ .f32 :=
  broadcastInDim ⟨4, ![2, 8192, H, m]⟩ ![0, 1, 2, 3] S.wide (broadcastInDim ⟨4, ![1, 8192, 1, m]⟩ ![1, 3] S.tab t)

/-- A half of every head turned by a table of cosines and one of sines. -/
def halfT (x : FVec Ideal ⟨4, ![2, 8192, H, d]⟩ .f32) (t u : FVec Ideal ⟨2, ![8192, m]⟩ .f32) : FVec Ideal ⟨4, ![2, 8192, H, d]⟩ .f32 :=
  concatenate ⟨4, ![2, 8192, H, d]⟩ 3
    [⟨⟨4, ![2, 8192, H, m]⟩, subf (mulf (extractStridedSlice ⟨4, ![2, 8192, H, m]⟩ ![0, 0, 0, 0] x S.lo) (wideT S t))
      (mulf (extractStridedSlice ⟨4, ![2, 8192, H, m]⟩ ![0, 0, 0, m] x S.hi) (wideT S u))⟩,
    ⟨⟨4, ![2, 8192, H, m]⟩, addf (mulf (extractStridedSlice ⟨4, ![2, 8192, H, m]⟩ ![0, 0, 0, m] x S.hi) (wideT S t))
      (mulf (extractStridedSlice ⟨4, ![2, 8192, H, m]⟩ ![0, 0, 0, 0] x S.lo) (wideT S u))⟩] S.half

/-- The latent rows split into batches and heads. -/
def headsT (v : FVec Ideal ⟨2, ![16896, W]⟩ .f32) : FVec Ideal ⟨4, ![2, 8192, H, e]⟩ .f32 :=
  shapeCast ⟨4, ![2, 8192, H, e]⟩ (extractStridedSlice ⟨2, ![16384, W]⟩ ![0, 0] v S.latent) S.split

/-- The reference's turn of the latent rows, the context's rows kept. -/
def ropeT (v : FVec Ideal ⟨2, ![16896, W]⟩ .f32) (cr sr cc sc : FVec Ideal ⟨2, ![8192, m]⟩ .f32) : FVec Ideal ⟨2, ![16896, W]⟩ .f32 :=
  concatenate ⟨2, ![16896, W]⟩ 0
    [⟨⟨2, ![16384, W]⟩, shapeCast ⟨2, ![16384, W]⟩ (concatenate ⟨4, ![2, 8192, H, e]⟩ 3
      [⟨⟨4, ![2, 8192, H, d]⟩, halfT S (extractStridedSlice ⟨4, ![2, 8192, H, d]⟩ ![0, 0, 0, 0] (headsT S v) S.first) cr sr⟩,
      ⟨⟨4, ![2, 8192, H, d]⟩, halfT S (extractStridedSlice ⟨4, ![2, 8192, H, d]⟩ ![0, 0, 0, d] (headsT S v) S.second) cc sc⟩] S.head) S.join⟩,
    ⟨⟨2, ![512, W]⟩, extractStridedSlice ⟨2, ![512, W]⟩ ![16384, 0] v S.context⟩] S.rows

/-- A table's entry at a batch, a latent row, a head and a column. -/
theorem wideT_apply (t : FVec Ideal ⟨2, ![8192, m]⟩ .f32) (hm : m ≠ 1) (b : Fin 2) (l : Fin 8192) (h : Fin H) (p : Fin m) :
    wideT S t (ix4 b l h p) = t (ix2 l p) := by
  refine (broadcastInDim_apply _ _ _ (ix4 b l h p) (ix4 (0 : Fin 1) l (0 : Fin 1) p) fun a => ?_).trans
    (broadcastInDim_apply _ _ _ (ix4 (0 : Fin 1) l (0 : Fin 1) p) (ix2 l p) fun a => ?_)
  · match a with
    | ⟨0, _⟩ => rfl
    | ⟨1, _⟩ => rfl
    | ⟨2, _⟩ => rfl
    | ⟨3, _⟩ => exact (if_neg hm).symm
  · match a with
    | ⟨0, _⟩ => rfl
    | ⟨1, _⟩ => exact (if_neg hm).symm

/-- A slice of the last axis. -/
theorem last_slice {α : Type} {n k o : ℕ} (x : (⟨4, ![2, 8192, H, n]⟩ : Shape).Idx → α) (hs : (⟨4, ![2, 8192, H, n]⟩ : Shape).Slices ![0, 0, 0, o] ⟨4, ![2, 8192, H, k]⟩)
    (b : Fin 2) (l : Fin 8192) (h : Fin H) (p : Fin k) (q : Fin n) (hq : q.val = o + p.val) :
    extractStridedSlice ⟨4, ![2, 8192, H, k]⟩ ![0, 0, 0, o] x hs (ix4 b l h p) = x (ix4 b l h q) := by
  refine extractStridedSlice_apply _ _ _ (ix4 b l h p) (ix4 b l h q) fun a => ?_
  match a with
  | ⟨0, _⟩ => exact (Nat.zero_add _).symm
  | ⟨1, _⟩ => exact (Nat.zero_add _).symm
  | ⟨2, _⟩ => exact (Nat.zero_add _).symm
  | ⟨3, _⟩ => exact hq

/-- Two arrays joined along the last axis, in the first. -/
theorem last_left {α : Type} {n k : ℕ} (x y : (⟨4, ![2, 8192, H, k]⟩ : Shape).Idx → α) (hc) (b : Fin 2) (l : Fin 8192) (h : Fin H) (p : Fin n) (q : Fin k) (hq : q.val = p.val) :
    concatenate ⟨4, ![2, 8192, H, n]⟩ 3 [⟨⟨4, ![2, 8192, H, k]⟩, x⟩, ⟨⟨4, ![2, 8192, H, k]⟩, y⟩] hc (ix4 b l h p) = x (ix4 b l h q) := by
  refine concatenate_pair_apply_left (t := ⟨4, ![2, 8192, H, n]⟩) (s₁ := ⟨4, ![2, 8192, H, k]⟩) (s₂ := ⟨4, ![2, 8192, H, k]⟩) 3 _ _ _ (ix4 b l h p) rfl (ix4 b l h q) fun a => ?_
  match a with
  | ⟨0, _⟩ => rfl
  | ⟨1, _⟩ => rfl
  | ⟨2, _⟩ => rfl
  | ⟨3, _⟩ => exact hq

/-- The same, in the second. -/
theorem last_right {α : Type} {n k : ℕ} (x y : (⟨4, ![2, 8192, H, k]⟩ : Shape).Idx → α) (hc) (b : Fin 2) (l : Fin 8192) (h : Fin H) (p : Fin n) (q : Fin k) (hq : q.val + k = p.val) :
    concatenate ⟨4, ![2, 8192, H, n]⟩ 3 [⟨⟨4, ![2, 8192, H, k]⟩, x⟩, ⟨⟨4, ![2, 8192, H, k]⟩, y⟩] hc (ix4 b l h p) = y (ix4 b l h q) := by
  refine concatenate_pair_apply_right (t := ⟨4, ![2, 8192, H, n]⟩) (s₁ := ⟨4, ![2, 8192, H, k]⟩) (s₂ := ⟨4, ![2, 8192, H, k]⟩) 3 _ _ _ (ix4 b l h p) rfl rfl (ix4 b l h q) (fun a ha => ?_) hq
  match a with
  | ⟨0, _⟩ => rfl
  | ⟨1, _⟩ => rfl
  | ⟨2, _⟩ => rfl
  | ⟨3, _⟩ => exact absurd rfl ha

/-- A turned half's entry in its first quarter. -/
theorem halfT_lo (x : FVec Ideal ⟨4, ![2, 8192, H, d]⟩ .f32) (t u : FVec Ideal ⟨2, ![8192, m]⟩ .f32) (hm : m ≠ 1) (b : Fin 2) (l : Fin 8192) (h : Fin H)
    (p p' : Fin d) (q : Fin m) (hq : q.val = p.val) (hp : p'.val = p.val + m) :
    halfT S x t u (ix4 b l h p) = (x (ix4 b l h p) * t (ix2 l q) - x (ix4 b l h p') * u (ix2 l q) : EReal) := by
  refine (last_left _ _ _ b l h p q hq).trans ?_
  show (extractStridedSlice _ _ x S.lo (ix4 b l h q) * wideT S t (ix4 b l h q) - extractStridedSlice _ _ x S.hi (ix4 b l h q) * wideT S u (ix4 b l h q) : EReal) = _
  rw [wideT_apply S t hm, wideT_apply S u hm, last_slice x S.lo b l h q p (by omega), last_slice x S.hi b l h q p' (by omega)]

/-- And in its second. -/
theorem halfT_hi (x : FVec Ideal ⟨4, ![2, 8192, H, d]⟩ .f32) (t u : FVec Ideal ⟨2, ![8192, m]⟩ .f32) (hm : m ≠ 1) (b : Fin 2) (l : Fin 8192) (h : Fin H)
    (p p' : Fin d) (q : Fin m) (hq : q.val + m = p.val) (hp : p'.val = q.val) :
    halfT S x t u (ix4 b l h p) = (x (ix4 b l h p) * t (ix2 l q) + x (ix4 b l h p') * u (ix2 l q) : EReal) := by
  refine (last_right _ _ _ b l h p q hq).trans ?_
  show (extractStridedSlice _ _ x S.hi (ix4 b l h q) * wideT S t (ix4 b l h q) + extractStridedSlice _ _ x S.lo (ix4 b l h q) * wideT S u (ix4 b l h q) : EReal) = _
  rw [wideT_apply S t hm, wideT_apply S u hm, last_slice x S.hi b l h q p (by omega), last_slice x S.lo b l h q p' (by omega)]

/-- A head's entry in the array's columns. -/
theorem headsT_apply (hW : W = H * e) (v : FVec Ideal ⟨2, ![16896, W]⟩ .f32) (b : Fin 2) (l : Fin 8192) (h : Fin H) (p : Fin e) (r : Fin 16896) (j : Fin W)
    (hr : r.val = b.val * 8192 + l.val) (hj : j.val = h.val * e + p.val) : headsT S v (ix4 b l h p) = v (ix2 r j) := by
  have hb := b.isLt
  have hl := l.isLt
  refine (shapeCast_apply _ _ (ix4 b l h p) (ix2 (⟨r.val, by omega⟩ : Fin 16384) j) ?_).trans
    (extractStridedSlice_apply _ _ _ (ix2 (⟨r.val, by omega⟩ : Fin 16384) j) (ix2 r j) fun a => ?_)
  · rw [Shape.rowMajor_val_two, Shape.rowMajor_val_four]
    show r.val * W + j.val = ((b.val * 8192 + l.val) * H + h.val) * e + p.val
    rw [hr, hj, hW]
    ring
  · match a with
    | ⟨0, _⟩ => exact (Nat.zero_add _).symm
    | ⟨1, _⟩ => exact (Nat.zero_add _).symm

/-- The turn's entry: a latent row's columns turned, a context row's as they were. -/
theorem ropeT_apply (h0 : 0 < m) (hm : m = 16 ∧ d = 32 ∧ e = 64 ∨ m = 8 ∧ d = 16 ∧ e = 32) (hW : W = H * e) (v : FVec Ideal ⟨2, ![16896, W]⟩ .f32)
    (cr sr cc sc : FVec Ideal ⟨2, ![8192, m]⟩ .f32) (r : Fin 16896) (f : ℕ → EReal) (hf : ∀ q : Fin W, v (ix2 r q) = f q.val) (j : Fin W) :
    ropeT S v cr sr cc sc (ix2 r j) = turn m h0 cr sr cc sc r.val f j.val := by
  have hr := r.isLt
  have hj := j.isLt
  unfold turn
  by_cases hl : r.val < 16384
  · rw [if_pos hl]
    have he : 0 < e := by omega
    have hh : j.val / e < H := Nat.div_lt_of_lt_mul (by rw [Nat.mul_comm, ← hW]; exact hj)
    obtain ⟨p, hpp⟩ : ∃ p : ℕ, p = j.val % e := ⟨_, rfl⟩
    obtain ⟨B, hBB⟩ : ∃ B : ℕ, B = j.val / e * e := ⟨_, rfl⟩
    have hp : p < e := hpp ▸ Nat.mod_lt _ he
    have hx : ∀ (p : Fin e) (k : ℕ), k = B + p.val → k < W →
        headsT S v (ix4 (⟨r.val / 8192, by omega⟩ : Fin 2) (⟨r.val % 8192, Nat.mod_lt _ (by decide)⟩ : Fin 8192) ⟨j.val / e, hh⟩ p) = f k := fun p k hk hk' =>
      (headsT_apply S hW v _ _ _ p r ⟨k, hk'⟩ (by show r.val = r.val / 8192 * 8192 + r.val % 8192; omega) (hBB ▸ hk)).trans (hf ⟨k, hk'⟩)
    refine (concatenate_pair_apply_left (t := ⟨2, ![16896, W]⟩) (s₁ := ⟨2, ![16384, W]⟩) (s₂ := ⟨2, ![512, W]⟩) 0 _ _ _ (ix2 r j) rfl
      (ix2 (⟨r.val, hl⟩ : Fin 16384) j) fun a => ?_).trans ?_
    · match a with
      | ⟨0, _⟩ => rfl
      | ⟨1, _⟩ => rfl
    refine (shapeCast_apply _ _ _ (ix4 (⟨r.val / 8192, by omega⟩ : Fin 2) (⟨r.val % 8192, Nat.mod_lt _ (by decide)⟩ : Fin 8192) (⟨j.val / e, hh⟩ : Fin H)
      (⟨p, hp⟩ : Fin e)) ?_).trans ?_
    · rw [Shape.rowMajor_val_two, Shape.rowMajor_val_four]
      show ((r.val / 8192 * 8192 + r.val % 8192) * H + j.val / e) * e + p = r.val * W + j.val
      rw [hpp, Nat.div_add_mod', Nat.add_mul, Nat.add_assoc, Nat.div_add_mod', Nat.mul_assoc, ← hW]
    have hj4 : j.val % (4 * m) = p := by rw [hpp]; congr 1; omega
    have hje : B + p = j.val := by rw [hBB, hpp]; exact Nat.div_add_mod' _ _
    have hd : j.val % (2 * m) = p % d := by
      rw [hpp]
      rcases hm with ⟨rfl, rfl, rfl⟩ | ⟨rfl, rfl, rfl⟩ <;> omega
    have hq : j.val % m = p % m := by
      rw [hpp]
      rcases hm with ⟨rfl, rfl, rfl⟩ | ⟨rfl, rfl, rfl⟩ <;> omega
    have hWj : ∀ k, k < e → B + k < W := fun k hk => by
      have h1 := Nat.mul_le_mul_right e (Nat.succ_le_of_lt hh)
      have h2 : W = H * e := hW
      have h3 := Nat.succ_mul (j.val / e) e
      omega
    obtain ⟨hd2, he4, hm1⟩ : d = 2 * m ∧ e = 4 * m ∧ m ≠ 1 := by omega
    unfold axisAt tabAt
    rw [hj4, hd]
    have hpm : p % m < m := Nat.mod_lt _ h0
    by_cases hA : p < d
    · have e1 : p % d = p := Nat.mod_eq_of_lt hA
      rw [e1]
      rw [if_pos (show p < 2 * m by omega), if_pos (show p < 2 * m by omega)]
      refine (last_left _ _ _ _ _ _ (⟨p, hp⟩ : Fin e) (⟨p, hA⟩ : Fin d) rfl).trans ?_
      by_cases hB : p < m
      · rw [if_pos hB]
        have e2 : p % m = p := Nat.mod_eq_of_lt hB
        refine (halfT_lo S _ cr sr hm1 _ _ _ ⟨p, hA⟩ ⟨p + m, by omega⟩ ⟨j.val % m, Nat.mod_lt _ h0⟩ (by show j.val % m = p; omega) rfl).trans ?_
        rw [last_slice _ S.first _ _ _ ⟨p, hA⟩ ⟨p, by omega⟩ (Nat.zero_add _).symm,
          last_slice _ S.first _ _ _ ⟨p + m, by omega⟩ ⟨p + m, by omega⟩ (Nat.zero_add _).symm,
          hx ⟨p, by omega⟩ j.val hje.symm hj, hx ⟨p + m, by omega⟩ (j.val + m) (by show j.val + m = B + (p + m); omega) (by have := hWj (p + m) (by omega); omega)]
      · rw [if_neg hB]
        have e2 : p % m = p - m := by rw [Nat.mod_eq_sub_mod (by omega), Nat.mod_eq_of_lt (by omega)]
        refine (halfT_hi S _ cr sr hm1 _ _ _ ⟨p, hA⟩ ⟨p - m, by omega⟩ ⟨j.val % m, Nat.mod_lt _ h0⟩ (by show j.val % m + m = p; omega) (by show p - m = j.val % m; omega)).trans ?_
        rw [last_slice _ S.first _ _ _ ⟨p, hA⟩ ⟨p, by omega⟩ (Nat.zero_add _).symm,
          last_slice _ S.first _ _ _ ⟨p - m, by omega⟩ ⟨p - m, by omega⟩ (Nat.zero_add _).symm,
          hx ⟨p, by omega⟩ j.val hje.symm hj, hx ⟨p - m, by omega⟩ (j.val - m) (by show j.val - m = B + (p - m); omega) (by omega)]
    · have e1 : p % d = p - d := by rw [Nat.mod_eq_sub_mod (by omega), Nat.mod_eq_of_lt (by omega)]
      have e3 : p % m = (p - d) % m := by
        rw [Nat.mod_eq_sub_mod (show m ≤ p by omega), Nat.mod_eq_sub_mod (show m ≤ p - m by omega)]
        congr 1; omega
      rw [e1]
      rw [if_neg (show ¬p < 2 * m by omega), if_neg (show ¬p < 2 * m by omega)]
      refine (last_right _ _ _ _ _ _ (⟨p, hp⟩ : Fin e) (⟨p - d, by omega⟩ : Fin d) (by show p - d + d = p; omega)).trans ?_
      by_cases hB : p - d < m
      · rw [if_pos hB]
        have e2 : (p - d) % m = p - d := Nat.mod_eq_of_lt hB
        refine (halfT_lo S _ cc sc hm1 _ _ _ ⟨p - d, by omega⟩ ⟨p - d + m, by omega⟩ ⟨j.val % m, Nat.mod_lt _ h0⟩ (by show j.val % m = p - d; omega) rfl).trans ?_
        rw [last_slice _ S.second _ _ _ ⟨p - d, by omega⟩ ⟨p, by omega⟩ (by show p = d + (p - d); omega),
          last_slice _ S.second _ _ _ ⟨p - d + m, by omega⟩ ⟨p + m, by omega⟩ (by show p + m = d + (p - d + m); omega),
          hx ⟨p, by omega⟩ j.val hje.symm hj, hx ⟨p + m, by omega⟩ (j.val + m) (by show j.val + m = B + (p + m); omega) (by have := hWj (p + m) (by omega); omega)]
      · rw [if_neg hB]
        have e2 : (p - d) % m = p - d - m := by rw [Nat.mod_eq_sub_mod (by omega), Nat.mod_eq_of_lt (by omega)]
        refine (halfT_hi S _ cc sc hm1 _ _ _ ⟨p - d, by omega⟩ ⟨p - d - m, by omega⟩ ⟨j.val % m, Nat.mod_lt _ h0⟩ (by show j.val % m + m = p - d; omega) (by show p - d - m = j.val % m; omega)).trans ?_
        rw [last_slice _ S.second _ _ _ ⟨p - d, by omega⟩ ⟨p, by omega⟩ (by show p = d + (p - d); omega),
          last_slice _ S.second _ _ _ ⟨p - d - m, by omega⟩ ⟨p - m, by omega⟩ (by show p - m = d + (p - d - m); omega),
          hx ⟨p, by omega⟩ j.val hje.symm hj, hx ⟨p - m, by omega⟩ (j.val - m) (by show j.val - m = B + (p - m); omega) (by omega)]
  · rw [if_neg hl]
    refine (concatenate_pair_apply_right (t := ⟨2, ![16896, W]⟩) (s₁ := ⟨2, ![16384, W]⟩) (s₂ := ⟨2, ![512, W]⟩) 0 _ _ _ (ix2 r j) rfl rfl
      (ix2 (⟨r.val - 16384, by omega⟩ : Fin 512) j) (fun a ha => ?_) ?_).trans ?_
    · match a with
      | ⟨0, _⟩ => exact absurd rfl ha
      | ⟨1, _⟩ => rfl
    · show r.val - 16384 + 16384 = r.val; omega
    refine (extractStridedSlice_apply _ _ _ _ (ix2 r j) fun a => ?_).trans (hf j)
    match a with
    | ⟨0, _⟩ => show r.val = 16384 + (r.val - 16384); omega
    | ⟨1, _⟩ => exact (Nat.zero_add _).symm

end Turn

end Cert.InProj

end
-- ==== Proof.InRef.lean ====
/- The input projection's reference: its nine results as chains of named parts, and their values entry by entry. -/
module

public import proofs.«01_k».proof.Proof.InRope
public import proofs.«01_k».proof.Proof.OutRef
public import proofs.«01_k».proof.Proof.RefValue
public import proofs.«01_k».proof.Proof.Gen.Reference3Ideal
public import proofs.«01_k».proof.Proof.Gen.Reference3Ideal.Run

@[expose] public section

set_option maxRecDepth 16384

noncomputable section

namespace Cert.Reference3Ideal.In

open Idealize.ShloMosaic Idealize.ShloMosaic.TcCoe Idealize.ShloMosaic.ValueIdx Cert.Reference3Ideal Cert.Reference3Ideal.Gen Cert.OutProj Cert.InProj
open Cert.Reference2Ideal.Out (hT hT_apply rows mod3 mod4 mod_apply hostProd_apply ix2_eta)

/-- A row of the modulation, the `n`-th. -/
def mod0 (md : FVec Ideal S8x6x1024 .f32) : FVec Ideal S8x1024 .f32 :=
  shapeCast _ (extractStridedSlice S8x1x1024 ![0, 0, 0] md slices_S8x6x1024_S8x1x1024_0_0_0) shapeCasts_S8x1x1024_S8x1024

/-- The same, of the scales. -/
def mod1 (md : FVec Ideal S8x6x1024 .f32) : FVec Ideal S8x1024 .f32 :=
  shapeCast _ (extractStridedSlice S8x1x1024 ![0, 1, 0] md slices_S8x6x1024_S8x1x1024_0_1_0) shapeCasts_S8x1x1024_S8x1024

/-- The modulated norm of the reference. -/
def nT (x : FVec Ideal S16896x1024 .f32) (u v : FVec Ideal S8x1024 .f32) (gn : FVec Ideal S1024 .f32) : FVec Ideal S16896x1024 .f32 :=
  addf (mulf (mulf (mulf x (broadcastInDim S16896x1024 ![0, 1] bcast_S16896x1_S16896x1024_0_1 (Host.rsqrt (addf (Host.divf
      (broadcastInDim S16896x1 ![0] bcast_S16896_S16896x1_0
        (Host.reduceAdd (mulf x x) (constant S_ .f32 0x00000000#32) reducesTo_S16896x1024_S16896_d1 h_S_))
      (broadcastInDim S16896x1 ![] bcast_S_S16896x1 (constant S_ .f32 0x44800000#32)))
      (broadcastInDim S16896x1 ![] bcast_S_S16896x1 (constant S_ .f32 0x358637BD#32))))))
    (broadcastInDim S16896x1024 ![0, 1] bcast_S1x1024_S16896x1024_0_1 (broadcastInDim S1x1024 ![1] bcast_S1024_S1x1024_1 gn)))
    (addf (broadcastInDim S16896x1024 ![] bcast_S_S16896x1024 (constant S_ .f32 0x3F800000#32)) (rows u))) (rows v)

/-- The modulation with its rows moved three on. -/
def moved (md : FVec Ideal S8x6x1024 .f32) : FVec Ideal S8x6x1024 .f32 :=
  fun i => md (ix3 (i 0 : Fin 8) (⟨((i 1 : Fin 6).val + 3) % 6, Nat.mod_lt _ (by decide)⟩ : Fin 6) (i 2 : Fin 1024))

theorem moved_apply (md : FVec Ideal S8x6x1024 .f32) (n n' : Fin 6) (h : (n.val + 3) % 6 = n'.val) (b : Fin 8) (j : Fin 1024) :
    moved md (ix3 b n j) = md (ix3 b n' j) := by
  refine congrArg md (funext fun a => ?_)
  match a with
  | ⟨0, _⟩ => rfl
  | ⟨1, _⟩ => exact Fin.ext h
  | ⟨2, _⟩ => rfl

theorem mod4_moved (md : FVec Ideal S8x6x1024 .f32) : mod1 md = mod4 (moved md) := by
  funext i
  rw [ix2_eta i]
  exact (mod_apply 1 ![0, 1, 0] rfl md slices_S8x6x1024_S8x1x1024_0_1_0 (i 0) (i 1)).trans ((moved_apply md 4 1 (by decide) (i 0) (i 1)).symm.trans
    (mod_apply 4 ![0, 4, 0] rfl (moved md) Cert.Reference2Ideal.Gen.slices_S8x6x1024_S8x1x1024_0_4_0 (i 0) (i 1)).symm)

theorem mod3_moved (md : FVec Ideal S8x6x1024 .f32) : mod0 md = mod3 (moved md) := by
  funext i
  rw [ix2_eta i]
  exact (mod_apply 0 ![0, 0, 0] rfl md slices_S8x6x1024_S8x1x1024_0_0_0 (i 0) (i 1)).trans ((moved_apply md 3 0 (by decide) (i 0) (i 1)).symm.trans
    (mod_apply 3 ![0, 3, 0] rfl (moved md) Cert.Reference2Ideal.Gen.slices_S8x6x1024_S8x1x1024_0_3_0 (i 0) (i 1)).symm)

/-- The shapes of the turn of the window attention's queries. -/
theorem sidesQw : Sides 512 8 32 64 16 :=
  ⟨slices_S2x8192x8x32_S2x8192x8x16_0_0_0_0, slices_S2x8192x8x32_S2x8192x8x16_0_0_0_16, bcast_S8192x16_S1x8192x1x16_1_3, bcast_S1x8192x1x16_S2x8192x8x16_0_1_2_3, concatenates_S2x8192x8x16_S2x8192x8x16_S2x8192x8x32_d3, slices_S2x8192x8x64_S2x8192x8x32_0_0_0_0, slices_S2x8192x8x64_S2x8192x8x32_0_0_0_32, concatenates_S2x8192x8x32_S2x8192x8x32_S2x8192x8x64_d3, slices_S16896x512_S16384x512_0_0, shapeCasts_S16384x512_S2x8192x8x64, shapeCasts_S2x8192x8x64_S16384x512, slices_S16896x512_S512x512_16384_0, concatenates_S16384x512_S512x512_S16896x512_d0⟩

/-- The shapes of the turn of its keys. -/
theorem sidesKw : Sides 128 2 32 64 16 :=
  ⟨slices_S2x8192x2x32_S2x8192x2x16_0_0_0_0, slices_S2x8192x2x32_S2x8192x2x16_0_0_0_16, bcast_S8192x16_S1x8192x1x16_1_3, bcast_S1x8192x1x16_S2x8192x2x16_0_1_2_3, concatenates_S2x8192x2x16_S2x8192x2x16_S2x8192x2x32_d3, slices_S2x8192x2x64_S2x8192x2x32_0_0_0_0, slices_S2x8192x2x64_S2x8192x2x32_0_0_0_32, concatenates_S2x8192x2x32_S2x8192x2x32_S2x8192x2x64_d3, slices_S16896x128_S16384x128_0_0, shapeCasts_S16384x128_S2x8192x2x64, shapeCasts_S2x8192x2x64_S16384x128, slices_S16896x128_S512x128_16384_0, concatenates_S16384x128_S512x128_S16896x128_d0⟩

/-- The shapes of the turn of the differential attention's queries and keys. -/
theorem sidesD : Sides 256 8 16 32 8 :=
  ⟨slices_S2x8192x8x16_S2x8192x8x8_0_0_0_0, slices_S2x8192x8x16_S2x8192x8x8_0_0_0_8, bcast_S8192x8_S1x8192x1x8_1_3, bcast_S1x8192x1x8_S2x8192x8x8_0_1_2_3, concatenates_S2x8192x8x8_S2x8192x8x8_S2x8192x8x16_d3, slices_S2x8192x8x32_S2x8192x8x16_0_0_0_0, slices_S2x8192x8x32_S2x8192x8x16_0_0_0_16, concatenates_S2x8192x8x16_S2x8192x8x16_S2x8192x8x32_d3, slices_S16896x256_S16384x256_0_0, shapeCasts_S16384x256_S2x8192x8x32, shapeCasts_S2x8192x8x32_S16384x256, slices_S16896x256_S512x256_16384_0, concatenates_S16384x256_S512x256_S16896x256_d0⟩

section Values

variable (x : FVec Ideal S16896x1024 .f32) (md : FVec Ideal S8x6x1024 .f32) (gn : FVec Ideal S1024 .f32) (w : FVec Ideal S1024x2304 .f32)

/-- The norm is the one that the output projection's reference takes, with this modulation's rows. -/
theorem nT_apply (r : Fin 16896) (k : Fin 1024) : nT x (mod1 md) (mod0 md) gn (ix2 r k) = nG x md gn r k := by
  rw [mod4_moved, mod3_moved]
  have e : nT x (mod4 (moved md)) (mod3 (moved md)) gn = hT x (moved md) gn := by rfl
  rw [e]
  refine (hT_apply (moved md) gn x r k).trans ?_
  rw [moved_apply md 4 1 (by decide), moved_apply md 3 0 (by decide)]
  rfl

/-- The reference's projection. -/
def projT : FVec Ideal S16896x2304 .f32 :=
  Host.dotGeneral dot_S16896x1024_S1024x2304_S16896x2304_1_0_0_1_n_n none (nT x (mod1 md) (mod0 md) gn) w

/-- Its entry. -/
theorem projT_apply (r : Fin 16896) (q : Fin 2304) : projT x md gn w (ix2 r q) = pG x md gn w r q := by
  refine (hostProd_apply _ _ r q).trans ?_
  exact Finset.sum_congr rfl fun k _ => congrArg (· * _) (nT_apply x md gn r k)

/-- A slice of columns. -/
theorem cols_apply {α : Type} {N n o : ℕ} (v : (⟨2, ![16896, N]⟩ : Shape).Idx → α) (hs : (⟨2, ![16896, N]⟩ : Shape).Slices ![0, o] ⟨2, ![16896, n]⟩)
    (r : Fin 16896) (j : Fin n) (h : o + j.val < N) : extractStridedSlice ⟨2, ![16896, n]⟩ ![0, o] v hs (ix2 r j) = v (ix2 r ⟨o + j.val, h⟩) := by
  refine extractStridedSlice_apply _ _ _ (ix2 r j) _ fun a => ?_
  match a with
  | ⟨0, _⟩ => exact (Nat.zero_add _).symm
  | ⟨1, _⟩ => rfl

/-- A slice of a third of the projection's columns. -/
theorem third_apply (b o n : ℕ) (hb) (hs : S16896x768.Slices ![0, o] ⟨2, ![16896, n]⟩) (hbb : b + 768 ≤ 2304) (ho : o + n ≤ 768) (r : Fin 16896) (j : Fin n) :
    extractStridedSlice ⟨2, ![16896, n]⟩ ![0, o] (extractStridedSlice S16896x768 ![0, b] (projT x md gn w) hb) hs (ix2 r j) = pN x md gn w r (b + o + j.val) := by
  have hj := j.isLt
  refine (cols_apply _ _ r j (by omega)).trans ((cols_apply (projT x md gn w) hb r ⟨o + j.val, by omega⟩ (by show b + (o + j.val) < 2304; omega)).trans
    ((projT_apply x md gn w r _).trans ?_))
  refine (congrArg (pG x md gn w r) (Fin.ext ?_)).trans (pN_of_lt x md gn w r (b + o + j.val) (by omega)).symm
  show b + (o + j.val) = b + o + j.val
  omega

/-- The convolution's columns. -/
theorem hy_arr : extractStridedSlice S16896x768 ![0, 0] (projT x md gn w) slices_S16896x2304_S16896x768_0_0 = band x md gn w 0 768 := by
  funext i
  rw [ix2_eta i]
  have h1 : (i 1 : Fin 768).val < 768 := (i 1 : Fin 768).isLt
  exact (cols_apply (projT x md gn w) _ (i 0) (i 1 : Fin 768) (by omega)).trans ((projT_apply x md gn w _ _).trans (pN_of_lt x md gn w _ _ (by omega)).symm)

/-- The window attention's values. -/
theorem vw_arr : truncf (F := Ideal) .bf16 (extractStridedSlice S16896x128 ![0, 640] (extractStridedSlice S16896x768 ![0, 768] (projT x md gn w)
    slices_S16896x2304_S16896x768_0_768) slices_S16896x768_S16896x128_0_640) bitsLt_bf16_f32 = band x md gn w 1408 128 := by
  funext i
  rw [ix2_eta i]
  exact third_apply x md gn w 768 640 128 slices_S16896x2304_S16896x768_0_768 slices_S16896x768_S16896x128_0_640 (by decide) (by decide) (i 0) (i 1)

/-- The differential attention's. -/
theorem vd_arr : truncf (F := Ideal) .bf16 (extractStridedSlice S16896x256 ![0, 512] (extractStridedSlice S16896x768 ![0, 1536] (projT x md gn w)
    slices_S16896x2304_S16896x768_0_1536) slices_S16896x768_S16896x256_0_512) bitsLt_bf16_f32 = band x md gn w 2048 256 := by
  funext i
  rw [ix2_eta i]
  exact third_apply x md gn w 1536 512 256 slices_S16896x2304_S16896x768_0_1536 slices_S16896x768_S16896x256_0_512 (by decide) (by decide) (i 0) (i 1)

/-- A band's transpose. -/
theorem bandT_eq (o n : ℕ) (ht) : transpose (⟨2, ![n, 16896]⟩ : Shape) [1, 0] (band x md gn w o n) ht = bandT x md gn w o n := by
  funext i
  rw [ix2_eta i]
  exact transpose_ix2_apply _ ht (i 0) (i 1)

variable (cw sw cw' sw' : FVec Ideal S8192x16 .f32) (cd sd cd' sd' : FVec Ideal S8192x8 .f32)

/-- The window attention's queries. -/
theorem qw_arr : truncf (F := Ideal) .bf16 (mulf (ropeT sidesQw (extractStridedSlice S16896x512 ![0, 0] (extractStridedSlice S16896x768 ![0, 768] (projT x md gn w)
    slices_S16896x2304_S16896x768_0_768) slices_S16896x768_S16896x512_0_0) cw sw cw' sw')
    (broadcastInDim S16896x512 ![] bcast_S_S16896x512 (constant S_ .f32 0x3E000000#32))) bitsLt_bf16_f32 = qwArr x md gn w cw sw cw' sw' := by
  funext i
  rw [ix2_eta i]
  exact congrArg (· * _) (ropeT_apply sidesQw (by decide) (Or.inl ⟨rfl, rfl, rfl⟩) rfl _ cw sw cw' sw' (i 0) (fun k => pN x md gn w (i 0) (768 + k))
    (third_apply x md gn w 768 0 512 slices_S16896x2304_S16896x768_0_768 slices_S16896x768_S16896x512_0_0 (by decide) (by decide) (i 0)) (i 1))

/-- Its keys. -/
theorem kw_arr : truncf (F := Ideal) .bf16 (ropeT sidesKw (extractStridedSlice S16896x128 ![0, 512] (extractStridedSlice S16896x768 ![0, 768] (projT x md gn w)
    slices_S16896x2304_S16896x768_0_768) slices_S16896x768_S16896x128_0_512) cw sw cw' sw') bitsLt_bf16_f32 = kwArr x md gn w cw sw cw' sw' := by
  funext i
  rw [ix2_eta i]
  exact ropeT_apply sidesKw (by decide) (Or.inl ⟨rfl, rfl, rfl⟩) rfl _ cw sw cw' sw' (i 0) (fun k => pN x md gn w (i 0) (1280 + k))
    (third_apply x md gn w 768 512 128 slices_S16896x2304_S16896x768_0_768 slices_S16896x768_S16896x128_0_512 (by decide) (by decide) (i 0)) (i 1)

/-- The word of 32. -/
theorem word32 : (Ideal.ofBits .f32 0x42000000#32 : EReal) = ((32 : ℝ) : EReal) := by
  simp [Ideal.ofBits, Ideal.ieee]
  rw [← EReal.coe_mul]
  norm_num

/-- Divided by the root of 32 and by the logarithm of 2: multiplied by the number that the kernel's factor names. -/
theorem div_div (a : EReal) : Ideal.div (Ideal.div a (Ideal.sqrt (Ideal.ofBits .f32 0x42000000#32))) (Ideal.log (Ideal.ofBits .f32 0x40000000#32)) = a * daS := by
  have h32 : Real.sqrt 32 ≠ 0 := (Real.sqrt_pos.mpr (by norm_num)).ne'
  have h2 : Real.log 2 ≠ 0 := (Real.log_pos (by norm_num)).ne'
  rw [word32, Cert.ReferenceIdeal.Attn.two_word, Ideal.sqrt_coe, Ideal.log_coe, if_neg (by norm_num), if_neg (by norm_num), Ideal.div_coe h32, Ideal.div_coe h2, mul_assoc, ← EReal.coe_mul,
    one_div, one_div]
  rfl

/-- The differential attention's queries. -/
theorem qd_arr : truncf (F := Ideal) .bf16 (Host.divf (Host.divf (ropeT sidesD (extractStridedSlice S16896x256 ![0, 0] (extractStridedSlice S16896x768 ![0, 1536] (projT x md gn w)
    slices_S16896x2304_S16896x768_0_1536) slices_S16896x768_S16896x256_0_0) cd sd cd' sd')
    (broadcastInDim S16896x256 ![] bcast_S_S16896x256 (id (Host.sqrt (constant S_ .f32 0x42000000#32)))))
    (broadcastInDim S16896x256 ![] bcast_S_S16896x256 (id (Host.log (constant S_ .f32 0x40000000#32))))) bitsLt_bf16_f32 = qdArr x md gn w cd sd cd' sd' := by
  funext i
  rw [ix2_eta i]
  refine Eq.trans (div_div _) (congrArg (· * daS) ?_)
  exact ropeT_apply sidesD (by decide) (Or.inr ⟨rfl, rfl, rfl⟩) rfl _ cd sd cd' sd' (i 0) (fun k => pN x md gn w (i 0) (1536 + k))
    (third_apply x md gn w 1536 0 256 slices_S16896x2304_S16896x768_0_1536 slices_S16896x768_S16896x256_0_0 (by decide) (by decide) (i 0)) (i 1)

/-- Its keys. -/
theorem kd_arr : truncf (F := Ideal) .bf16 (ropeT sidesD (extractStridedSlice S16896x256 ![0, 256] (extractStridedSlice S16896x768 ![0, 1536] (projT x md gn w)
    slices_S16896x2304_S16896x768_0_1536) slices_S16896x768_S16896x256_0_256) cd sd cd' sd') bitsLt_bf16_f32 = kdArr x md gn w cd sd cd' sd' := by
  funext i
  rw [ix2_eta i]
  exact ropeT_apply sidesD (by decide) (Or.inr ⟨rfl, rfl, rfl⟩) rfl _ cd sd cd' sd' (i 0) (fun k => pN x md gn w (i 0) (1792 + k))
    (third_apply x md gn w 1536 256 256 slices_S16896x2304_S16896x768_0_1536 slices_S16896x768_S16896x256_0_256 (by decide) (by decide) (i 0)) (i 1)

end Values

end Cert.Reference3Ideal.In

end
-- ==== Proof.Algebraic3.lean ====
/- The input projection's value claim: the idealised kernel and the idealised reference return the same nine arrays. -/
module

public import proofs.«01_k».proof.Defs
public import proofs.«01_k».proof.Proof.InArray
public import proofs.«01_k».proof.Proof.InRef

@[expose] public section

set_option maxRecDepth 16384

noncomputable section

open Idealize.ShloMosaic Idealize.ShloMosaic.TcCoe Idealize.ShloMosaic.ValueIdx Idealize.SL.Sem

namespace Cert.Proof

set_option maxHeartbeats 8000000 in
/-- On every argument the two programs return the same columns of the convolution, the same queries and keys after their turn, and the same values with their
    transposes. -/
theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨_, _, _, _, _, _, _, _, _, Cert.Kernel3Ideal.Value.run_blocks (F := Ideal) m ρ, ?_⟩
  refine (θ_run Cert.Reference3Ideal.defs _ _).mono
    (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
    (Cert.Reference3Ideal.Value.run (F := Ideal) m' ρ')
  · obtain ⟨e0, e1, e2, e3, e4, e5, e6, e7, e8, e9, e10, e11⟩ := hagree c
    refine (Cert.Reference3Ideal.In.hy_arr (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))).trans ?_
    rw [e0, e1, e2, e3]
    exact (Cert.Kernel3Ideal.In.final10 m c).symm
  · obtain ⟨e0, e1, e2, e3, e4, e5, e6, e7, e8, e9, e10, e11⟩ := hagree c
    refine (Cert.Reference3Ideal.In.qw_arr (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7))).trans ?_
    rw [e0, e1, e2, e3, e4, e5, e6, e7]
    exact (Cert.Kernel3Ideal.In.final11 m c).symm
  · obtain ⟨e0, e1, e2, e3, e4, e5, e6, e7, e8, e9, e10, e11⟩ := hagree c
    refine (Cert.Reference3Ideal.In.kw_arr (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7))).trans ?_
    rw [e0, e1, e2, e3, e4, e5, e6, e7]
    exact (Cert.Kernel3Ideal.In.final12 m c).symm
  · obtain ⟨e0, e1, e2, e3, e4, e5, e6, e7, e8, e9, e10, e11⟩ := hagree c
    refine (Cert.Reference3Ideal.In.vw_arr (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))).trans ?_
    rw [e0, e1, e2, e3]
    exact (Cert.Kernel3Ideal.In.final13 m c).symm
  · obtain ⟨e0, e1, e2, e3, e4, e5, e6, e7, e8, e9, e10, e11⟩ := hagree c
    refine (Cert.Reference3Ideal.In.qd_arr (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11))).trans ?_
    rw [e0, e1, e2, e3, e8, e9, e10, e11]
    exact (Cert.Kernel3Ideal.In.final14 m c).symm
  · obtain ⟨e0, e1, e2, e3, e4, e5, e6, e7, e8, e9, e10, e11⟩ := hagree c
    refine (Cert.Reference3Ideal.In.kd_arr (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11))).trans ?_
    rw [e0, e1, e2, e3, e8, e9, e10, e11]
    exact (Cert.Kernel3Ideal.In.final15 m c).symm
  · obtain ⟨e0, e1, e2, e3, e4, e5, e6, e7, e8, e9, e10, e11⟩ := hagree c
    refine (Cert.Reference3Ideal.In.vd_arr (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))).trans ?_
    rw [e0, e1, e2, e3]
    exact (Cert.Kernel3Ideal.In.final16 m c).symm
  · obtain ⟨e0, e1, e2, e3, e4, e5, e6, e7, e8, e9, e10, e11⟩ := hagree c
    refine ((congrArg (fun v => transpose Cert.Reference3Ideal.S256x16896 [1, 0] v _) (Cert.Reference3Ideal.In.vd_arr (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))).trans
      (Cert.Reference3Ideal.In.bandT_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) 2048 256 _)).trans ?_
    rw [e0, e1, e2, e3]
    exact (Cert.Kernel3Ideal.In.final17 m c).symm
  · obtain ⟨e0, e1, e2, e3, e4, e5, e6, e7, e8, e9, e10, e11⟩ := hagree c
    refine ((congrArg (fun v => transpose Cert.Reference3Ideal.S128x16896 [1, 0] v _) (Cert.Reference3Ideal.In.vw_arr (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))).trans
      (Cert.Reference3Ideal.In.bandT_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) 1408 128 _)).trans ?_
    rw [e0, e1, e2, e3]
    exact (Cert.Kernel3Ideal.In.final18 m c).symm

end Cert.Proof

end
-- ==== Proof.Claims4.lean ====
/- The claims about the window attention's programs beside their value claim: their frames and the named mask constant. -/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite4
public import Idealize.ShloMosaic.Lib.Quiescent

@[expose] public section

noncomputable section

open Idealize.ShloMosaic Idealize.ShloMosaic.TcCoe Idealize.SL.Sem

namespace Cert.Proof

/-- The window attention's kernel runs, ends with its arguments unchanged and its semaphores at zero. -/
theorem frame4_p : Cert.quiescent_Kernel4 (hKernel4 := Cert.Kernel4.Gen.facts) := fun m ρ _ => Cert.Kernel4.Gen.frame m ρ

/-- So does the idealised kernel. -/
theorem frame4_pi : Cert.quiescent_Kernel4Ideal (hKernel4Ideal := Cert.Kernel4Ideal.Gen.facts) :=
  fun m ρ _ => Cert.Kernel4Ideal.Gen.frame m ρ

/-- And under the precondition, which it does not need. -/
theorem frame4_pi_finite : Cert.quiescent_Kernel4Ideal_pre_finite4 (hKernel4Ideal := Cert.Kernel4Ideal.Gen.facts)
    (hPre_finite4 := Cert.Pre_finite4.Gen.facts) :=
  fun m ρ _ => Cert.Kernel4Ideal.Gen.frame m ρ

/-- The idealised reference runs, ends with its arguments unchanged and its semaphores at zero. -/
theorem frame4_ri : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- And under the precondition. -/
theorem frame4_ri_finite : Cert.quiescent_Reference4Ideal_pre_finite4 (hReference4Ideal := Cert.Reference4Ideal.Gen.facts)
    (hPre_finite4 := Cert.Pre_finite4.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The mask of the window is named −∞. -/
theorem preserves4 : Cert.preserves_Kernel4_Kernel4Ideal :=
  IdealRules.named_const.statement Cert.Kernel4Ideal.κ "mask" .f32 0xF149F2CA#32 ⊥ rfl

end Cert.Proof

end
-- ==== Proof.WinTerms.lean ====
/- The sliding-window attention's body as a chain of named parts: the masked queries, the scores, one head's average, the
   heads joined. -/
module

public import proofs.«01_k».proof.Proof.Masked
public import proofs.«01_k».proof.Proof.Gen.Kernel4Ideal.Frame.RunA

@[expose] public section

set_option maxRecDepth 16384

noncomputable section

namespace Cert.Kernel4Ideal.Win

open Idealize.ShloMosaic Idealize.ShloMosaic.ValueIdx Cert.Kernel4Ideal Cert.Kernel4Ideal.Gen

variable {F : FTy → Type} [FloatOps F] [Named F]

/-- The two halves of a block of 128 columns exchanged. -/
def swapQ (v : Vec F S256x128 .bf16) : FVec F S256x128 .bf16 :=
  concatenate S256x128 1 [⟨S256x64, extractStridedSlice S256x64 ![0, 64] v slices_S256x128_o0_64_S256x64⟩,
    ⟨S256x64, extractStridedSlice S256x64 ![0, 0] v slices_S256x128_o0_0_S256x64⟩] concatenates_S256x64_S256x64_S256x128_d1

/-- The columns `lo ≤ j < hi` of a block of 128, zeros elsewhere. -/
def maskQ (lo hi : BitVec 32) (v : Vec F S256x128 .bf16) : FVec F S1x256x128 .bf16 :=
  shapeCast S1x256x128 (select (andi (cmpi .sge (iota .tc S256x128 32 [1] iota_S256x128_d1_w32) (broadcast S256x128 lo))
    (cmpi .slt (iota .tc S256x128 32 [1] iota_S256x128_d1_w32) (broadcast S256x128 hi))) v
    (broadcast S256x128 (Scalar.ofBits .bf16 0x0000#16))) shapeCasts_S256x128_S1x256x128

/-- The block of 128 query columns that holds head `h`. -/
theorem inbH (h : ℕ) (hh : h < 8) : ∀ a, (![0, 128 * (h / 2)] : Fin 2 → ℕ) a + S256x128.size a ≤ S256x512.size a := by
  intro a; fin_cases a <;> simp [S256x128, S256x512] <;> omega

/-- A row of the masked queries lies inside them. -/
theorem inbQ (h : ℕ) (hh : h < 8) : ∀ a, (![h, 0, 0] : Fin 3 → ℕ) a + S1x256x128.size a ≤ S8x256x128.size a := by
  intro a; fin_cases a <;> simp [S1x256x128, S8x256x128] <;> omega

/-- The payload stored to row `h` of the masked queries: the head's 64 columns, moved to the columns of its key head. -/
def qPay (arg3 : Memref sig .tc .vmem S256x512 .bf16) (harg3 : arg3.IsWhole) (x1 : Vec F S256x512 .bf16) (h : ℕ) (hh : h < 8) :
    FVec F S1x256x128 .bf16 :=
  maskQ (BitVec.ofNat 32 (64 * (h / 4))) (BitVec.ofNat 32 (64 * (h / 4) + 64))
    (if h % 2 = h / 4 then
      arg3.view.readAt (Elt F) (Rect.unit (s := S256x512) ![0, 128 * (h / 2)] S256x128.size (inbH h hh)).toLoadRect (harg3.unread x1)
    else swapQ (arg3.view.readAt (Elt F) (Rect.unit (s := S256x512) ![0, 128 * (h / 2)] S256x128.size (inbH h hh)).toLoadRect (harg3.unread x1)))

/-- The stores of the first `n` rows. -/
def qPieces (w : (h : ℕ) → h < 8 → FVec F S1x256x128 .bf16) : (n : ℕ) → n ≤ 8 → List (View.Piece (Elt F) S8x256x128 .bf16)
  | 0, _ => []
  | n + 1, hn => ⟨Rect.unit (s := S8x256x128) ![n, 0, 0] S1x256x128.size (inbQ n hn), w n hn⟩ :: qPieces w n (Nat.le_of_succ_le hn)

/-- The kernel's list of stores to the masked queries is that one. -/
theorem HS0_eq (c : Dev nD) (arg3 : Memref sig .tc .vmem S256x512 .bf16) (harg3 : arg3.IsWhole) (x1 : Vec F S256x512 .bf16) :
    kernelRun0_A.sl.HS0_8 c arg3 harg3 x1 = qPieces (qPay arg3 harg3 x1) 8 le_rfl := rfl

/-- Row `h` of the masked queries, as it is read back. -/
def qRow (c : Dev nD) (arg3 : Memref sig .tc .vmem S256x512 .bf16) (harg3 : arg3.IsWhole) (arg13 : Memref sig .tc .vmem S8x256x128 .bf16)
    (x1 : Vec F S256x512 .bf16) (h : ℕ) (hh : h < 8) : Vec F S1x256x128 .bf16 :=
  arg13.view.readCov (kernelRun0_A.sl.HS0_8 c arg3 harg3 x1) (Rect.unit (s := S8x256x128) ![h, 0, 0] S1x256x128.size (inbQ h hh)).toLoadRect

/-- The scores of a head against the 768 keys. -/
def scores (k : FVec F S768x128 .bf16) (q : Vec F S1x256x128 .bf16) : FVec F S768x256 .f32 :=
  matmul dot_S768x128_S256x128_S768x256_1_1_0_0_n_n none k (shapeCast S256x128 q shapeCasts_S1x256x128_S256x128) (constant S768x256 .f32 0x00000000#32)

/-- The scores with the keys outside the window masked. -/
def masked (v : IVec S512x256 1) (st : FVec F S768x256 .f32) : FVec F S768x256 .f32 :=
  concatenate S768x256 0 [⟨S512x256, select v (extractStridedSlice S512x256 ![0, 0] st slices_S768x256_o0_0_S512x256)
      (broadcast S512x256 (Named.named κ "mask" 0xF149F2CA#32 : F .f32))⟩,
    ⟨S256x256, extractStridedSlice S256x256 ![512, 0] st slices_S768x256_o512_0_S256x256⟩] concatenates_S512x256_S256x256_S768x256_d0

/-- The largest of the scores and the sink. -/
def top (st : FVec F S768x256 .f32) (sk : Elt F .f32) : FVec F S1x256 .f32 :=
  maximumf (shapeCast S1x256 (multiReduction .maximumf [0] S256 st 0xFF800000#32 reduces_S768x256_S256 (.inl rfl) rfl) shapeCasts_S256_S1x256)
    (broadcast S1x256 sk)

/-- The weights. -/
def weights (st : FVec F S768x256 .f32) (sk : Elt F .f32) : FVec F S768x256 .f32 :=
  exp (subf st (broadcastTo S768x256 (top st sk) broadcasts_S1x256_S768x256))

/-- The sum of the weights and the sink's. -/
def total (st : FVec F S768x256 .f32) (sk : Elt F .f32) : FVec F S1x256 .f32 :=
  addf (shapeCast S1x256 (multiReduction .add [0] S256 (weights st sk) 0x00000000#32 reduces_S768x256_S256 (.inl rfl) rfl) shapeCasts_S256_S1x256)
    (exp (subf (broadcast S1x256 sk) (top st sk)))

/-- The value columns of a key head. -/
theorem slicesV (g : ℕ) (hg : g < 2) : S128x768.Slices ![64 * g, 0] S64x768 := by
  interval_cases g
  · exact slices_S128x768_o0_0_S64x768
  · exact slices_S128x768_o64_0_S64x768

/-- One head's average. -/
def headOut (vt : FVec F S128x768 .bf16) (g : ℕ) (hg : g < 2) (st : FVec F S768x256 .f32) (sk : Elt F .f32) : FVec F S64x256 .f32 :=
  divf (matmul dot_S64x768_S768x256_S64x256_1_0_0_1_n_n none (extractStridedSlice S64x768 ![64 * g, 0] vt (slicesV g hg))
    (truncf .bf16 (weights st sk) bitsLt_bf16_f32) (constant S64x256 .f32 0x00000000#32))
    (broadcastTo S64x256 (total st sk) broadcasts_S1x256_S64x256)

/-- The eight heads side by side, one row to a query. -/
def joined (o : (h : ℕ) → h < 8 → FVec F S64x256 .f32) : FVec F S256x512 .bf16 :=
  truncf .bf16 (transpose S256x512 [1, 0] (concatenate S512x256 0 [⟨S64x256, o 0 (by decide)⟩, ⟨S64x256, o 1 (by decide)⟩, ⟨S64x256, o 2 (by decide)⟩,
    ⟨S64x256, o 3 (by decide)⟩, ⟨S64x256, o 4 (by decide)⟩, ⟨S64x256, o 5 (by decide)⟩, ⟨S64x256, o 6 (by decide)⟩, ⟨S64x256, o 7 (by decide)⟩]
    concatenates_S64x256_S64x256_S64x256_S64x256_S64x256_S64x256_S64x256_S64x256_S512x256_d0) transposes_S512x256_p1_0_S256x512) bitsLt_bf16_f32

variable (c : Dev nD) (i : grid0.Coords)
  (arg2 : Memref sig .tc .smem S8 .f32) (harg2 : arg2.IsWhole) (arg3 : Memref sig .tc .vmem S256x512 .bf16) (harg3 : arg3.IsWhole) (arg4 : Memref sig .tc .vmem S128x128 .bf16) (harg4 : arg4.IsWhole) (arg5 : Memref sig .tc .vmem S256x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x128 .bf16) (harg8 : arg8.IsWhole) (arg9 : Memref sig .tc .vmem S128x256 .bf16) (harg9 : arg9.IsWhole) (arg10 : Memref sig .tc .vmem S128x128 .bf16) (harg10 : arg10.IsWhole) (arg11 : Memref sig .tc .vmem S128x256 .bf16) (harg11 : arg11.IsWhole) (arg12 : Memref sig .tc .vmem S256x512 .bf16) (harg12 : arg12.IsWhole) (arg13 : Memref sig .tc .vmem S8x256x128 .bf16) (harg13 : arg13.IsWhole)
  (x0 : Vec F S8 .f32) (x1 : Vec F S256x512 .bf16) (x2 : Vec F S128x128 .bf16) (x3 : Vec F S256x128 .bf16) (x4 : Vec F S128x128 .bf16) (x5 : Vec F S256x128 .bf16) (x6 : Vec F S128x128 .bf16) (x7 : Vec F S128x256 .bf16) (x8 : Vec F S128x128 .bf16) (x9 : Vec F S128x256 .bf16)

/-- A word of the sinks lies inside them. -/
theorem inbS (h : ℕ) (hh : h < 8) : ∀ a, (![h] : Fin 1 → ℕ) a + S1.size a ≤ S8.size a := by
  intro a; fin_cases a; simp [S1, S8]; omega

/-- The sink of head `h`. -/
def sinkOf (h : ℕ) (hh : h < 8) : Elt F .f32 :=
  arg2.view.readAt (Elt F) (Rect.unit (s := S8) ![h] S1.size (inbS h hh)).toLoadRect (harg2.unread x0) (Shape.Idx.first (numel1_S1.symm ▸ Nat.one_pos))

/-- The 768 keys: the block before, the block, the block after, the context's. -/
def keys : FVec F S768x128 .bf16 :=
  k0_pay3 (arg4.view.readAt (Elt F) (Rect.unit (s := S128x128) ![0, 0] S128x128.size inb_S128x128_S128x128_0_0).toLoadRect (harg4.unread x2))
    (arg5.view.readAt (Elt F) (Rect.unit (s := S256x128) ![0, 0] S256x128.size inb_S256x128_S256x128_0_0).toLoadRect (harg5.unread x3))
    (arg6.view.readAt (Elt F) (Rect.unit (s := S128x128) ![0, 0] S128x128.size inb_S128x128_S128x128_0_0).toLoadRect (harg6.unread x4))
    (arg7.view.readAt (Elt F) (Rect.unit (s := S256x128) ![0, 0] S256x128.size inb_S256x128_S256x128_0_0).toLoadRect (harg7.unread x5))

/-- The 768 values, in the same order. -/
def vals : FVec F S128x768 .bf16 :=
  k0_pay4 (arg8.view.readAt (Elt F) (Rect.unit (s := S128x128) ![0, 0] S128x128.size inb_S128x128_S128x128_0_0).toLoadRect (harg8.unread x6))
    (arg9.view.readAt (Elt F) (Rect.unit (s := S128x256) ![0, 0] S128x256.size inb_S128x256_S128x256_0_0).toLoadRect (harg9.unread x7))
    (arg10.view.readAt (Elt F) (Rect.unit (s := S128x128) ![0, 0] S128x128.size inb_S128x128_S128x128_0_0).toLoadRect (harg10.unread x8))
    (arg11.view.readAt (Elt F) (Rect.unit (s := S128x256) ![0, 0] S128x256.size inb_S128x256_S128x256_0_0).toLoadRect (harg11.unread x9))

set_option maxHeartbeats 8000000 in
/-- The one store of the output block. -/
theorem out_pieces : (kernelRun0_A c i arg2 harg2 arg3 harg3 arg4 harg4 arg5 harg5 arg6 harg6 arg7 harg7 arg8 harg8
      arg9 harg9 arg10 harg10 arg11 harg11 arg12 harg12 arg13 harg13 x0 x1 x2 x3 x4 x5 x6 x7 x8 x9).1
    = [⟨Rect.unit ![0, 0] ![256, 512] inb_S256x512_S256x512_0_0, joined fun h hh =>
        headOut (vals arg8 harg8 arg9 harg9 arg10 harg10 arg11 harg11 x6 x7 x8 x9) (h / 4) (by omega)
          (masked (k0_pay2 i) (scores (keys arg4 harg4 arg5 harg5 arg6 harg6 arg7 harg7 x2 x3 x4 x5) (qRow c arg3 harg3 arg13 x1 h hh)))
          (sinkOf arg2 harg2 x0 h hh)⟩] := by
  rfl

end Cert.Kernel4Ideal.Win

end
-- ==== Proof.WinMean.lean ====
/- The windowed average in real numbers: weights, the average with a sink in its denominator, and the equality of the sum over
   a block's 768 keys with the sum over all the keys. -/
module

public import proofs.«01_k».proof.Proof.Online
public import Idealize.ShloMosaic.Lib.WordCmp

@[expose] public section

set_option maxRecDepth 16384

noncomputable section

namespace Cert.WinAttn

open Idealize.ShloMosaic
open Cert.KernelIdeal.Attn (coe_sum)

/-- The score of key row `κ` against query row `r` on head `h`: four heads share the 64 columns of a key head. -/
def sc (Q K : ℕ → ℕ → ℝ) (r κ h : ℕ) : ℝ := ∑ e ∈ Finset.range 64, K κ (64 * (h / 4) + e) * Q r (64 * h + e)

/-- `w` is the weight of the score `x`: its exponential, or 0 for a masked score. -/
def Weigh (x : EReal) (w : ℝ) : Prop := (x = ⊥ ∧ w = 0) ∨ ∃ f : ℝ, x = (f : EReal) ∧ w = Real.exp f

theorem Weigh.nonneg {x : EReal} {w : ℝ} (h : Weigh x w) : 0 ≤ w := by
  rcases h with ⟨_, rfl⟩ | ⟨f, _, rfl⟩
  · exact le_rfl
  · exact (Real.exp_pos f).le

/-- A weight against a maximum. -/
theorem Weigh.exp_sub {x : EReal} {w : ℝ} (h : Weigh x w) (μ : ℝ) : Ideal.exp (x - (μ : EReal)) = ((w * Real.exp (-μ) : ℝ) : EReal) := by
  rcases h with ⟨rfl, rfl⟩ | ⟨f, rfl, rfl⟩
  · rw [EReal.bot_sub, Ideal.exp_bot, zero_mul]; rfl
  · rw [← EReal.coe_sub, Ideal.exp_coe, ← Real.exp_add]; exact congrArg (fun r : ℝ => (Real.exp r : EReal)) (by ring)

/-- The maximum of reals and `⊥` is real or `⊥`. -/
theorem fold_weigh {ι : Type*} (s : Finset ι) (f : ι → EReal) (hf : ∀ i, f i = ⊥ ∨ ∃ r : ℝ, f i = (r : EReal)) :
    s.fold max ⊥ f = ⊥ ∨ ∃ r : ℝ, s.fold max ⊥ f = (r : EReal) := by
  classical
  induction s using Finset.induction_on with
  | empty => exact Or.inl (by simp)
  | insert a s ha ih =>
    rw [Finset.fold_insert ha]
    rcases hf a with h | ⟨r, h⟩ <;> rcases ih with h' | ⟨q, h'⟩ <;> rw [h, h']
    · exact Or.inl (max_self _)
    · exact Or.inr ⟨q, max_eq_right bot_le⟩
    · exact Or.inr ⟨r, max_eq_left bot_le⟩
    · exact Or.inr ⟨max r q, (EReal.coe_strictMono.monotone.map_max).symm⟩

theorem Weigh.bot_or {x : EReal} {w : ℝ} (h : Weigh x w) : x = ⊥ ∨ ∃ r : ℝ, x = (r : EReal) := by
  rcases h with ⟨h, _⟩ | ⟨f, h, _⟩
  · exact Or.inl h
  · exact Or.inr ⟨f, h⟩

/-- The average of `n` values under their weights, the sink's weight in the denominator alone. The values may be infinite. -/
def mean (n : ℕ) (w : ℕ → ℝ) (v : ℕ → EReal) (σ : ℝ) : EReal :=
  ∑ κ ∈ Finset.range n, v κ * ((w κ / (∑ κ ∈ Finset.range n, w κ + Real.exp σ) : ℝ) : EReal)

/-- A real factor that is not negative goes into a sum. -/
theorem sum_mul_coe {ι : Type*} (s : Finset ι) (f : ι → EReal) (d : ℝ) (hd : 0 ≤ d) : (∑ i ∈ s, f i) * (d : EReal) = ∑ i ∈ s, f i * (d : EReal) := by
  classical
  induction s using Finset.induction_on with
  | empty => simp
  | insert a s ha ih =>
    rw [Finset.sum_insert ha, Finset.sum_insert ha, EReal.right_distrib_of_nonneg_of_ne_top (EReal.coe_nonneg.2 hd) (EReal.coe_ne_top d), ih]

theorem total_pos (n : ℕ) (w : ℕ → ℝ) (σ μ : ℝ) (h : ∀ κ < n, 0 ≤ w κ) :
    0 < (∑ κ ∈ Finset.range n, w κ * Real.exp (-μ)) + Real.exp (σ - μ) :=
  add_pos_of_nonneg_of_pos (Finset.sum_nonneg fun κ hκ => mul_nonneg (h κ (Finset.mem_range.1 hκ)) (Real.exp_pos _).le) (Real.exp_pos _)

/-- A common factor of the weights goes. -/
theorem mean_shift (n : ℕ) (w : ℕ → ℝ) (v : ℕ → EReal) (σ μ : ℝ) (h : ∀ κ < n, 0 ≤ w κ) :
    (∑ κ ∈ Finset.range n, v κ * ((w κ * Real.exp (-μ) : ℝ) : EReal))
        * ((1 / ((∑ κ ∈ Finset.range n, w κ * Real.exp (-μ)) + Real.exp (σ - μ)) : ℝ) : EReal) = mean n w v σ := by
  have e2 : (∑ κ ∈ Finset.range n, w κ * Real.exp (-μ)) + Real.exp (σ - μ) = (∑ κ ∈ Finset.range n, w κ + Real.exp σ) * Real.exp (-μ) := by
    rw [sub_eq_add_neg, Real.exp_add, ← Finset.sum_mul]; ring
  rw [sum_mul_coe _ _ _ (one_div_pos.2 (total_pos n w σ μ h)).le]
  unfold mean
  refine Finset.sum_congr rfl fun κ _ => ?_
  rw [mul_assoc, ← EReal.coe_mul, mul_one_div, e2, mul_div_mul_right _ _ (Real.exp_pos _).ne']

/-- Row `kk` of the 768 keys of block `m` of batch `b`, in the array of all rows. -/
def keyAt (b m kk : ℕ) : ℕ :=
  if kk < 128 then 8192 * b + 128 * (2 * m - 1) + kk
  else if kk < 384 then 8192 * b + 256 * m + (kk - 128)
  else if kk < 512 then 8192 * b + 128 * (min (2 * m + 2) 63) + (kk - 384)
  else 16384 + 256 * b + (kk - 512)

/-- The keys of a block that query `q` of it sees. -/
def seen (m q kk : ℕ) : Prop :=
  512 ≤ kk ∨ ((q ≤ kk ∧ (if 0 < m then 0 else 128) ≤ kk) ∧ kk ≤ q + 256) ∧ kk < (if m < 31 then 512 else 384)

instance (m q kk : ℕ) : Decidable (seen m q kk) := by unfold seen; infer_instance

/-- The weights of a block's keys. -/
def wBlk (Q K : ℕ → ℕ → ℝ) (b m q h kk : ℕ) : ℝ :=
  if seen m q kk then Real.exp (sc Q K (8192 * b + 256 * m + q) (keyAt b m kk) h) else 0

/-- Row `κ` of batch `b`'s keys, the latent ones first. -/
def rowAt (b κ : ℕ) : ℕ := if κ < 8192 then 8192 * b + κ else 16384 + 256 * b + (κ - 8192)

/-- The keys that position `s` sees: the latent ones within 128 of it, and the context's. -/
def sees (s κ : ℕ) : Prop := 8192 ≤ κ ∨ (s ≤ κ + 128 ∧ κ ≤ s + 128)

instance (s κ : ℕ) : Decidable (sees s κ) := by unfold sees; infer_instance

/-- The weights of all of a batch's keys. -/
def wAll (Q K : ℕ → ℕ → ℝ) (b s h κ : ℕ) : ℝ := if sees s κ then Real.exp (sc Q K (8192 * b + s) (rowAt b κ) h) else 0

theorem seen_iff (m q kk : ℕ) (hm : m < 32) (h : kk < 512) :
    seen m q kk ↔ q ≤ kk ∧ kk ≤ q + 256 ∧ (m = 0 → 128 ≤ kk) ∧ (m = 31 → kk < 384) := by
  unfold seen
  by_cases h0 : 0 < m <;> by_cases h1 : m < 31
  · rw [if_pos h0, if_pos h1]; omega
  · rw [if_pos h0, if_neg h1]; omega
  · rw [if_neg h0, if_pos h1]; omega
  · omega

/-- A sum over the keys that a block's query sees is the sum over the keys its position sees. -/
theorem sum_seen {M : Type*} [AddCommMonoid M] (g : ℕ → M) (b m q : ℕ) (hm : m < 32) (hq : q < 256) :
    ∑ kk ∈ Finset.range 768, (if seen m q kk then g (keyAt b m kk) else 0)
      = ∑ κ ∈ Finset.range 8448, (if sees (256 * m + q) κ then g (rowAt b κ) else 0) := by
  rw [show 768 = 512 + 256 from rfl, show 8448 = 8192 + 256 from rfl, Finset.sum_range_add, Finset.sum_range_add]
  refine congrArg₂ (· + ·) ?_ (Finset.sum_congr rfl fun x hx => ?_)
  · rw [← Finset.sum_filter, ← Finset.sum_filter]
    refine Finset.sum_nbij' (fun kk => 256 * m + kk - 128) (fun κ => κ + 128 - 256 * m) ?_ ?_ ?_ ?_ ?_
    · intro kk h
      obtain ⟨h1, h2⟩ := Finset.mem_filter.1 h
      rw [Finset.mem_range] at h1
      rw [seen_iff m q kk hm h1] at h2
      rw [Finset.mem_filter, Finset.mem_range, sees]
      omega
    · intro κ h
      obtain ⟨h1, h2⟩ := Finset.mem_filter.1 h
      rw [Finset.mem_range] at h1
      rw [sees] at h2
      have h3 : κ + 128 - 256 * m < 512 := by omega
      rw [Finset.mem_filter, Finset.mem_range, seen_iff m q _ hm h3]
      omega
    · intro kk h
      obtain ⟨h1, h2⟩ := Finset.mem_filter.1 h
      rw [Finset.mem_range] at h1
      rw [seen_iff m q kk hm h1] at h2
      show 256 * m + kk - 128 + 128 - 256 * m = kk
      omega
    · intro κ h
      obtain ⟨h1, h2⟩ := Finset.mem_filter.1 h
      rw [sees] at h2
      rw [Finset.mem_range] at h1
      show 256 * m + (κ + 128 - 256 * m) - 128 = κ
      omega
    · intro kk h
      obtain ⟨h1, h2⟩ := Finset.mem_filter.1 h
      rw [Finset.mem_range] at h1
      rw [seen_iff m q kk hm h1] at h2
      refine congrArg g ?_
      show keyAt b m kk = rowAt b (256 * m + kk - 128)
      rw [rowAt, if_pos (by omega)]
      unfold keyAt
      split_ifs <;> omega
  · have := Finset.mem_range.1 hx
    rw [if_pos (show seen m q (512 + x) from Or.inl (by omega)), if_pos (show sees (256 * m + q) (8192 + x) from Or.inl (by omega))]
    refine congrArg g ?_
    unfold keyAt rowAt
    split_ifs <;> omega

/-- The block's average is the average over all the keys. -/
theorem mean_eq (Q K : ℕ → ℕ → ℝ) (W : ℕ → ℕ → EReal) (b m q h j : ℕ) (σ : ℝ) (hm : m < 32) (hq : q < 256) :
    mean 768 (wBlk Q K b m q h) (fun kk => W (keyAt b m kk) j) σ
      = mean 8448 (wAll Q K b (256 * m + q) h) (fun κ => W (rowAt b κ) j) σ := by
  have t : ∀ (p : Prop) [Decidable p] (x : EReal) (e D : ℝ), x * (((if p then e else 0) / D : ℝ) : EReal) = if p then x * ((e / D : ℝ) : EReal) else 0 := by
    intro p _ x e D
    split_ifs
    · rfl
    · rw [zero_div, EReal.coe_zero, mul_zero]
  unfold mean wBlk wAll
  simp only [t, ← add_assoc]
  rw [sum_seen (fun r => Real.exp (sc Q K (8192 * b + 256 * m + q) r h)) b m q hm hq]
  exact sum_seen (fun r => W r j * ((Real.exp (sc Q K (8192 * b + 256 * m + q) r h) / _ : ℝ) : EReal)) b m q hm hq

/-- Entry `(r, j)` of the attention's result. -/
def winOut (Q K : ℕ → ℕ → ℝ) (W : ℕ → ℕ → EReal) (σ : ℕ → ℝ) (r j : ℕ) : EReal :=
  mean 8448 (wAll Q K (r / 8192) (r % 8192) (j / 64)) (fun κ => W (rowAt (r / 8192) κ) (64 * (j / 64 / 4) + j % 64)) (σ (j / 64))

/-- A small word as a signed integer. -/
theorem toInt_small (a : ℕ) (h : a < 2 ^ 31) : (BitVec.ofNat 32 a).toInt = (a : ℤ) := by
  rw [BitVec.toInt_eq_toNat_cond, BitVec.toNat_ofNat]
  have e : a % 2 ^ 32 = a := Nat.mod_eq_of_lt (by omega)
  rw [e, if_pos (by omega)]

theorem maxsi_small (a b : ℕ) (ha : a < 2 ^ 31) (hb : b < 2 ^ 31) : IntOp.maxsi (BitVec.ofNat 32 a) (BitVec.ofNat 32 b) = BitVec.ofNat 32 (max a b) := by
  show (if (BitVec.ofNat 32 b).slt (BitVec.ofNat 32 a) = true then _ else _) = _
  have e : ((BitVec.ofNat 32 b).slt (BitVec.ofNat 32 a) = true) ↔ b < a := by
    rw [BitVec.slt_iff_toInt_lt, toInt_small a ha, toInt_small b hb, Int.ofNat_lt]
  by_cases h : b < a
  · rw [if_pos (e.2 h)]; exact congrArg _ (by omega)
  · rw [if_neg fun h' => h (e.1 h')]; exact congrArg _ (by omega)

/-- The distance of two positions compared with 128. -/
theorem near_bit (i j : ℕ) (hi : i < 8192) (hj : j < 8192) :
    IntOp.cmpi .sle (IntOp.absi (IntOp.subi (BitVec.ofNat 32 i) (BitVec.ofNat 32 j))) (128#32)
      = if i ≤ j + 128 ∧ j ≤ i + 128 then 1#1 else 0#1 := by
  have key : IntOp.absi (IntOp.subi (BitVec.ofNat 32 i) (BitVec.ofNat 32 j)) = BitVec.ofNat 32 (max i j - min i j) := by
    unfold IntOp.absi IntOp.subi
    by_cases h : j ≤ i
    · have e : BitVec.ofNat 32 i - BitVec.ofNat 32 j = BitVec.ofNat 32 (i - j) := by
        apply BitVec.eq_of_toNat_eq
        simp only [BitVec.toNat_sub, BitVec.toNat_ofNat]; omega
      have hm : (BitVec.ofNat 32 (i - j)).msb = false := by
        rw [BitVec.msb_eq_decide, BitVec.toNat_ofNat]; simp; omega
      rw [e, hm]
      exact congrArg (BitVec.ofNat 32) (show i - j = max i j - min i j by omega)
    · have e : -(BitVec.ofNat 32 i - BitVec.ofNat 32 j) = BitVec.ofNat 32 (j - i) := by
        apply BitVec.eq_of_toNat_eq
        simp only [BitVec.toNat_neg, BitVec.toNat_sub, BitVec.toNat_ofNat]; omega
      have hm : (BitVec.ofNat 32 i - BitVec.ofNat 32 j).msb = true := by
        rw [BitVec.msb_eq_decide]; simp only [BitVec.toNat_sub, BitVec.toNat_ofNat]; simp; omega
      rw [hm, if_pos rfl, e]
      exact congrArg (BitVec.ofNat 32) (show j - i = max i j - min i j by omega)
  rw [key, show (128#32 : BitVec 32) = BitVec.ofNat 32 128 from rfl, WordCmp.cmpi_sle_ofNat (by omega) (by omega)]
  by_cases h : i ≤ j + 128 ∧ j ≤ i + 128
  · rw [if_pos h, decide_eq_true (by omega)]; rfl
  · rw [if_neg h, decide_eq_false (by omega)]; rfl

end Cert.WinAttn

end
-- ==== Proof.WinVal.lean ====
/- The sliding-window attention's values: the masked queries, the scores, the mask, one head's average. -/
module

public import proofs.«01_k».proof.Proof.WinTerms
public import proofs.«01_k».proof.Proof.WinMean

@[expose] public section

set_option maxRecDepth 16384

noncomputable section

namespace Cert.Kernel4Ideal.Win

open Idealize.ShloMosaic Idealize.ShloMosaic.ValueIdx Cert.Kernel4Ideal Cert.Kernel4Ideal.Gen Cert.WinAttn
open Cert.KernelIdeal.Attn (coe_sum row_hit row_miss)

/-- Rows joined: an entry of a piece. -/
theorem cat_rows {α : Type} {n c m : ℕ} (xs : List ((s : Shape) × (s.Idx → α))) (h : Shape.Concatenates (xs.map (·.1)) (⟨2, ![n, c]⟩ : Shape) 0)
    (k : ℕ) (hk : k < xs.length) (x : (⟨2, ![m, c]⟩ : Shape).Idx → α) (hx : xs[k] = ⟨⟨2, ![m, c]⟩, x⟩) (pre : ℕ)
    (hpre : (((xs.take k).map (·.1)).map fun s => if h : s.rank = (⟨2, ![n, c]⟩ : Shape).rank then s.size ((0 : Fin (⟨2, ![n, c]⟩ : Shape).rank).cast h.symm) else 0).sum = pre)
    (i : Fin m) (j : Fin c) (r : Fin n) (hr : pre + i.val = r.val) : concatenate (⟨2, ![n, c]⟩ : Shape) 0 xs h (ix2 r j) = x (ix2 i j) := by
  refine concatenate_apply_piece (t := ⟨2, ![n, c]⟩) 0 xs h (ix2 r j) k hk ⟨2, ![m, c]⟩ x hx rfl pre hpre (ix2 i j) (fun a ha => ?_) hr
  match a with
  | ⟨0, _⟩ => exact absurd rfl ha
  | ⟨1, _⟩ => rfl

/-- Columns joined: an entry of a piece. -/
theorem cat_cols {α : Type} {n c m : ℕ} (xs : List ((s : Shape) × (s.Idx → α))) (h : Shape.Concatenates (xs.map (·.1)) (⟨2, ![n, c]⟩ : Shape) 1)
    (k : ℕ) (hk : k < xs.length) (x : (⟨2, ![n, m]⟩ : Shape).Idx → α) (hx : xs[k] = ⟨⟨2, ![n, m]⟩, x⟩) (pre : ℕ)
    (hpre : (((xs.take k).map (·.1)).map fun s => if h : s.rank = (⟨2, ![n, c]⟩ : Shape).rank then s.size ((1 : Fin (⟨2, ![n, c]⟩ : Shape).rank).cast h.symm) else 0).sum = pre)
    (i : Fin n) (j : Fin m) (r : Fin c) (hr : pre + j.val = r.val) : concatenate (⟨2, ![n, c]⟩ : Shape) 1 xs h (ix2 i r) = x (ix2 i j) := by
  refine concatenate_apply_piece (t := ⟨2, ![n, c]⟩) 1 xs h (ix2 i r) k hk ⟨2, ![n, m]⟩ x hx rfl pre hpre (ix2 i j) (fun a ha => ?_) hr
  match a with
  | ⟨0, _⟩ => rfl
  | ⟨1, _⟩ => exact absurd rfl ha

/-- A load of a rectangle of a whole array reads the array at the shifted index. -/
theorem read_whole2 {Val : EltTy → Type} [∀ e, Nonempty (Val e)] {sp : Space} {e : EltTy} {n0 n1 m0 m1 : ℕ}
    (w : Memref sig .tc sp (⟨2, ![n0, n1]⟩ : Shape) e) (hw : w.IsWhole)
    (x : (⟨2, ![n0, n1]⟩ : Shape).Idx → Val e) {o : Fin 2 → ℕ}
    (inb : ∀ a, o a + (⟨2, ![m0, m1]⟩ : Shape).size a ≤ (⟨2, ![n0, n1]⟩ : Shape).size a) (a : Fin m0) (b : Fin m1) (a' : Fin n0) (b' : Fin n1)
    (ha : a'.val = o 0 + a.val) (hb : b'.val = o 1 + b.val) :
    w.view.readAt Val (Rect.unit (s := (⟨2, ![n0, n1]⟩ : Shape)) o (⟨2, ![m0, m1]⟩ : Shape).size inb).toLoadRect (hw.unread x) (ix2 a b) = x (ix2 a' b') := by
  refine (Memref.IsWhole.readAt_unread hw x _ _).trans (congrArg x (funext fun ax => Fin.ext ?_))
  match ax with
  | ⟨0, _⟩ => simp [LoadRect.idx, Rect.toLoadRect, Rect.unit, ha, ix2]
  | ⟨1, _⟩ => simp [LoadRect.idx, Rect.toLoadRect, Rect.unit, hb, ix2]

/-- A stored row reads as its payload. -/
theorem read_qPieces {F : FTy → Type} [FloatOps F] [Named F] (v : View sig .tc .vmem S8x256x128 .bf16) (f : v.ty.Contents (Elt F))
    (w : (h : ℕ) → h < 8 → FVec F S1x256x128 .bf16) (h : ℕ) (hh : h < 8) (n : ℕ) (hn : n ≤ 8) (hlt : h < n) :
    v.readAt (Elt F) (Rect.unit (s := S8x256x128) ![h, 0, 0] S1x256x128.size (inbQ h hh)).toLoadRect (v.writes (Elt F) f (qPieces w n hn))
      = w h hh := by
  induction n with
  | zero => omega
  | succ n ih =>
    by_cases he : n = h
    · subst he; exact row_hit v f _ _ _
    · exact (row_miss v f _ _ he _ _).trans (ih (by omega) (by omega))

/-- Row `h` of the masked queries. -/
theorem qRow_eq {F : FTy → Type} [FloatOps F] [Named F] (c : Dev nD) (arg3 : Memref sig .tc .vmem S256x512 .bf16) (harg3 : arg3.IsWhole)
    (arg13 : Memref sig .tc .vmem S8x256x128 .bf16) (x1 : Vec F S256x512 .bf16) (h : ℕ) (hh : h < 8) :
    qRow c arg3 harg3 arg13 x1 h hh = qPay arg3 harg3 x1 h hh := by
  unfold qRow
  rw [HS0_eq]
  exact read_qPieces arg13.view _ _ h hh 8 le_rfl hh

/-- The exchanged halves. -/
theorem swapQ_apply (v : Vec Ideal S256x128 .bf16) (q : Fin 256) (j : Fin 128) :
    swapQ v (ix2 q j) = v (ix2 q ⟨(j.val + 64) % 128, Nat.mod_lt _ (by decide)⟩) := by
  unfold swapQ
  by_cases hj : j.val < 64
  · refine (cat_cols _ _ 0 (by show 0 < 2; decide) _ rfl 0 rfl q ⟨j.val, hj⟩ j (Nat.zero_add _)).trans ?_
    exact slice2_axis1_apply 64 v _ q ⟨j.val, hj⟩ _ (by show (j.val + 64) % 128 = 64 + j.val; omega)
  · refine (cat_cols _ _ 1 (by show 1 < 2; decide) _ rfl 64 rfl q ⟨j.val - 64, by omega⟩ j (by show 64 + (j.val - 64) = j.val; omega)).trans ?_
    exact slice2_axis1_apply 0 v _ q ⟨j.val - 64, by omega⟩ _ (by show (j.val + 64) % 128 = 0 + (j.val - 64); omega)

/-- The mask of a key head's columns. -/
theorem head_bit (r : Fin 2) (j : Fin 128) :
    IntOp.andi (IntOp.cmpi .sge (BitVec.ofNat 32 j.val) (BitVec.ofNat 32 (64 * r.val)))
      (IntOp.cmpi .slt (BitVec.ofNat 32 j.val) (BitVec.ofNat 32 (64 * r.val + 64)))
      = if 64 * r.val ≤ j.val ∧ j.val < 64 * r.val + 64 then 1#1 else 0#1 := by
  revert r j; decide +kernel

/-- An entry of row `h` of the masked queries. -/
theorem qPay_apply {Q : ℕ → ℕ → ℝ} {r0 : ℕ} (arg3 : Memref sig .tc .vmem S256x512 .bf16) (harg3 : arg3.IsWhole) (x1 : Vec Ideal S256x512 .bf16)
    (hq : ∀ (q : Fin 256) (j : Fin 512), x1 (ix2 q j) = (Q (r0 + q.val) j.val : EReal)) (h : ℕ) (hh : h < 8) (q : Fin 256) (j : Fin 128) :
    qPay arg3 harg3 x1 h hh (ix3 0 q j)
      = ((if 64 * (h / 4) ≤ j.val ∧ j.val < 64 * (h / 4) + 64 then Q (r0 + q.val) (64 * h + (j.val - 64 * (h / 4))) else 0 : ℝ) : EReal) := by
  unfold qPay maskQ
  refine (shapeCast_ab_1ab_apply _ _ 0 q j).trans ?_
  rw [select_apply]
  have hb : andi (cmpi .sge (iota .tc S256x128 32 [1] iota_S256x128_d1_w32) (broadcast S256x128 (BitVec.ofNat 32 (64 * (h / 4)))))
      (cmpi .slt (iota .tc S256x128 32 [1] iota_S256x128_d1_w32) (broadcast S256x128 (BitVec.ofNat 32 (64 * (h / 4) + 64)))) (ix2 q j)
      = if 64 * (h / 4) ≤ j.val ∧ j.val < 64 * (h / 4) + 64 then 1#1 else 0#1 := by
    have := head_bit ⟨h / 4, by omega⟩ j
    rw [← this]
    have hi : iota .tc S256x128 32 [1] iota_S256x128_d1_w32 (ix2 q j) = BitVec.ofNat 32 j.val := by
      show BitVec.ofNat 32 (0 * 128 + j.val) = _
      rw [Nat.zero_mul, Nat.zero_add]
    show IntOp.andi (IntOp.cmpi .sge (iota .tc S256x128 32 [1] iota_S256x128_d1_w32 (ix2 q j)) _)
      (IntOp.cmpi .slt (iota .tc S256x128 32 [1] iota_S256x128_d1_w32 (ix2 q j)) _) = _
    rw [hi]; rfl
  rw [hb]
  have hz : (Scalar.ofBits .bf16 0x0000#16 : Ideal .bf16) = (0 : EReal) := by simp [Scalar.ofBits, Ideal.ofBits_def, Ideal.ofBits, Ideal.ieee]
  have hr (j' : Fin 128) : arg3.view.readAt (Elt Ideal) (Rect.unit (s := S256x512) ![0, 128 * (h / 2)] S256x128.size (inbH h hh)).toLoadRect (harg3.unread x1) (ix2 q j')
      = (Q (r0 + q.val) (128 * (h / 2) + j'.val) : EReal) :=
    (read_whole2 arg3 harg3 x1 _ q j' q ⟨128 * (h / 2) + j'.val, by omega⟩ (by simp) rfl).trans (hq _ _)
  split_ifs with hc hp
  · rw [show (Scalar.select (1#1) : Ideal .bf16 → Ideal .bf16 → Ideal .bf16) = fun a _ => a from rfl]
    refine (hr j).trans (congrArg (fun k => ((Q (r0 + q.val) k : ℝ) : EReal)) ?_)
    omega
  · rw [show (Scalar.select (1#1) : Ideal .bf16 → Ideal .bf16 → Ideal .bf16) = fun a _ => a from rfl]
    refine (swapQ_apply _ q j).trans ((hr _).trans (congrArg (fun k => ((Q (r0 + q.val) k : ℝ) : EReal)) ?_))
    show 128 * (h / 2) + (j.val + 64) % 128 = _
    omega
  · exact hz
  · exact hz

/-- The product over the 128 columns is the product over the key head's 64. -/
theorem sum_head (r : ℕ) (hr : r < 2) (f g : ℕ → ℝ) :
    ∑ j : Fin 128, f j.val * (if 64 * r ≤ j.val ∧ j.val < 64 * r + 64 then g (j.val - 64 * r) else 0)
      = ∑ e ∈ Finset.range 64, f (64 * r + e) * g e := by
  rw [← Finset.sum_range (fun j => f j * (if 64 * r ≤ j ∧ j < 64 * r + 64 then g (j - 64 * r) else 0))]
  have : ∀ j, f j * (if 64 * r ≤ j ∧ j < 64 * r + 64 then g (j - 64 * r) else 0)
      = if j ∈ Finset.Ico (64 * r) (64 * r + 64) then f j * g (j - 64 * r) else 0 := by
    intro j; simp only [Finset.mem_Ico]; split_ifs <;> simp
  simp only [this]
  rw [Finset.sum_ite_mem, Finset.inter_eq_right.mpr (fun j hj => by simp only [Finset.mem_Ico, Finset.mem_range] at *; omega),
    Finset.sum_Ico_eq_sum_range]
  simp

/-- A score. -/
theorem scores_apply {Q K : ℕ → ℕ → ℝ} {r0 : ℕ} (arg3 : Memref sig .tc .vmem S256x512 .bf16) (harg3 : arg3.IsWhole) (x1 : Vec Ideal S256x512 .bf16)
    (hq : ∀ (q : Fin 256) (j : Fin 512), x1 (ix2 q j) = (Q (r0 + q.val) j.val : EReal)) (k : FVec Ideal S768x128 .bf16) (at' : ℕ → ℕ)
    (hk : ∀ (kk : Fin 768) (j : Fin 128), k (ix2 kk j) = (K (at' kk.val) j.val : EReal)) (h : ℕ) (hh : h < 8) (kk : Fin 768) (q : Fin 256) :
    scores k (qPay arg3 harg3 x1 h hh) (ix2 kk q) = (sc Q K (r0 + q.val) (at' kk.val) h : EReal) := by
  unfold scores
  refine (Ideal.matmul_transposedRhs_apply none _ _ _ kk q).trans ?_
  have h0 : (constant S768x256 .f32 0#32 : FVec Ideal S768x256 .f32) (ix2 kk q) = 0 := Ideal.ofBits_zero_f32
  rw [h0, zero_add]
  have hterm : ∀ j : Fin 128, (k (ix2 kk j) : EReal) * shapeCast S256x128 (qPay arg3 harg3 x1 h hh) shapeCasts_S1x256x128_S256x128 (ix2 q j)
      = ((K (at' kk.val) j.val * (if 64 * (h / 4) ≤ j.val ∧ j.val < 64 * (h / 4) + 64 then Q (r0 + q.val) (64 * h + (j.val - 64 * (h / 4))) else 0) : ℝ) : EReal) := fun j => by
    rw [EReal.coe_mul]
    exact congrArg₂ (· * ·) (hk kk j) ((shapeCast_1ab_ab_apply _ _ q j).trans (qPay_apply arg3 harg3 x1 hq h hh q j))
  rw [Finset.sum_congr rfl fun j _ => hterm j, ← coe_sum]
  exact congrArg _ (sum_head (h / 4) (by omega) (fun j => K (at' kk.val) j) fun e => Q (r0 + q.val) (64 * h + e))

/-- The mask: which of the 512 keys a query sees. -/
theorem pay2_apply (i : grid0.Coords) (m : ℕ) (hi : (i 1).val = m) (hm : m < 32) (kk : Fin 512) (q : Fin 256) :
    k0_pay2 i (ix2 kk q) = if seen m q.val kk.val then 1#1 else 0#1 := by
  have hlo : Scalar.select (Scalar.cmpi .sgt (BitVec.ofNat 32 m) 0#32) 0#32 128#32 = BitVec.ofNat 32 (if 0 < m then 0 else 128) := by
    have : ∀ m : Fin 32, Scalar.select (Scalar.cmpi .sgt (BitVec.ofNat 32 m.val) 0#32) 0#32 128#32 = BitVec.ofNat 32 (if 0 < m.val then 0 else 128) := by decide +kernel
    exact this ⟨m, hm⟩
  have hhi : Scalar.select (Scalar.cmpi .slt (BitVec.ofNat 32 m) 31#32) 512#32 384#32 = BitVec.ofNat 32 (if m < 31 then 512 else 384) := by
    have : ∀ m : Fin 32, Scalar.select (Scalar.cmpi .slt (BitVec.ofNat 32 m.val) 31#32) 512#32 384#32 = BitVec.ofNat 32 (if m.val < 31 then 512 else 384) := by decide +kernel
    exact this ⟨m, hm⟩
  have h0 : iota .tc S512x256 32 [0] iota_S512x256_d0_w32 (ix2 kk q) = BitVec.ofNat 32 kk.val := by
    show BitVec.ofNat 32 (0 * 512 + kk.val) = _
    rw [Nat.zero_mul, Nat.zero_add]
  have h1 : iota .tc S512x256 32 [1] iota_S512x256_d1_w32 (ix2 kk q) = BitVec.ofNat 32 q.val := by
    show BitVec.ofNat 32 (0 * 256 + q.val) = _
    rw [Nat.zero_mul, Nat.zero_add]
  have hkk := kk.isLt
  have hqq := q.isLt
  unfold k0_pay2
  rw [hi, hlo, hhi]
  show IntOp.andi (IntOp.andi (IntOp.cmpi .sge (iota .tc S512x256 32 [0] iota_S512x256_d0_w32 (ix2 kk q))
      (IntOp.maxsi (iota .tc S512x256 32 [1] iota_S512x256_d1_w32 (ix2 kk q)) (BitVec.ofNat 32 (if 0 < m then 0 else 128))))
      (IntOp.cmpi .sle (iota .tc S512x256 32 [0] iota_S512x256_d0_w32 (ix2 kk q)) (iota .tc S512x256 32 [1] iota_S512x256_d1_w32 (ix2 kk q) + BitVec.ofNat 32 256)))
    (IntOp.cmpi .slt (iota .tc S512x256 32 [0] iota_S512x256_d0_w32 (ix2 kk q)) (BitVec.ofNat 32 (if m < 31 then 512 else 384))) = _
  rw [h0, h1, ← BitVec.ofNat_add, maxsi_small _ _ (by omega) (by split_ifs <;> omega),
    WordCmp.cmpi_sge_ofNat (by omega) (by split_ifs <;> omega), WordCmp.cmpi_sle_ofNat (by omega) (by omega),
    WordCmp.cmpi_slt_ofNat (by omega) (by split_ifs <;> omega), WordCmp.andi_ofBool, WordCmp.andi_ofBool, ← Bool.decide_and, ← Bool.decide_and]
  have key : ((max q.val (if 0 < m then 0 else 128) ≤ kk.val ∧ kk.val ≤ q.val + 256) ∧ kk.val < (if m < 31 then 512 else 384)) ↔ seen m q.val kk.val := by
    rw [seen_iff m q.val kk.val hm hkk]
    split_ifs <;> omega
  by_cases hs : seen m q.val kk.val
  · rw [if_pos hs, decide_eq_true (key.2 hs)]; rfl
  · rw [if_neg hs, decide_eq_false fun h => hs (key.1 h)]; rfl

/-- The masked scores' weights. -/
theorem masked_weigh {S : ℕ → ℝ} (i : grid0.Coords) (m : ℕ) (hi : (i 1).val = m) (hm : m < 32) (st : FVec Ideal S768x256 .f32) (q : Fin 256)
    (hst : ∀ kk : Fin 768, st (ix2 kk q) = (S kk.val : EReal)) (kk : Fin 768) :
    Weigh (masked (k0_pay2 i) st (ix2 kk q)) (if seen m q.val kk.val then Real.exp (S kk.val) else 0) := by
  have hmask : (Named.named κ "mask" 0xF149F2CA#32 : Ideal .f32) = (⊥ : EReal) := IdealRules.named_const.ideal_named_scalar _ _ _ _ rfl
  unfold masked
  by_cases hk : kk.val < 512
  · rw [cat_rows _ _ 0 (by show 0 < 2; decide) _ rfl 0 rfl ⟨kk.val, hk⟩ q kk (Nat.zero_add _), select_apply, pay2_apply i m hi hm]
    show Weigh _ (if seen m q.val kk.val then _ else _)
    by_cases hs : seen m q.val kk.val
    · rw [if_pos hs, if_pos hs]
      refine Or.inr ⟨S kk.val, ?_, rfl⟩
      exact (slice2_axis0_apply 0 st slices_S768x256_o0_0_S512x256 ⟨kk.val, hk⟩ q kk (Nat.zero_add _).symm).trans (hst kk)
    · rw [if_neg hs, if_neg hs]
      exact Or.inl ⟨hmask, rfl⟩
  · rw [cat_rows _ _ 1 (by show 1 < 2; decide) _ rfl 512 rfl ⟨kk.val - 512, by omega⟩ q kk (by show 512 + (kk.val - 512) = _; omega),
      if_pos (show seen m q.val kk.val from Or.inl (by omega))]
    refine Or.inr ⟨S kk.val, ?_, rfl⟩
    exact (slice2_axis0_apply 512 st slices_S768x256_o512_0_S256x256 ⟨kk.val - 512, by omega⟩ q kk (by show kk.val = 512 + (kk.val - 512); omega)).trans (hst kk)

section Head
variable (st : FVec Ideal S768x256 .f32) (sk : Elt Ideal .f32) (q : Fin 256) (w : ℕ → ℝ) (v : ℕ → EReal) (σ : ℝ)

/-- The largest score is real. -/
theorem top_real (hst : ∀ kk : Fin 768, Weigh (st (ix2 kk q)) (w kk.val)) (hsk : sk = (σ : EReal)) : ∃ μ : ℝ, top st sk (ix2 0 q) = (μ : EReal) := by
  have hred : shapeCast S1x256 (multiReduction .maximumf [0] S256 st 0xFF800000#32 reduces_S768x256_S256 (.inl rfl) rfl) shapeCasts_S256_S1x256 (ix2 0 q)
      = ((Finset.univ : Finset (Fin 768)).fold max ⊥ fun x => st (ix2 x q)) := by
    refine (shapeCast_a_1a_apply _ _ 0 q).trans ?_
    refine (Ideal.multiReduction_maximumf_single st _ _ _ _ _).trans ?_
    have hb : (FloatOps.ofBits .f32 0xFF800000#32 : Ideal .f32) = (⊥ : EReal) := by simp [Ideal.ofBits_def]; rfl
    rw [hb]
    refine Finset.fold_congr fun x _ => ?_
    refine congrArg st (funext fun ax => ?_)
    match ax with | ⟨0, _⟩ => rfl | ⟨1, _⟩ => rfl
  have e : top st sk (ix2 0 q) = max ((Finset.univ : Finset (Fin 768)).fold max ⊥ fun x => st (ix2 x q)) (σ : EReal) := by
    unfold top
    rw [maximumf_apply]
    exact congrArg₂ max hred hsk
  rw [e]
  rcases fold_weigh (Finset.univ : Finset (Fin 768)) (fun x => st (ix2 x q)) fun x => (hst x).bot_or with hb | ⟨r, hr⟩
  · exact ⟨σ, by rw [hb]; exact max_eq_right bot_le⟩
  · exact ⟨max r σ, by rw [hr]; exact (EReal.coe_strictMono.monotone.map_max).symm⟩

/-- One head's average. -/
theorem headOut_apply (vt : FVec Ideal S128x768 .bf16) (g : ℕ) (hg : g < 2) (d : Fin 64)
    (hst : ∀ kk : Fin 768, Weigh (st (ix2 kk q)) (w kk.val)) (hsk : sk = (σ : EReal))
    (hv : ∀ kk : Fin 768, vt (ix2 ⟨64 * g + d.val, by omega⟩ kk) = v kk.val) :
    headOut vt g hg st sk (ix2 d q) = mean 768 w v σ := by
  obtain ⟨μ, hμ⟩ := top_real st sk q w σ hst hsk
  have hw : ∀ kk : Fin 768, weights st sk (ix2 kk q) = ((w kk.val * Real.exp (-μ) : ℝ) : EReal) := fun kk => by
    rw [← (hst kk).exp_sub μ]
    show Ideal.exp (st (ix2 kk q) - broadcastTo S768x256 (top st sk) broadcasts_S1x256_S768x256 (ix2 kk q)) = _
    rw [broadcastTo_1b_ab_apply _ _ kk q, hμ]
  have ht : total st sk (ix2 0 q) = (((∑ κ ∈ Finset.range 768, w κ * Real.exp (-μ)) + Real.exp (σ - μ) : ℝ) : EReal) := by
    unfold total
    rw [addf_apply, EReal.coe_add]
    refine congrArg₂ (· + ·) ?_ ?_
    · refine (shapeCast_a_1a_apply _ _ 0 q).trans ?_
      refine (Ideal.multiReduction_add_single _ _ _ _ _ _).trans ?_
      rw [Finset.sum_range, coe_sum]
      refine Finset.sum_congr rfl fun x _ => Eq.trans (congrArg (weights st sk) (funext fun ax => ?_)) (hw x)
      match ax with | ⟨0, _⟩ => rfl | ⟨1, _⟩ => rfl
    · show Ideal.exp (sk - top st sk (ix2 0 q)) = _
      rw [hμ, hsk, ← EReal.coe_sub, Ideal.exp_coe]
  have hn : matmul dot_S64x768_S768x256_S64x256_1_0_0_1_n_n none (extractStridedSlice S64x768 ![64 * g, 0] vt (slicesV g hg))
      (truncf .bf16 (weights st sk) bitsLt_bf16_f32) (constant S64x256 .f32 0x00000000#32) (ix2 d q)
      = ∑ κ ∈ Finset.range 768, v κ * ((w κ * Real.exp (-μ) : ℝ) : EReal) := by
    refine (Ideal.matmul_plain_apply none _ _ _ d q).trans ?_
    have h0 : (constant S64x256 .f32 0#32 : FVec Ideal S64x256 .f32) (ix2 d q) = 0 := Ideal.ofBits_zero_f32
    rw [h0, zero_add, Finset.sum_range]
    refine Finset.sum_congr rfl fun kk _ => ?_
    refine congrArg₂ (· * ·) ?_ (hw kk)
    exact (slice2_axis0_apply (64 * g) vt _ d kk ⟨64 * g + d.val, by omega⟩ rfl).trans (hv kk)
  have hpos : 0 < (∑ κ ∈ Finset.range 768, w κ * Real.exp (-μ)) + Real.exp (σ - μ) :=
    total_pos 768 w σ μ fun κ hκ => (hst ⟨κ, hκ⟩).nonneg
  rw [← mean_shift 768 w v σ μ fun κ hκ => (hst ⟨κ, hκ⟩).nonneg]
  show Ideal.div _ (broadcastTo S64x256 (total st sk) broadcasts_S1x256_S64x256 (ix2 d q)) = _
  rw [hn, broadcastTo_1b_ab_apply _ _ d q, ht, Ideal.div_coe hpos.ne']

end Head

/-- The joined heads at an index. -/
theorem joined_apply (o : (h : ℕ) → h < 8 → FVec Ideal S64x256 .f32) (h : Fin 8) (d : Fin 64) (q : Fin 256) :
    joined o (ix2 q ⟨64 * h.val + d.val, by omega⟩) = o h.val h.isLt (ix2 d q) := by
  unfold joined
  rw [truncf_apply]
  refine (transpose_ix2_apply _ _ q _).trans ?_
  obtain ⟨h, hh⟩ := h
  interval_cases h
  · exact cat_rows _ _ 0 (by show 0 < 8; decide) _ rfl 0 rfl d q _ (by show 0 + d.val = 64 * 0 + d.val; omega)
  · exact cat_rows _ _ 1 (by show 1 < 8; decide) _ rfl 64 rfl d q _ rfl
  · exact cat_rows _ _ 2 (by show 2 < 8; decide) _ rfl 128 rfl d q _ rfl
  · exact cat_rows _ _ 3 (by show 3 < 8; decide) _ rfl 192 rfl d q _ rfl
  · exact cat_rows _ _ 4 (by show 4 < 8; decide) _ rfl 256 rfl d q _ rfl
  · exact cat_rows _ _ 5 (by show 5 < 8; decide) _ rfl 320 rfl d q _ rfl
  · exact cat_rows _ _ 6 (by show 6 < 8; decide) _ rfl 384 rfl d q _ rfl
  · exact cat_rows _ _ 7 (by show 7 < 8; decide) _ rfl 448 rfl d q _ rfl

section Block

variable (c : Dev nD) (i : grid0.Coords)
  (arg2 : Memref sig .tc .smem S8 .f32) (harg2 : arg2.IsWhole) (arg3 : Memref sig .tc .vmem S256x512 .bf16) (harg3 : arg3.IsWhole) (arg4 : Memref sig .tc .vmem S128x128 .bf16) (harg4 : arg4.IsWhole) (arg5 : Memref sig .tc .vmem S256x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x128 .bf16) (harg8 : arg8.IsWhole) (arg9 : Memref sig .tc .vmem S128x256 .bf16) (harg9 : arg9.IsWhole) (arg10 : Memref sig .tc .vmem S128x128 .bf16) (harg10 : arg10.IsWhole) (arg11 : Memref sig .tc .vmem S128x256 .bf16) (harg11 : arg11.IsWhole) (arg12 : Memref sig .tc .vmem S256x512 .bf16) (harg12 : arg12.IsWhole) (arg13 : Memref sig .tc .vmem S8x256x128 .bf16) (harg13 : arg13.IsWhole)
  (x0 : Vec Ideal S8 .f32) (x1 : Vec Ideal S256x512 .bf16) (x2 : Vec Ideal S128x128 .bf16) (x3 : Vec Ideal S256x128 .bf16) (x4 : Vec Ideal S128x128 .bf16) (x5 : Vec Ideal S256x128 .bf16) (x6 : Vec Ideal S128x128 .bf16) (x7 : Vec Ideal S128x256 .bf16) (x8 : Vec Ideal S128x128 .bf16) (x9 : Vec Ideal S128x256 .bf16)
  {Q K : ℕ → ℕ → ℝ} {W : ℕ → ℕ → EReal} {σ : ℕ → ℝ} {b m : ℕ}

/-- A sink. -/
theorem sinkOf_apply (hs : ∀ h : Fin 8, x0 (ix1 h) = (σ h.val : EReal)) (h : ℕ) (hh : h < 8) : sinkOf arg2 harg2 x0 h hh = (σ h : EReal) := by
  unfold sinkOf
  refine (Memref.IsWhole.readAt_unread harg2 x0 _ _).trans (Eq.trans (congrArg x0 (funext fun ax => Fin.ext ?_)) (hs ⟨h, hh⟩))
  match ax with
  | ⟨0, _⟩ => simp [LoadRect.idx, Rect.toLoadRect, Rect.unit, ix1, Shape.Idx.first]

/-- The 768 keys. -/
theorem keys_apply (h0 : ∀ (x j : Fin 128), x2 (ix2 x j) = (K (keyAt b m x.val) j.val : EReal))
    (h1 : ∀ (x : Fin 256) (j : Fin 128), x3 (ix2 x j) = (K (keyAt b m (128 + x.val)) j.val : EReal))
    (h2 : ∀ (x j : Fin 128), x4 (ix2 x j) = (K (keyAt b m (384 + x.val)) j.val : EReal))
    (h3 : ∀ (x : Fin 256) (j : Fin 128), x5 (ix2 x j) = (K (keyAt b m (512 + x.val)) j.val : EReal)) (kk : Fin 768) (j : Fin 128) :
    keys arg4 harg4 arg5 harg5 arg6 harg6 arg7 harg7 x2 x3 x4 x5 (ix2 kk j) = (K (keyAt b m kk.val) j.val : EReal) := by
  unfold keys k0_pay3
  have hkk := kk.isLt
  by_cases c0 : kk.val < 128
  · refine (cat_rows _ _ 0 (by show 0 < 4; decide) _ rfl 0 rfl ⟨kk.val, c0⟩ j kk (Nat.zero_add _)).trans ?_
    exact (read_whole2 arg4 harg4 x2 _ _ j ⟨kk.val, c0⟩ j (by simp) (by simp)).trans (h0 _ _)
  by_cases c1 : kk.val < 384
  · refine (cat_rows _ _ 1 (by show 1 < 4; decide) _ rfl 128 rfl ⟨kk.val - 128, by omega⟩ j kk (by show 128 + (kk.val - 128) = _; omega)).trans ?_
    refine (read_whole2 arg5 harg5 x3 _ _ j ⟨kk.val - 128, by omega⟩ j (by simp) (by simp)).trans ((h1 _ _).trans ?_)
    rw [show 128 + (kk.val - 128) = kk.val by omega]
  by_cases c2 : kk.val < 512
  · refine (cat_rows _ _ 2 (by show 2 < 4; decide) _ rfl 384 rfl ⟨kk.val - 384, by omega⟩ j kk (by show 384 + (kk.val - 384) = _; omega)).trans ?_
    refine (read_whole2 arg6 harg6 x4 _ _ j ⟨kk.val - 384, by omega⟩ j (by simp) (by simp)).trans ((h2 _ _).trans ?_)
    rw [show 384 + (kk.val - 384) = kk.val by omega]
  · refine (cat_rows _ _ 3 (by show 3 < 4; decide) _ rfl 512 rfl ⟨kk.val - 512, by omega⟩ j kk (by show 512 + (kk.val - 512) = _; omega)).trans ?_
    refine (read_whole2 arg7 harg7 x5 _ _ j ⟨kk.val - 512, by omega⟩ j (by simp) (by simp)).trans ((h3 _ _).trans ?_)
    rw [show 512 + (kk.val - 512) = kk.val by omega]

/-- The 768 values. -/
theorem vals_apply (h0 : ∀ (j x : Fin 128), x6 (ix2 j x) = W (keyAt b m x.val) j.val)
    (h1 : ∀ (j : Fin 128) (x : Fin 256), x7 (ix2 j x) = W (keyAt b m (128 + x.val)) j.val)
    (h2 : ∀ (j x : Fin 128), x8 (ix2 j x) = W (keyAt b m (384 + x.val)) j.val)
    (h3 : ∀ (j : Fin 128) (x : Fin 256), x9 (ix2 j x) = W (keyAt b m (512 + x.val)) j.val) (j : Fin 128) (kk : Fin 768) :
    vals arg8 harg8 arg9 harg9 arg10 harg10 arg11 harg11 x6 x7 x8 x9 (ix2 j kk) = W (keyAt b m kk.val) j.val := by
  unfold vals k0_pay4
  have hkk := kk.isLt
  by_cases c0 : kk.val < 128
  · refine (cat_cols _ _ 0 (by show 0 < 4; decide) _ rfl 0 rfl j ⟨kk.val, c0⟩ kk (Nat.zero_add _)).trans ?_
    exact (read_whole2 arg8 harg8 x6 _ j _ j ⟨kk.val, c0⟩ (by simp) (by simp)).trans (h0 _ _)
  by_cases c1 : kk.val < 384
  · refine (cat_cols _ _ 1 (by show 1 < 4; decide) _ rfl 128 rfl j ⟨kk.val - 128, by omega⟩ kk (by show 128 + (kk.val - 128) = _; omega)).trans ?_
    refine (read_whole2 arg9 harg9 x7 _ j _ j ⟨kk.val - 128, by omega⟩ (by simp) (by simp)).trans ((h1 _ _).trans ?_)
    rw [show 128 + (kk.val - 128) = kk.val by omega]
  by_cases c2 : kk.val < 512
  · refine (cat_cols _ _ 2 (by show 2 < 4; decide) _ rfl 384 rfl j ⟨kk.val - 384, by omega⟩ kk (by show 384 + (kk.val - 384) = _; omega)).trans ?_
    refine (read_whole2 arg10 harg10 x8 _ j _ j ⟨kk.val - 384, by omega⟩ (by simp) (by simp)).trans ((h2 _ _).trans ?_)
    rw [show 384 + (kk.val - 384) = kk.val by omega]
  · refine (cat_cols _ _ 3 (by show 3 < 4; decide) _ rfl 512 rfl j ⟨kk.val - 512, by omega⟩ kk (by show 512 + (kk.val - 512) = _; omega)).trans ?_
    refine (read_whole2 arg11 harg11 x9 _ j _ j ⟨kk.val - 512, by omega⟩ (by simp) (by simp)).trans ((h3 _ _).trans ?_)
    rw [show 512 + (kk.val - 512) = kk.val by omega]

/-- What a block's store holds at query `q` and column `64 h + d`: the average of head `h` over the block's keys. -/
theorem block_apply (v : View sig .tc .vmem S256x512 .bf16) (hi : (i 1).val = m) (hm : m < 32)
    (hs : ∀ h : Fin 8, x0 (ix1 h) = (σ h.val : EReal))
    (hq : ∀ (q : Fin 256) (j : Fin 512), x1 (ix2 q j) = (Q (8192 * b + 256 * m + q.val) j.val : EReal))
    (hk0 : ∀ (x j : Fin 128), x2 (ix2 x j) = (K (keyAt b m x.val) j.val : EReal))
    (hk1 : ∀ (x : Fin 256) (j : Fin 128), x3 (ix2 x j) = (K (keyAt b m (128 + x.val)) j.val : EReal))
    (hk2 : ∀ (x j : Fin 128), x4 (ix2 x j) = (K (keyAt b m (384 + x.val)) j.val : EReal))
    (hk3 : ∀ (x : Fin 256) (j : Fin 128), x5 (ix2 x j) = (K (keyAt b m (512 + x.val)) j.val : EReal))
    (hv0 : ∀ (j x : Fin 128), x6 (ix2 j x) = W (keyAt b m x.val) j.val)
    (hv1 : ∀ (j : Fin 128) (x : Fin 256), x7 (ix2 j x) = W (keyAt b m (128 + x.val)) j.val)
    (hv2 : ∀ (j x : Fin 128), x8 (ix2 j x) = W (keyAt b m (384 + x.val)) j.val)
    (hv3 : ∀ (j : Fin 128) (x : Fin 256), x9 (ix2 j x) = W (keyAt b m (512 + x.val)) j.val) (h : Fin 8) (d : Fin 64) (q : Fin 256) :
    v.read (Elt Ideal) (v.writes (Elt Ideal) v.junk (kernelRun0_A c i arg2 harg2 arg3 harg3 arg4 harg4 arg5 harg5 arg6 harg6 arg7 harg7
        arg8 harg8 arg9 harg9 arg10 harg10 arg11 harg11 arg12 harg12 arg13 harg13 x0 x1 x2 x3 x4 x5 x6 x7 x8 x9).1) (ix2 q ⟨64 * h.val + d.val, by omega⟩)
      = mean 768 (wBlk Q K b m q.val h.val) (fun kk => W (keyAt b m kk) (64 * (h.val / 4) + d.val)) (σ h.val) := by
  rw [out_pieces]
  refine (View.read_writes_cons_unit_of_mem _ _ _ _ _ _ (ix2 q ⟨64 * h.val + d.val, by omega⟩) rfl (fun a => by
    match a with
    | ⟨0, _⟩ => simp [ValueIdx.ix2]
    | ⟨1, _⟩ => simp [ValueIdx.ix2])).trans ?_
  refine (joined_apply _ h d q).trans ?_
  refine headOut_apply _ _ q _ _ _ _ (h.val / 4) (by omega) d (fun kk => ?_) (sinkOf_apply arg2 harg2 x0 hs h.val h.isLt) fun kk => ?_
  · rw [qRow_eq]
    exact masked_weigh (S := fun kk => sc Q K (8192 * b + 256 * m + q.val) (keyAt b m kk) h.val) i m hi hm
      (scores (keys arg4 harg4 arg5 harg5 arg6 harg6 arg7 harg7 x2 x3 x4 x5) (qPay arg3 harg3 x1 h.val h.isLt)) q (fun kk => scores_apply arg3 harg3 x1 hq _ (keyAt b m)
      (keys_apply arg4 harg4 arg5 harg5 arg6 harg6 arg7 harg7 x2 x3 x4 x5 hk0 hk1 hk2 hk3) h.val h.isLt kk q) kk
  · exact vals_apply arg8 harg8 arg9 harg9 arg10 harg10 arg11 harg11 x6 x7 x8 x9 hv0 hv1 hv2 hv3 _ kk

end Block

end Cert.Kernel4Ideal.Win

end
-- ==== Proof.WinArray.lean ====
/- The windowed attention's kernel: what its windows hold at a grid point, and the array it leaves. -/
module

public import proofs.«01_k».proof.Proof.WinVal
public import proofs.«01_k».proof.Proof.Gen.Kernel4Ideal.Value

@[expose] public section

set_option maxRecDepth 16384

noncomputable section

namespace Cert.Kernel4Ideal.Win

open Idealize.ShloMosaic Idealize.ShloMosaic.TcCoe Idealize.ShloMosaic.ValueIdx Cert.Kernel4Ideal Cert.Kernel4Ideal.Gen Cert.WinAttn

section Index

theorem coord1 : ∀ t : Fin cfg0.N, (grid0.coords t 1).val = t.val % 32 := by decide +kernel
theorem index0 : ∀ t : Fin cfg0.N, win0_0.index t 0 = 0 := by decide +kernel
theorem index1 : ∀ t : Fin cfg0.N, win0_1.index t 0 = t.val ∧ win0_1.index t 1 = 0 := by decide +kernel
theorem index2 : ∀ t : Fin cfg0.N, win0_2.index t 0 = 64 * (t.val / 32) + (2 * (t.val % 32) - 1) ∧ win0_2.index t 1 = 0 := by decide +kernel
theorem index3 : ∀ t : Fin cfg0.N, win0_3.index t 0 = 32 * (t.val / 32) + t.val % 32 ∧ win0_3.index t 1 = 0 := by decide +kernel
theorem index4 : ∀ t : Fin cfg0.N, win0_4.index t 0 = 64 * (t.val / 32) + min (2 * (t.val % 32) + 2) 63 ∧ win0_4.index t 1 = 0 := by decide +kernel
theorem index5 : ∀ t : Fin cfg0.N, win0_5.index t 0 = 64 + t.val / 32 ∧ win0_5.index t 1 = 0 := by decide +kernel
theorem index6 : ∀ t : Fin cfg0.N, win0_6.index t 0 = 0 ∧ win0_6.index t 1 = 64 * (t.val / 32) + (2 * (t.val % 32) - 1) := by decide +kernel
theorem index7 : ∀ t : Fin cfg0.N, win0_7.index t 0 = 0 ∧ win0_7.index t 1 = 32 * (t.val / 32) + t.val % 32 := by decide +kernel
theorem index8 : ∀ t : Fin cfg0.N, win0_8.index t 0 = 0 ∧ win0_8.index t 1 = 64 * (t.val / 32) + min (2 * (t.val % 32) + 2) 63 := by decide +kernel
theorem index9 : ∀ t : Fin cfg0.N, win0_9.index t 0 = 0 ∧ win0_9.index t 1 = 64 + t.val / 32 := by decide +kernel
theorem index10 : ∀ t : Fin cfg0.N, win0_10.index t 0 = t.val ∧ win0_10.index t 1 = 0 := by decide +kernel

end Index

theorem point_lt (t : Fin cfg0.N) : t.val < 64 := t.isLt

/-- The row of the keys' array that key `kk` of a point's block is. -/
def krow (t : Fin cfg0.N) (kk : ℕ) (h : kk < 768) : Fin 16896 :=
  ⟨keyAt (t.val / 32) (t.val % 32) kk, by have := point_lt t; unfold keyAt; split_ifs <;> omega⟩

/-- The row of the queries' array that row `q` of its block is. -/
def qrow (t : Fin cfg0.N) (q : Fin 256) : Fin 16896 := ⟨8192 * (t.val / 32) + 256 * (t.val % 32) + q.val, by have := point_lt t; omega⟩

/-- Where the four blocks of keys lie. -/
theorem key0 (b m x : ℕ) (h : x < 128) : keyAt b m x = (64 * b + (2 * m - 1)) * 128 + 1 * x := by unfold keyAt; rw [if_pos h]; omega
theorem key1 (b m x : ℕ) (h : x < 256) : keyAt b m (128 + x) = (32 * b + m) * 256 + 1 * x := by
  unfold keyAt; rw [if_neg (by omega), if_pos (by omega)]; omega
theorem key2 (b m x : ℕ) (h : x < 128) : keyAt b m (384 + x) = (64 * b + min (2 * m + 2) 63) * 128 + 1 * x := by
  unfold keyAt; rw [if_neg (by omega), if_neg (by omega), if_pos (by omega)]; omega
theorem key3 (b m x : ℕ) : keyAt b m (512 + x) = (64 + b) * 256 + 1 * x := by
  unfold keyAt; rw [if_neg (by omega), if_neg (by omega), if_neg (by omega)]; omega

section Reads

variable (m : (ℓ : Loc nD τ sig) → Buf (Elt Ideal) ℓ) (c : Dev nD) (t : Fin cfg0.N)

/-- Window 0 holds the sinks. -/
theorem read0 (h : Fin 8) : (iblk m c 0 t : Vec Ideal S8 .f32) (ix1 h) = m ((c : Thread nD τ).loc main_arg0) (ix1 h) := by
  unfold iblk
  rw [View.read_apply]
  show m ((c : Thread nD τ).loc main_arg0) _ = _
  refine congrArg (m ((c : Thread nD τ).loc main_arg0)) (funext fun a => Fin.ext ?_)
  match a with
  | ⟨0, _⟩ => show win0_0.index t 0 * 8 + 1 * h.val = h.val; rw [index0 t]; omega

/-- Window 1 holds the queries. -/
theorem read1 (q : Fin 256) (j : Fin 512) : (iblk m c 1 t : Vec Ideal S256x512 .bf16) (ix2 q j) = m ((c : Thread nD τ).loc main_arg1) (ix2 (qrow t q) j) := by
  unfold iblk
  rw [View.read_apply]
  show m ((c : Thread nD τ).loc main_arg1) _ = _
  refine congrArg (m ((c : Thread nD τ).loc main_arg1)) (funext fun a => Fin.ext ?_)
  match a with
  | ⟨0, _⟩ => show win0_1.index t 0 * 256 + 1 * q.val = 8192 * (t.val / 32) + 256 * (t.val % 32) + q.val; rw [(index1 t).1]; omega
  | ⟨1, _⟩ => show win0_1.index t 1 * 512 + 1 * j.val = j.val; rw [(index1 t).2]; omega

/-- An index of the keys' array by its two coordinates. -/
theorem kix {kk : ℕ} (h : kk < 768) (j : Fin 128) (a b : ℕ) (k : S16896x128.Idx) (h0 : (k 0).val = a) (h1 : (k 1).val = b)
    (ha : keyAt (t.val / 32) (t.val % 32) kk = a) (hb : b = 0 * 128 + 1 * j.val) : k = ix2 (krow t kk h) j := by
  refine funext fun i => Fin.ext ?_
  match i with
  | ⟨0, _⟩ => exact h0.trans ha.symm
  | ⟨1, _⟩ => refine h1.trans (hb.trans ?_); show _ = j.val; omega

/-- An index of the values' array by its two coordinates. -/
theorem vix {kk : ℕ} (h : kk < 768) (j : Fin 128) (a b : ℕ) (k : S128x16896.Idx) (h0 : (k 0).val = a) (h1 : (k 1).val = b)
    (ha : a = 0 * 128 + 1 * j.val) (hb : keyAt (t.val / 32) (t.val % 32) kk = b) : k = ix2 j (krow t kk h) := by
  refine funext fun i => Fin.ext ?_
  match i with
  | ⟨0, _⟩ => refine h0.trans (ha.trans ?_); show _ = j.val; omega
  | ⟨1, _⟩ => exact h1.trans hb.symm

/-- Window 2 holds the keys before the block. -/
theorem read2 (x j : Fin 128) : (iblk m c 2 t : Vec Ideal S128x128 .bf16) (ix2 x j) = m ((c : Thread nD τ).loc main_arg2) (ix2 (krow t x.val (by omega)) j) := by
  unfold iblk
  rw [View.read_apply]
  show m ((c : Thread nD τ).loc main_arg2) _ = _
  exact congrArg (m ((c : Thread nD τ).loc main_arg2)) (kix t (by omega) j (win0_2.index t 0 * 128 + 1 * x.val) (win0_2.index t 1 * 128 + 1 * j.val) _ rfl rfl
    (by rw [(index2 t).1]; exact key0 _ _ _ x.isLt) (by rw [(index2 t).2]))

/-- Window 3 holds the block's keys. -/
theorem read3 (x : Fin 256) (j : Fin 128) : (iblk m c 3 t : Vec Ideal S256x128 .bf16) (ix2 x j) = m ((c : Thread nD τ).loc main_arg2) (ix2 (krow t (128 + x.val) (by omega)) j) := by
  unfold iblk
  rw [View.read_apply]
  show m ((c : Thread nD τ).loc main_arg2) _ = _
  exact congrArg (m ((c : Thread nD τ).loc main_arg2)) (kix t (by omega) j (win0_3.index t 0 * 256 + 1 * x.val) (win0_3.index t 1 * 128 + 1 * j.val) _ rfl rfl
    (by rw [(index3 t).1]; exact key1 _ _ _ x.isLt) (by rw [(index3 t).2]))

/-- Window 4 holds the keys after the block. -/
theorem read4 (x j : Fin 128) : (iblk m c 4 t : Vec Ideal S128x128 .bf16) (ix2 x j) = m ((c : Thread nD τ).loc main_arg2) (ix2 (krow t (384 + x.val) (by omega)) j) := by
  unfold iblk
  rw [View.read_apply]
  show m ((c : Thread nD τ).loc main_arg2) _ = _
  exact congrArg (m ((c : Thread nD τ).loc main_arg2)) (kix t (by omega) j (win0_4.index t 0 * 128 + 1 * x.val) (win0_4.index t 1 * 128 + 1 * j.val) _ rfl rfl
    (by rw [(index4 t).1]; exact key2 _ _ _ x.isLt) (by rw [(index4 t).2]))

/-- Window 5 holds the context's keys. -/
theorem read5 (x : Fin 256) (j : Fin 128) : (iblk m c 5 t : Vec Ideal S256x128 .bf16) (ix2 x j) = m ((c : Thread nD τ).loc main_arg2) (ix2 (krow t (512 + x.val) (by omega)) j) := by
  unfold iblk
  rw [View.read_apply]
  show m ((c : Thread nD τ).loc main_arg2) _ = _
  exact congrArg (m ((c : Thread nD τ).loc main_arg2)) (kix t (by omega) j (win0_5.index t 0 * 256 + 1 * x.val) (win0_5.index t 1 * 128 + 1 * j.val) _ rfl rfl
    (by rw [(index5 t).1]; exact key3 _ _ _) (by rw [(index5 t).2]))

/-- Window 6 holds the values before the block. -/
theorem read6 (j x : Fin 128) : (iblk m c 6 t : Vec Ideal S128x128 .bf16) (ix2 j x) = m ((c : Thread nD τ).loc main_arg3) (ix2 j (krow t x.val (by omega))) := by
  unfold iblk
  rw [View.read_apply]
  show m ((c : Thread nD τ).loc main_arg3) _ = _
  exact congrArg (m ((c : Thread nD τ).loc main_arg3)) (vix t (by omega) j (win0_6.index t 0 * 128 + 1 * j.val) (win0_6.index t 1 * 128 + 1 * x.val) _ rfl rfl
    (by rw [(index6 t).1]) (by rw [(index6 t).2]; exact key0 _ _ _ x.isLt))

/-- Window 7 holds the block's values. -/
theorem read7 (j : Fin 128) (x : Fin 256) : (iblk m c 7 t : Vec Ideal S128x256 .bf16) (ix2 j x) = m ((c : Thread nD τ).loc main_arg3) (ix2 j (krow t (128 + x.val) (by omega))) := by
  unfold iblk
  rw [View.read_apply]
  show m ((c : Thread nD τ).loc main_arg3) _ = _
  exact congrArg (m ((c : Thread nD τ).loc main_arg3)) (vix t (by omega) j (win0_7.index t 0 * 128 + 1 * j.val) (win0_7.index t 1 * 256 + 1 * x.val) _ rfl rfl
    (by rw [(index7 t).1]) (by rw [(index7 t).2]; exact key1 _ _ _ x.isLt))

/-- Window 8 holds the values after the block. -/
theorem read8 (j x : Fin 128) : (iblk m c 8 t : Vec Ideal S128x128 .bf16) (ix2 j x) = m ((c : Thread nD τ).loc main_arg3) (ix2 j (krow t (384 + x.val) (by omega))) := by
  unfold iblk
  rw [View.read_apply]
  show m ((c : Thread nD τ).loc main_arg3) _ = _
  exact congrArg (m ((c : Thread nD τ).loc main_arg3)) (vix t (by omega) j (win0_8.index t 0 * 128 + 1 * j.val) (win0_8.index t 1 * 128 + 1 * x.val) _ rfl rfl
    (by rw [(index8 t).1]) (by rw [(index8 t).2]; exact key2 _ _ _ x.isLt))

/-- Window 9 holds the context's values. -/
theorem read9 (j : Fin 128) (x : Fin 256) : (iblk m c 9 t : Vec Ideal S128x256 .bf16) (ix2 j x) = m ((c : Thread nD τ).loc main_arg3) (ix2 j (krow t (512 + x.val) (by omega))) := by
  unfold iblk
  rw [View.read_apply]
  show m ((c : Thread nD τ).loc main_arg3) _ = _
  exact congrArg (m ((c : Thread nD τ).loc main_arg3)) (vix t (by omega) j (win0_9.index t 0 * 128 + 1 * j.val) (win0_9.index t 1 * 256 + 1 * x.val) _ rfl rfl
    (by rw [(index9 t).1]) (by rw [(index9 t).2]; exact key3 _ _ _))

end Reads

/-- The result as an array. -/
def winArr (Q K : ℕ → ℕ → ℝ) (W : ℕ → ℕ → EReal) (σ : ℕ → ℝ) : FVec Ideal S16384x512 .bf16 := fun i => winOut Q K W σ (i 0).val (i 1).val

/-- A block's index as row and column. -/
theorem block_ix {a n : ℕ} (j : (⟨2, ![a, n]⟩ : Shape).Idx) : j = ix2 (j 0 : Fin a) (j 1 : Fin n) := by
  funext i
  match i with
  | ⟨0, _⟩ => rfl
  | ⟨1, _⟩ => rfl

/-- The row of the result that row `q` of a point's block is. -/
def row (t : Fin cfg0.N) (q : Fin 256) : Fin 16384 := ⟨256 * t.val + q.val, by have := point_lt t; omega⟩

/-- An index of the result by its two coordinates, the rows in blocks. -/
theorem row_ix (t : Fin cfg0.N) (x : Fin 256) (j : Fin 512) (a b : ℕ) (ha : a = t.val) (hb : b = 0) (k : (⟨2, ![16384, 512]⟩ : Shape).Idx)
    (h0 : (k 0).val = a * 256 + 1 * x.val) (h1 : (k 1).val = b * 512 + 1 * j.val) : ix2 (row t x) j = k := by
  subst ha hb
  refine funext fun i => Fin.ext ?_
  match i with
  | ⟨0, _⟩ => refine Eq.trans ?_ h0.symm; show 256 * t.val + x.val = _; omega
  | ⟨1, _⟩ => refine Eq.trans ?_ h1.symm; show j.val = _; omega

/-- The point that writes a row. -/
def pointOf (k : Fin 16384) : Fin cfg0.N := ⟨k.val / 256, by show _ < 64; omega⟩

/-- A row lies in its point's block. -/
theorem in_rows (off : Fin 2 → ℕ) (inb) (i : (⟨2, ![16384, 512]⟩ : Shape).Idx) (h0 : off 0 = (pointOf (i 0)).val * 256) (h1 : off 1 = 0 * 512) :
    i ∈ (Rect.unit (s := ⟨2, ![16384, 512]⟩) off ![256, 512] inb).set := by
  rw [Rect.mem_set_unit]
  have e0 : (i 0 : ℕ) < 16384 := (i 0).isLt
  have e1 : (i 1 : ℕ) < 512 := (i 1).isLt
  have e2 : (pointOf (i 0)).val = (i 0 : ℕ) / 256 := rfl
  intro a
  match a with
  | ⟨0, _⟩ => show off 0 ≤ (i 0 : ℕ) ∧ (i 0 : ℕ) < off 0 + 256; omega
  | ⟨1, _⟩ => show off 1 ≤ (i 1 : ℕ) ∧ (i 1 : ℕ) < off 1 + 512; omega

section Final

variable (m : (ℓ : Loc nD τ sig) → Buf (Elt Ideal) ℓ) (c : Dev nD) {Q K : ℕ → ℕ → ℝ} {W : ℕ → ℕ → EReal} {σ : ℕ → ℝ}
  (hs : ∀ h : Fin 8, m ((c : Thread nD τ).loc main_arg0) (ix1 h) = (σ h.val : EReal))
  (hq : ∀ (r : Fin 16896) (j : Fin 512), m ((c : Thread nD τ).loc main_arg1) (ix2 r j) = (Q r.val j.val : EReal))
  (hk : ∀ (r : Fin 16896) (j : Fin 128), m ((c : Thread nD τ).loc main_arg2) (ix2 r j) = (K r.val j.val : EReal))
  (hv : ∀ (j : Fin 128) (r : Fin 16896), m ((c : Thread nD τ).loc main_arg3) (ix2 j r) = W r.val j.val)
include hs hq hk hv

/-- What a point writes. -/
theorem flushed10_apply (t : Fin cfg0.N) (x : Fin 256) (j : Fin 512) : (dats m 0 c).flushed 10 t (ix2 x j) = winArr Q K W σ (ix2 (row t x) j) := by
  have ht := point_lt t
  have hb := block_apply (b := t.val / 32) (m := t.val % 32) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    VO0_10 (coord1 t) (Nat.mod_lt _ (by decide)) (fun h => (read0 m c t h).trans (hs h)) (fun q j => (read1 m c t q j).trans (hq _ j))
    (fun x j => (read2 m c t x j).trans (hk _ j)) (fun x j => (read3 m c t x j).trans (hk _ j)) (fun x j => (read4 m c t x j).trans (hk _ j))
    (fun x j => (read5 m c t x j).trans (hk _ j)) (fun j x => (read6 m c t j x).trans (hv j _)) (fun j x => (read7 m c t j x).trans (hv j _))
    (fun j x => (read8 m c t j x).trans (hv j _)) (fun j x => (read9 m c t j x).trans (hv j _)) ⟨j.val / 64, by omega⟩ ⟨j.val % 64, by omega⟩ x
  rw [mean_eq Q K W _ _ _ _ _ _ (Nat.mod_lt _ (by decide)) x.isLt] at hb
  rw [Value.flushed10_A]
  refine Eq.trans ?_ (hb.trans ?_)
  · have e : j = ⟨64 * (j.val / 64) + j.val % 64, by omega⟩ := Fin.ext (by show j.val = 64 * (j.val / 64) + j.val % 64; omega)
    rw [show (ix2 x j : S256x512.Idx) = ix2 x ⟨64 * (j.val / 64) + j.val % 64, by omega⟩ from congrArg (ix2 x) e]
    rfl
  · show _ = winOut Q K W σ (256 * t.val + x.val) j.val
    unfold winOut
    have h1 : (256 * t.val + x.val) / 8192 = t.val / 32 := by omega
    have h2 : (256 * t.val + x.val) % 8192 = 256 * (t.val % 32) + x.val := by omega
    rw [h1, h2]

/-- The array that the kernel leaves. -/
theorem final : (dats m 0 c).arrAt 10 cfg0.N = winArr Q K W σ := by
  refine (dats m 0 c).arrAt_eq_of_cover 10 _ (fun t _ => ?_) fun i => ?_
  · funext j
    rw [View.read_apply]
    exact (congrArg _ (block_ix (a := 256) (n := 512) j)).trans ((flushed10_apply m c hs hq hk hv t (j 0) (j 1)).trans
      (congrArg (winArr Q K W σ) (row_ix t (j 0) (j 1) _ _ (index10 t).1 (index10 t).2 _ rfl rfl)))
  · refine ⟨pointOf (i 0), flush0_10 _, ?_⟩
    show i ∈ ((View.whole main_v0).slice (win0_10.rect (pointOf (i 0)))).set
    rw [View.set_slice_whole]
    exact in_rows _ _ i (congrArg (· * 256) (index10 _).1) (congrArg (· * 512) (index10 _).2)

end Final

end Cert.Kernel4Ideal.Win

end
-- ==== Proof.RefWinTerms.lean ====
/- The windowed attention's reference as a chain of named parts: queries, keys, values, scores, softmax, average. -/
module

public import proofs.«01_k».proof.Proof.Gen.Reference4Ideal
public import proofs.«01_k».proof.Proof.Gen.Reference4Ideal.Run

@[expose] public section

set_option maxRecDepth 16384

noncomputable section

namespace Cert.Reference4Ideal.Win

open Idealize.ShloMosaic Idealize.ShloMosaic.TcCoe Cert.Reference4Ideal Cert.Reference4Ideal.Gen

variable {F : FTy → Type} [FloatOps F]

/-- The queries by batch, position, key head, head of it and column. -/
def qT (a1 : FVec F S16896x512 .bf16) : FVec F S2x8192x2x4x64 .f32 :=
  shapeCast _ (extractStridedSlice S16384x512 ![0, 0] (extf .f32 a1 bitsLt_bf16_f32) slices_S16896x512_S16384x512_0_0)
    shapeCasts_S16384x512_S2x8192x2x4x64

/-- The latent keys, or values, of a table by rows. -/
def lat (a : FVec F S16896x128 .f32) : FVec F S2x8192x2x64 .f32 :=
  shapeCast _ (extractStridedSlice S16384x128 ![0, 0] a slices_S16896x128_S16384x128_0_0) shapeCasts_S16384x128_S2x8192x2x64

/-- The context's keys, or values, of a table by rows. -/
def ctx (a : FVec F S16896x128 .f32) : FVec F S2x256x2x64 .f32 :=
  shapeCast _ (extractStridedSlice S512x128 ![16384, 0] a slices_S16896x128_S512x128_16384_0) shapeCasts_S512x128_S2x256x2x64

/-- The values by rows. -/
def vT (a3 : FVec F S128x16896 .bf16) : FVec F S16896x128 .f32 :=
  transpose S16896x128 [1, 0] (extf .f32 a3 bitsLt_bf16_f32) transposes_S128x16896_S16896x128_1_0

/-- Which latent key lies in a position's window. -/
def near : IVec S8192x8192 1 :=
  cmpi .sle (absi (subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))))
    (broadcastInDim S8192x8192 ![] bcast_S_S8192x8192 (constantI S_ 32 128#32))

/-- The scores of the latent keys, those outside the window at `-∞`. -/
def locT (q : FVec F S2x8192x2x4x64 .f32) (k : FVec F S2x8192x2x64 .f32) : FVec F S2x2x4x8192x8192 .f32 :=
  select (broadcastInDim S2x2x4x8192x8192 ![3, 4] bcast_S8192x8192_S2x2x4x8192x8192_3_4 near)
    (transpose S2x2x4x8192x8192 [0, 1, 4, 3, 2] (Host.dotGeneral dot_S2x8192x2x64_S2x8192x2x4x64_S2x2x8192x8192x4_3_4_1_13_02_02 none k q)
      transposes_S2x2x8192x8192x4_S2x2x4x8192x8192_0_1_4_3_2)
    (broadcastInDim S2x2x4x8192x8192 ![] bcast_S_S2x2x4x8192x8192 (id (constant S_ .f32 0xFF800000#32)))

/-- The scores of the context's keys. -/
def ctxT (q : FVec F S2x8192x2x4x64 .f32) (k : FVec F S2x256x2x64 .f32) : FVec F S2x2x4x8192x256 .f32 :=
  transpose S2x2x4x8192x256 [0, 1, 4, 3, 2] (Host.dotGeneral dot_S2x256x2x64_S2x8192x2x4x64_S2x2x256x8192x4_3_4_1_13_02_02 none k q)
    transposes_S2x2x256x8192x4_S2x2x4x8192x256_0_1_4_3_2

/-- The sinks against every position. -/
def sinkT (a0 : FVec F S8 .f32) : FVec F S2x2x4x8192x1 .f32 :=
  broadcastInDim S2x2x4x8192x1 ![0, 1, 2, 3, 4] bcast_S1x2x4x1x1_S2x2x4x8192x1_0_1_2_3_4
    (broadcastInDim S1x2x4x1x1 ![1, 2] bcast_S2x4_S1x2x4x1x1_1_2 (shapeCast _ a0 shapeCasts_S8_S2x4))

/-- All the scores of a position. -/
def logits (l : FVec F S2x2x4x8192x8192 .f32) (c : FVec F S2x2x4x8192x256 .f32) (s : FVec F S2x2x4x8192x1 .f32) : FVec F S2x2x4x8192x8449 .f32 :=
  concatenate S2x2x4x8192x8449 4 [⟨S2x2x4x8192x8192, l⟩, ⟨S2x2x4x8192x256, c⟩, ⟨S2x2x4x8192x1, s⟩]
    concatenates_S2x2x4x8192x8192_S2x2x4x8192x256_S2x2x4x8192x1_S2x2x4x8192x8449_d4

/-- A row statistic against every key. -/
def spread (x : FVec F S2x2x4x8192 .f32) : FVec F S2x2x4x8192x8449 .f32 :=
  broadcastInDim S2x2x4x8192x8449 ![0, 1, 2, 3, 4] bcast_S2x2x4x8192x1_S2x2x4x8192x8449_0_1_2_3_4
    (broadcastInDim S2x2x4x8192x1 ![0, 1, 2, 3] bcast_S2x2x4x8192_S2x2x4x8192x1_0_1_2_3 x)

/-- The row maximum. -/
def rowMax (x : FVec F S2x2x4x8192x8449 .f32) : FVec F S2x2x4x8192 .f32 :=
  maximumf (broadcastInDim S2x2x4x8192 ![] bcast_S_S2x2x4x8192 (constant S_ .f32 0xFF800000#32))
    (Host.reduce FloatOps.maximumf x (constant S_ .f32 0xFF800000#32) reducesTo_S2x2x4x8192x8449_S2x2x4x8192_d4 h_S_)

/-- The exponentials. -/
def expo (x : FVec F S2x2x4x8192x8449 .f32) : FVec F S2x2x4x8192x8449 .f32 := Host.exp (subf x (spread (rowMax x)))

/-- The softmax. -/
def soft (x : FVec F S2x2x4x8192x8449 .f32) : FVec F S2x2x4x8192x8449 .f32 :=
  Host.divf (expo x) (spread (Host.reduceAdd (expo x) (constant S_ .f32 0x00000000#32) reducesTo_S2x2x4x8192x8449_S2x2x4x8192_d4 h_S_))

/-- The latent values under their weights. -/
def outL (v : FVec F S2x8192x2x64 .f32) (p : FVec F S2x2x4x8192x8449 .f32) : FVec F S2x8192x2x4x64 .f32 :=
  transpose S2x8192x2x4x64 [0, 4, 1, 3, 2] (Host.dotGeneral dot_S2x8192x2x64_S2x2x4x8192x8192_S2x2x64x4x8192_1_4_3_23_02_01 none v
    (extractStridedSlice S2x2x4x8192x8192 ![0, 0, 0, 0, 0] p slices_S2x2x4x8192x8449_S2x2x4x8192x8192_0_0_0_0_0))
    transposes_S2x2x64x4x8192_S2x8192x2x4x64_0_4_1_3_2

/-- The context's values under their weights. -/
def outC (v : FVec F S2x256x2x64 .f32) (p : FVec F S2x2x4x8192x8449 .f32) : FVec F S2x8192x2x4x64 .f32 :=
  transpose S2x8192x2x4x64 [0, 4, 1, 3, 2] (Host.dotGeneral dot_S2x256x2x64_S2x2x4x8192x256_S2x2x64x4x8192_1_4_3_23_02_01 none v
    (extractStridedSlice S2x2x4x8192x256 ![0, 0, 0, 0, 8192] p slices_S2x2x4x8192x8449_S2x2x4x8192x256_0_0_0_0_8192))
    transposes_S2x2x64x4x8192_S2x8192x2x4x64_0_4_1_3_2

/-- The scores of the arguments. -/
def allT (a0 : FVec F S8 .f32) (a1 : FVec F S16896x512 .bf16) (a2 : FVec F S16896x128 .bf16) : FVec F S2x2x4x8192x8449 .f32 :=
  logits (locT (qT a1) (lat (extf .f32 a2 bitsLt_bf16_f32))) (ctxT (qT a1) (ctx (extf .f32 a2 bitsLt_bf16_f32))) (sinkT a0)

/-- The whole. -/
def result (a0 : FVec F S8 .f32) (a1 : FVec F S16896x512 .bf16) (a2 : FVec F S16896x128 .bf16) (a3 : FVec F S128x16896 .bf16) : FVec F S16384x512 .bf16 :=
  truncf .bf16 (shapeCast S16384x512 (addf (outL (lat (vT a3)) (soft (allT a0 a1 a2))) (outC (ctx (vT a3)) (soft (allT a0 a1 a2))))
    shapeCasts_S2x8192x2x4x64_S16384x512) bitsLt_bf16_f32

/-- The reference's result is that chain. -/
theorem result_eq (m : (ℓ : Loc nD τ sig) → Buf (Elt F) ℓ) (c : Dev nD) :
    Value.res_main_v51 m c = result (m ((c : Thread nD τ).loc main_arg0)) (m ((c : Thread nD τ).loc main_arg1))
      (m ((c : Thread nD τ).loc main_arg2)) (m ((c : Thread nD τ).loc main_arg3)) := by
  unfold Value.res_main_v51
  rfl

end Cert.Reference4Ideal.Win

end
-- ==== Proof.WinRef.lean ====
/- What the windowed attention's reference computes, entry by entry: the scores of all the keys, their softmax with the sink, the
   average of all the values. -/
module

public import proofs.«01_k».proof.Proof.RefWinTerms
public import proofs.«01_k».proof.Proof.WinMean
public import proofs.«01_k».proof.Proof.RefValue

@[expose] public section

set_option maxRecDepth 16384

noncomputable section

namespace Cert.Reference4Ideal.Win

open Idealize.ShloMosaic Idealize.ShloMosaic.ValueIdx Cert.Reference4Ideal Cert.Reference4Ideal.Gen Cert.WinAttn
open Cert.KernelIdeal.Attn (coe_sum)
open Cert.ReferenceIdeal.Attn (zero_word bot_word)

variable {Q K : ℕ → ℕ → ℝ} {W : ℕ → ℕ → EReal} {σ : ℕ → ℝ}

/-- The queries. -/
theorem qT_apply (a1 : FVec Ideal S16896x512 .bf16) (hq : ∀ (r : Fin 16896) (j : Fin 512), a1 (ix2 r j) = (Q r.val j.val : EReal))
    (b : Fin 2) (s : Fin 8192) (g : Fin 2) (n : Fin 4) (e : Fin 64) :
    qT a1 (ix5 b s g n e) = (Q (8192 * b.val + s.val) (64 * (4 * g.val + n.val) + e.val) : EReal) := by
  rw [← hq ⟨8192 * b.val + s.val, by omega⟩ ⟨64 * (4 * g.val + n.val) + e.val, by omega⟩]
  unfold qT
  refine (shapeCast_apply _ _ _ (ix2 (⟨8192 * b.val + s.val, by omega⟩ : Fin 16384) (⟨64 * (4 * g.val + n.val) + e.val, by omega⟩ : Fin 512)) ?_).trans ?_
  · rw [Shape.rowMajor_val_two, Shape.rowMajor_val_five]
    show (8192 * b.val + s.val) * 512 + (64 * (4 * g.val + n.val) + e.val) = (((b.val * 8192 + s.val) * 2 + g.val) * 4 + n.val) * 64 + e.val
    omega
  refine congrArg a1 (funext fun a => Fin.ext ?_)
  match a with
  | ⟨0, _⟩ => exact Nat.zero_add _
  | ⟨1, _⟩ => exact Nat.zero_add _

section Rows
variable (a : FVec Ideal S16896x128 .f32) (ha : ∀ (r : Fin 16896) (j : Fin 128), a (ix2 r j) = W r.val j.val)
include ha

/-- The latent rows. -/
theorem lat_apply (b : Fin 2) (κ : Fin 8192) (g : Fin 2) (e : Fin 64) :
    lat a (ix4 b κ g e) = W (8192 * b.val + κ.val) (64 * g.val + e.val) := by
  rw [← ha ⟨8192 * b.val + κ.val, by omega⟩ ⟨64 * g.val + e.val, by omega⟩]
  unfold lat
  refine (shapeCast_apply _ _ _ (ix2 (⟨8192 * b.val + κ.val, by omega⟩ : Fin 16384) (⟨64 * g.val + e.val, by omega⟩ : Fin 128)) ?_).trans ?_
  · rw [Shape.rowMajor_val_two, Shape.rowMajor_val_four]
    show (8192 * b.val + κ.val) * 128 + (64 * g.val + e.val) = ((b.val * 8192 + κ.val) * 2 + g.val) * 64 + e.val
    omega
  refine congrArg a (funext fun x => Fin.ext ?_)
  match x with
  | ⟨0, _⟩ => exact Nat.zero_add _
  | ⟨1, _⟩ => exact Nat.zero_add _

/-- The context's rows. -/
theorem ctx_apply (b : Fin 2) (κ : Fin 256) (g : Fin 2) (e : Fin 64) :
    ctx a (ix4 b κ g e) = W (16384 + 256 * b.val + κ.val) (64 * g.val + e.val) := by
  rw [← ha ⟨16384 + 256 * b.val + κ.val, by omega⟩ ⟨64 * g.val + e.val, by omega⟩]
  unfold ctx
  refine (shapeCast_apply _ _ _ (ix2 (⟨256 * b.val + κ.val, by omega⟩ : Fin 512) (⟨64 * g.val + e.val, by omega⟩ : Fin 128)) ?_).trans ?_
  · rw [Shape.rowMajor_val_two, Shape.rowMajor_val_four]
    show (256 * b.val + κ.val) * 128 + (64 * g.val + e.val) = ((b.val * 256 + κ.val) * 2 + g.val) * 64 + e.val
    omega
  refine congrArg a (funext fun x => Fin.ext ?_)
  match x with
  | ⟨0, _⟩ => exact (Nat.add_assoc _ _ _).symm
  | ⟨1, _⟩ => exact Nat.zero_add _

end Rows

/-- The values by rows. -/
theorem vT_apply (a3 : FVec Ideal S128x16896 .bf16) (hv : ∀ (j : Fin 128) (r : Fin 16896), a3 (ix2 j r) = W r.val j.val)
    (r : Fin 16896) (j : Fin 128) : vT a3 (ix2 r j) = W r.val j.val := by
  unfold vT
  exact (transpose_ix2_apply _ _ r j).trans (hv j r)

/-- A distance compared, at an index. -/
theorem dist_apply {s : Shape} (x y z : IVec s 32) (i : s.Idx) :
    cmpi .sle (absi (subi x y)) z i = IntOp.cmpi .sle (IntOp.absi (IntOp.subi (x i) (y i))) (z i) := rfl

/-- The window's mask. -/
theorem near_apply (s κ : Fin 8192) : near (ix2 s κ) = if s.val ≤ κ.val + 128 ∧ κ.val ≤ s.val + 128 then 1#1 else 0#1 := by
  have e1 : broadcastInDim S8192x8192 ![0, 1] bcast_S8192x1_S8192x8192_0_1 (broadcastInDim S8192x1 ![0] bcast_S8192_S8192x1_0 (iotaInDim S8192 32 0)) (ix2 s κ)
      = BitVec.ofNat 32 s.val := by
    refine (broadcastInDim_apply _ _ _ (ix2 s κ) (ix2 s (0 : Fin 1)) fun a => ?_).trans ?_
    · match a with | ⟨0, _⟩ => rfl | ⟨1, _⟩ => rfl
    refine (broadcastInDim_apply _ _ _ (ix2 s (0 : Fin 1)) (ix1 s) fun a => ?_).trans ?_
    · match a with | ⟨0, _⟩ => rfl
    rfl
  have e2 : broadcastInDim S8192x8192 ![0, 1] bcast_S1x8192_S8192x8192_0_1 (broadcastInDim S1x8192 ![1] bcast_S8192_S1x8192_1 (iotaInDim S8192 32 0)) (ix2 s κ)
      = BitVec.ofNat 32 κ.val := by
    refine (broadcastInDim_apply _ _ _ (ix2 s κ) (ix2 (0 : Fin 1) κ) fun a => ?_).trans ?_
    · match a with | ⟨0, _⟩ => rfl | ⟨1, _⟩ => rfl
    refine (broadcastInDim_apply _ _ _ (ix2 (0 : Fin 1) κ) (ix1 κ) fun a => ?_).trans ?_
    · match a with | ⟨0, _⟩ => rfl
    rfl
  have e3 : broadcastInDim S8192x8192 ![] bcast_S_S8192x8192 (constantI S_ 32 128#32) (ix2 s κ) = 128#32 := broadcastInDim_scalar_apply _ _ _
  rw [← near_bit s.val κ.val s.isLt κ.isLt]
  unfold near
  rw [dist_apply, e1, e2, e3]

section Scores
variable (q : FVec Ideal S2x8192x2x4x64 .f32) (b : Fin 2) (g : Fin 2) (n : Fin 4) (s : Fin 8192)
  (hq : ∀ e : Fin 64, q (ix5 b s g n e) = (Q (8192 * b.val + s.val) (64 * (4 * g.val + n.val) + e.val) : EReal))
include hq

/-- A sum of products is a score. -/
theorem sum_sc (r : ℕ) (f : Fin 64 → EReal) (hf : ∀ e : Fin 64, f e = (K r (64 * g.val + e.val) : EReal)) :
    (∑ e : Fin 64, f e * q (ix5 b s g n e) : EReal) = (sc Q K (8192 * b.val + s.val) r (4 * g.val + n.val) : EReal) := by
  unfold sc
  rw [show (4 * g.val + n.val) / 4 = g.val by omega,
    ← Fin.sum_univ_eq_sum_range (fun e => K r (64 * g.val + e) * Q (8192 * b.val + s.val) (64 * (4 * g.val + n.val) + e)), coe_sum]
  exact Finset.sum_congr rfl fun e _ => by rw [hf, hq, EReal.coe_mul]

/-- A latent key's score, or `⊥`. -/
theorem locT_weigh (k : FVec Ideal S2x8192x2x64 .f32) (κ : Fin 8192) (hk : ∀ e : Fin 64, k (ix4 b κ g e) = (K (8192 * b.val + κ.val) (64 * g.val + e.val) : EReal)) :
    Weigh (locT q k (ix5 b g n s κ)) (wAll Q K b.val s.val (4 * g.val + n.val) κ.val) := by
  have hm : broadcastInDim S2x2x4x8192x8192 ![3, 4] bcast_S8192x8192_S2x2x4x8192x8192_3_4 near (ix5 b g n s κ)
      = if s.val ≤ κ.val + 128 ∧ κ.val ≤ s.val + 128 then 1#1 else 0#1 := by
    refine (broadcastInDim_apply _ _ _ (ix5 b g n s κ) (ix2 s κ) fun a => ?_).trans (near_apply s κ)
    match a with | ⟨0, _⟩ => rfl | ⟨1, _⟩ => rfl
  have hd : transpose S2x2x4x8192x8192 [0, 1, 4, 3, 2] (Host.dotGeneral dot_S2x8192x2x64_S2x8192x2x4x64_S2x2x8192x8192x4_3_4_1_13_02_02 none k q)
      transposes_S2x2x8192x8192x4_S2x2x4x8192x8192_0_1_4_3_2 (ix5 b g n s κ) = (sc Q K (8192 * b.val + s.val) (8192 * b.val + κ.val) (4 * g.val + n.val) : EReal) := by
    refine (transpose_apply _ _ _ _ (ix5 b g κ s n) fun a => ?_).trans ?_
    · match a with | ⟨0, _⟩ => rfl | ⟨1, _⟩ => rfl | ⟨2, _⟩ => rfl | ⟨3, _⟩ => rfl | ⟨4, _⟩ => rfl
    refine Eq.trans ?_ (sum_sc q b g n s hq _ (fun e => k (ix4 b κ g e)) hk)
    show FloatOps.dotGeneral _ none _ k q _ = _
    rw [Ideal.dotGeneral_apply, ← Equiv.sum_comp (contrEquiv1 dot_S2x8192x2x64_S2x8192x2x4x64_S2x2x8192x8192x4_3_4_1_13_02_02 64 rfl rfl).symm]
    refine Finset.sum_congr rfl fun e _ => congrArg₂ (· * ·) (congrArg k (funext fun a => ?_)) (congrArg q (funext fun a => ?_))
    · match a with | ⟨0, _⟩ => rfl | ⟨1, _⟩ => rfl | ⟨2, _⟩ => rfl | ⟨3, _⟩ => rfl
    · match a with | ⟨0, _⟩ => rfl | ⟨1, _⟩ => rfl | ⟨2, _⟩ => rfl | ⟨3, _⟩ => rfl | ⟨4, _⟩ => rfl
  have hb : broadcastInDim S2x2x4x8192x8192 ![] bcast_S_S2x2x4x8192x8192 (id (constant S_ .f32 0xFF800000#32) : FVec Ideal S_ .f32) (ix5 b g n s κ) = (⊥ : EReal) :=
    (broadcastInDim_scalar_apply _ _ _).trans bot_word
  have hκ := κ.isLt
  unfold locT wAll
  rw [select_apply, hm]
  by_cases hc : s.val ≤ κ.val + 128 ∧ κ.val ≤ s.val + 128
  · rw [if_pos hc, if_pos (show sees s.val κ.val from Or.inr hc)]
    refine Or.inr ⟨_, hd, ?_⟩
    rw [rowAt, if_pos hκ]
  · rw [if_neg hc, if_neg (show ¬ sees s.val κ.val from fun h => h.elim (fun h => by omega) hc)]
    exact Or.inl ⟨hb, rfl⟩

/-- A context key's score. -/
theorem ctxT_weigh (k : FVec Ideal S2x256x2x64 .f32) (κ : Fin 256) (hk : ∀ e : Fin 64, k (ix4 b κ g e) = (K (16384 + 256 * b.val + κ.val) (64 * g.val + e.val) : EReal)) :
    Weigh (ctxT q k (ix5 b g n s κ)) (wAll Q K b.val s.val (4 * g.val + n.val) (8192 + κ.val)) := by
  have hd : ctxT q k (ix5 b g n s κ) = (sc Q K (8192 * b.val + s.val) (16384 + 256 * b.val + κ.val) (4 * g.val + n.val) : EReal) := by
    unfold ctxT
    refine (transpose_apply _ _ _ _ (ix5 b g κ s n) fun a => ?_).trans ?_
    · match a with | ⟨0, _⟩ => rfl | ⟨1, _⟩ => rfl | ⟨2, _⟩ => rfl | ⟨3, _⟩ => rfl | ⟨4, _⟩ => rfl
    refine Eq.trans ?_ (sum_sc q b g n s hq _ (fun e => k (ix4 b κ g e)) hk)
    show FloatOps.dotGeneral _ none _ k q _ = _
    rw [Ideal.dotGeneral_apply, ← Equiv.sum_comp (contrEquiv1 dot_S2x256x2x64_S2x8192x2x4x64_S2x2x256x8192x4_3_4_1_13_02_02 64 rfl rfl).symm]
    refine Finset.sum_congr rfl fun e _ => congrArg₂ (· * ·) (congrArg k (funext fun a => ?_)) (congrArg q (funext fun a => ?_))
    · match a with | ⟨0, _⟩ => rfl | ⟨1, _⟩ => rfl | ⟨2, _⟩ => rfl | ⟨3, _⟩ => rfl
    · match a with | ⟨0, _⟩ => rfl | ⟨1, _⟩ => rfl | ⟨2, _⟩ => rfl | ⟨3, _⟩ => rfl | ⟨4, _⟩ => rfl
  unfold wAll
  rw [if_pos (show sees s.val (8192 + κ.val) from Or.inl (by omega)), rowAt, if_neg (by omega), show 8192 + κ.val - 8192 = κ.val by omega]
  exact Or.inr ⟨_, hd, rfl⟩

end Scores

/-- The sinks. -/
theorem sinkT_apply (a0 : FVec Ideal S8 .f32) (hs : ∀ h : Fin 8, a0 (ix1 h) = (σ h.val : EReal)) (b : Fin 2) (g : Fin 2) (n : Fin 4) (s : Fin 8192) :
    sinkT a0 (ix5 b g n s (0 : Fin 1)) = (σ (4 * g.val + n.val) : EReal) := by
  unfold sinkT
  refine (broadcastInDim_apply _ _ _ (ix5 b g n s (0 : Fin 1)) (ix5 (0 : Fin 1) g n (0 : Fin 1) (0 : Fin 1)) fun a => ?_).trans ?_
  · match a with | ⟨0, _⟩ => rfl | ⟨1, _⟩ => rfl | ⟨2, _⟩ => rfl | ⟨3, _⟩ => rfl | ⟨4, _⟩ => rfl
  refine (broadcastInDim_apply _ _ _ (ix5 (0 : Fin 1) g n (0 : Fin 1) (0 : Fin 1)) (ix2 g n) fun a => ?_).trans ?_
  · match a with | ⟨0, _⟩ => rfl | ⟨1, _⟩ => rfl
  rw [← hs ⟨4 * g.val + n.val, by omega⟩]
  refine shapeCast_apply _ _ _ (ix1 (⟨4 * g.val + n.val, by omega⟩ : Fin 8)) ?_
  rw [Shape.rowMajor_val_two, Shape.rowMajor_val_one]
  show 4 * g.val + n.val = g.val * 4 + n.val
  omega

/-- The weights of all of a position's scores, the sink's last. -/
def wLog (Q K : ℕ → ℕ → ℝ) (σ : ℕ → ℝ) (b s h κ : ℕ) : ℝ := if κ < 8448 then wAll Q K b s h κ else Real.exp (σ h)

/-- All the scores of a position. -/
theorem allT_weigh (a0 : FVec Ideal S8 .f32) (hs : ∀ h : Fin 8, a0 (ix1 h) = (σ h.val : EReal))
    (a1 : FVec Ideal S16896x512 .bf16) (hq : ∀ (r : Fin 16896) (j : Fin 512), a1 (ix2 r j) = (Q r.val j.val : EReal))
    (a2 : FVec Ideal S16896x128 .bf16) (hk : ∀ (r : Fin 16896) (j : Fin 128), a2 (ix2 r j) = (K r.val j.val : EReal))
    (b : Fin 2) (g : Fin 2) (n : Fin 4) (s : Fin 8192) (κ : Fin 8449) :
    Weigh (allT a0 a1 a2 (ix5 b g n s κ)) (wLog Q K σ b.val s.val (4 * g.val + n.val) κ.val) := by
  unfold allT logits wLog
  have hκ := κ.isLt
  by_cases c0 : κ.val < 8192
  · rw [if_pos (by omega), concatenate_apply_piece (t := S2x2x4x8192x8449) _ _ _ (ix5 b g n s κ) 0 (by show 0 < 3; decide) S2x2x4x8192x8192 _ rfl rfl 0 rfl (ix5 b g n s (⟨κ.val, c0⟩ : Fin 8192)) (fun a ha => by
      match a with | ⟨0, _⟩ => rfl | ⟨1, _⟩ => rfl | ⟨2, _⟩ => rfl | ⟨3, _⟩ => rfl | ⟨4, _⟩ => exact absurd rfl ha) (Nat.zero_add _)]
    exact locT_weigh _ b g n s (fun e => qT_apply a1 hq b s g n e) _ ⟨κ.val, c0⟩ fun e => lat_apply (W := fun r j => (K r j : EReal)) _ hk b _ g e
  by_cases c1 : κ.val < 8448
  · rw [if_pos c1, concatenate_apply_piece (t := S2x2x4x8192x8449) _ _ _ (ix5 b g n s κ) 1 (by show 1 < 3; decide) S2x2x4x8192x256 _ rfl rfl 8192 rfl (ix5 b g n s (⟨κ.val - 8192, by omega⟩ : Fin 256)) (fun a ha => by
      match a with | ⟨0, _⟩ => rfl | ⟨1, _⟩ => rfl | ⟨2, _⟩ => rfl | ⟨3, _⟩ => rfl | ⟨4, _⟩ => exact absurd rfl ha) (by show 8192 + (κ.val - 8192) = κ.val; omega)]
    have := ctxT_weigh (qT a1) b g n s (fun e => qT_apply a1 hq b s g n e) (ctx (extf .f32 a2 bitsLt_bf16_f32)) ⟨κ.val - 8192, by omega⟩ fun e => ctx_apply (W := fun r j => (K r j : EReal)) _ hk b _ g e
    rwa [show 8192 + (κ.val - 8192) = κ.val by omega] at this
  · rw [if_neg c1, concatenate_apply_piece (t := S2x2x4x8192x8449) _ _ _ (ix5 b g n s κ) 2 (by show 2 < 3; decide) S2x2x4x8192x1 _ rfl rfl 8448 rfl (ix5 b g n s (0 : Fin 1)) (fun a ha => by
      match a with | ⟨0, _⟩ => rfl | ⟨1, _⟩ => rfl | ⟨2, _⟩ => rfl | ⟨3, _⟩ => rfl | ⟨4, _⟩ => exact absurd rfl ha) (by show 8448 + 0 = κ.val; omega)]
    exact Or.inr ⟨_, sinkT_apply a0 hs b g n s, rfl⟩

/-- Folding the last of five axes. -/
theorem red5 : S2x2x4x8192x8449.Reduces [4] S2x2x4x8192 := by decide

theorem lift5 (b : Fin 2) (g : Fin 2) (n : Fin 4) (s : Fin 8192) (κ : Fin 8449) : red5.lift (ix4 b g n s) κ = ix5 b g n s κ := by
  funext a
  match a with | ⟨0, _⟩ => rfl | ⟨1, _⟩ => rfl | ⟨2, _⟩ => rfl | ⟨3, _⟩ => rfl | ⟨4, _⟩ => rfl

/-- A sum over the scores. -/
theorem sum5 (x : FVec Ideal S2x2x4x8192x8449 .f32) (b : Fin 2) (g : Fin 2) (n : Fin 4) (s : Fin 8192) :
    Host.reduceAdd x (constant S_ .f32 0x00000000#32) reducesTo_S2x2x4x8192x8449_S2x2x4x8192_d4 h_S_ (ix4 b g n s)
      = (∑ κ : Fin 8449, x (ix5 b g n s κ) : EReal) := by
  rw [hostReduceAdd_apply, Ideal.hostReduceAdd_single _ red5, show (constant S_ .f32 0x00000000#32 : FVec Ideal S_ .f32) (Shape.Idx.first h_S_) = (0 : EReal) from zero_word, zero_add]
  exact Finset.sum_congr rfl fun κ _ => congrArg x (lift5 b g n s κ)

/-- A row statistic repeated over the scores. -/
theorem spread_apply (x : FVec Ideal S2x2x4x8192 .f32) (b : Fin 2) (g : Fin 2) (n : Fin 4) (s : Fin 8192) (κ : Fin 8449) :
    spread x (ix5 b g n s κ) = x (ix4 b g n s) := by
  unfold spread
  refine (broadcastInDim_apply _ _ _ (ix5 b g n s κ) (ix5 b g n s (0 : Fin 1)) fun a => ?_).trans ?_
  · match a with | ⟨0, _⟩ => rfl | ⟨1, _⟩ => rfl | ⟨2, _⟩ => rfl | ⟨3, _⟩ => rfl | ⟨4, _⟩ => rfl
  refine broadcastInDim_apply _ _ _ (ix5 b g n s (0 : Fin 1)) (ix4 b g n s) fun a => ?_
  match a with | ⟨0, _⟩ => rfl | ⟨1, _⟩ => rfl | ⟨2, _⟩ => rfl | ⟨3, _⟩ => rfl

section Soft
variable (x : FVec Ideal S2x2x4x8192x8449 .f32) (b : Fin 2) (g : Fin 2) (n : Fin 4) (s : Fin 8192) (w : ℕ → ℝ)
  (hx : ∀ κ : Fin 8449, Weigh (x (ix5 b g n s κ)) (w κ.val)) (hl : 0 < w 8448)
include hx hl

/-- The row maximum is real: the sink is. -/
theorem rowMax_real : ∃ r : ℝ, rowMax x (ix4 b g n s) = (r : EReal) := by
  have e : rowMax x (ix4 b g n s) = (Finset.univ.fold max ⊥ (fun κ : Fin 8449 => x (ix5 b g n s κ)) : EReal) := by
    unfold rowMax
    rw [maximumf_apply, Host.reduce_eq_fold_single FloatOps.maximumf x _ _ red5]
    rw [show (broadcastInDim S2x2x4x8192 ![] bcast_S_S2x2x4x8192 (constant S_ .f32 0xFF800000#32) : FVec Ideal S2x2x4x8192 .f32) (ix4 b g n s) = (⊥ : EReal) from
      (broadcastInDim_scalar_apply _ _ _).trans bot_word,
      show (constant S_ .f32 0xFF800000#32 : FVec Ideal S_ .f32) (Shape.Idx.first h_S_) = (⊥ : EReal) from bot_word]
    refine (max_eq_right bot_le).trans ?_
    refine congrArg (Finset.univ.fold max (⊥ : EReal)) (funext fun κ => congrArg x (lift5 b g n s κ))
  rcases fold_weigh Finset.univ (fun κ : Fin 8449 => x (ix5 b g n s κ)) fun κ => (hx κ).bot_or with h0 | ⟨r, hr⟩
  · exfalso
    rcases hx ⟨8448, by decide⟩ with ⟨_, h⟩ | ⟨f, h, _⟩
    · exact hl.ne' h
    · have h1 : (f : EReal) ≤ Finset.univ.fold max ⊥ (fun κ : Fin 8449 => x (ix5 b g n s κ)) :=
        Finset.le_fold_max _ |>.2 (Or.inr ⟨⟨8448, by decide⟩, Finset.mem_univ _, h.ge⟩)
      rw [h0] at h1
      exact EReal.coe_ne_bot f (le_bot_iff.1 h1)
  · exact ⟨r, e.trans hr⟩

/-- The softmax is the share of the weights. -/
theorem soft_apply (κ : Fin 8449) : soft x (ix5 b g n s κ) = ((w κ.val / ∑ j ∈ Finset.range 8449, w j : ℝ) : EReal) := by
  obtain ⟨μ, hμ⟩ := rowMax_real x b g n s w hx hl
  have he : ∀ κ : Fin 8449, expo x (ix5 b g n s κ) = ((w κ.val * Real.exp (-μ) : ℝ) : EReal) := fun κ => by
    show Ideal.exp (subf x (spread (rowMax x)) (ix5 b g n s κ)) = _
    rw [subf_apply, spread_apply, hμ]
    exact (hx κ).exp_sub μ
  have hs : (∑ j : Fin 8449, expo x (ix5 b g n s j) : EReal) = (((∑ j ∈ Finset.range 8449, w j) * Real.exp (-μ) : ℝ) : EReal) := by
    rw [Finset.sum_congr rfl fun j _ => he j, ← coe_sum, Finset.sum_mul, Fin.sum_univ_eq_sum_range (fun j => w j * Real.exp (-μ))]
  have h0 : 0 < ∑ j ∈ Finset.range 8449, w j :=
    Finset.sum_pos' (fun j hj => (hx ⟨j, Finset.mem_range.1 hj⟩).nonneg) ⟨8448, by simp, hl⟩
  have hm := Real.exp_pos (-μ)
  show Ideal.div (expo x (ix5 b g n s κ)) (spread (Host.reduceAdd (expo x) (constant S_ .f32 0x00000000#32) reducesTo_S2x2x4x8192x8449_S2x2x4x8192_d4 h_S_) (ix5 b g n s κ)) = _
  rw [spread_apply, sum5, hs, he κ, Ideal.div_coe (mul_pos h0 hm).ne', ← EReal.coe_mul, mul_one_div]
  exact congrArg (fun r : ℝ => (r : EReal)) (mul_div_mul_right _ _ hm.ne')

end Soft

/-- The latent values' part. -/
theorem outL_apply (v : FVec Ideal S2x8192x2x64 .f32) (p : FVec Ideal S2x2x4x8192x8449 .f32) (b : Fin 2) (s : Fin 8192) (g : Fin 2) (n : Fin 4) (d : Fin 64) :
    outL v p (ix5 b s g n d) = (∑ κ : Fin 8192, v (ix4 b κ g d) * p (ix5 b g n s (⟨κ.val, by omega⟩ : Fin 8449)) : EReal) := by
  unfold outL
  refine (transpose_apply _ _ _ _ (ix5 b g d n s) fun a => ?_).trans ?_
  · match a with | ⟨0, _⟩ => rfl | ⟨1, _⟩ => rfl | ⟨2, _⟩ => rfl | ⟨3, _⟩ => rfl | ⟨4, _⟩ => rfl
  show FloatOps.dotGeneral _ none _ v _ _ = _
  rw [Ideal.dotGeneral_apply, ← Equiv.sum_comp (contrEquiv1 dot_S2x8192x2x64_S2x2x4x8192x8192_S2x2x64x4x8192_1_4_3_23_02_01 8192 rfl rfl).symm]
  refine Finset.sum_congr rfl fun e _ => congrArg₂ (· * ·) (congrArg v (funext fun a => ?_)) (congrArg p (funext fun a => Fin.ext ?_))
  · match a with | ⟨0, _⟩ => rfl | ⟨1, _⟩ => rfl | ⟨2, _⟩ => rfl | ⟨3, _⟩ => rfl
  · match a with
    | ⟨0, _⟩ => exact Nat.zero_add _
    | ⟨1, _⟩ => exact Nat.zero_add _
    | ⟨2, _⟩ => exact Nat.zero_add _
    | ⟨3, _⟩ => exact Nat.zero_add _
    | ⟨4, _⟩ => exact Nat.zero_add _

/-- The context values' part. -/
theorem outC_apply (v : FVec Ideal S2x256x2x64 .f32) (p : FVec Ideal S2x2x4x8192x8449 .f32) (b : Fin 2) (s : Fin 8192) (g : Fin 2) (n : Fin 4) (d : Fin 64) :
    outC v p (ix5 b s g n d) = (∑ κ : Fin 256, v (ix4 b κ g d) * p (ix5 b g n s (⟨8192 + κ.val, by omega⟩ : Fin 8449)) : EReal) := by
  unfold outC
  refine (transpose_apply _ _ _ _ (ix5 b g d n s) fun a => ?_).trans ?_
  · match a with | ⟨0, _⟩ => rfl | ⟨1, _⟩ => rfl | ⟨2, _⟩ => rfl | ⟨3, _⟩ => rfl | ⟨4, _⟩ => rfl
  show FloatOps.dotGeneral _ none _ v _ _ = _
  rw [Ideal.dotGeneral_apply, ← Equiv.sum_comp (contrEquiv1 dot_S2x256x2x64_S2x2x4x8192x256_S2x2x64x4x8192_1_4_3_23_02_01 256 rfl rfl).symm]
  refine Finset.sum_congr rfl fun e _ => congrArg₂ (· * ·) (congrArg v (funext fun a => ?_)) (congrArg p (funext fun a => Fin.ext ?_))
  · match a with | ⟨0, _⟩ => rfl | ⟨1, _⟩ => rfl | ⟨2, _⟩ => rfl | ⟨3, _⟩ => rfl
  · match a with
    | ⟨0, _⟩ => exact Nat.zero_add _
    | ⟨1, _⟩ => exact Nat.zero_add _
    | ⟨2, _⟩ => exact Nat.zero_add _
    | ⟨3, _⟩ => exact Nat.zero_add _
    | ⟨4, _⟩ => rfl

/-- The shares of the values are their average. -/
theorem mean_split (w : ℕ → ℝ) (v : ℕ → EReal) (u : ℕ → ℝ) (τ : ℝ) (h : ∀ κ < 8448, u κ = w κ) (hu : u 8448 = Real.exp τ) :
    (∑ κ ∈ Finset.range 8192, v κ * ((u κ / ∑ j ∈ Finset.range 8449, u j : ℝ) : EReal)) + ∑ κ ∈ Finset.range 256, v (8192 + κ) * ((u (8192 + κ) / ∑ j ∈ Finset.range 8449, u j : ℝ) : EReal)
      = mean 8448 w v τ := by
  have e : ∑ j ∈ Finset.range 8449, u j = ∑ j ∈ Finset.range 8448, w j + Real.exp τ := by
    rw [Finset.sum_range_succ, hu]
    exact congrArg (· + _) (Finset.sum_congr rfl fun κ hκ => h κ (Finset.mem_range.1 hκ))
  unfold mean
  rw [e, ← Finset.sum_range_add (fun κ => v κ * ((u κ / (∑ j ∈ Finset.range 8448, w j + Real.exp τ) : ℝ) : EReal)) 8192 256]
  refine Finset.sum_congr rfl fun κ hκ => ?_
  rw [h κ (Finset.mem_range.1 hκ)]

/-- Entry `(r, j)` of the reference's result. -/
theorem ref_apply (a0 : FVec Ideal S8 .f32) (hs : ∀ h : Fin 8, a0 (ix1 h) = (σ h.val : EReal))
    (a1 : FVec Ideal S16896x512 .bf16) (hq : ∀ (r : Fin 16896) (j : Fin 512), a1 (ix2 r j) = (Q r.val j.val : EReal))
    (a2 : FVec Ideal S16896x128 .bf16) (hk : ∀ (r : Fin 16896) (j : Fin 128), a2 (ix2 r j) = (K r.val j.val : EReal))
    (a3 : FVec Ideal S128x16896 .bf16) (hv : ∀ (j : Fin 128) (r : Fin 16896), a3 (ix2 j r) = W r.val j.val) (r : Fin 16384) (j : Fin 512) :
    result a0 a1 a2 a3 (ix2 r j) = winOut Q K W σ r.val j.val := by
  obtain ⟨b, hb⟩ : ∃ b : Fin 2, b.val = r.val / 8192 := ⟨⟨r.val / 8192, by omega⟩, rfl⟩
  obtain ⟨s, hs'⟩ : ∃ s : Fin 8192, s.val = r.val % 8192 := ⟨⟨r.val % 8192, by omega⟩, rfl⟩
  obtain ⟨g, hg⟩ : ∃ g : Fin 2, g.val = j.val / 64 / 4 := ⟨⟨j.val / 64 / 4, by omega⟩, rfl⟩
  obtain ⟨n, hn⟩ : ∃ n : Fin 4, n.val = j.val / 64 % 4 := ⟨⟨j.val / 64 % 4, by omega⟩, rfl⟩
  obtain ⟨d, hd⟩ : ∃ d : Fin 64, d.val = j.val % 64 := ⟨⟨j.val % 64, by omega⟩, rfl⟩
  have hh : j.val / 64 = 4 * g.val + n.val := by omega
  have hp := fun κ : Fin 8449 => soft_apply (allT a0 a1 a2) b g n s (wLog Q K σ b.val s.val (4 * g.val + n.val))
    (fun κ => allT_weigh a0 hs a1 hq a2 hk b g n s κ) (by unfold wLog; rw [if_neg (by omega)]; exact Real.exp_pos _) κ
  have hvt := vT_apply a3 hv
  unfold result winOut
  rw [truncf_apply, ← hb, ← hs', ← hg, ← hd, hh]
  refine (shapeCast_apply _ _ _ (ix5 b s g n d) ?_).trans ?_
  · rw [Shape.rowMajor_val_two, Shape.rowMajor_val_five]
    show (((b.val * 8192 + s.val) * 2 + g.val) * 4 + n.val) * 64 + d.val = r.val * 512 + j.val
    omega
  rw [addf_apply, outL_apply, outC_apply, ← mean_split (wAll Q K b.val s.val (4 * g.val + n.val)) (fun κ => W (rowAt b.val κ) (64 * g.val + d.val))
    (wLog Q K σ b.val s.val (4 * g.val + n.val)) (σ (4 * g.val + n.val)) (fun κ hκ => by unfold wLog; rw [if_pos hκ]) (by unfold wLog; rw [if_neg (by omega)]),
    Finset.sum_range (n := 8192), Finset.sum_range (n := 256)]
  refine congrArg₂ (· + ·) (Finset.sum_congr rfl fun κ _ => ?_) (Finset.sum_congr rfl fun κ _ => ?_)
  · rw [hp, lat_apply _ hvt, rowAt, if_pos κ.isLt]
  · rw [hp, ctx_apply _ hvt, rowAt, if_neg (by omega), show 8192 + κ.val - 8192 = κ.val by omega]

end Cert.Reference4Ideal.Win

end
-- ==== Proof.Finite4.lean ====
/- The windowed attention's precondition: where it holds, every sink, query and key is real. -/
module

public import proofs.«01_k».proof.Pre_finite4
public import proofs.«01_k».proof.Proof.Finite

@[expose] public section

set_option maxRecDepth 16384

noncomputable section

namespace Cert.Pre_finite4.Win

open Idealize.ShloMosaic Idealize.ShloMosaic.ValueIdx Cert.Pre_finite4
open Cert.Pre_finite.Attn (real_of_all)

/-- The precondition's arrays are real. -/
theorem finite_args [Facts] (a0 : FVec Ideal S8 .f32) (a1 : FVec Ideal S16896x512 .bf16) (a2 : FVec Ideal S16896x128 .bf16) (a3 : FVec Ideal S128x16896 .bf16)
    (h : fn (F := Ideal) a0 a1 a2 a3 ix0 = 1#1) :
    (∀ i, ∃ r : ℝ, a0 i = (r : EReal)) ∧ (∀ i, ∃ r : ℝ, a1 i = (r : EReal)) ∧ (∀ i, ∃ r : ℝ, a2 i = (r : EReal)) := by
  unfold fn at h
  obtain ⟨h, h2⟩ := IntOp.andi_eq_one.1 h
  obtain ⟨h0, h1⟩ := IntOp.andi_eq_one.1 h
  exact ⟨real_of_all a0 _ _ _ _ h0, real_of_all (extf .f32 a1 (by decide)) _ _ _ _ h1, real_of_all (extf .f32 a2 (by decide)) _ _ _ _ h2⟩

end Cert.Pre_finite4.Win

end
-- ==== Proof.Algebraic4.lean ====
/- The windowed attention's two programs return the same array. -/
module

public import proofs.«01_k».proof.Defs
public import proofs.«01_k».proof.Proof.WinArray
public import proofs.«01_k».proof.Proof.WinRef
public import proofs.«01_k».proof.Proof.Finite4
public import proofs.«01_k».proof.Proof.Algebraic
public import proofs.«01_k».proof.Proof.Gen.Pre_finite4

@[expose] public section

set_option maxRecDepth 16384

noncomputable section

open Idealize.ShloMosaic Idealize.ShloMosaic.TcCoe Idealize.ShloMosaic.ValueIdx Idealize.SL.Sem

namespace Cert.Proof

open Cert.WinAttn (winOut)

/-- A one-axis array of reals as a function of the entry's number. -/
theorem column {a : ℕ} (x : (⟨1, ![a]⟩ : Shape).Idx → EReal) (h : ∀ i, ∃ r : ℝ, x i = (r : EReal)) :
    ∃ f : ℕ → ℝ, ∀ i : Fin a, x (ix1 i) = (f i.val : EReal) := by
  refine ⟨fun i => if hi : i < a then (x (ix1 ⟨i, hi⟩)).toReal else 0, fun i => ?_⟩
  simp only [i.isLt, dif_pos]
  obtain ⟨r, hr⟩ := h (ix1 i)
  rw [hr, EReal.toReal_coe]

/-- Any two-axis array as a function of the entries' numbers. -/
theorem entries {a b : ℕ} (x : (⟨2, ![a, b]⟩ : Shape).Idx → EReal) : ∃ f : ℕ → ℕ → EReal, ∀ (i : Fin a) (j : Fin b), x (ix2 i j) = f i.val j.val := by
  refine ⟨fun i j => if h : i < a ∧ j < b then x (ix2 ⟨i, h.1⟩ ⟨j, h.2⟩) else 0, fun i j => ?_⟩
  simp only [i.isLt, j.isLt, and_self, dif_pos]

/-- With finite sinks, queries and keys the two programs return the same array: the layer's windowed attention. -/
theorem algebraic4 : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m ρ m' ρ' hpre hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨e0, e1, e2, e3⟩ := hagree c
  obtain ⟨f0, f1, f2⟩ := Cert.Pre_finite4.Win.finite_args _ _ _ _ (congrFun (hpre c) ix0)
  obtain ⟨σ, hs⟩ := column _ f0
  obtain ⟨Q, hq⟩ := table _ f1
  obtain ⟨K, hk⟩ := table _ f2
  obtain ⟨W', hv⟩ := entries (m ((c.tc : Thread Cert.Kernel4Ideal.nD Cert.Kernel4Ideal.τ).loc Cert.Kernel4Ideal.main_arg3))
  rw [Cert.Reference4Ideal.Win.result_eq, e0, e1, e2, e3]
  refine Eq.trans ?_ (Cert.Kernel4Ideal.Win.final m c (W := fun r j => W' j r) hs hq hk hv).symm
  funext i
  refine (congrArg _ (Cert.Kernel4Ideal.Win.block_ix (a := 16384) (n := 512) i)).trans ?_
  exact Cert.Reference4Ideal.Win.ref_apply _ hs _ hq _ hk _ (W := fun r j => W' j r) hv (i 0) (i 1)

end Cert.Proof

end
-- ==== Proof.lean ====
module

public import proofs.«01_k».proof.Defs
public import proofs.«01_k».proof.Proof.Claims
public import proofs.«01_k».proof.Proof.Algebraic
public import proofs.«01_k».proof.Proof.Claims2
public import proofs.«01_k».proof.Proof.Algebraic2
public import proofs.«01_k».proof.Proof.Claims3
public import proofs.«01_k».proof.Proof.Algebraic3
public import proofs.«01_k».proof.Proof.Claims4
public import proofs.«01_k».proof.Proof.Algebraic4

@[expose] public section

noncomputable section

namespace Cert.Proof

/-- Every claim of the certificate. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_finite4.Gen.facts,
  frame_p, frame_pi, frame_pi_finite, frame_ri, frame_ri_finite, frame2_p, frame2_pi, frame2_ri, frame3_p, frame3_pi, frame3_ri,
  frame4_p, frame4_pi, frame4_pi_finite, frame4_ri, frame4_ri_finite,
  preserves, algebraic, preserves2, algebraic2, preserves3, algebraic3, preserves4, algebraic4⟩

end Cert.Proof

end
